-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite9 [hPre_finite9 : Cert.Pre_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8)) (m ((c.tc : Thread Cert.Kernel9Ideal.nD Cert.Kernel9Ideal.τ).loc Cert.Kernel9Ideal.main_arg9)) (m ((c.tc : Thread Cert.Kernel9Ideal.nD Cert.Kernel9Ideal.τ).loc Cert.Kernel9Ideal.main_arg10))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite9 [hPre_finite9 : Cert.Pre_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8)) (m ((c.tc : Thread Cert.Reference9Ideal.nD Cert.Reference9Ideal.τ).loc Cert.Reference9Ideal.main_arg9)) (m ((c.tc : Thread Cert.Reference9Ideal.nD Cert.Reference9Ideal.τ).loc Cert.Reference9Ideal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9)
      ∧ r.2.mem ((c.tc : Thread Cert.Kernel9.nD Cert.Kernel9.τ).loc Cert.Kernel9.main_arg10) = m ((c.tc : Thread Cert.Kernel9.nD Cert.Kernel9.τ).loc Cert.Kernel9.main_arg10))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10))
      ∧ r.2.sem = fun _ => 0)

def quiescent_Kernel9Ideal_pre_finite9 [hKernel9Ideal : Cert.Kernel9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9)
      ∧ r.2.mem ((c.tc : Thread Cert.Reference9Ideal.nD Cert.Reference9Ideal.τ).loc Cert.Reference9Ideal.main_arg10) = m ((c.tc : Thread Cert.Reference9Ideal.nD Cert.Reference9Ideal.τ).loc Cert.Reference9Ideal.main_arg10))
      ∧ r.2.sem = fun _ => 0)

def quiescent_Reference9Ideal_pre_finite9 [hReference9Ideal : Cert.Reference9Ideal.Facts] [hPre_finite9 : Cert.Pre_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9)
      ∧ r.2.mem ((c.tc : Thread Cert.Reference9Ideal.nD Cert.Reference9Ideal.τ).loc Cert.Reference9Ideal.main_arg10) = m ((c.tc : Thread Cert.Reference9Ideal.nD Cert.Reference9Ideal.τ).loc Cert.Reference9Ideal.main_arg10))
      ∧ r.2.sem = fun _ => 0)

def preserves_Kernel_KernelIdeal : Prop :=
  IdealRules.named_const.Statement Cert.KernelIdeal.κ "scale" .f32 0x3DB504F3#32 (((Real.sqrt 128)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v54_0)) (v1 : (c : Dev Cert.KernelIdeal.nD) → Buf (Elt Ideal) ((c.tc : Thread Cert.KernelIdeal.nD Cert.KernelIdeal.τ).loc Cert.KernelIdeal.main_v54_1)) (v2 : (c : Dev Cert.KernelIdeal.nD) → Buf (Elt Ideal) ((c.tc : Thread Cert.KernelIdeal.nD Cert.KernelIdeal.τ).loc Cert.KernelIdeal.main_v54_2)) (v3 : (c : Dev Cert.KernelIdeal.nD) → Buf (Elt Ideal) ((c.tc : Thread Cert.KernelIdeal.nD Cert.KernelIdeal.τ).loc Cert.KernelIdeal.main_v54_3)) (v4 : (c : Dev Cert.KernelIdeal.nD) → Buf (Elt Ideal) ((c.tc : Thread Cert.KernelIdeal.nD Cert.KernelIdeal.τ).loc Cert.KernelIdeal.main_v54_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54_0) = v0 c
          ∧ r.2.mem ((c.tc : Thread Cert.KernelIdeal.nD Cert.KernelIdeal.τ).loc Cert.KernelIdeal.main_v54_1) = v1 c
          ∧ r.2.mem ((c.tc : Thread Cert.KernelIdeal.nD Cert.KernelIdeal.τ).loc Cert.KernelIdeal.main_v54_2) = v2 c
          ∧ r.2.mem ((c.tc : Thread Cert.KernelIdeal.nD Cert.KernelIdeal.τ).loc Cert.KernelIdeal.main_v54_3) = v3 c
          ∧ r.2.mem ((c.tc : Thread Cert.KernelIdeal.nD Cert.KernelIdeal.τ).loc Cert.KernelIdeal.main_v54_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v87) = v1 c
          ∧ r.2.mem ((c.tc : Thread Cert.ReferenceIdeal.nD Cert.ReferenceIdeal.τ).loc Cert.ReferenceIdeal.main_v89) = v2 c
          ∧ r.2.mem ((c.tc : Thread Cert.ReferenceIdeal.nD Cert.ReferenceIdeal.τ).loc Cert.ReferenceIdeal.main_v91) = v3 c
          ∧ r.2.mem ((c.tc : Thread Cert.ReferenceIdeal.nD Cert.ReferenceIdeal.τ).loc Cert.ReferenceIdeal.main_v92) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  IdealRules.named_const.Statement Cert.Kernel6Ideal.κ "scale2" .f32 0x3E0293EE#32 (((Real.sqrt 128)⁻¹ * (Real.log 2)⁻¹ : ℝ) : EReal)

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v9) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  IdealRules.named_const.Statement Cert.Kernel7Ideal.κ "mask" .f32 0xF149F2CA#32 ⊥
  ∧ IdealRules.named_const.Statement Cert.Kernel7Ideal.κ "log2e" .f32 0x3FB8AA3B#32 (((Real.log 2)⁻¹ : ℝ) : EReal)

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v18_0)) (v1 : (c : Dev Cert.Kernel7Ideal.nD) → Buf (Elt Ideal) ((c.tc : Thread Cert.Kernel7Ideal.nD Cert.Kernel7Ideal.τ).loc Cert.Kernel7Ideal.main_v18_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v18_0) = v0 c
          ∧ r.2.mem ((c.tc : Thread Cert.Kernel7Ideal.nD Cert.Kernel7Ideal.τ).loc Cert.Kernel7Ideal.main_v18_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v34) = v0 c
          ∧ r.2.mem ((c.tc : Thread Cert.Reference7Ideal.nD Cert.Reference7Ideal.τ).loc Cert.Reference7Ideal.main_v35) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v7_0)) (v1 : (c : Dev Cert.Kernel8Ideal.nD) → Buf (Elt Ideal) ((c.tc : Thread Cert.Kernel8Ideal.nD Cert.Kernel8Ideal.τ).loc Cert.Kernel8Ideal.main_v7_1)) (v2 : (c : Dev Cert.Kernel8Ideal.nD) → Buf (Elt Ideal) ((c.tc : Thread Cert.Kernel8Ideal.nD Cert.Kernel8Ideal.τ).loc Cert.Kernel8Ideal.main_v7_2)) (v3 : (c : Dev Cert.Kernel8Ideal.nD) → Buf (Elt Ideal) ((c.tc : Thread Cert.Kernel8Ideal.nD Cert.Kernel8Ideal.τ).loc Cert.Kernel8Ideal.main_v7_3)) (v4 : (c : Dev Cert.Kernel8Ideal.nD) → Buf (Elt Ideal) ((c.tc : Thread Cert.Kernel8Ideal.nD Cert.Kernel8Ideal.τ).loc Cert.Kernel8Ideal.main_v7_4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v7_0) = v0 c
          ∧ r.2.mem ((c.tc : Thread Cert.Kernel8Ideal.nD Cert.Kernel8Ideal.τ).loc Cert.Kernel8Ideal.main_v7_1) = v1 c
          ∧ r.2.mem ((c.tc : Thread Cert.Kernel8Ideal.nD Cert.Kernel8Ideal.τ).loc Cert.Kernel8Ideal.main_v7_2) = v2 c
          ∧ r.2.mem ((c.tc : Thread Cert.Kernel8Ideal.nD Cert.Kernel8Ideal.τ).loc Cert.Kernel8Ideal.main_v7_3) = v3 c
          ∧ r.2.mem ((c.tc : Thread Cert.Kernel8Ideal.nD Cert.Kernel8Ideal.τ).loc Cert.Kernel8Ideal.main_v7_4) = v4 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v17) = v0 c
          ∧ r.2.mem ((c.tc : Thread Cert.Reference8Ideal.nD Cert.Reference8Ideal.τ).loc Cert.Reference8Ideal.main_v18) = v1 c
          ∧ r.2.mem ((c.tc : Thread Cert.Reference8Ideal.nD Cert.Reference8Ideal.τ).loc Cert.Reference8Ideal.main_v19) = v2 c
          ∧ r.2.mem ((c.tc : Thread Cert.Reference8Ideal.nD Cert.Reference8Ideal.τ).loc Cert.Reference8Ideal.main_v16) = v3 c
          ∧ r.2.mem ((c.tc : Thread Cert.Reference8Ideal.nD Cert.Reference8Ideal.τ).loc Cert.Reference8Ideal.main_v34) = v4 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def preserves_Kernel9_Kernel9Ideal : Prop :=
  True

def algebraic_Kernel9Ideal_Reference9Ideal_pre_finite9 [hKernel9Ideal : Cert.Kernel9Ideal.Facts] [hReference9Ideal : Cert.Reference9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)
      ∧ m' ((c.tc : Thread Cert.Reference9Ideal.nD Cert.Reference9Ideal.τ).loc Cert.Reference9Ideal.main_arg9) = m ((c.tc : Thread Cert.Kernel9Ideal.nD Cert.Kernel9Ideal.τ).loc Cert.Kernel9Ideal.main_arg9)
      ∧ m' ((c.tc : Thread Cert.Reference9Ideal.nD Cert.Reference9Ideal.τ).loc Cert.Reference9Ideal.main_arg10) = m ((c.tc : Thread Cert.Kernel9Ideal.nD Cert.Kernel9Ideal.τ).loc Cert.Kernel9Ideal.main_arg10)) →
    ∃ (v0 : (c : Dev Cert.Kernel9Ideal.nD) → Buf (Elt Ideal) ((c.tc : Thread Cert.Kernel9Ideal.nD Cert.Kernel9Ideal.τ).loc Cert.Kernel9Ideal.main_v7_0)) (v1 : (c : Dev Cert.Kernel9Ideal.nD) → Buf (Elt Ideal) ((c.tc : Thread Cert.Kernel9Ideal.nD Cert.Kernel9Ideal.τ).loc Cert.Kernel9Ideal.main_v7_1)) (v2 : (c : Dev Cert.Kernel9Ideal.nD) → Buf (Elt Ideal) ((c.tc : Thread Cert.Kernel9Ideal.nD Cert.Kernel9Ideal.τ).loc Cert.Kernel9Ideal.main_v7_2)) (v3 : (c : Dev Cert.Kernel9Ideal.nD) → Buf (Elt Ideal) ((c.tc : Thread Cert.Kernel9Ideal.nD Cert.Kernel9Ideal.τ).loc Cert.Kernel9Ideal.main_v7_3)) (v4 : (c : Dev Cert.Kernel9Ideal.nD) → Buf (Elt Ideal) ((c.tc : Thread Cert.Kernel9Ideal.nD Cert.Kernel9Ideal.τ).loc Cert.Kernel9Ideal.main_v7_4)) (v5 : (c : Dev Cert.Kernel9Ideal.nD) → Buf (Elt Ideal) ((c.tc : Thread Cert.Kernel9Ideal.nD Cert.Kernel9Ideal.τ).loc Cert.Kernel9Ideal.main_v7_5)) (v6 : (c : Dev Cert.Kernel9Ideal.nD) → Buf (Elt Ideal) ((c.tc : Thread Cert.Kernel9Ideal.nD Cert.Kernel9Ideal.τ).loc Cert.Kernel9Ideal.main_v7_6)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v7_0) = v0 c
          ∧ r.2.mem ((c.tc : Thread Cert.Kernel9Ideal.nD Cert.Kernel9Ideal.τ).loc Cert.Kernel9Ideal.main_v7_1) = v1 c
          ∧ r.2.mem ((c.tc : Thread Cert.Kernel9Ideal.nD Cert.Kernel9Ideal.τ).loc Cert.Kernel9Ideal.main_v7_2) = v2 c
          ∧ r.2.mem ((c.tc : Thread Cert.Kernel9Ideal.nD Cert.Kernel9Ideal.τ).loc Cert.Kernel9Ideal.main_v7_3) = v3 c
          ∧ r.2.mem ((c.tc : Thread Cert.Kernel9Ideal.nD Cert.Kernel9Ideal.τ).loc Cert.Kernel9Ideal.main_v7_4) = v4 c
          ∧ r.2.mem ((c.tc : Thread Cert.Kernel9Ideal.nD Cert.Kernel9Ideal.τ).loc Cert.Kernel9Ideal.main_v7_5) = v5 c
          ∧ r.2.mem ((c.tc : Thread Cert.Kernel9Ideal.nD Cert.Kernel9Ideal.τ).loc Cert.Kernel9Ideal.main_v7_6) = v6 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
          ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
          ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v88) = v0 c
          ∧ r.2.mem ((c.tc : Thread Cert.Reference9Ideal.nD Cert.Reference9Ideal.τ).loc Cert.Reference9Ideal.main_v89) = v1 c
          ∧ r.2.mem ((c.tc : Thread Cert.Reference9Ideal.nD Cert.Reference9Ideal.τ).loc Cert.Reference9Ideal.main_v90) = v2 c
          ∧ r.2.mem ((c.tc : Thread Cert.Reference9Ideal.nD Cert.Reference9Ideal.τ).loc Cert.Reference9Ideal.main_v91) = v3 c
          ∧ r.2.mem ((c.tc : Thread Cert.Reference9Ideal.nD Cert.Reference9Ideal.τ).loc Cert.Reference9Ideal.main_v92) = v4 c
          ∧ r.2.mem ((c.tc : Thread Cert.Reference9Ideal.nD Cert.Reference9Ideal.τ).loc Cert.Reference9Ideal.main_v21) = v5 c
          ∧ r.2.mem ((c.tc : Thread Cert.Reference9Ideal.nD Cert.Reference9Ideal.τ).loc Cert.Reference9Ideal.main_v69) = v6 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8)
          ∧ r.2.mem ((c.tc : Thread Cert.Reference9Ideal.nD Cert.Reference9Ideal.τ).loc Cert.Reference9Ideal.main_arg9) = m' ((c.tc : Thread Cert.Reference9Ideal.nD Cert.Reference9Ideal.τ).loc Cert.Reference9Ideal.main_arg9)
          ∧ r.2.mem ((c.tc : Thread Cert.Reference9Ideal.nD Cert.Reference9Ideal.τ).loc Cert.Reference9Ideal.main_arg10) = m' ((c.tc : Thread Cert.Reference9Ideal.nD Cert.Reference9Ideal.τ).loc Cert.Reference9Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts) (hPre_finite7 : Cert.Pre_finite7.Facts) (hPre_finite9 : Cert.Pre_finite9.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_finite9 (hKernel9Ideal := hKernel9Ideal) (hPre_finite9 := hPre_finite9)
    ∧ quiescent_Reference9Ideal (hReference9Ideal := hReference9Ideal)
    ∧ quiescent_Reference9Ideal_pre_finite9 (hReference9Ideal := hReference9Ideal) (hPre_finite9 := hPre_finite9)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_finite9 (hKernel9Ideal := hKernel9Ideal) (hReference9Ideal := hReference9Ideal) (hPre_finite9 := hPre_finite9)
-- ==== Pre_finite.lean ====
abbrev S8192x8x128 : Shape := ⟨3, ![8192, 8, 128]⟩
abbrev S8x8192 : Shape := ⟨2, ![8, 8192]⟩
abbrev S8192x4096 : Shape := ⟨2, ![8192, 4096]⟩
abbrev S8192x1024 : Shape := ⟨2, ![8192, 1024]⟩
abbrev S8192x7168 : Shape := ⟨2, ![8192, 7168]⟩
abbrev S_ : Shape := ⟨0, ![]⟩

class Facts : Prop where
  bcast_S_S8192x8x128 : S_.BroadcastsInDim S8192x8x128 (![] : Fin 0 → Fin S8192x8x128.rank)
  reducesTo_S8192x8x128_S_d0_1_2 : S8192x8x128.ReducesTo [0, 1, 2] S_
  h_S_ : 0 < S_.numel
  bcast_S_S8x8192 : S_.BroadcastsInDim S8x8192 (![] : Fin 0 → Fin S8x8192.rank)
  reducesTo_S8x8192_S_d0_1 : S8x8192.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_arg5 : FVec F S8192x1024 .f32) (main_v13 : IVec S_ 1) (main_v16 : IVec S8x8192 1) : IVec S_ 1 :=
  let main_c_5 : IVec S_ 1 := constantI S_ 1 1#1
  let main_v17 : IVec S_ 1 := (fun x v => Host.reduce IntOp.andi x v reducesTo_S8x8192_S_d0_1 h_S_) main_v16 main_c_5
  let main_v18 : IVec S_ 1 := andi main_v13 main_v17
  let main_v19 : FVec F S8192x1024 .f32 := Host.absf main_arg5
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  main_v23

def fn {F : FTy → Type} [FloatOps F] (main_arg0 : FVec F S8192x8x128 .f32) (main_arg1 : FVec F S8192x8x128 .f32) (main_arg2 : FVec F S8192x8x128 .f32) (main_arg3 : FVec F S8x8192 .f32) (main_arg4 : FVec F S8192x4096 .bf16) (main_arg5 : FVec F S8192x1024 .f32) (main_arg6 : FVec F S8192x7168 .bf16) : IVec S_ 1 :=
  let main_v0 : FVec F S8192x8x128 .f32 := Host.absf main_arg0
  let main_cst : FVec F S_ .f32 := constant S_ .f32 0x7F800000#32
  let main_v1 : FVec F S8192x8x128 .f32 := broadcastInDim S8192x8x128 ![] bcast_S_S8192x8x128 main_cst
  let main_v2 : IVec S8192x8x128 1 := cmpf .olt main_v0 main_v1
  let main_c : IVec S_ 1 := constantI S_ 1 1#1
  let main_v3 : IVec S_ 1 := (fun x v => Host.reduce IntOp.andi x v reducesTo_S8192x8x128_S_d0_1_2 h_S_) main_v2 main_c
  let main_v4 : FVec F S8192x8x128 .f32 := Host.absf main_arg1
  let main_cst_0 : FVec F S_ .f32 := constant S_ .f32 0x7F800000#32
  let main_v5 : FVec F S8192x8x128 .f32 := broadcastInDim S8192x8x128 ![] bcast_S_S8192x8x128 main_cst_0
  let main_v6 : IVec S8192x8x128 1 := cmpf .olt main_v4 main_v5
  let main_c_1 : IVec S_ 1 := constantI S_ 1 1#1
  let main_v7 : IVec S_ 1 := (fun x v => Host.reduce IntOp.andi x v reducesTo_S8192x8x128_S_d0_1_2 h_S_) main_v6 main_c_1
  let main_v8 : IVec S_ 1 := andi main_v3 main_v7
  let main_v9 : FVec F S8192x8x128 .f32 := Host.absf main_arg2
  let main_cst_2 : FVec F S_ .f32 := constant S_ .f32 0x7F800000#32
  let main_v10 : FVec F S8192x8x128 .f32 := broadcastInDim S8192x8x128 ![] bcast_S_S8192x8x128 main_cst_2
  let main_v11 : IVec S8192x8x128 1 := cmpf .olt main_v9 main_v10
  let main_c_3 : IVec S_ 1 := constantI S_ 1 1#1
  let main_v12 : IVec S_ 1 := (fun x v => Host.reduce IntOp.andi x v reducesTo_S8192x8x128_S_d0_1_2 h_S_) main_v11 main_c_3
  let main_v13 : IVec S_ 1 := andi main_v8 main_v12
  let main_v14 : FVec F S8x8192 .f32 := Host.absf main_arg3
  let main_cst_4 : FVec F S_ .f32 := constant S_ .f32 0x7F800000#32
  let main_v15 : FVec F S8x8192 .f32 := broadcastInDim S8x8192 ![] bcast_S_S8x8192 main_cst_4
  let main_v16 : IVec S8x8192 1 := cmpf .olt main_v14 main_v15
  fn_part1 (F := F) main_arg5 main_v13 main_v16
-- ==== Pre_finite7.lean ====
abbrev S8192x8x128 : Shape := ⟨3, ![8192, 8, 128]⟩
abbrev S8x8192 : Shape := ⟨2, ![8, 8192]⟩
abbrev S8192x4096 : Shape := ⟨2, ![8192, 4096]⟩
abbrev S_ : Shape := ⟨0, ![]⟩

class Facts : Prop where
  bcast_S_S8192x8x128 : S_.BroadcastsInDim S8192x8x128 (![] : Fin 0 → Fin S8192x8x128.rank)
  reducesTo_S8192x8x128_S_d0_1_2 : S8192x8x128.ReducesTo [0, 1, 2] S_
  h_S_ : 0 < S_.numel
  bcast_S_S8x8192 : S_.BroadcastsInDim S8x8192 (![] : Fin 0 → Fin S8x8192.rank)
  reducesTo_S8x8192_S_d0_1 : S8x8192.ReducesTo [0, 1] S_

variable [Facts]

def fn_part1 {F : FTy → Type} [FloatOps F] (main_v13 : IVec S_ 1) (main_v16 : IVec S8x8192 1) : IVec S_ 1 :=
  let main_c_5 : IVec S_ 1 := constantI S_ 1 1#1
  let main_v17 : IVec S_ 1 := (fun x v => Host.reduce IntOp.andi x v reducesTo_S8x8192_S_d0_1 h_S_) main_v16 main_c_5
  let main_v18 : IVec S_ 1 := andi main_v13 main_v17
  main_v18

def fn {F : FTy → Type} [FloatOps F] (main_arg0 : FVec F S8192x8x128 .f32) (main_arg1 : FVec F S8192x8x128 .f32) (main_arg2 : FVec F S8192x8x128 .f32) (main_arg3 : FVec F S8x8192 .f32) (main_arg4 : FVec F S8192x4096 .bf16) : IVec S_ 1 :=
  let main_v0 : FVec F S8192x8x128 .f32 := Host.absf main_arg0
  let main_cst : FVec F S_ .f32 := constant S_ .f32 0x7F800000#32
  let main_v1 : FVec F S8192x8x128 .f32 := broadcastInDim S8192x8x128 ![] bcast_S_S8192x8x128 main_cst
  let main_v2 : IVec S8192x8x128 1 := cmpf .olt main_v0 main_v1
  let main_c : IVec S_ 1 := constantI S_ 1 1#1
  let main_v3 : IVec S_ 1 := (fun x v => Host.reduce IntOp.andi x v reducesTo_S8192x8x128_S_d0_1_2 h_S_) main_v2 main_c
  let main_v4 : FVec F S8192x8x128 .f32 := Host.absf main_arg1
  let main_cst_0 : FVec F S_ .f32 := constant S_ .f32 0x7F800000#32
  let main_v5 : FVec F S8192x8x128 .f32 := broadcastInDim S8192x8x128 ![] bcast_S_S8192x8x128 main_cst_0
  let main_v6 : IVec S8192x8x128 1 := cmpf .olt main_v4 main_v5
  let main_c_1 : IVec S_ 1 := constantI S_ 1 1#1
  let main_v7 : IVec S_ 1 := (fun x v => Host.reduce IntOp.andi x v reducesTo_S8192x8x128_S_d0_1_2 h_S_) main_v6 main_c_1
  let main_v8 : IVec S_ 1 := andi main_v3 main_v7
  let main_v9 : FVec F S8192x8x128 .f32 := Host.absf main_arg2
  let main_cst_2 : FVec F S_ .f32 := constant S_ .f32 0x7F800000#32
  let main_v10 : FVec F S8192x8x128 .f32 := broadcastInDim S8192x8x128 ![] bcast_S_S8192x8x128 main_cst_2
  let main_v11 : IVec S8192x8x128 1 := cmpf .olt main_v9 main_v10
  let main_c_3 : IVec S_ 1 := constantI S_ 1 1#1
  let main_v12 : IVec S_ 1 := (fun x v => Host.reduce IntOp.andi x v reducesTo_S8192x8x128_S_d0_1_2 h_S_) main_v11 main_c_3
  let main_v13 : IVec S_ 1 := andi main_v8 main_v12
  let main_v14 : FVec F S8x8192 .f32 := Host.absf main_arg3
  let main_cst_4 : FVec F S_ .f32 := constant S_ .f32 0x7F800000#32
  let main_v15 : FVec F S8x8192 .f32 := broadcastInDim S8x8192 ![] bcast_S_S8x8192 main_cst_4
  let main_v16 : IVec S8x8192 1 := cmpf .olt main_v14 main_v15
  fn_part1 (F := F) main_v13 main_v16
-- ==== Pre_finite9.lean ====
abbrev S8192x1024 : Shape := ⟨2, ![8192, 1024]⟩
abbrev S1x1024 : Shape := ⟨2, ![1, 1024]⟩
abbrev S8192x4096 : Shape := ⟨2, ![8192, 4096]⟩
abbrev S1024x4096 : Shape := ⟨2, ![1024, 4096]⟩
abbrev S4096x1024 : Shape := ⟨2, ![4096, 1024]⟩
abbrev S4x2304x1024 : Shape := ⟨3, ![4, 2304, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bitsLt_bf16_f32 : FTy.bits .bf16 < FTy.bits .f32
  bcast_S_S8192x4096 : S_.BroadcastsInDim S8192x4096 (![] : Fin 0 → Fin S8192x4096.rank)
  reducesTo_S8192x4096_S_d0_1 : S8192x4096.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_v14 : IVec S_ 1) (main_v15 : FVec F S4096x1024 .f32) (main_v16 : FVec F S4096x1024 .f32) : IVec S_ 1 :=
  let main_v17 : IVec S4096x1024 1 := cmpf .olt main_v15 main_v16
  let main_c_5 : IVec S_ 1 := constantI S_ 1 1#1
  let main_v18 : IVec S_ 1 := (fun x v => Host.reduce IntOp.andi x v reducesTo_S4096x1024_S_d0_1 h_S_) main_v17 main_c_5
  let main_v19 : IVec S_ 1 := andi main_v14 main_v18
  main_v19

def fn {F : FTy → Type} [FloatOps F] (main_arg0 : FVec F S8192x1024 .f32) (main_arg1 : FVec F S8192x1024 .f32) (main_arg2 : FVec F S1x1024 .f32) (main_arg3 : FVec F S8192x4096 .bf16) (main_arg4 : FVec F S8192x4096 .bf16) (main_arg5 : FVec F S1024x4096 .f32) (main_arg6 : FVec F S1024x4096 .f32) (main_arg7 : FVec F S4096x1024 .f32) (main_arg8 : FVec F S8192x1024 .f32) (main_arg9 : FVec F S1x1024 .f32) (main_arg10 : FVec F S4x2304x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024 .f32 := Host.absf main_arg2
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S8192x4096 .f32 := (extf .f32 · bitsLt_bf16_f32) main_arg4
  let main_v10 : FVec F S8192x4096 .f32 := Host.absf main_v9
  let main_cst_2 : FVec F S_ .f32 := constant S_ .f32 0x7F800000#32
  let main_v11 : FVec F S8192x4096 .f32 := broadcastInDim S8192x4096 ![] bcast_S_S8192x4096 main_cst_2
  let main_v12 : IVec S8192x4096 1 := cmpf .olt main_v10 main_v11
  let main_c_3 : IVec S_ 1 := constantI S_ 1 1#1
  let main_v13 : IVec S_ 1 := (fun x v => Host.reduce IntOp.andi x v reducesTo_S8192x4096_S_d0_1 h_S_) main_v12 main_c_3
  let main_v14 : IVec S_ 1 := andi main_v8 main_v13
  let main_v15 : FVec F S4096x1024 .f32 := Host.absf main_arg7
  let main_cst_4 : FVec F S_ .f32 := constant S_ .f32 0x7F800000#32
  let main_v16 : FVec F S4096x1024 .f32 := broadcastInDim S4096x1024 ![] bcast_S_S4096x1024 main_cst_4
  fn_part1 (F := F) main_v14 main_v15 main_v16
-- ==== Kernel.lean ====
abbrev S8192x8x128 : Shape := ⟨3, ![8192, 8, 128]⟩
abbrev S8x8192 : Shape := ⟨2, ![8, 8192]⟩
abbrev S8192x4096 : Shape := ⟨2, ![8192, 4096]⟩
abbrev S8192x1024 : Shape := ⟨2, ![8192, 1024]⟩
abbrev S8192x7168 : Shape := ⟨2, ![8192, 7168]⟩
abbrev S8x8192x8192 : Shape := ⟨3, ![8, 8192, 8192]⟩
abbrev S_ : Shape := ⟨0, ![]⟩
abbrev S8x8192x1 : Shape := ⟨3, ![8, 8192, 1]⟩
abbrev S8x1x8192 : Shape := ⟨3, ![8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x128x8192 : Shape := ⟨3, ![8, 128, 8192]⟩
abbrev S8192x8x1x128 : Shape := ⟨4, ![8192, 8, 1, 128]⟩
abbrev S8192x8x2x128 : Shape := ⟨4, ![8192, 8, 2, 128]⟩
abbrev S8192x2048 : Shape := ⟨2, ![8192, 2048]⟩
abbrev S8x8192x128 : Shape := ⟨3, ![8, 8192, 128]⟩
abbrev S8x16x512 : Shape := ⟨3, ![8, 16, 512]⟩
abbrev S8x16x128x512 : Shape := ⟨4, ![8, 16, 128, 512]⟩
abbrev S8x16x1x512 : Shape := ⟨4, ![8, 16, 1, 512]⟩
abbrev S512x128 : Shape := ⟨2, ![512, 128]⟩
abbrev S8192x256 : Shape := ⟨2, ![8192, 256]⟩
abbrev S1x512x128 : Shape := ⟨3, ![1, 512, 128]⟩
abbrev S1x16x512 : Shape := ⟨3, ![1, 16, 512]⟩
abbrev S1x16x128x512 : Shape := ⟨4, ![1, 16, 128, 512]⟩
abbrev S1x1x1x512 : Shape := ⟨4, ![1, 1, 1, 512]⟩
abbrev S16x128x512 : Shape := ⟨3, ![16, 128, 512]⟩
abbrev S16x512 : Shape := ⟨2, ![16, 512]⟩
abbrev S128x512 : Shape := ⟨2, ![128, 512]⟩
abbrev S512x512 : Shape := ⟨2, ![512, 512]⟩
abbrev S512 : Shape := ⟨1, ![512]⟩
abbrev S512x1 : Shape := ⟨2, ![512, 1]⟩
abbrev S1x1x512 : Shape := ⟨3, ![1, 1, 512]⟩
abbrev S1x512 : Shape := ⟨2, ![1, 512]⟩
abbrev S1x1x128x512 : Shape := ⟨4, ![1, 1, 128, 512]⟩

abbrev nBuf : Space → Nat
  | .hbm => 75
  | .vmem => 26
  | .smem => 0
  | _ => 0

abbrev bufTy : (tb : Table) → Fin (tcTables nBuf tb) → BufTy
  | .hbm, ⟨0, _⟩ => ⟨S8192x8x128, .f32⟩
  | .hbm, ⟨1, _⟩ => ⟨S8192x8x128, .f32⟩
  | .hbm, ⟨2, _⟩ => ⟨S8192x8x128, .f32⟩
  | .hbm, ⟨3, _⟩ => ⟨S8x8192, .f32⟩
  | .hbm, ⟨4, _⟩ => ⟨S8192x4096, .bf16⟩
  | .hbm, ⟨5, _⟩ => ⟨S8192x1024, .f32⟩
  | .hbm, ⟨6, _⟩ => ⟨S8192x7168, .bf16⟩
  | .hbm, ⟨7, _⟩ => ⟨S8x8192x8192, .f32⟩
  | .hbm, ⟨8, _⟩ => ⟨S_, .f32⟩
  | .hbm, ⟨9, _⟩ => ⟨S_, .f32⟩
  | .hbm, ⟨10, _⟩ => ⟨S8x8192x8192, .f32⟩
  | .hbm, ⟨11, _⟩ => ⟨S8x8192x8192, .f32⟩
  | .hbm, ⟨12, _⟩ => ⟨S8x8192x1, .f32⟩
  | .hbm, ⟨13, _⟩ => ⟨S8x8192x8192, .f32⟩
  | .hbm, ⟨14, _⟩ => ⟨S8x8192x8192, .f32⟩
  | .hbm, ⟨15, _⟩ => ⟨S8x1x8192, .f32⟩
  | .hbm, ⟨16, _⟩ => ⟨S8x8192x8192, .f32⟩
  | .hbm, ⟨17, _⟩ => ⟨S8x8192x8192, .f32⟩
  | .hbm, ⟨18, _⟩ => ⟨S8192, .i32⟩
  | .hbm, ⟨19, _⟩ => ⟨S1x8192, .i32⟩
  | .hbm, ⟨20, _⟩ => ⟨S8192x1, .i32⟩
  | .hbm, ⟨21, _⟩ => ⟨S8192x8192, .i32⟩
  | .hbm, ⟨22, _⟩ => ⟨S8192x8192, .i32⟩
  | .hbm, ⟨23, _⟩ => ⟨S8192x8192, .i1⟩
  | .hbm, ⟨24, _⟩ => ⟨S_, .f32⟩
  | .hbm, ⟨25, _⟩ => ⟨S_, .f32⟩
  | .hbm, ⟨26, _⟩ => ⟨S8x8192x8192, .i1⟩
  | .hbm, ⟨27, _⟩ => ⟨S8x8192x8192, .f32⟩
  | .hbm, ⟨28, _⟩ => ⟨S8x8192x8192, .f32⟩
  | .hbm, ⟨29, _⟩ => ⟨S_, .f32⟩
  | .hbm, ⟨30, _⟩ => ⟨S8x8192, .f32⟩
  | .hbm, ⟨31, _⟩ => ⟨S8x8192x1, .f32⟩
  | .hbm, ⟨32, _⟩ => ⟨S8x8192x8192, .f32⟩
  | .hbm, ⟨33, _⟩ => ⟨S8x8192x8192, .f32⟩
  | .hbm, ⟨34, _⟩ => ⟨S8x8192x8192, .f32⟩
  | .hbm, ⟨35, _⟩ => ⟨S_, .f32⟩
  | .hbm, ⟨36, _⟩ => ⟨S8x8192, .f32⟩
  | .hbm, ⟨37, _⟩ => ⟨S8x8192x1, .f32⟩
  | .hbm, ⟨38, _⟩ => ⟨S8x8192x8192, .f32⟩
  | .hbm, ⟨39, _⟩ => ⟨S8x8192x8192, .f32⟩
  | .hbm, ⟨40, _⟩ => ⟨S8x128x8192, .f32⟩
  | .hbm, ⟨41, _⟩ => ⟨S8192x8x128, .f32⟩
  | .hbm, ⟨42, _⟩ => ⟨S8x8192x1, .f32⟩
  | .hbm, ⟨43, _⟩ => ⟨S8x8192x1, .f32⟩
  | .hbm, ⟨44, _⟩ => ⟨S8192x8x1x128, .f32⟩
  | .hbm, ⟨45, _⟩ => ⟨S8192x8x1x128, .f32⟩
  | .hbm, ⟨46, _⟩ => ⟨S8192x8x2x128, .f32⟩
  | .hbm, ⟨47, _⟩ => ⟨S8192x2048, .f32⟩
  | .hbm, ⟨48, _⟩ => ⟨S8192x2048, .bf16⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S8192x8x128, .f32⟩
  | .hbm, ⟨55, _⟩ => ⟨S8192x8x128, .f32⟩
  | .hbm, ⟨56, _⟩ => ⟨S8192x1024, .f32⟩
  | .hbm, ⟨57, _⟩ => ⟨S8192x1024, .bf16⟩
  | .hbm, ⟨58, _⟩ => ⟨S8192x7168, .bf16⟩
  | .hbm, ⟨59, _⟩ => ⟨S8x8192, .f32⟩
  | .hbm, ⟨60, _⟩ => ⟨S8x8192, .f32⟩
  | .hbm, ⟨61, _⟩ => ⟨S8x8192x1, .f32⟩
  | .hbm, ⟨62, _⟩ => ⟨S8x8192x128, .f32⟩
  | .hbm, ⟨63, _⟩ => ⟨S8x8192x1, .f32⟩
  | .hbm, ⟨64, _⟩ => ⟨S8x8192x1, .f32⟩
  | .hbm, ⟨65, _⟩ => ⟨S8x8192x128, .f32⟩
  | .hbm, ⟨66, _⟩ => ⟨S8x16x512, .f32⟩
  | .hbm, ⟨67, _⟩ => ⟨S8192x1024, .bf16⟩
  | .hbm, ⟨68, _⟩ => ⟨S8192x1024, .f32⟩
  | .hbm, ⟨69, _⟩ => ⟨S8192x1024, .bf16⟩
  | .hbm, ⟨70, _⟩ => ⟨S8192x7168, .bf16⟩
  | .hbm, ⟨71, _⟩ => ⟨S8x16x128x512, .f32⟩
  | .hbm, ⟨72, _⟩ => ⟨S8x16x128x512, .f32⟩
  | .hbm, ⟨73, _⟩ => ⟨S8x16x512, .f32⟩
  | .hbm, ⟨74, _⟩ => ⟨S8x16x1x512, .f32⟩
  | .local _ .vmem, ⟨0, _⟩ => ⟨S512x128, .bf16⟩
  | .local _ .vmem, ⟨1, _⟩ => ⟨S512x128, .bf16⟩
  | .local _ .vmem, ⟨2, _⟩ => ⟨S8192x256, .bf16⟩
  | .local _ .vmem, ⟨3, _⟩ => ⟨S8192x256, .bf16⟩
  | .local _ .vmem, ⟨4, _⟩ => ⟨S512x128, .bf16⟩
  | .local _ .vmem, ⟨5, _⟩ => ⟨S512x128, .bf16⟩
  | .local _ .vmem, ⟨6, _⟩ => ⟨S512x128, .bf16⟩
  | .local _ .vmem, ⟨7, _⟩ => ⟨S512x128, .bf16⟩
  | .local _ .vmem, ⟨8, _⟩ => ⟨S1x512x128, .f32⟩
  | .local _ .vmem, ⟨9, _⟩ => ⟨S1x512x128, .f32⟩
  | .local _ .vmem, ⟨10, _⟩ => ⟨S1x512x128, .f32⟩
  | .local _ .vmem, ⟨11, _⟩ => ⟨S1x512x128, .f32⟩
  | .local _ .vmem, ⟨12, _⟩ => ⟨S1x16x512, .f32⟩
  | .local _ .vmem, ⟨13, _⟩ => ⟨S1x16x512, .f32⟩
  | .local _ .vmem, ⟨14, _⟩ => ⟨S512x128, .bf16⟩
  | .local _ .vmem, ⟨15, _⟩ => ⟨S512x128, .bf16⟩
  | .local _ .vmem, ⟨16, _⟩ => ⟨S1x16x128x512, .f32⟩
  | .local _ .vmem, ⟨17, _⟩ => ⟨S1x16x128x512, .f32⟩
  | .local _ .vmem, ⟨18, _⟩ => ⟨S1x16x128x512, .f32⟩
  | .local _ .vmem, ⟨19, _⟩ => ⟨S1x16x128x512, .f32⟩
  | .local _ .vmem, ⟨20, _⟩ => ⟨S1x16x512, .f32⟩
  | .local _ .vmem, ⟨21, _⟩ => ⟨S1x16x512, .f32⟩
  | .local _ .vmem, ⟨22, _⟩ => ⟨S1x1x1x512, .f32⟩
  | .local _ .vmem, ⟨23, _⟩ => ⟨S1x1x1x512, .f32⟩
  | .local _ .vmem, ⟨24, _⟩ => ⟨S512x128, .f32⟩
  | .local _ .vmem, ⟨25, _⟩ => ⟨S512x128, .f32⟩
  | _, _ => ⟨S8192x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_3 : Ref sig .tc := ⟨.hbm, 49, rfl⟩
abbrev main_v35 : Ref sig .tc := ⟨.hbm, 50, rfl⟩
abbrev main_cst_4 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54_0 : Ref sig .tc := ⟨.hbm, 70, rfl⟩
abbrev main_v54_1 : Ref sig .tc := ⟨.hbm, 71, rfl⟩
abbrev main_v54_2 : Ref sig .tc := ⟨.hbm, 72, rfl⟩
abbrev main_v54_3 : Ref sig .tc := ⟨.hbm, 73, rfl⟩
abbrev main_v54_4 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![8, 16], ![false, false]⟩

@[reducible] def k0_t1_loop (i : grid0.Coords) : Scf.Loop 32 :=
  let c0_i32_19 : BitVec 32 := 0#32
  let arg1 : BitVec 32 := BitVec.ofNat 32 (i 1).val
  let v37 : BitVec 32 := Scalar.subi arg1 c0_i32_19
  let c1_i32 : BitVec 32 := 1#32
  let v39 : BitVec 32 := Scalar.divsi v37 c1_i32
  let v40 : BitVec 32 := Scalar.muli v39 c1_i32
  let v41 : BitVec 32 := Scalar.addi c0_i32_19 v40
  let c1_i32_20 : BitVec 32 := 1#32
  ⟨c0_i32_19, v41, c1_i32_20⟩
def k0_mult1 (i : grid0.Coords) (k0_t1 : Fin (k0_t1_loop i).trips) : BitVec 32 :=
  let c0_i32_19 : BitVec 32 := 0#32
  let c1_i32_20 : BitVec 32 := 1#32
  let arg17 : BitVec 32 := Scf.iv c0_i32_19 c1_i32_20 k0_t1
  let c512_i32_70 : BitVec 32 := 512#32
  let v127 : BitVec 32 := Scalar.muli arg17 c512_i32_70
  v127
def k0_off1 (i : grid0.Coords) (k0_t1 : Fin (k0_t1_loop i).trips) : Fin 2 → Nat :=
  let c0_i32_19 : BitVec 32 := 0#32
  let c1_i32_20 : BitVec 32 := 1#32
  let arg17 : BitVec 32 := Scf.iv c0_i32_19 c1_i32_20 k0_t1
  let c512_i32_70 : BitVec 32 := 512#32
  let v127 : BitVec 32 := Scalar.muli arg17 c512_i32_70
  let v128 : BitVec 32 := v127
  let v129 : Index := Scalar.indexCast v128
  let c0_71 : Index := 0#32
  ![v129.toNat, 0]
def k0_off2 (i : grid0.Coords) (k0_t1 : Fin (k0_t1_loop i).trips) : Fin 2 → Nat :=
  let c0_i32_19 : BitVec 32 := 0#32
  let c1_i32_20 : BitVec 32 := 1#32
  let arg17 : BitVec 32 := Scf.iv c0_i32_19 c1_i32_20 k0_t1
  let c512_i32_70 : BitVec 32 := 512#32
  let v127 : BitVec 32 := Scalar.muli arg17 c512_i32_70
  let v128 : BitVec 32 := v127
  let v132 : Index := Scalar.indexCast v128
  let c128_72 : Index := 128#32
  ![v132.toNat, 128]
def k0_off3 (i : grid0.Coords) (k0_t1 : Fin (k0_t1_loop i).trips) : Fin 3 → Nat :=
  let c0_74 : Index := 0#32
  let c0_i32_19 : BitVec 32 := 0#32
  let c1_i32_20 : BitVec 32 := 1#32
  let arg17 : BitVec 32 := Scf.iv c0_i32_19 c1_i32_20 k0_t1
  let v136 : Index := Scalar.indexCast arg17
  let c0_75 : Index := 0#32
  ![0, v136.toNat, 0]
def k0_off4 (i : grid0.Coords) (k0_t1 : Fin (k0_t1_loop i).trips) : Fin 4 → Nat :=
  let c0_82 : Index := 0#32
  let c0_i32_19 : BitVec 32 := 0#32
  let c1_i32_20 : BitVec 32 := 1#32
  let arg17 : BitVec 32 := Scf.iv c0_i32_19 c1_i32_20 k0_t1
  let v153 : Index := Scalar.indexCast arg17
  let c0_83 : Index := 0#32
  let c0_84 : Index := 0#32
  ![0, v153.toNat, 0, 0]
@[reducible] def k0_t2_loop (i : grid0.Coords) : Scf.Loop 32 :=
  let c0_i32_19 : BitVec 32 := 0#32
  let arg1 : BitVec 32 := BitVec.ofNat 32 (i 1).val
  let v37 : BitVec 32 := Scalar.subi arg1 c0_i32_19
  let c1_i32 : BitVec 32 := 1#32
  let v39 : BitVec 32 := Scalar.divsi v37 c1_i32
  let v40 : BitVec 32 := Scalar.muli v39 c1_i32
  let v41 : BitVec 32 := Scalar.addi c0_i32_19 v40
  let v38 : BitVec 32 := Scalar.addi c0_i32_19 v37
  let c1_i32_21 : BitVec 32 := 1#32
  ⟨v41, v38, c1_i32_21⟩
def k0_mult2 (i : grid0.Coords) (k0_t2 : Fin (k0_t2_loop i).trips) : BitVec 32 :=
  let c0_i32_19 : BitVec 32 := 0#32
  let arg1 : BitVec 32 := BitVec.ofNat 32 (i 1).val
  let v37 : BitVec 32 := Scalar.subi arg1 c0_i32_19
  let c1_i32 : BitVec 32 := 1#32
  let v39 : BitVec 32 := Scalar.divsi v37 c1_i32
  let v40 : BitVec 32 := Scalar.muli v39 c1_i32
  let v41 : BitVec 32 := Scalar.addi c0_i32_19 v40
  let c1_i32_21 : BitVec 32 := 1#32
  let arg17 : BitVec 32 := Scf.iv v41 c1_i32_21 k0_t2
  let c512_i32_70 : BitVec 32 := 512#32
  let v127 : BitVec 32 := Scalar.muli arg17 c512_i32_70
  v127
def k0_off5 (i : grid0.Coords) (k0_t2 : Fin (k0_t2_loop i).trips) : Fin 2 → Nat :=
  let c0_i32_19 : BitVec 32 := 0#32
  let arg1 : BitVec 32 := BitVec.ofNat 32 (i 1).val
  let v37 : BitVec 32 := Scalar.subi arg1 c0_i32_19
  let c1_i32 : BitVec 32 := 1#32
  let v39 : BitVec 32 := Scalar.divsi v37 c1_i32
  let v40 : BitVec 32 := Scalar.muli v39 c1_i32
  let v41 : BitVec 32 := Scalar.addi c0_i32_19 v40
  let c1_i32_21 : BitVec 32 := 1#32
  let arg17 : BitVec 32 := Scf.iv v41 c1_i32_21 k0_t2
  let c512_i32_70 : BitVec 32 := 512#32
  let v127 : BitVec 32 := Scalar.muli arg17 c512_i32_70
  let v128 : BitVec 32 := v127
  let v129 : Index := Scalar.indexCast v128
  let c0_71 : Index := 0#32
  ![v129.toNat, 0]
def k0_off6 (i : grid0.Coords) (k0_t2 : Fin (k0_t2_loop i).trips) : Fin 2 → Nat :=
  let c0_i32_19 : BitVec 32 := 0#32
  let arg1 : BitVec 32 := BitVec.ofNat 32 (i 1).val
  let v37 : BitVec 32 := Scalar.subi arg1 c0_i32_19
  let c1_i32 : BitVec 32 := 1#32
  let v39 : BitVec 32 := Scalar.divsi v37 c1_i32
  let v40 : BitVec 32 := Scalar.muli v39 c1_i32
  let v41 : BitVec 32 := Scalar.addi c0_i32_19 v40
  let c1_i32_21 : BitVec 32 := 1#32
  let arg17 : BitVec 32 := Scf.iv v41 c1_i32_21 k0_t2
  let c512_i32_70 : BitVec 32 := 512#32
  let v127 : BitVec 32 := Scalar.muli arg17 c512_i32_70
  let v128 : BitVec 32 := v127
  let v132 : Index := Scalar.indexCast v128
  let c128_72 : Index := 128#32
  ![v132.toNat, 128]
def k0_off7 (i : grid0.Coords) (k0_t2 : Fin (k0_t2_loop i).trips) : Fin 3 → Nat :=
  let c0_74 : Index := 0#32
  let c0_i32_19 : BitVec 32 := 0#32
  let arg1 : BitVec 32 := BitVec.ofNat 32 (i 1).val
  let v37 : BitVec 32 := Scalar.subi arg1 c0_i32_19
  let c1_i32 : BitVec 32 := 1#32
  let v39 : BitVec 32 := Scalar.divsi v37 c1_i32
  let v40 : BitVec 32 := Scalar.muli v39 c1_i32
  let v41 : BitVec 32 := Scalar.addi c0_i32_19 v40
  let c1_i32_21 : BitVec 32 := 1#32
  let arg17 : BitVec 32 := Scf.iv v41 c1_i32_21 k0_t2
  let v136 : Index := Scalar.indexCast arg17
  let c0_75 : Index := 0#32
  ![0, v136.toNat, 0]
def k0_off8 (i : grid0.Coords) (k0_t2 : Fin (k0_t2_loop i).trips) : Fin 4 → Nat :=
  let c0_82 : Index := 0#32
  let c0_i32_19 : BitVec 32 := 0#32
  let arg1 : BitVec 32 := BitVec.ofNat 32 (i 1).val
  let v37 : BitVec 32 := Scalar.subi arg1 c0_i32_19
  let c1_i32 : BitVec 32 := 1#32
  let v39 : BitVec 32 := Scalar.divsi v37 c1_i32
  let v40 : BitVec 32 := Scalar.muli v39 c1_i32
  let v41 : BitVec 32 := Scalar.addi c0_i32_19 v40
  let c1_i32_21 : BitVec 32 := 1#32
  let arg17 : BitVec 32 := Scf.iv v41 c1_i32_21 k0_t2
  let v153 : Index := Scalar.indexCast arg17
  let c0_83 : Index := 0#32
  let c0_84 : Index := 0#32
  ![0, v153.toNat, 0, 0]
def k0_mult3 (i : grid0.Coords) : BitVec 32 :=
  let arg1 : BitVec 32 := BitVec.ofNat 32 (i 1).val
  let c512_i32 : BitVec 32 := 512#32
  let v42 : BitVec 32 := Scalar.muli arg1 c512_i32
  v42
def k0_off9 (i : grid0.Coords) : Fin 2 → Nat :=
  let arg1 : BitVec 32 := BitVec.ofNat 32 (i 1).val
  let c512_i32 : BitVec 32 := 512#32
  let v42 : BitVec 32 := Scalar.muli arg1 c512_i32
  let v43 : BitVec 32 := v42
  let v44 : Index := Scalar.indexCast v43
  let c0_22 : Index := 0#32
  ![v44.toNat, 0]
def k0_off10 (i : grid0.Coords) : Fin 2 → Nat :=
  let arg1 : BitVec 32 := BitVec.ofNat 32 (i 1).val
  let c512_i32 : BitVec 32 := 512#32
  let v42 : BitVec 32 := Scalar.muli arg1 c512_i32
  let v43 : BitVec 32 := v42
  let v47 : Index := Scalar.indexCast v43
  let c128 : Index := 128#32
  ![v47.toNat, 128]
def k0_off11 (i : grid0.Coords) : Fin 3 → Nat :=
  let c0_24 : Index := 0#32
  let arg1 : BitVec 32 := BitVec.ofNat 32 (i 1).val
  let v51 : Index := Scalar.indexCast arg1
  let c0_25 : Index := 0#32
  ![0, v51.toNat, 0]
def k0_off12 (i : grid0.Coords) : Fin 4 → Nat :=
  let c0_35 : Index := 0#32
  let arg1 : BitVec 32 := BitVec.ofNat 32 (i 1).val
  let v79 : Index := Scalar.indexCast arg1
  let c0_36 : Index := 0#32
  let c0_37 : Index := 0#32
  ![0, v79.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x16x128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x16x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelIdeal.lean ====
variable {F : FTy → Type} [FloatOps F] [Named F]
def κ : String → Option EReal := fun
  | "scale" => some (((Real.sqrt 128)⁻¹ : ℝ) : EReal)
  | _ => none
-- ==== ReferenceIdeal.lean ====
abbrev S8192x8x128 : Shape := ⟨3, ![8192, 8, 128]⟩
abbrev S8x8192 : Shape := ⟨2, ![8, 8192]⟩
abbrev S8192x4096 : Shape := ⟨2, ![8192, 4096]⟩
abbrev S8192x1024 : Shape := ⟨2, ![8192, 1024]⟩
abbrev S8192x7168 : Shape := ⟨2, ![8192, 7168]⟩
abbrev S8x8192x8192 : Shape := ⟨3, ![8, 8192, 8192]⟩
abbrev S_ : Shape := ⟨0, ![]⟩
abbrev S8x8192x1 : Shape := ⟨3, ![8, 8192, 1]⟩
abbrev S8x1x8192 : Shape := ⟨3, ![8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x128x8192 : Shape := ⟨3, ![8, 128, 8192]⟩
abbrev S8x8192x128 : Shape := ⟨3, ![8, 8192, 128]⟩
abbrev S8192x6144 : Shape := ⟨2, ![8192, 6144]⟩
abbrev S16x512x8x128 : Shape := ⟨4, ![16, 512, 8, 128]⟩
abbrev S8x16x128x512 : Shape := ⟨4, ![8, 16, 128, 512]⟩
abbrev S8x16x512 : Shape := ⟨3, ![8, 16, 512]⟩
abbrev S8x16x1x512 : Shape := ⟨4, ![8, 16, 1, 512]⟩

abbrev nBuf : Space → Nat
  | .hbm => 126
  | .vmem => 0
  | .smem => 0
  | _ => 0

abbrev bufTy : (tb : Table) → Fin (tcTables nBuf tb) → BufTy
  | .hbm, ⟨0, _⟩ => ⟨S8192x8x128, .f32⟩
  | .hbm, ⟨1, _⟩ => ⟨S8192x8x128, .f32⟩
  | .hbm, ⟨2, _⟩ => ⟨S8192x8x128, .f32⟩
  | .hbm, ⟨3, _⟩ => ⟨S8x8192, .f32⟩
  | .hbm, ⟨4, _⟩ => ⟨S8192x4096, .bf16⟩
  | .hbm, ⟨5, _⟩ => ⟨S8192x1024, .f32⟩
  | .hbm, ⟨6, _⟩ => ⟨S8192x7168, .bf16⟩
  | .hbm, ⟨7, _⟩ => ⟨S8x8192x8192, .f32⟩
  | .hbm, ⟨8, _⟩ => ⟨S_, .f32⟩
  | .hbm, ⟨9, _⟩ => ⟨S_, .f32⟩
  | .hbm, ⟨10, _⟩ => ⟨S8x8192x8192, .f32⟩
  | .hbm, ⟨11, _⟩ => ⟨S8x8192x8192, .f32⟩
  | .hbm, ⟨12, _⟩ => ⟨S8x8192x1, .f32⟩
  | .hbm, ⟨13, _⟩ => ⟨S8x8192x8192, .f32⟩
  | .hbm, ⟨14, _⟩ => ⟨S8x8192x8192, .f32⟩
  | .hbm, ⟨15, _⟩ => ⟨S8x1x8192, .f32⟩
  | .hbm, ⟨16, _⟩ => ⟨S8x8192x8192, .f32⟩
  | .hbm, ⟨17, _⟩ => ⟨S8x8192x8192, .f32⟩
  | .hbm, ⟨18, _⟩ => ⟨S8192, .i32⟩
  | .hbm, ⟨19, _⟩ => ⟨S1x8192, .i32⟩
  | .hbm, ⟨20, _⟩ => ⟨S8192x1, .i32⟩
  | .hbm, ⟨21, _⟩ => ⟨S8192x8192, .i32⟩
  | .hbm, ⟨22, _⟩ => ⟨S8192x8192, .i32⟩
  | .hbm, ⟨23, _⟩ => ⟨S8192x8192, .i1⟩
  | .hbm, ⟨24, _⟩ => ⟨S_, .f32⟩
  | .hbm, ⟨25, _⟩ => ⟨S_, .f32⟩
  | .hbm, ⟨26, _⟩ => ⟨S8x8192x8192, .i1⟩
  | .hbm, ⟨27, _⟩ => ⟨S8x8192x8192, .f32⟩
  | .hbm, ⟨28, _⟩ => ⟨S8x8192x8192, .f32⟩
  | .hbm, ⟨29, _⟩ => ⟨S_, .f32⟩
  | .hbm, ⟨30, _⟩ => ⟨S8x8192x8192, .f32⟩
  | .hbm, ⟨31, _⟩ => ⟨S_, .f32⟩
  | .hbm, ⟨32, _⟩ => ⟨S8x8192, .f32⟩
  | .hbm, ⟨33, _⟩ => ⟨S8x8192x1, .f32⟩
  | .hbm, ⟨34, _⟩ => ⟨S8x8192x8192, .f32⟩
  | .hbm, ⟨35, _⟩ => ⟨S8x8192x8192, .i1⟩
  | .hbm, ⟨36, _⟩ => ⟨S8x8192x8192, .f32⟩
  | .hbm, ⟨37, _⟩ => ⟨S_, .f32⟩
  | .hbm, ⟨38, _⟩ => ⟨S8x8192, .f32⟩
  | .hbm, ⟨39, _⟩ => ⟨S_, .f32⟩
  | .hbm, ⟨40, _⟩ => ⟨S8x8192, .f32⟩
  | .hbm, ⟨41, _⟩ => ⟨S8x8192, .f32⟩
  | .hbm, ⟨42, _⟩ => ⟨S_, .f32⟩
  | .hbm, ⟨43, _⟩ => ⟨S8x8192, .f32⟩
  | .hbm, ⟨44, _⟩ => ⟨S8x8192, .i1⟩
  | .hbm, ⟨45, _⟩ => ⟨S_, .f32⟩
  | .hbm, ⟨46, _⟩ => ⟨S8x8192, .f32⟩
  | .hbm, ⟨47, _⟩ => ⟨S8x8192, .i1⟩
  | .hbm, ⟨48, _⟩ => ⟨S_, .f32⟩
  | .hbm, ⟨49, _⟩ => ⟨S8x8192, .f32⟩
  | .hbm, ⟨50, _⟩ => ⟨S_, .f32⟩
  | .hbm, ⟨51, _⟩ => ⟨S8x8192, .f32⟩
  | .hbm, ⟨52, _⟩ => ⟨S_, .f32⟩
  | .hbm, ⟨53, _⟩ => ⟨S8x8192, .f32⟩
  | .hbm, ⟨54, _⟩ => ⟨S8x8192, .f32⟩
  | .hbm, ⟨55, _⟩ => ⟨S8x8192, .f32⟩
  | .hbm, ⟨56, _⟩ => ⟨S8x8192x1, .f32⟩
  | .hbm, ⟨57, _⟩ => ⟨S8x8192x8192, .f32⟩
  | .hbm, ⟨58, _⟩ => ⟨S8x8192x8192, .f32⟩
  | .hbm, ⟨59, _⟩ => ⟨S8x8192x8192, .f32⟩
  | .hbm, ⟨60, _⟩ => ⟨S_, .f32⟩
  | .hbm, ⟨61, _⟩ => ⟨S8x8192, .f32⟩
  | .hbm, ⟨62, _⟩ => ⟨S8x8192x1, .f32⟩
  | .hbm, ⟨63, _⟩ => ⟨S8x8192x8192, .f32⟩
  | .hbm, ⟨64, _⟩ => ⟨S8x8192x8192, .f32⟩
  | .hbm, ⟨65, _⟩ => ⟨S8x8192x1, .f32⟩
  | .hbm, ⟨66, _⟩ => ⟨S_, .f32⟩
  | .hbm, ⟨67, _⟩ => ⟨S8x8192x1, .f32⟩
  | .hbm, ⟨68, _⟩ => ⟨S8x8192x1, .f32⟩
  | .hbm, ⟨69, _⟩ => ⟨S8x128x8192, .f32⟩
  | .hbm, ⟨70, _⟩ => ⟨S8192x8x128, .f32⟩
  | .hbm, ⟨71, _⟩ => ⟨S8192x1024, .f32⟩
  | .hbm, ⟨72, _⟩ => ⟨S8192x8x128, .f32⟩
  | .hbm, ⟨73, _⟩ => ⟨S8x128x8192, .f32⟩
  | .hbm, ⟨74, _⟩ => ⟨S8x8192x8192, .f32⟩
  | .hbm, ⟨75, _⟩ => ⟨S8x128x8192, .f32⟩
  | .hbm, ⟨76, _⟩ => ⟨S8192x8x128, .f32⟩
  | .hbm, ⟨77, _⟩ => ⟨S8x8192x8192, .f32⟩
  | .hbm, ⟨78, _⟩ => ⟨S8x8192x8192, .f32⟩
  | .hbm, ⟨79, _⟩ => ⟨S8x8192x8192, .f32⟩
  | .hbm, ⟨80, _⟩ => ⟨S_, .f32⟩
  | .hbm, ⟨81, _⟩ => ⟨S8x8192, .f32⟩
  | .hbm, ⟨82, _⟩ => ⟨S8x8192x1, .f32⟩
  | .hbm, ⟨83, _⟩ => ⟨S8x8192x1, .f32⟩
  | .hbm, ⟨84, _⟩ => ⟨S8x8192x8192, .f32⟩
  | .hbm, ⟨85, _⟩ => ⟨S8x8192x8192, .f32⟩
  | .hbm, ⟨86, _⟩ => ⟨S_, .f32⟩
  | .hbm, ⟨87, _⟩ => ⟨S8x8192, .f32⟩
  | .hbm, ⟨88, _⟩ => ⟨S8x8192x8192, .f32⟩
  | .hbm, ⟨89, _⟩ => ⟨S8x8192x8192, .f32⟩
  | .hbm, ⟨90, _⟩ => ⟨S8x8192x8192, .f32⟩
  | .hbm, ⟨91, _⟩ => ⟨S_, .f32⟩
  | .hbm, ⟨92, _⟩ => ⟨S8x8192x8192, .f32⟩
  | .hbm, ⟨93, _⟩ => ⟨S8x8192x8192, .f32⟩
  | .hbm, ⟨94, _⟩ => ⟨S8x8192x8192, .f32⟩
  | .hbm, ⟨95, _⟩ => ⟨S_, .f32⟩
  | .hbm, ⟨96, _⟩ => ⟨S8x8192, .f32⟩
  | .hbm, ⟨97, _⟩ => ⟨S8x1x8192, .f32⟩
  | .hbm, ⟨98, _⟩ => ⟨S_, .f32⟩
  | .hbm, ⟨99, _⟩ => ⟨S8x8192, .f32⟩
  | .hbm, ⟨100, _⟩ => ⟨S_, .f32⟩
  | .hbm, ⟨101, _⟩ => ⟨S8x8192, .f32⟩
  | .hbm, ⟨102, _⟩ => ⟨S8x8192x1, .f32⟩
  | .hbm, ⟨103, _⟩ => ⟨S_, .f32⟩
  | .hbm, ⟨104, _⟩ => ⟨S8x8192, .f32⟩
  | .hbm, ⟨105, _⟩ => ⟨S8x8192x8192, .f32⟩
  | .hbm, ⟨106, _⟩ => ⟨S8x8192x8192, .f32⟩
  | .hbm, ⟨107, _⟩ => ⟨S8x8192x128, .f32⟩
  | .hbm, ⟨108, _⟩ => ⟨S8192x8x128, .f32⟩
  | .hbm, ⟨109, _⟩ => ⟨S8x8192x128, .f32⟩
  | .hbm, ⟨110, _⟩ => ⟨S8192x8x128, .f32⟩
  | .hbm, ⟨111, _⟩ => ⟨S8192x1024, .f32⟩
  | .hbm, ⟨112, _⟩ => ⟨S8192x1024, .bf16⟩
  | .hbm, ⟨113, _⟩ => ⟨S8192x6144, .bf16⟩
  | .hbm, ⟨114, _⟩ => ⟨S8192x7168, .bf16⟩
  | .hbm, ⟨115, _⟩ => ⟨S_, .f32⟩
  | .hbm, ⟨116, _⟩ => ⟨S_, .f32⟩
  | .hbm, ⟨117, _⟩ => ⟨S8192x8x128, .f32⟩
  | .hbm, ⟨118, _⟩ => ⟨S8192x8x128, .f32⟩
  | .hbm, ⟨119, _⟩ => ⟨S16x512x8x128, .f32⟩
  | .hbm, ⟨120, _⟩ => ⟨S8x16x128x512, .f32⟩
  | .hbm, ⟨121, _⟩ => ⟨S16x512x8x128, .f32⟩
  | .hbm, ⟨122, _⟩ => ⟨S8x16x128x512, .f32⟩
  | .hbm, ⟨123, _⟩ => ⟨S8x16x512, .f32⟩
  | .hbm, ⟨124, _⟩ => ⟨S8x16x512, .f32⟩
  | .hbm, ⟨125, _⟩ => ⟨S8x16x1x512, .f32⟩
  | _, _ => ⟨S8192x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_call0_v0 : Ref sig .tc := ⟨.hbm, 25, rfl⟩
abbrev main_v16_1 : Ref sig .tc := ⟨.hbm, 26, rfl⟩
abbrev main_call0_v2 : Ref sig .tc := ⟨.hbm, 27, rfl⟩
abbrev main_v16_0 : Ref sig .tc := ⟨.hbm, 28, rfl⟩
abbrev main_call0_cst : Ref sig .tc := ⟨.hbm, 29, rfl⟩
abbrev main_v16_2 : Ref sig .tc := ⟨.hbm, 30, rfl⟩
abbrev main_cst_1 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_v26 : Ref sig .tc := ⟨.hbm, 44, rfl⟩
abbrev main_cst_5 : Ref sig .tc := ⟨.hbm, 45, rfl⟩
abbrev main_v27 : Ref sig .tc := ⟨.hbm, 46, rfl⟩
abbrev main_v28 : Ref sig .tc := ⟨.hbm, 47, rfl⟩
abbrev main_cst_6 : Ref sig .tc := ⟨.hbm, 48, rfl⟩
abbrev main_v29 : Ref sig .tc := ⟨.hbm, 49, rfl⟩
abbrev main_cst_7 : Ref sig .tc := ⟨.hbm, 50, rfl⟩
abbrev main_v30 : Ref sig .tc := ⟨.hbm, 51, rfl⟩
abbrev main_cst_8 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_9 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_10 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_11 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_12 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call1_cst : Ref sig .tc := ⟨.hbm, 91, rfl⟩
abbrev main_call1_v0 : Ref sig .tc := ⟨.hbm, 92, rfl⟩
abbrev main_v65 : Ref sig .tc := ⟨.hbm, 93, rfl⟩
abbrev main_v66 : Ref sig .tc := ⟨.hbm, 94, rfl⟩
abbrev main_cst_13 : Ref sig .tc := ⟨.hbm, 95, rfl⟩
abbrev main_v67 : Ref sig .tc := ⟨.hbm, 96, rfl⟩
abbrev main_v68 : Ref sig .tc := ⟨.hbm, 97, rfl⟩
abbrev main_cst_14 : Ref sig .tc := ⟨.hbm, 98, rfl⟩
abbrev main_v69 : Ref sig .tc := ⟨.hbm, 99, rfl⟩
abbrev main_cst_15 : Ref sig .tc := ⟨.hbm, 100, rfl⟩
abbrev main_v70 : Ref sig .tc := ⟨.hbm, 101, rfl⟩
abbrev main_v71 : Ref sig .tc := ⟨.hbm, 102, rfl⟩
abbrev main_cst_16 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_17 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩

abbrev nD : Nat := 1
abbrev τ : Topo := Topo.v7x

variable {F : FTy → Type} [FloatOps F]
-- ==== Kernel2.lean ====
abbrev S8192x1024 : Shape := ⟨2, ![8192, 1024]⟩
abbrev S8192x4096 : Shape := ⟨2, ![8192, 4096]⟩
abbrev S4x1024x1024 : Shape := ⟨3, ![4, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S8192x1024, .bf16⟩
  | .hbm, ⟨3, _⟩ => ⟨S8192x4096, .bf16⟩
  | .hbm, ⟨4, _⟩ => ⟨S4x1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S_, .f32⟩
  | .hbm, ⟨3, _⟩ => ⟨S1024x4096, .f32⟩
  | .hbm, ⟨4, _⟩ => ⟨S8192x4096, .f32⟩
  | .hbm, ⟨5, _⟩ => ⟨S4096x1024, .f32⟩
  | .hbm, ⟨6, _⟩ => ⟨S1024x4096, .f32⟩
  | .hbm, ⟨7, _⟩ => ⟨S1024x4x1024, .f32⟩
  | .hbm, ⟨8, _⟩ => ⟨S4x1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S8192x4096 : Shape := ⟨2, ![8192, 4096]⟩
abbrev S8192x1024 : Shape := ⟨2, ![8192, 1024]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S8192x4096, .bf16⟩
  | .hbm, ⟨3, _⟩ => ⟨S8192x1024, .bf16⟩
  | .hbm, ⟨4, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S_, .f32⟩
  | .hbm, ⟨3, _⟩ => ⟨S4096x1024, .f32⟩
  | .hbm, ⟨4, _⟩ => ⟨S8192x1024, .f32⟩
  | .hbm, ⟨5, _⟩ => ⟨S1024x4096, .f32⟩
  | .hbm, ⟨6, _⟩ => ⟨S4096x1024, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S8192x1024 : Shape := ⟨2, ![8192, 1024]⟩
abbrev S8192x7168 : Shape := ⟨2, ![8192, 7168]⟩
abbrev S1024x7168 : Shape := ⟨2, ![1024, 7168]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x7168, .f32⟩
  | .hbm, ⟨2, _⟩ => ⟨S8192x1024, .bf16⟩
  | .hbm, ⟨3, _⟩ => ⟨S8192x7168, .bf16⟩
  | .hbm, ⟨4, _⟩ => ⟨S1024x7168, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 7, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x1024 : Shape := ⟨2, ![8192, 1024]⟩
abbrev S8192x7168 : Shape := ⟨2, ![8192, 7168]⟩
abbrev S_ : Shape := ⟨0, ![]⟩
abbrev S1024x7168 : Shape := ⟨2, ![1024, 7168]⟩
abbrev S7168x1024 : Shape := ⟨2, ![7168, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x7168, .f32⟩
  | .hbm, ⟨2, _⟩ => ⟨S_, .f32⟩
  | .hbm, ⟨3, _⟩ => ⟨S1024x7168, .f32⟩
  | .hbm, ⟨4, _⟩ => ⟨S8192x7168, .f32⟩
  | .hbm, ⟨5, _⟩ => ⟨S7168x1024, .f32⟩
  | .hbm, ⟨6, _⟩ => ⟨S1024x7168, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference5Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S8192x1024 : Shape := ⟨2, ![8192, 1024]⟩
abbrev S1024x7168 : Shape := ⟨2, ![1024, 7168]⟩
abbrev S8192x7168 : Shape := ⟨2, ![8192, 7168]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x7168, .f32⟩
  | .hbm, ⟨2, _⟩ => ⟨S8192x1024, .bf16⟩
  | .hbm, ⟨3, _⟩ => ⟨S1024x7168, .bf16⟩
  | .hbm, ⟨4, _⟩ => ⟨S8192x7168, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Kernel6Ideal.lean ====
variable {F : FTy → Type} [FloatOps F] [Named F]
def κ : String → Option EReal := fun
  | "scale2" => some (((Real.sqrt 128)⁻¹ * (Real.log 2)⁻¹ : ℝ) : EReal)
  | _ => none
-- ==== Reference6Ideal.lean ====
abbrev S8192x1024 : Shape := ⟨2, ![8192, 1024]⟩
abbrev S1024x7168 : Shape := ⟨2, ![1024, 7168]⟩
abbrev S8192x7168 : Shape := ⟨2, ![8192, 7168]⟩
abbrev S_ : Shape := ⟨0, ![]⟩
abbrev S8192x6144 : Shape := ⟨2, ![8192, 6144]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x7168, .f32⟩
  | .hbm, ⟨2, _⟩ => ⟨S8192x7168, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x6144, .f32⟩
  | .hbm, ⟨12, _⟩ => ⟨S8192x7168, .f32⟩
  | .hbm, ⟨13, _⟩ => ⟨S8192x7168, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel7.lean ====
abbrev S8192x8x128 : Shape := ⟨3, ![8192, 8, 128]⟩
abbrev S8x8192 : Shape := ⟨2, ![8, 8192]⟩
abbrev S8192x4096 : Shape := ⟨2, ![8192, 4096]⟩
abbrev S8192x8x1x128 : Shape := ⟨4, ![8192, 8, 1, 128]⟩
abbrev S8192x8x2x128 : Shape := ⟨4, ![8192, 8, 2, 128]⟩
abbrev S8192x2048 : Shape := ⟨2, ![8192, 2048]⟩
abbrev S_ : Shape := ⟨0, ![]⟩
abbrev S8192x1024 : Shape := ⟨2, ![8192, 1024]⟩
abbrev S8192x7168 : Shape := ⟨2, ![8192, 7168]⟩
abbrev S8x8192x1 : Shape := ⟨3, ![8, 8192, 1]⟩
abbrev S8x8192x128 : Shape := ⟨3, ![8, 8192, 128]⟩
abbrev S8x16x512 : Shape := ⟨3, ![8, 16, 512]⟩
abbrev S512x128 : Shape := ⟨2, ![512, 128]⟩
abbrev S8192x256 : Shape := ⟨2, ![8192, 256]⟩
abbrev S1x512x128 : Shape := ⟨3, ![1, 512, 128]⟩
abbrev S1x16x512 : Shape := ⟨3, ![1, 16, 512]⟩
abbrev S512x256 : Shape := ⟨2, ![512, 256]⟩
abbrev S512x512 : Shape := ⟨2, ![512, 512]⟩
abbrev S1x1x512 : Shape := ⟨3, ![1, 1, 512]⟩
abbrev S1x512 : Shape := ⟨2, ![1, 512]⟩
abbrev S512 : Shape := ⟨1, ![512]⟩
abbrev S512x1 : Shape := ⟨2, ![512, 1]⟩

abbrev nBuf : Space → Nat
  | .hbm => 27
  | .vmem => 16
  | .smem => 0
  | _ => 0

abbrev bufTy : (tb : Table) → Fin (tcTables nBuf tb) → BufTy
  | .hbm, ⟨0, _⟩ => ⟨S8192x8x128, .f32⟩
  | .hbm, ⟨1, _⟩ => ⟨S8192x8x128, .f32⟩
  | .hbm, ⟨2, _⟩ => ⟨S8192x8x128, .f32⟩
  | .hbm, ⟨3, _⟩ => ⟨S8x8192, .f32⟩
  | .hbm, ⟨4, _⟩ => ⟨S8192x4096, .bf16⟩
  | .hbm, ⟨5, _⟩ => ⟨S8192x8x1x128, .f32⟩
  | .hbm, ⟨6, _⟩ => ⟨S8192x8x1x128, .f32⟩
  | .hbm, ⟨7, _⟩ => ⟨S8192x8x2x128, .f32⟩
  | .hbm, ⟨8, _⟩ => ⟨S8192x2048, .f32⟩
  | .hbm, ⟨9, _⟩ => ⟨S8192x2048, .bf16⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S8192x8x128, .f32⟩
  | .hbm, ⟨16, _⟩ => ⟨S8192x8x128, .f32⟩
  | .hbm, ⟨17, _⟩ => ⟨S8192x1024, .f32⟩
  | .hbm, ⟨18, _⟩ => ⟨S8192x1024, .bf16⟩
  | .hbm, ⟨19, _⟩ => ⟨S8192x7168, .bf16⟩
  | .hbm, ⟨20, _⟩ => ⟨S8x8192, .f32⟩
  | .hbm, ⟨21, _⟩ => ⟨S8x8192, .f32⟩
  | .hbm, ⟨22, _⟩ => ⟨S8x8192x1, .f32⟩
  | .hbm, ⟨23, _⟩ => ⟨S8x8192x128, .f32⟩
  | .hbm, ⟨24, _⟩ => ⟨S8x16x512, .f32⟩
  | .hbm, ⟨25, _⟩ => ⟨S8192x1024, .bf16⟩
  | .hbm, ⟨26, _⟩ => ⟨S8x8192x128, .f32⟩
  | .local _ .vmem, ⟨0, _⟩ => ⟨S512x128, .bf16⟩
  | .local _ .vmem, ⟨1, _⟩ => ⟨S512x128, .bf16⟩
  | .local _ .vmem, ⟨2, _⟩ => ⟨S8192x256, .bf16⟩
  | .local _ .vmem, ⟨3, _⟩ => ⟨S8192x256, .bf16⟩
  | .local _ .vmem, ⟨4, _⟩ => ⟨S1x512x128, .f32⟩
  | .local _ .vmem, ⟨5, _⟩ => ⟨S1x512x128, .f32⟩
  | .local _ .vmem, ⟨6, _⟩ => ⟨S1x16x512, .f32⟩
  | .local _ .vmem, ⟨7, _⟩ => ⟨S1x16x512, .f32⟩
  | .local _ .vmem, ⟨8, _⟩ => ⟨S512x128, .bf16⟩
  | .local _ .vmem, ⟨9, _⟩ => ⟨S512x128, .bf16⟩
  | .local _ .vmem, ⟨10, _⟩ => ⟨S1x512x128, .f32⟩
  | .local _ .vmem, ⟨11, _⟩ => ⟨S1x512x128, .f32⟩
  | .local _ .vmem, ⟨12, _⟩ => ⟨S512x128, .f32⟩
  | .local _ .vmem, ⟨13, _⟩ => ⟨S512x256, .f32⟩
  | .local _ .vmem, ⟨14, _⟩ => ⟨S512x512, .f32⟩
  | .local _ .vmem, ⟨15, _⟩ => ⟨S512x512, .f32⟩
  | _, _ => ⟨S8192x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18_0 : Ref sig .tc := ⟨.hbm, 25, rfl⟩
abbrev main_v18_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 16], ![false, false]⟩

def k0_mult1 : BitVec 32 :=
  let c0_i32 : BitVec 32 := 0#32
  c0_i32
@[reducible] def k0_t1_loop (i : grid0.Coords) : Scf.Loop 32 :=
  let c0_i32_23 : BitVec 32 := 0#32
  let arg1 : BitVec 32 := BitVec.ofNat 32 (i 1).val
  let c0_i32_17 : BitVec 32 := 0#32
  let v26 : BitVec 1 := Scalar.cmpi .sgt arg1 c0_i32_17
  let v27 : BitVec 32 := Scalar.extui v26
  let c0_i32_18 : BitVec 32 := 0#32
  let v28 : BitVec 1 := Scalar.cmpi .slt arg1 c0_i32_18
  let v29 : BitVec 32 := Scalar.extui v28
  let v30 : BitVec 32 := Scalar.subi v27 v29
  let c2_i32 : BitVec 32 := 2#32
  let c0_i32_19 : BitVec 32 := 0#32
  let v31 : BitVec 1 := Scalar.cmpi .sgt c2_i32 c0_i32_19
  let v32 : BitVec 32 := Scalar.extui v31
  let c0_i32_20 : BitVec 32 := 0#32
  let v33 : BitVec 1 := Scalar.cmpi .slt c2_i32 c0_i32_20
  let v34 : BitVec 32 := Scalar.extui v33
  let v35 : BitVec 32 := Scalar.subi v32 v34
  let v36 : BitVec 1 := Scalar.cmpi .ne v30 v35
  let v37 : BitVec 32 := Scalar.remsi arg1 c2_i32
  let c0_i32_21 : BitVec 32 := 0#32
  let v38 : BitVec 1 := Scalar.cmpi .ne v37 c0_i32_21
  let v39 : BitVec 1 := Scalar.andi v36 v38
  let v25 : BitVec 32 := Scalar.divsi arg1 c2_i32
  let c1_i32 : BitVec 32 := 1#32
  let v40 : BitVec 32 := Scalar.subi v25 c1_i32
  let v41 : BitVec 32 := Scalar.select v39 v40 v25
  let v42 : BitVec 32 := Scalar.subi v41 c0_i32_23
  let c1_i32_24 : BitVec 32 := 1#32
  let v44 : BitVec 32 := Scalar.divsi v42 c1_i32_24
  let v45 : BitVec 32 := Scalar.muli v44 c1_i32_24
  let v46 : BitVec 32 := Scalar.addi c0_i32_23 v45
  let c1_i32_25 : BitVec 32 := 1#32
  ⟨c0_i32_23, v46, c1_i32_25⟩
def k0_mult2 (i : grid0.Coords) (k0_t1 : Fin (k0_t1_loop i).trips) : BitVec 32 :=
  let c2_i32_54 : BitVec 32 := 2#32
  let c0_i32_23 : BitVec 32 := 0#32
  let c1_i32_25 : BitVec 32 := 1#32
  let arg12 : BitVec 32 := Scf.iv c0_i32_23 c1_i32_25 k0_t1
  let v87 : BitVec 32 := Scalar.muli c2_i32_54 arg12
  let c1_i32_55 : BitVec 32 := 1#32
  let v88 : BitVec 32 := Scalar.addi v87 c1_i32_55
  let c512_i32 : BitVec 32 := 512#32
  let v89 : BitVec 32 := Scalar.muli v88 c512_i32
  v89
def k0_off1 (i : grid0.Coords) (k0_t1 : Fin (k0_t1_loop i).trips) (c1_i32_55 : BitVec 32) : Fin 2 → Nat :=
  let c2_i32_54 : BitVec 32 := 2#32
  let c0_i32_23 : BitVec 32 := 0#32
  let c1_i32_25 : BitVec 32 := 1#32
  let arg12 : BitVec 32 := Scf.iv c0_i32_23 c1_i32_25 k0_t1
  let v87 : BitVec 32 := Scalar.muli c2_i32_54 arg12
  let v88 : BitVec 32 := Scalar.addi v87 c1_i32_55
  let c512_i32 : BitVec 32 := 512#32
  let v89 : BitVec 32 := Scalar.muli v88 c512_i32
  let v90 : BitVec 32 := v89
  let v93 : Index := Scalar.indexCast v90
  let c0_58 : Index := 0#32
  ![v93.toNat, 0]
def k0_off2 (i : grid0.Coords) (k0_t1 : Fin (k0_t1_loop i).trips) (c1_i32_55 : BitVec 32) : Fin 3 → Nat :=
  let c0_60 : Index := 0#32
  let c2_i32_54 : BitVec 32 := 2#32
  let c0_i32_23 : BitVec 32 := 0#32
  let c1_i32_25 : BitVec 32 := 1#32
  let arg12 : BitVec 32 := Scf.iv c0_i32_23 c1_i32_25 k0_t1
  let v87 : BitVec 32 := Scalar.muli c2_i32_54 arg12
  let v88 : BitVec 32 := Scalar.addi v87 c1_i32_55
  let v97 : Index := Scalar.indexCast v88
  let c0_61 : Index := 0#32
  ![0, v97.toNat, 0]
def k0_mult3 (i : grid0.Coords) (k0_t1 : Fin (k0_t1_loop i).trips) : BitVec 32 :=
  let c2_i32_54 : BitVec 32 := 2#32
  let c0_i32_23 : BitVec 32 := 0#32
  let c1_i32_25 : BitVec 32 := 1#32
  let arg12 : BitVec 32 := Scf.iv c0_i32_23 c1_i32_25 k0_t1
  let v87 : BitVec 32 := Scalar.muli c2_i32_54 arg12
  let c512_i32_64 : BitVec 32 := 512#32
  let v105 : BitVec 32 := Scalar.muli v87 c512_i32_64
  v105
def k0_off3 (i : grid0.Coords) (k0_t1 : Fin (k0_t1_loop i).trips) : Fin 2 → Nat :=
  let c2_i32_54 : BitVec 32 := 2#32
  let c0_i32_23 : BitVec 32 := 0#32
  let c1_i32_25 : BitVec 32 := 1#32
  let arg12 : BitVec 32 := Scf.iv c0_i32_23 c1_i32_25 k0_t1
  let v87 : BitVec 32 := Scalar.muli c2_i32_54 arg12
  let c512_i32_64 : BitVec 32 := 512#32
  let v105 : BitVec 32 := Scalar.muli v87 c512_i32_64
  let v106 : BitVec 32 := v105
  let v107 : Index := Scalar.indexCast v106
  let c128_65 : Index := 128#32
  ![v107.toNat, 128]
def k0_mult4 (i : grid0.Coords) (k0_t1 : Fin (k0_t1_loop i).trips) : BitVec 32 :=
  let c2_i32_54 : BitVec 32 := 2#32
  let c0_i32_23 : BitVec 32 := 0#32
  let c1_i32_25 : BitVec 32 := 1#32
  let arg12 : BitVec 32 := Scf.iv c0_i32_23 c1_i32_25 k0_t1
  let v87 : BitVec 32 := Scalar.muli c2_i32_54 arg12
  let c2_i32_78 : BitVec 32 := 2#32
  let v134 : BitVec 32 := Scalar.addi v87 c2_i32_78
  let c512_i32_79 : BitVec 32 := 512#32
  let v135 : BitVec 32 := Scalar.muli v134 c512_i32_79
  v135
def k0_mult5 (i : grid0.Coords) (k0_t1 : Fin (k0_t1_loop i).trips) : BitVec 32 :=
  let c2_i32_54 : BitVec 32 := 2#32
  let c0_i32_23 : BitVec 32 := 0#32
  let c1_i32_25 : BitVec 32 := 1#32
  let arg12 : BitVec 32 := Scf.iv c0_i32_23 c1_i32_25 k0_t1
  let v87 : BitVec 32 := Scalar.muli c2_i32_54 arg12
  let c1_i32_88 : BitVec 32 := 1#32
  let v151 : BitVec 32 := Scalar.addi v87 c1_i32_88
  let c512_i32_89 : BitVec 32 := 512#32
  let v152 : BitVec 32 := Scalar.muli v151 c512_i32_89
  v152
def k0_off4 (i : grid0.Coords) (k0_t1 : Fin (k0_t1_loop i).trips) : Fin 2 → Nat :=
  let c2_i32_54 : BitVec 32 := 2#32
  let c0_i32_23 : BitVec 32 := 0#32
  let c1_i32_25 : BitVec 32 := 1#32
  let arg12 : BitVec 32 := Scf.iv c0_i32_23 c1_i32_25 k0_t1
  let v87 : BitVec 32 := Scalar.muli c2_i32_54 arg12
  let c1_i32_88 : BitVec 32 := 1#32
  let v151 : BitVec 32 := Scalar.addi v87 c1_i32_88
  let c512_i32_89 : BitVec 32 := 512#32
  let v152 : BitVec 32 := Scalar.muli v151 c512_i32_89
  let v153 : BitVec 32 := v152
  let v154 : Index := Scalar.indexCast v153
  let c128_90 : Index := 128#32
  ![v154.toNat, 128]
@[reducible] def k0_t2_loop (i : grid0.Coords) : Scf.Loop 32 :=
  let c0_i32_23 : BitVec 32 := 0#32
  let arg1 : BitVec 32 := BitVec.ofNat 32 (i 1).val
  let c0_i32_17 : BitVec 32 := 0#32
  let v26 : BitVec 1 := Scalar.cmpi .sgt arg1 c0_i32_17
  let v27 : BitVec 32 := Scalar.extui v26
  let c0_i32_18 : BitVec 32 := 0#32
  let v28 : BitVec 1 := Scalar.cmpi .slt arg1 c0_i32_18
  let v29 : BitVec 32 := Scalar.extui v28
  let v30 : BitVec 32 := Scalar.subi v27 v29
  let c2_i32 : BitVec 32 := 2#32
  let c0_i32_19 : BitVec 32 := 0#32
  let v31 : BitVec 1 := Scalar.cmpi .sgt c2_i32 c0_i32_19
  let v32 : BitVec 32 := Scalar.extui v31
  let c0_i32_20 : BitVec 32 := 0#32
  let v33 : BitVec 1 := Scalar.cmpi .slt c2_i32 c0_i32_20
  let v34 : BitVec 32 := Scalar.extui v33
  let v35 : BitVec 32 := Scalar.subi v32 v34
  let v36 : BitVec 1 := Scalar.cmpi .ne v30 v35
  let v37 : BitVec 32 := Scalar.remsi arg1 c2_i32
  let c0_i32_21 : BitVec 32 := 0#32
  let v38 : BitVec 1 := Scalar.cmpi .ne v37 c0_i32_21
  let v39 : BitVec 1 := Scalar.andi v36 v38
  let v25 : BitVec 32 := Scalar.divsi arg1 c2_i32
  let c1_i32 : BitVec 32 := 1#32
  let v40 : BitVec 32 := Scalar.subi v25 c1_i32
  let v41 : BitVec 32 := Scalar.select v39 v40 v25
  let v42 : BitVec 32 := Scalar.subi v41 c0_i32_23
  let c1_i32_24 : BitVec 32 := 1#32
  let v44 : BitVec 32 := Scalar.divsi v42 c1_i32_24
  let v45 : BitVec 32 := Scalar.muli v44 c1_i32_24
  let v46 : BitVec 32 := Scalar.addi c0_i32_23 v45
  let v43 : BitVec 32 := Scalar.addi c0_i32_23 v42
  let c1_i32_26 : BitVec 32 := 1#32
  ⟨v46, v43, c1_i32_26⟩
def k0_mult6 (i : grid0.Coords) (k0_t2 : Fin (k0_t2_loop i).trips) : BitVec 32 :=
  let c2_i32_54 : BitVec 32 := 2#32
  let c0_i32_23 : BitVec 32 := 0#32
  let arg1 : BitVec 32 := BitVec.ofNat 32 (i 1).val
  let c0_i32_17 : BitVec 32 := 0#32
  let v26 : BitVec 1 := Scalar.cmpi .sgt arg1 c0_i32_17
  let v27 : BitVec 32 := Scalar.extui v26
  let c0_i32_18 : BitVec 32 := 0#32
  let v28 : BitVec 1 := Scalar.cmpi .slt arg1 c0_i32_18
  let v29 : BitVec 32 := Scalar.extui v28
  let v30 : BitVec 32 := Scalar.subi v27 v29
  let c2_i32 : BitVec 32 := 2#32
  let c0_i32_19 : BitVec 32 := 0#32
  let v31 : BitVec 1 := Scalar.cmpi .sgt c2_i32 c0_i32_19
  let v32 : BitVec 32 := Scalar.extui v31
  let c0_i32_20 : BitVec 32 := 0#32
  let v33 : BitVec 1 := Scalar.cmpi .slt c2_i32 c0_i32_20
  let v34 : BitVec 32 := Scalar.extui v33
  let v35 : BitVec 32 := Scalar.subi v32 v34
  let v36 : BitVec 1 := Scalar.cmpi .ne v30 v35
  let v37 : BitVec 32 := Scalar.remsi arg1 c2_i32
  let c0_i32_21 : BitVec 32 := 0#32
  let v38 : BitVec 1 := Scalar.cmpi .ne v37 c0_i32_21
  let v39 : BitVec 1 := Scalar.andi v36 v38
  let v25 : BitVec 32 := Scalar.divsi arg1 c2_i32
  let c1_i32 : BitVec 32 := 1#32
  let v40 : BitVec 32 := Scalar.subi v25 c1_i32
  let v41 : BitVec 32 := Scalar.select v39 v40 v25
  let v42 : BitVec 32 := Scalar.subi v41 c0_i32_23
  let c1_i32_24 : BitVec 32 := 1#32
  let v44 : BitVec 32 := Scalar.divsi v42 c1_i32_24
  let v45 : BitVec 32 := Scalar.muli v44 c1_i32_24
  let v46 : BitVec 32 := Scalar.addi c0_i32_23 v45
  let c1_i32_26 : BitVec 32 := 1#32
  let arg12 : BitVec 32 := Scf.iv v46 c1_i32_26 k0_t2
  let v87 : BitVec 32 := Scalar.muli c2_i32_54 arg12
  let c1_i32_55 : BitVec 32 := 1#32
  let v88 : BitVec 32 := Scalar.addi v87 c1_i32_55
  let c512_i32 : BitVec 32 := 512#32
  let v89 : BitVec 32 := Scalar.muli v88 c512_i32
  v89
def k0_off5 (i : grid0.Coords) (k0_t2 : Fin (k0_t2_loop i).trips) (c1_i32_55 : BitVec 32) : Fin 2 → Nat :=
  let c2_i32_54 : BitVec 32 := 2#32
  let c0_i32_23 : BitVec 32 := 0#32
  let arg1 : BitVec 32 := BitVec.ofNat 32 (i 1).val
  let c0_i32_17 : BitVec 32 := 0#32
  let v26 : BitVec 1 := Scalar.cmpi .sgt arg1 c0_i32_17
  let v27 : BitVec 32 := Scalar.extui v26
  let c0_i32_18 : BitVec 32 := 0#32
  let v28 : BitVec 1 := Scalar.cmpi .slt arg1 c0_i32_18
  let v29 : BitVec 32 := Scalar.extui v28
  let v30 : BitVec 32 := Scalar.subi v27 v29
  let c2_i32 : BitVec 32 := 2#32
  let c0_i32_19 : BitVec 32 := 0#32
  let v31 : BitVec 1 := Scalar.cmpi .sgt c2_i32 c0_i32_19
  let v32 : BitVec 32 := Scalar.extui v31
  let c0_i32_20 : BitVec 32 := 0#32
  let v33 : BitVec 1 := Scalar.cmpi .slt c2_i32 c0_i32_20
  let v34 : BitVec 32 := Scalar.extui v33
  let v35 : BitVec 32 := Scalar.subi v32 v34
  let v36 : BitVec 1 := Scalar.cmpi .ne v30 v35
  let v37 : BitVec 32 := Scalar.remsi arg1 c2_i32
  let c0_i32_21 : BitVec 32 := 0#32
  let v38 : BitVec 1 := Scalar.cmpi .ne v37 c0_i32_21
  let v39 : BitVec 1 := Scalar.andi v36 v38
  let v25 : BitVec 32 := Scalar.divsi arg1 c2_i32
  let c1_i32 : BitVec 32 := 1#32
  let v40 : BitVec 32 := Scalar.subi v25 c1_i32
  let v41 : BitVec 32 := Scalar.select v39 v40 v25
  let v42 : BitVec 32 := Scalar.subi v41 c0_i32_23
  let c1_i32_24 : BitVec 32 := 1#32
  let v44 : BitVec 32 := Scalar.divsi v42 c1_i32_24
  let v45 : BitVec 32 := Scalar.muli v44 c1_i32_24
  let v46 : BitVec 32 := Scalar.addi c0_i32_23 v45
  let c1_i32_26 : BitVec 32 := 1#32
  let arg12 : BitVec 32 := Scf.iv v46 c1_i32_26 k0_t2
  let v87 : BitVec 32 := Scalar.muli c2_i32_54 arg12
  let v88 : BitVec 32 := Scalar.addi v87 c1_i32_55
  let c512_i32 : BitVec 32 := 512#32
  let v89 : BitVec 32 := Scalar.muli v88 c512_i32
  let v90 : BitVec 32 := v89
  let v93 : Index := Scalar.indexCast v90
  let c0_58 : Index := 0#32
  ![v93.toNat, 0]
def k0_off6 (i : grid0.Coords) (k0_t2 : Fin (k0_t2_loop i).trips) (c1_i32_55 : BitVec 32) : Fin 3 → Nat :=
  let c0_60 : Index := 0#32
  let c2_i32_54 : BitVec 32 := 2#32
  let c0_i32_23 : BitVec 32 := 0#32
  let arg1 : BitVec 32 := BitVec.ofNat 32 (i 1).val
  let c0_i32_17 : BitVec 32 := 0#32
  let v26 : BitVec 1 := Scalar.cmpi .sgt arg1 c0_i32_17
  let v27 : BitVec 32 := Scalar.extui v26
  let c0_i32_18 : BitVec 32 := 0#32
  let v28 : BitVec 1 := Scalar.cmpi .slt arg1 c0_i32_18
  let v29 : BitVec 32 := Scalar.extui v28
  let v30 : BitVec 32 := Scalar.subi v27 v29
  let c2_i32 : BitVec 32 := 2#32
  let c0_i32_19 : BitVec 32 := 0#32
  let v31 : BitVec 1 := Scalar.cmpi .sgt c2_i32 c0_i32_19
  let v32 : BitVec 32 := Scalar.extui v31
  let c0_i32_20 : BitVec 32 := 0#32
  let v33 : BitVec 1 := Scalar.cmpi .slt c2_i32 c0_i32_20
  let v34 : BitVec 32 := Scalar.extui v33
  let v35 : BitVec 32 := Scalar.subi v32 v34
  let v36 : BitVec 1 := Scalar.cmpi .ne v30 v35
  let v37 : BitVec 32 := Scalar.remsi arg1 c2_i32
  let c0_i32_21 : BitVec 32 := 0#32
  let v38 : BitVec 1 := Scalar.cmpi .ne v37 c0_i32_21
  let v39 : BitVec 1 := Scalar.andi v36 v38
  let v25 : BitVec 32 := Scalar.divsi arg1 c2_i32
  let c1_i32 : BitVec 32 := 1#32
  let v40 : BitVec 32 := Scalar.subi v25 c1_i32
  let v41 : BitVec 32 := Scalar.select v39 v40 v25
  let v42 : BitVec 32 := Scalar.subi v41 c0_i32_23
  let c1_i32_24 : BitVec 32 := 1#32
  let v44 : BitVec 32 := Scalar.divsi v42 c1_i32_24
  let v45 : BitVec 32 := Scalar.muli v44 c1_i32_24
  let v46 : BitVec 32 := Scalar.addi c0_i32_23 v45
  let c1_i32_26 : BitVec 32 := 1#32
  let arg12 : BitVec 32 := Scf.iv v46 c1_i32_26 k0_t2
  let v87 : BitVec 32 := Scalar.muli c2_i32_54 arg12
  let v88 : BitVec 32 := Scalar.addi v87 c1_i32_55
  let v97 : Index := Scalar.indexCast v88
  let c0_61 : Index := 0#32
  ![0, v97.toNat, 0]
def k0_mult7 (i : grid0.Coords) (k0_t2 : Fin (k0_t2_loop i).trips) : BitVec 32 :=
  let c2_i32_54 : BitVec 32 := 2#32
  let c0_i32_23 : BitVec 32 := 0#32
  let arg1 : BitVec 32 := BitVec.ofNat 32 (i 1).val
  let c0_i32_17 : BitVec 32 := 0#32
  let v26 : BitVec 1 := Scalar.cmpi .sgt arg1 c0_i32_17
  let v27 : BitVec 32 := Scalar.extui v26
  let c0_i32_18 : BitVec 32 := 0#32
  let v28 : BitVec 1 := Scalar.cmpi .slt arg1 c0_i32_18
  let v29 : BitVec 32 := Scalar.extui v28
  let v30 : BitVec 32 := Scalar.subi v27 v29
  let c2_i32 : BitVec 32 := 2#32
  let c0_i32_19 : BitVec 32 := 0#32
  let v31 : BitVec 1 := Scalar.cmpi .sgt c2_i32 c0_i32_19
  let v32 : BitVec 32 := Scalar.extui v31
  let c0_i32_20 : BitVec 32 := 0#32
  let v33 : BitVec 1 := Scalar.cmpi .slt c2_i32 c0_i32_20
  let v34 : BitVec 32 := Scalar.extui v33
  let v35 : BitVec 32 := Scalar.subi v32 v34
  let v36 : BitVec 1 := Scalar.cmpi .ne v30 v35
  let v37 : BitVec 32 := Scalar.remsi arg1 c2_i32
  let c0_i32_21 : BitVec 32 := 0#32
  let v38 : BitVec 1 := Scalar.cmpi .ne v37 c0_i32_21
  let v39 : BitVec 1 := Scalar.andi v36 v38
  let v25 : BitVec 32 := Scalar.divsi arg1 c2_i32
  let c1_i32 : BitVec 32 := 1#32
  let v40 : BitVec 32 := Scalar.subi v25 c1_i32
  let v41 : BitVec 32 := Scalar.select v39 v40 v25
  let v42 : BitVec 32 := Scalar.subi v41 c0_i32_23
  let c1_i32_24 : BitVec 32 := 1#32
  let v44 : BitVec 32 := Scalar.divsi v42 c1_i32_24
  let v45 : BitVec 32 := Scalar.muli v44 c1_i32_24
  let v46 : BitVec 32 := Scalar.addi c0_i32_23 v45
  let c1_i32_26 : BitVec 32 := 1#32
  let arg12 : BitVec 32 := Scf.iv v46 c1_i32_26 k0_t2
  let v87 : BitVec 32 := Scalar.muli c2_i32_54 arg12
  let c512_i32_64 : BitVec 32 := 512#32
  let v105 : BitVec 32 := Scalar.muli v87 c512_i32_64
  v105
def k0_off7 (i : grid0.Coords) (k0_t2 : Fin (k0_t2_loop i).trips) : Fin 2 → Nat :=
  let c2_i32_54 : BitVec 32 := 2#32
  let c0_i32_23 : BitVec 32 := 0#32
  let arg1 : BitVec 32 := BitVec.ofNat 32 (i 1).val
  let c0_i32_17 : BitVec 32 := 0#32
  let v26 : BitVec 1 := Scalar.cmpi .sgt arg1 c0_i32_17
  let v27 : BitVec 32 := Scalar.extui v26
  let c0_i32_18 : BitVec 32 := 0#32
  let v28 : BitVec 1 := Scalar.cmpi .slt arg1 c0_i32_18
  let v29 : BitVec 32 := Scalar.extui v28
  let v30 : BitVec 32 := Scalar.subi v27 v29
  let c2_i32 : BitVec 32 := 2#32
  let c0_i32_19 : BitVec 32 := 0#32
  let v31 : BitVec 1 := Scalar.cmpi .sgt c2_i32 c0_i32_19
  let v32 : BitVec 32 := Scalar.extui v31
  let c0_i32_20 : BitVec 32 := 0#32
  let v33 : BitVec 1 := Scalar.cmpi .slt c2_i32 c0_i32_20
  let v34 : BitVec 32 := Scalar.extui v33
  let v35 : BitVec 32 := Scalar.subi v32 v34
  let v36 : BitVec 1 := Scalar.cmpi .ne v30 v35
  let v37 : BitVec 32 := Scalar.remsi arg1 c2_i32
  let c0_i32_21 : BitVec 32 := 0#32
  let v38 : BitVec 1 := Scalar.cmpi .ne v37 c0_i32_21
  let v39 : BitVec 1 := Scalar.andi v36 v38
  let v25 : BitVec 32 := Scalar.divsi arg1 c2_i32
  let c1_i32 : BitVec 32 := 1#32
  let v40 : BitVec 32 := Scalar.subi v25 c1_i32
  let v41 : BitVec 32 := Scalar.select v39 v40 v25
  let v42 : BitVec 32 := Scalar.subi v41 c0_i32_23
  let c1_i32_24 : BitVec 32 := 1#32
  let v44 : BitVec 32 := Scalar.divsi v42 c1_i32_24
  let v45 : BitVec 32 := Scalar.muli v44 c1_i32_24
  let v46 : BitVec 32 := Scalar.addi c0_i32_23 v45
  let c1_i32_26 : BitVec 32 := 1#32
  let arg12 : BitVec 32 := Scf.iv v46 c1_i32_26 k0_t2
  let v87 : BitVec 32 := Scalar.muli c2_i32_54 arg12
  let c512_i32_64 : BitVec 32 := 512#32
  let v105 : BitVec 32 := Scalar.muli v87 c512_i32_64
  let v106 : BitVec 32 := v105
  let v107 : Index := Scalar.indexCast v106
  let c128_65 : Index := 128#32
  ![v107.toNat, 128]
def k0_mult8 (i : grid0.Coords) (k0_t2 : Fin (k0_t2_loop i).trips) : BitVec 32 :=
  let c2_i32_54 : BitVec 32 := 2#32
  let c0_i32_23 : BitVec 32 := 0#32
  let arg1 : BitVec 32 := BitVec.ofNat 32 (i 1).val
  let c0_i32_17 : BitVec 32 := 0#32
  let v26 : BitVec 1 := Scalar.cmpi .sgt arg1 c0_i32_17
  let v27 : BitVec 32 := Scalar.extui v26
  let c0_i32_18 : BitVec 32 := 0#32
  let v28 : BitVec 1 := Scalar.cmpi .slt arg1 c0_i32_18
  let v29 : BitVec 32 := Scalar.extui v28
  let v30 : BitVec 32 := Scalar.subi v27 v29
  let c2_i32 : BitVec 32 := 2#32
  let c0_i32_19 : BitVec 32 := 0#32
  let v31 : BitVec 1 := Scalar.cmpi .sgt c2_i32 c0_i32_19
  let v32 : BitVec 32 := Scalar.extui v31
  let c0_i32_20 : BitVec 32 := 0#32
  let v33 : BitVec 1 := Scalar.cmpi .slt c2_i32 c0_i32_20
  let v34 : BitVec 32 := Scalar.extui v33
  let v35 : BitVec 32 := Scalar.subi v32 v34
  let v36 : BitVec 1 := Scalar.cmpi .ne v30 v35
  let v37 : BitVec 32 := Scalar.remsi arg1 c2_i32
  let c0_i32_21 : BitVec 32 := 0#32
  let v38 : BitVec 1 := Scalar.cmpi .ne v37 c0_i32_21
  let v39 : BitVec 1 := Scalar.andi v36 v38
  let v25 : BitVec 32 := Scalar.divsi arg1 c2_i32
  let c1_i32 : BitVec 32 := 1#32
  let v40 : BitVec 32 := Scalar.subi v25 c1_i32
  let v41 : BitVec 32 := Scalar.select v39 v40 v25
  let v42 : BitVec 32 := Scalar.subi v41 c0_i32_23
  let c1_i32_24 : BitVec 32 := 1#32
  let v44 : BitVec 32 := Scalar.divsi v42 c1_i32_24
  let v45 : BitVec 32 := Scalar.muli v44 c1_i32_24
  let v46 : BitVec 32 := Scalar.addi c0_i32_23 v45
  let c1_i32_26 : BitVec 32 := 1#32
  let arg12 : BitVec 32 := Scf.iv v46 c1_i32_26 k0_t2
  let v87 : BitVec 32 := Scalar.muli c2_i32_54 arg12
  let c2_i32_78 : BitVec 32 := 2#32
  let v134 : BitVec 32 := Scalar.addi v87 c2_i32_78
  let c512_i32_79 : BitVec 32 := 512#32
  let v135 : BitVec 32 := Scalar.muli v134 c512_i32_79
  v135
def k0_mult9 (i : grid0.Coords) (k0_t2 : Fin (k0_t2_loop i).trips) : BitVec 32 :=
  let c2_i32_54 : BitVec 32 := 2#32
  let c0_i32_23 : BitVec 32 := 0#32
  let arg1 : BitVec 32 := BitVec.ofNat 32 (i 1).val
  let c0_i32_17 : BitVec 32 := 0#32
  let v26 : BitVec 1 := Scalar.cmpi .sgt arg1 c0_i32_17
  let v27 : BitVec 32 := Scalar.extui v26
  let c0_i32_18 : BitVec 32 := 0#32
  let v28 : BitVec 1 := Scalar.cmpi .slt arg1 c0_i32_18
  let v29 : BitVec 32 := Scalar.extui v28
  let v30 : BitVec 32 := Scalar.subi v27 v29
  let c2_i32 : BitVec 32 := 2#32
  let c0_i32_19 : BitVec 32 := 0#32
  let v31 : BitVec 1 := Scalar.cmpi .sgt c2_i32 c0_i32_19
  let v32 : BitVec 32 := Scalar.extui v31
  let c0_i32_20 : BitVec 32 := 0#32
  let v33 : BitVec 1 := Scalar.cmpi .slt c2_i32 c0_i32_20
  let v34 : BitVec 32 := Scalar.extui v33
  let v35 : BitVec 32 := Scalar.subi v32 v34
  let v36 : BitVec 1 := Scalar.cmpi .ne v30 v35
  let v37 : BitVec 32 := Scalar.remsi arg1 c2_i32
  let c0_i32_21 : BitVec 32 := 0#32
  let v38 : BitVec 1 := Scalar.cmpi .ne v37 c0_i32_21
  let v39 : BitVec 1 := Scalar.andi v36 v38
  let v25 : BitVec 32 := Scalar.divsi arg1 c2_i32
  let c1_i32 : BitVec 32 := 1#32
  let v40 : BitVec 32 := Scalar.subi v25 c1_i32
  let v41 : BitVec 32 := Scalar.select v39 v40 v25
  let v42 : BitVec 32 := Scalar.subi v41 c0_i32_23
  let c1_i32_24 : BitVec 32 := 1#32
  let v44 : BitVec 32 := Scalar.divsi v42 c1_i32_24
  let v45 : BitVec 32 := Scalar.muli v44 c1_i32_24
  let v46 : BitVec 32 := Scalar.addi c0_i32_23 v45
  let c1_i32_26 : BitVec 32 := 1#32
  let arg12 : BitVec 32 := Scf.iv v46 c1_i32_26 k0_t2
  let v87 : BitVec 32 := Scalar.muli c2_i32_54 arg12
  let c1_i32_88 : BitVec 32 := 1#32
  let v151 : BitVec 32 := Scalar.addi v87 c1_i32_88
  let c512_i32_89 : BitVec 32 := 512#32
  let v152 : BitVec 32 := Scalar.muli v151 c512_i32_89
  v152
def k0_off8 (i : grid0.Coords) (k0_t2 : Fin (k0_t2_loop i).trips) : Fin 2 → Nat :=
  let c2_i32_54 : BitVec 32 := 2#32
  let c0_i32_23 : BitVec 32 := 0#32
  let arg1 : BitVec 32 := BitVec.ofNat 32 (i 1).val
  let c0_i32_17 : BitVec 32 := 0#32
  let v26 : BitVec 1 := Scalar.cmpi .sgt arg1 c0_i32_17
  let v27 : BitVec 32 := Scalar.extui v26
  let c0_i32_18 : BitVec 32 := 0#32
  let v28 : BitVec 1 := Scalar.cmpi .slt arg1 c0_i32_18
  let v29 : BitVec 32 := Scalar.extui v28
  let v30 : BitVec 32 := Scalar.subi v27 v29
  let c2_i32 : BitVec 32 := 2#32
  let c0_i32_19 : BitVec 32 := 0#32
  let v31 : BitVec 1 := Scalar.cmpi .sgt c2_i32 c0_i32_19
  let v32 : BitVec 32 := Scalar.extui v31
  let c0_i32_20 : BitVec 32 := 0#32
  let v33 : BitVec 1 := Scalar.cmpi .slt c2_i32 c0_i32_20
  let v34 : BitVec 32 := Scalar.extui v33
  let v35 : BitVec 32 := Scalar.subi v32 v34
  let v36 : BitVec 1 := Scalar.cmpi .ne v30 v35
  let v37 : BitVec 32 := Scalar.remsi arg1 c2_i32
  let c0_i32_21 : BitVec 32 := 0#32
  let v38 : BitVec 1 := Scalar.cmpi .ne v37 c0_i32_21
  let v39 : BitVec 1 := Scalar.andi v36 v38
  let v25 : BitVec 32 := Scalar.divsi arg1 c2_i32
  let c1_i32 : BitVec 32 := 1#32
  let v40 : BitVec 32 := Scalar.subi v25 c1_i32
  let v41 : BitVec 32 := Scalar.select v39 v40 v25
  let v42 : BitVec 32 := Scalar.subi v41 c0_i32_23
  let c1_i32_24 : BitVec 32 := 1#32
  let v44 : BitVec 32 := Scalar.divsi v42 c1_i32_24
  let v45 : BitVec 32 := Scalar.muli v44 c1_i32_24
  let v46 : BitVec 32 := Scalar.addi c0_i32_23 v45
  let c1_i32_26 : BitVec 32 := 1#32
  let arg12 : BitVec 32 := Scf.iv v46 c1_i32_26 k0_t2
  let v87 : BitVec 32 := Scalar.muli c2_i32_54 arg12
  let c1_i32_88 : BitVec 32 := 1#32
  let v151 : BitVec 32 := Scalar.addi v87 c1_i32_88
  let c512_i32_89 : BitVec 32 := 512#32
  let v152 : BitVec 32 := Scalar.muli v151 c512_i32_89
  let v153 : BitVec 32 := v152
  let v154 : Index := Scalar.indexCast v153
  let c128_90 : Index := 128#32
  ![v154.toNat, 128]
def k0_cond1 (i : grid0.Coords) : BitVec 1 :=
  let arg1 : BitVec 32 := BitVec.ofNat 32 (i 1).val
  let c2_i32_27 : BitVec 32 := 2#32
  let c0_i32_28 : BitVec 32 := 0#32
  let v47 : BitVec 1 := Scalar.cmpi .eq c2_i32_27 c0_i32_28
  let c1_i32_29 : BitVec 32 := 1#32
  let v48 : BitVec 32 := Scalar.select v47 c1_i32_29 c2_i32_27
  let v49 : BitVec 32 := Scalar.remsi arg1 v48
  let c0_i32_31 : BitVec 32 := 0#32
  let v51 : BitVec 1 := Scalar.cmpi .slt v49 c0_i32_31
  let c0_i32_32 : BitVec 32 := 0#32
  let v52 : BitVec 1 := Scalar.cmpi .slt v48 c0_i32_32
  let v53 : BitVec 1 := Scalar.xori v51 v52
  let c0_i32_30 : BitVec 32 := 0#32
  let v50 : BitVec 1 := Scalar.cmpi .ne v49 c0_i32_30
  let v54 : BitVec 1 := Scalar.andi v53 v50
  let v55 : BitVec 32 := Scalar.addi v49 v48
  let v56 : BitVec 32 := Scalar.select v54 v55 v49
  let c0_i32_33 : BitVec 32 := 0#32
  let v57 : BitVec 1 := Scalar.cmpi .eq v56 c0_i32_33
  let v58 : BitVec 32 := Scalar.extui v57
  let c0_i32_34 : BitVec 32 := 0#32
  let v59 : BitVec 1 := Scalar.cmpi .ne v58 c0_i32_34
  v59

def k0_mult10 (i : grid0.Coords) : BitVec 32 :=
  let arg1 : BitVec 32 := BitVec.ofNat 32 (i 1).val
  let c512_i32 : BitVec 32 := 512#32
  let v87 : BitVec 32 := Scalar.muli arg1 c512_i32
  v87
def k0_off9 (i : grid0.Coords) : Fin 2 → Nat :=
  let arg1 : BitVec 32 := BitVec.ofNat 32 (i 1).val
  let c512_i32 : BitVec 32 := 512#32
  let v87 : BitVec 32 := Scalar.muli arg1 c512_i32
  let v88 : BitVec 32 := v87
  let v89 : Index := Scalar.indexCast v88
  let c128_54 : Index := 128#32
  ![v89.toNat, 128]
def k0_cond2 (i : grid0.Coords) : BitVec 1 :=
  let arg1 : BitVec 32 := BitVec.ofNat 32 (i 1).val
  let c2_i32_35 : BitVec 32 := 2#32
  let c0_i32_36 : BitVec 32 := 0#32
  let v60 : BitVec 1 := Scalar.cmpi .eq c2_i32_35 c0_i32_36
  let c1_i32_37 : BitVec 32 := 1#32
  let v61 : BitVec 32 := Scalar.select v60 c1_i32_37 c2_i32_35
  let v62 : BitVec 32 := Scalar.remsi arg1 v61
  let c0_i32_39 : BitVec 32 := 0#32
  let v64 : BitVec 1 := Scalar.cmpi .slt v62 c0_i32_39
  let c0_i32_40 : BitVec 32 := 0#32
  let v65 : BitVec 1 := Scalar.cmpi .slt v61 c0_i32_40
  let v66 : BitVec 1 := Scalar.xori v64 v65
  let c0_i32_38 : BitVec 32 := 0#32
  let v63 : BitVec 1 := Scalar.cmpi .ne v62 c0_i32_38
  let v67 : BitVec 1 := Scalar.andi v66 v63
  let v68 : BitVec 32 := Scalar.addi v62 v61
  let v69 : BitVec 32 := Scalar.select v67 v68 v62
  let c1_i32_41 : BitVec 32 := 1#32
  let v70 : BitVec 1 := Scalar.cmpi .eq v69 c1_i32_41
  let v71 : BitVec 32 := Scalar.extui v70
  let c0_i32_42 : BitVec 32 := 0#32
  let v72 : BitVec 1 := Scalar.cmpi .ne v71 c0_i32_42
  v72

def k0_mult11 (i : grid0.Coords) : BitVec 32 :=
  let arg1 : BitVec 32 := BitVec.ofNat 32 (i 1).val
  let c512_i32 : BitVec 32 := 512#32
  let v87 : BitVec 32 := Scalar.muli arg1 c512_i32
  v87
def k0_off10 (i : grid0.Coords) : Fin 2 → Nat :=
  let arg1 : BitVec 32 := BitVec.ofNat 32 (i 1).val
  let c512_i32 : BitVec 32 := 512#32
  let v87 : BitVec 32 := Scalar.muli arg1 c512_i32
  let v88 : BitVec 32 := v87
  let v91 : Index := Scalar.indexCast v88
  let c0_56 : Index := 0#32
  ![v91.toNat, 0]
def k0_off11 (i : grid0.Coords) : Fin 3 → Nat :=
  let c0_58 : Index := 0#32
  let arg1 : BitVec 32 := BitVec.ofNat 32 (i 1).val
  let v95 : Index := Scalar.indexCast arg1
  let c0_59 : Index := 0#32
  ![0, v95.toNat, 0]
def k0_mult12 (i : grid0.Coords) : BitVec 32 :=
  let arg1 : BitVec 32 := BitVec.ofNat 32 (i 1).val
  let c1_i32_62 : BitVec 32 := 1#32
  let v103 : BitVec 32 := Scalar.subi arg1 c1_i32_62
  let c512_i32_63 : BitVec 32 := 512#32
  let v104 : BitVec 32 := Scalar.muli v103 c512_i32_63
  v104
def k0_off12 (i : grid0.Coords) : Fin 2 → Nat :=
  let arg1 : BitVec 32 := BitVec.ofNat 32 (i 1).val
  let c1_i32_62 : BitVec 32 := 1#32
  let v103 : BitVec 32 := Scalar.subi arg1 c1_i32_62
  let c512_i32_63 : BitVec 32 := 512#32
  let v104 : BitVec 32 := Scalar.muli v103 c512_i32_63
  let v105 : BitVec 32 := v104
  let v106 : Index := Scalar.indexCast v105
  let c128_64 : Index := 128#32
  ![v106.toNat, 128]
def k0_mult13 (i : grid0.Coords) : BitVec 32 :=
  let arg1 : BitVec 32 := BitVec.ofNat 32 (i 1).val
  let c512_i32_77 : BitVec 32 := 512#32
  let v133 : BitVec 32 := Scalar.muli arg1 c512_i32_77
  v133
def k0_off13 (i : grid0.Coords) : Fin 2 → Nat :=
  let arg1 : BitVec 32 := BitVec.ofNat 32 (i 1).val
  let c512_i32_77 : BitVec 32 := 512#32
  let v133 : BitVec 32 := Scalar.muli arg1 c512_i32_77
  let v134 : BitVec 32 := v133
  let v135 : Index := Scalar.indexCast v134
  let c128_78 : Index := 128#32
  ![v135.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Kernel7Ideal.lean ====
variable {F : FTy → Type} [FloatOps F] [Named F]
def κ : String → Option EReal := fun
  | "log2e" => some (((Real.log 2)⁻¹ : ℝ) : EReal)
  | "mask" => some ⊥
  | _ => none
-- ==== Reference7Ideal.lean ====
abbrev S8192x8x128 : Shape := ⟨3, ![8192, 8, 128]⟩
abbrev S8x8192 : Shape := ⟨2, ![8, 8192]⟩
abbrev S8192x4096 : Shape := ⟨2, ![8192, 4096]⟩
abbrev S8x8192x8192 : Shape := ⟨3, ![8, 8192, 8192]⟩
abbrev S_ : Shape := ⟨0, ![]⟩
abbrev S8x8192x1 : Shape := ⟨3, ![8, 8192, 1]⟩
abbrev S8x1x8192 : Shape := ⟨3, ![8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x128x8192 : Shape := ⟨3, ![8, 128, 8192]⟩
abbrev S8192x1024 : Shape := ⟨2, ![8192, 1024]⟩
abbrev S8x8192x128 : Shape := ⟨3, ![8, 8192, 128]⟩

abbrev nBuf : Space → Nat
  | .hbm => 49
  | .vmem => 0
  | .smem => 0
  | _ => 0

abbrev bufTy : (tb : Table) → Fin (tcTables nBuf tb) → BufTy
  | .hbm, ⟨0, _⟩ => ⟨S8192x8x128, .f32⟩
  | .hbm, ⟨1, _⟩ => ⟨S8192x8x128, .f32⟩
  | .hbm, ⟨2, _⟩ => ⟨S8192x8x128, .f32⟩
  | .hbm, ⟨3, _⟩ => ⟨S8x8192, .f32⟩
  | .hbm, ⟨4, _⟩ => ⟨S8192x4096, .bf16⟩
  | .hbm, ⟨5, _⟩ => ⟨S8x8192x8192, .f32⟩
  | .hbm, ⟨6, _⟩ => ⟨S_, .f32⟩
  | .hbm, ⟨7, _⟩ => ⟨S_, .f32⟩
  | .hbm, ⟨8, _⟩ => ⟨S8x8192x8192, .f32⟩
  | .hbm, ⟨9, _⟩ => ⟨S8x8192x8192, .f32⟩
  | .hbm, ⟨10, _⟩ => ⟨S8x8192x1, .f32⟩
  | .hbm, ⟨11, _⟩ => ⟨S8x8192x8192, .f32⟩
  | .hbm, ⟨12, _⟩ => ⟨S8x8192x8192, .f32⟩
  | .hbm, ⟨13, _⟩ => ⟨S8x1x8192, .f32⟩
  | .hbm, ⟨14, _⟩ => ⟨S8x8192x8192, .f32⟩
  | .hbm, ⟨15, _⟩ => ⟨S8x8192x8192, .f32⟩
  | .hbm, ⟨16, _⟩ => ⟨S8192, .i32⟩
  | .hbm, ⟨17, _⟩ => ⟨S1x8192, .i32⟩
  | .hbm, ⟨18, _⟩ => ⟨S8192x1, .i32⟩
  | .hbm, ⟨19, _⟩ => ⟨S8192x8192, .i32⟩
  | .hbm, ⟨20, _⟩ => ⟨S8192x8192, .i32⟩
  | .hbm, ⟨21, _⟩ => ⟨S8192x8192, .i1⟩
  | .hbm, ⟨22, _⟩ => ⟨S_, .f32⟩
  | .hbm, ⟨23, _⟩ => ⟨S_, .f32⟩
  | .hbm, ⟨24, _⟩ => ⟨S8x8192x8192, .i1⟩
  | .hbm, ⟨25, _⟩ => ⟨S8x8192x8192, .f32⟩
  | .hbm, ⟨26, _⟩ => ⟨S8x8192x8192, .f32⟩
  | .hbm, ⟨27, _⟩ => ⟨S_, .f32⟩
  | .hbm, ⟨28, _⟩ => ⟨S8x8192, .f32⟩
  | .hbm, ⟨29, _⟩ => ⟨S8x8192x1, .f32⟩
  | .hbm, ⟨30, _⟩ => ⟨S8x8192x8192, .f32⟩
  | .hbm, ⟨31, _⟩ => ⟨S8x8192x8192, .f32⟩
  | .hbm, ⟨32, _⟩ => ⟨S8x8192x8192, .f32⟩
  | .hbm, ⟨33, _⟩ => ⟨S_, .f32⟩
  | .hbm, ⟨34, _⟩ => ⟨S8x8192, .f32⟩
  | .hbm, ⟨35, _⟩ => ⟨S8x8192x1, .f32⟩
  | .hbm, ⟨36, _⟩ => ⟨S8x8192x8192, .f32⟩
  | .hbm, ⟨37, _⟩ => ⟨S8x8192x8192, .f32⟩
  | .hbm, ⟨38, _⟩ => ⟨S8x128x8192, .f32⟩
  | .hbm, ⟨39, _⟩ => ⟨S8192x8x128, .f32⟩
  | .hbm, ⟨40, _⟩ => ⟨S8x8192x1, .f32⟩
  | .hbm, ⟨41, _⟩ => ⟨S8x8192x1, .f32⟩
  | .hbm, ⟨42, _⟩ => ⟨S_, .f32⟩
  | .hbm, ⟨43, _⟩ => ⟨S_, .f32⟩
  | .hbm, ⟨44, _⟩ => ⟨S8x8192x1, .f32⟩
  | .hbm, ⟨45, _⟩ => ⟨S8x8192x1, .f32⟩
  | .hbm, ⟨46, _⟩ => ⟨S8192x1024, .f32⟩
  | .hbm, ⟨47, _⟩ => ⟨S8192x1024, .bf16⟩
  | .hbm, ⟨48, _⟩ => ⟨S8x8192x128, .f32⟩
  | _, _ => ⟨S8192x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== Kernel8.lean ====
abbrev S8192x1024 : Shape := ⟨2, ![8192, 1024]⟩
abbrev S1x1024 : Shape := ⟨2, ![1, 1024]⟩
abbrev S1024x4096 : Shape := ⟨2, ![1024, 4096]⟩
abbrev S4096x1024 : Shape := ⟨2, ![4096, 1024]⟩
abbrev S4x2304x1024 : Shape := ⟨3, ![4, 2304, 1024]⟩
abbrev S1024x4x1024 : Shape := ⟨3, ![1024, 4, 1024]⟩
abbrev S4x1024x1024 : Shape := ⟨3, ![4, 1024, 1024]⟩
abbrev S4x5376x1024 : Shape := ⟨3, ![4, 5376, 1024]⟩
abbrev S8192x4096 : Shape := ⟨2, ![8192, 4096]⟩
abbrev S512x1024 : Shape := ⟨2, ![512, 1024]⟩
abbrev S1x1024x1024 : Shape := ⟨3, ![1, 1024, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 19
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .f32⟩
  | .hbm, ⟨3, _⟩ => ⟨S1024x4096, .f32⟩
  | .hbm, ⟨4, _⟩ => ⟨S4096x1024, .f32⟩
  | .hbm, ⟨5, _⟩ => ⟨S1x1024, .f32⟩
  | .hbm, ⟨6, _⟩ => ⟨S4x2304x1024, .f32⟩
  | .hbm, ⟨7, _⟩ => ⟨S1024x4x1024, .f32⟩
  | .hbm, ⟨8, _⟩ => ⟨S4x1024x1024, .f32⟩
  | .hbm, ⟨9, _⟩ => ⟨S1024x4x1024, .f32⟩
  | .hbm, ⟨10, _⟩ => ⟨S4x1024x1024, .f32⟩
  | .hbm, ⟨11, _⟩ => ⟨S4x1024x1024, .f32⟩
  | .hbm, ⟨12, _⟩ => ⟨S4x5376x1024, .f32⟩
  | .hbm, ⟨13, _⟩ => ⟨S4x5376x1024, .bf16⟩
  | .hbm, ⟨14, _⟩ => ⟨S8192x1024, .bf16⟩
  | .hbm, ⟨15, _⟩ => ⟨S8192x4096, .bf16⟩
  | .hbm, ⟨16, _⟩ => ⟨S8192x4096, .bf16⟩
  | .hbm, ⟨17, _⟩ => ⟨S8192x1024, .f32⟩
  | .hbm, ⟨18, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x1024x1024, .bf16⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev main_v7_4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c3_i32 : BitVec 32 := 3#32
  let v32 : BitVec 1 := Scalar.cmpi .eq arg1 c3_i32
  let v33 : BitVec 32 := Scalar.extui v32
  let c0_i32_24 : BitVec 32 := 0#32
  let v34 : BitVec 1 := Scalar.cmpi .ne v33 c0_i32_24
  v34

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg1.toNat, c1_i32.toNat, c0_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![arg1.toNat, c2_i32.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference8Ideal.lean ====
abbrev S8192x1024 : Shape := ⟨2, ![8192, 1024]⟩
abbrev S1x1024 : Shape := ⟨2, ![1, 1024]⟩
abbrev S1024x4096 : Shape := ⟨2, ![1024, 4096]⟩
abbrev S4096x1024 : Shape := ⟨2, ![4096, 1024]⟩
abbrev S4x2304x1024 : Shape := ⟨3, ![4, 2304, 1024]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩

abbrev nBuf : Space → Nat
  | .hbm => 57
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .f32⟩
  | .hbm, ⟨3, _⟩ => ⟨S1024x4096, .f32⟩
  | .hbm, ⟨4, _⟩ => ⟨S4096x1024, .f32⟩
  | .hbm, ⟨5, _⟩ => ⟨S1x1024, .f32⟩
  | .hbm, ⟨6, _⟩ => ⟨S4x2304x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x4096, .f32⟩
  | .hbm, ⟨23, _⟩ => ⟨S8192x4096, .f32⟩
  | .hbm, ⟨24, _⟩ => ⟨S8192x4096, .f32⟩
  | .hbm, ⟨25, _⟩ => ⟨S8192x4096, .f32⟩
  | .hbm, ⟨26, _⟩ => ⟨S_, .f32⟩
  | .hbm, ⟨27, _⟩ => ⟨S8192x4096, .f32⟩
  | .hbm, ⟨28, _⟩ => ⟨S8192x4096, .f32⟩
  | .hbm, ⟨29, _⟩ => ⟨S_, .f32⟩
  | .hbm, ⟨30, _⟩ => ⟨S8192x4096, .f32⟩
  | .hbm, ⟨31, _⟩ => ⟨S8192x4096, .f32⟩
  | .hbm, ⟨32, _⟩ => ⟨S8192x4096, .f32⟩
  | .hbm, ⟨33, _⟩ => ⟨S8192x4096, .f32⟩
  | .hbm, ⟨34, _⟩ => ⟨S8192x1024, .f32⟩
  | .hbm, ⟨35, _⟩ => ⟨S8192x1024, .bf16⟩
  | .hbm, ⟨36, _⟩ => ⟨S8192x4096, .bf16⟩
  | .hbm, ⟨37, _⟩ => ⟨S8192x4096, .bf16⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S8192x1, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S8192x1024, .f32⟩
  | .hbm, ⟨55, _⟩ => ⟨S8192x1024, .f32⟩
  | .hbm, ⟨56, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_2 : Ref sig .tc := ⟨.hbm, 39, rfl⟩
abbrev main_v21 : Ref sig .tc := ⟨.hbm, 40, rfl⟩
abbrev main_v22 : Ref sig .tc := ⟨.hbm, 41, rfl⟩
abbrev main_cst_3 : Ref sig .tc := ⟨.hbm, 42, rfl⟩
abbrev main_v23 : Ref sig .tc := ⟨.hbm, 43, rfl⟩
abbrev main_v24 : Ref sig .tc := ⟨.hbm, 44, rfl⟩
abbrev main_cst_4 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_5 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩

abbrev nD : Nat := 1
abbrev τ : Topo := Topo.v7x

variable {F : FTy → Type} [FloatOps F]
-- ==== Kernel9.lean ====
abbrev S8192x1024 : Shape := ⟨2, ![8192, 1024]⟩
abbrev S1x1024 : Shape := ⟨2, ![1, 1024]⟩
abbrev S8192x4096 : Shape := ⟨2, ![8192, 4096]⟩
abbrev S1024x4096 : Shape := ⟨2, ![1024, 4096]⟩
abbrev S4096x1024 : Shape := ⟨2, ![4096, 1024]⟩
abbrev S4x2304x1024 : Shape := ⟨3, ![4, 2304, 1024]⟩
abbrev S1024x4x1024 : Shape := ⟨3, ![1024, 4, 1024]⟩
abbrev S4x1024x1024 : Shape := ⟨3, ![4, 1024, 1024]⟩
abbrev S4x5376x1024 : Shape := ⟨3, ![4, 5376, 1024]⟩
abbrev S512x1024 : Shape := ⟨2, ![512, 1024]⟩
abbrev S1x1024x1024 : Shape := ⟨3, ![1, 1024, 1024]⟩
abbrev S512 : Shape := ⟨1, ![512]⟩
abbrev S512x1 : Shape := ⟨2, ![512, 1]⟩
abbrev S1024 : Shape := ⟨1, ![1024]⟩
abbrev S1024x1024 : Shape := ⟨2, ![1024, 1024]⟩

abbrev nBuf : Space → Nat
  | .hbm => 25
  | .vmem => 32
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x4096, .bf16⟩
  | .hbm, ⟨4, _⟩ => ⟨S8192x4096, .bf16⟩
  | .hbm, ⟨5, _⟩ => ⟨S1024x4096, .f32⟩
  | .hbm, ⟨6, _⟩ => ⟨S1024x4096, .f32⟩
  | .hbm, ⟨7, _⟩ => ⟨S4096x1024, .f32⟩
  | .hbm, ⟨8, _⟩ => ⟨S8192x1024, .f32⟩
  | .hbm, ⟨9, _⟩ => ⟨S1x1024, .f32⟩
  | .hbm, ⟨10, _⟩ => ⟨S4x2304x1024, .f32⟩
  | .hbm, ⟨11, _⟩ => ⟨S1024x4x1024, .f32⟩
  | .hbm, ⟨12, _⟩ => ⟨S4x1024x1024, .f32⟩
  | .hbm, ⟨13, _⟩ => ⟨S1024x4x1024, .f32⟩
  | .hbm, ⟨14, _⟩ => ⟨S4x1024x1024, .f32⟩
  | .hbm, ⟨15, _⟩ => ⟨S4x1024x1024, .f32⟩
  | .hbm, ⟨16, _⟩ => ⟨S4x5376x1024, .f32⟩
  | .hbm, ⟨17, _⟩ => ⟨S4x5376x1024, .bf16⟩
  | .hbm, ⟨18, _⟩ => ⟨S8192x1024, .bf16⟩
  | .hbm, ⟨19, _⟩ => ⟨S8192x4096, .bf16⟩
  | .hbm, ⟨20, _⟩ => ⟨S8192x4096, .bf16⟩
  | .hbm, ⟨21, _⟩ => ⟨S8192x4096, .bf16⟩
  | .hbm, ⟨22, _⟩ => ⟨S8192x1024, .f32⟩
  | .hbm, ⟨23, _⟩ => ⟨S1x1024, .f32⟩
  | .hbm, ⟨24, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1x1024x1024, .bf16⟩
  | .local _ .vmem, ⟨13, _⟩ => ⟨S1x1024x1024, .bf16⟩
  | .local _ .vmem, ⟨14, _⟩ => ⟨S1x1024x1024, .bf16⟩
  | .local _ .vmem, ⟨15, _⟩ => ⟨S512x1024, .f32⟩
  | .local _ .vmem, ⟨16, _⟩ => ⟨S512x1024, .f32⟩
  | .local _ .vmem, ⟨17, _⟩ => ⟨S1x1024, .f32⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .f32⟩
  | .local _ .vmem, ⟨27, _⟩ => ⟨S512x1024, .f32⟩
  | .local _ .vmem, ⟨28, _⟩ => ⟨S1x1024, .f32⟩
  | .local _ .vmem, ⟨29, _⟩ => ⟨S1x1024, .f32⟩
  | .local _ .vmem, ⟨30, _⟩ => ⟨S512x1024, .bf16⟩
  | .local _ .vmem, ⟨31, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev main_v7_2 : Ref sig .tc := ⟨.hbm, 20, rfl⟩
abbrev main_v7_3 : Ref sig .tc := ⟨.hbm, 21, rfl⟩
abbrev main_v7_4 : Ref sig .tc := ⟨.hbm, 22, rfl⟩
abbrev main_v7_5 : Ref sig .tc := ⟨.hbm, 23, rfl⟩
abbrev main_v7_6 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg16_0 : Ref sig .tc := ⟨.vmem, 29, rfl⟩
abbrev cc0_scratch0 : Ref sig .tc := ⟨.vmem, 30, rfl⟩
abbrev cc0_scratch1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem16_0 : DmaSem sig := 29

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_cond3 (i : grid0.Coords) : BitVec 1 :=
  let arg1 : BitVec 32 := BitVec.ofNat 32 (i 1).val
  let c3_i32 : BitVec 32 := 3#32
  let v52 : BitVec 1 := Scalar.cmpi .eq arg1 c3_i32
  let v53 : BitVec 32 := Scalar.extui v52
  let c0_i32_35 : BitVec 32 := 0#32
  let v54 : BitVec 1 := Scalar.cmpi .ne v53 c0_i32_35
  v54

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg1.toNat, c1_i32.toNat, c0_i32.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![arg1.toNat, c2_i32.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]
-- ==== Reference9Ideal.lean ====
abbrev S8192x1024 : Shape := ⟨2, ![8192, 1024]⟩
abbrev S1x1024 : Shape := ⟨2, ![1, 1024]⟩
abbrev S8192x4096 : Shape := ⟨2, ![8192, 4096]⟩
abbrev S1024x4096 : Shape := ⟨2, ![1024, 4096]⟩
abbrev S4096x1024 : Shape := ⟨2, ![4096, 1024]⟩
abbrev S4x2304x1024 : Shape := ⟨3, ![4, 2304, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 145
  | .vmem => 0
  | .smem => 0
  | _ => 0

abbrev hbmTy0_0 (i : Nat) : BufTy := match i % 128 with
  | 0 => ⟨S8192x1024, .f32⟩
  | 1 => ⟨S8192x1024, .f32⟩
  | 2 => ⟨S1x1024, .f32⟩
  | 3 => ⟨S8192x4096, .bf16⟩
  | 4 => ⟨S8192x4096, .bf16⟩
  | 5 => ⟨S1024x4096, .f32⟩
  | 6 => ⟨S1024x4096, .f32⟩
  | 7 => ⟨S4096x1024, .f32⟩
  | 8 => ⟨S8192x1024, .f32⟩
  | 9 => ⟨S1x1024, .f32⟩
  | 10 => ⟨S4x2304x1024, .f32⟩
  | 11 => ⟨S8192x1024, .f32⟩
  | 12 => ⟨S_, .f32⟩
  | 13 => ⟨S8192, .f32⟩
  | 14 => ⟨S8192x1, .f32⟩
  | 15 => ⟨S_, .f32⟩
  | 16 => ⟨S8192x1, .f32⟩
  | 17 => ⟨S8192x1, .f32⟩
  | 18 => ⟨S_, .f32⟩
  | 19 => ⟨S8192x1, .f32⟩
  | 20 => ⟨S8192x1, .f32⟩
  | 21 => ⟨S8192x1, .f32⟩
  | 22 => ⟨S8192x1, .f32⟩
  | 23 => ⟨S_, .f32⟩
  | 24 => ⟨S8192x1, .f32⟩
  | 25 => ⟨S8192x1, .f32⟩
  | 26 => ⟨S8192x1024, .f32⟩
  | 27 => ⟨S8192x1024, .f32⟩
  | 28 => ⟨S8192x1024, .f32⟩
  | 29 => ⟨S8192x1024, .f32⟩
  | 30 => ⟨S_, .f32⟩
  | 31 => ⟨S8192x1024, .f32⟩
  | 32 => ⟨S8192x1024, .f32⟩
  | 33 => ⟨S_, .f32⟩
  | 34 => ⟨S8192x1024, .f32⟩
  | 35 => ⟨S8192x1024, .f32⟩
  | 36 => ⟨S8192x1024, .f32⟩
  | 37 => ⟨S_, .f32⟩
  | 38 => ⟨S1024, .f32⟩
  | 39 => ⟨S1x1024, .f32⟩
  | 40 => ⟨S8192x1024, .f32⟩
  | 41 => ⟨S8192x1024, .f32⟩
  | 42 => ⟨S8192x1024, .f32⟩
  | 43 => ⟨S_, .f32⟩
  | 44 => ⟨S8192, .f32⟩
  | 45 => ⟨S8192x1, .f32⟩
  | 46 => ⟨S8192x1024, .f32⟩
  | 47 => ⟨S8192x1024, .f32⟩
  | 48 => ⟨S8192x1, .f32⟩
  | 49 => ⟨S_, .f32⟩
  | 50 => ⟨S8192x1, .f32⟩
  | 51 => ⟨S8192x1, .f32⟩
  | 52 => ⟨S_, .f32⟩
  | 53 => ⟨S8192, .f32⟩
  | 54 => ⟨S8192x1024, .f32⟩
  | 55 => ⟨S8192x1024, .f32⟩
  | 56 => ⟨S8192x1024, .f32⟩
  | 57 => ⟨S8192x1024, .f32⟩
  | 58 => ⟨S8192x1024, .f32⟩
  | 59 => ⟨S8192x4096, .f32⟩
  | 60 => ⟨S8192x4096, .f32⟩
  | 61 => ⟨S8192x4096, .f32⟩
  | 62 => ⟨S8192x4096, .f32⟩
  | 63 => ⟨S_, .f32⟩
  | 64 => ⟨S8192x4096, .f32⟩
  | 65 => ⟨S8192x4096, .f32⟩
  | 66 => ⟨S_, .f32⟩
  | 67 => ⟨S8192x4096, .f32⟩
  | 68 => ⟨S8192x4096, .f32⟩
  | 69 => ⟨S_, .f32⟩
  | 70 => ⟨S8192x4096, .f32⟩
  | 71 => ⟨S8192x4096, .f32⟩
  | 72 => ⟨S8192x4096, .f32⟩
  | 73 => ⟨S8192x4096, .f32⟩
  | 74 => ⟨S8192x4096, .f32⟩
  | 75 => ⟨S8192x1024, .f32⟩
  | 76 => ⟨S8192x4096, .f32⟩
  | 77 => ⟨S8192x4096, .f32⟩
  | 78 => ⟨S8192x4096, .f32⟩
  | 79 => ⟨S8192x4096, .f32⟩
  | 80 => ⟨S8192x4096, .f32⟩
  | 81 => ⟨S8192x4096, .f32⟩
  | 82 => ⟨S8192x4096, .f32⟩
  | 83 => ⟨S8192x1024, .f32⟩
  | 84 => ⟨S_, .f32⟩
  | 85 => ⟨S8192, .f32⟩
  | 86 => ⟨S8192x1, .f32⟩
  | 87 => ⟨S_, .f32⟩
  | 88 => ⟨S8192x1, .f32⟩
  | 89 => ⟨S8192x1, .f32⟩
  | 90 => ⟨S_, .f32⟩
  | 91 => ⟨S8192x1, .f32⟩
  | 92 => ⟨S8192x1, .f32⟩
  | 93 => ⟨S8192x1, .f32⟩
  | 94 => ⟨S8192x1, .f32⟩
  | 95 => ⟨S_, .f32⟩
  | 96 => ⟨S8192x1, .f32⟩
  | 97 => ⟨S8192x1, .f32⟩
  | 98 => ⟨S8192x1024, .f32⟩
  | 99 => ⟨S8192x1024, .f32⟩
  | 100 => ⟨S8192x1024, .f32⟩
  | 101 => ⟨S8192x1024, .f32⟩
  | 102 => ⟨S8192x4096, .f32⟩
  | 103 => ⟨S8192x4096, .f32⟩
  | 104 => ⟨S8192x1024, .f32⟩
  | 105 => ⟨S8192x1024, .f32⟩
  | 106 => ⟨S8192x1024, .f32⟩
  | 107 => ⟨S8192x1024, .f32⟩
  | 108 => ⟨S_, .f32⟩
  | 109 => ⟨S1024, .f32⟩
  | 110 => ⟨S1x1024, .f32⟩
  | 111 => ⟨S8192x1024, .f32⟩
  | 112 => ⟨S8192x1024, .f32⟩
  | 113 => ⟨S8192x1024, .f32⟩
  | 114 => ⟨S_, .f32⟩
  | 115 => ⟨S8192, .f32⟩
  | 116 => ⟨S8192x1, .f32⟩
  | 117 => ⟨S8192x1024, .f32⟩
  | 118 => ⟨S8192x1024, .f32⟩
  | 119 => ⟨S8192x1, .f32⟩
  | 120 => ⟨S_, .f32⟩
  | 121 => ⟨S8192x1, .f32⟩
  | 122 => ⟨S8192x1, .f32⟩
  | 123 => ⟨S_, .f32⟩
  | 124 => ⟨S8192, .f32⟩
  | 125 => ⟨S8192x1024, .f32⟩
  | 126 => ⟨S8192x1024, .f32⟩
  | 127 => ⟨S8192x1024, .f32⟩
  | _ => ⟨S8192x1024, .f32⟩

abbrev hbmTy0_1 (i : Nat) : BufTy := match i % 128 with
  | 0 => ⟨S8192x1024, .f32⟩
  | 1 => ⟨S8192x1024, .f32⟩
  | 2 => ⟨S8192x4096, .f32⟩
  | 3 => ⟨S8192x4096, .f32⟩
  | 4 => ⟨S_, .f32⟩
  | 5 => ⟨S8192x4096, .f32⟩
  | 6 => ⟨S8192x4096, .f32⟩
  | 7 => ⟨S_, .f32⟩
  | 8 => ⟨S8192x4096, .f32⟩
  | 9 => ⟨S8192x4096, .f32⟩
  | 10 => ⟨S8192x4096, .f32⟩
  | 11 => ⟨S8192x4096, .f32⟩
  | 12 => ⟨S8192x1024, .bf16⟩
  | 13 => ⟨S8192x4096, .bf16⟩
  | 14 => ⟨S8192x4096, .bf16⟩
  | 15 => ⟨S8192x4096, .bf16⟩
  | 16 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_v15 : Ref sig .tc := ⟨.hbm, 31, rfl⟩
abbrev main_v16 : Ref sig .tc := ⟨.hbm, 32, rfl⟩
abbrev main_cst_4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_5 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_7 : Ref sig .tc := ⟨.hbm, 49, rfl⟩
abbrev main_v30 : Ref sig .tc := ⟨.hbm, 50, rfl⟩
abbrev main_v31 : Ref sig .tc := ⟨.hbm, 51, rfl⟩
abbrev main_cst_8 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_call0_v0 : Ref sig .tc := ⟨.hbm, 61, rfl⟩
abbrev main_call0_v1 : Ref sig .tc := ⟨.hbm, 62, rfl⟩
abbrev main_call0_cst : Ref sig .tc := ⟨.hbm, 63, rfl⟩
abbrev main_call0_v2 : Ref sig .tc := ⟨.hbm, 64, rfl⟩
abbrev main_call0_v3 : Ref sig .tc := ⟨.hbm, 65, rfl⟩
abbrev main_call0_cst_0 : Ref sig .tc := ⟨.hbm, 66, rfl⟩
abbrev main_call0_v4 : Ref sig .tc := ⟨.hbm, 67, rfl⟩
abbrev main_v40_2 : Ref sig .tc := ⟨.hbm, 68, rfl⟩
abbrev main_call0_cst_1 : Ref sig .tc := ⟨.hbm, 69, rfl⟩
abbrev main_call0_v6 : Ref sig .tc := ⟨.hbm, 70, rfl⟩
abbrev main_call0_v7 : Ref sig .tc := ⟨.hbm, 71, rfl⟩
abbrev main_v40_1 : Ref sig .tc := ⟨.hbm, 72, rfl⟩
abbrev main_v40_0 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_call1_v0 : Ref sig .tc := ⟨.hbm, 79, rfl⟩
abbrev main_call1_v1 : Ref sig .tc := ⟨.hbm, 80, rfl⟩
abbrev main_call1_v2 : Ref sig .tc := ⟨.hbm, 81, rfl⟩
abbrev main_v46 : Ref sig .tc := ⟨.hbm, 82, rfl⟩
abbrev main_v47 : Ref sig .tc := ⟨.hbm, 83, rfl⟩
abbrev main_cst_9 : Ref sig .tc := ⟨.hbm, 84, rfl⟩
abbrev main_v48 : Ref sig .tc := ⟨.hbm, 85, rfl⟩
abbrev main_v49 : Ref sig .tc := ⟨.hbm, 86, rfl⟩
abbrev main_cst_10 : Ref sig .tc := ⟨.hbm, 87, rfl⟩
abbrev main_v50 : Ref sig .tc := ⟨.hbm, 88, rfl⟩
abbrev main_v51 : Ref sig .tc := ⟨.hbm, 89, rfl⟩
abbrev main_cst_11 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_cst_12 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_cst_13 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_cst_14 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_cst_15 : Ref sig .tc := ⟨.hbm, 120, rfl⟩
abbrev main_v78 : Ref sig .tc := ⟨.hbm, 121, rfl⟩
abbrev main_v79 : Ref sig .tc := ⟨.hbm, 122, rfl⟩
abbrev main_cst_16 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_call2_v0 : Ref sig .tc := ⟨.hbm, 130, rfl⟩
abbrev main_call2_v1 : Ref sig .tc := ⟨.hbm, 131, rfl⟩
abbrev main_call2_cst : Ref sig .tc := ⟨.hbm, 132, rfl⟩
abbrev main_call2_v2 : Ref sig .tc := ⟨.hbm, 133, rfl⟩
abbrev main_call2_v3 : Ref sig .tc := ⟨.hbm, 134, rfl⟩
abbrev main_call2_cst_0 : Ref sig .tc := ⟨.hbm, 135, rfl⟩
abbrev main_call2_v4 : Ref sig .tc := ⟨.hbm, 136, rfl⟩
abbrev main_call2_v5 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩

abbrev nD : Nat := 1
abbrev τ : Topo := Topo.v7x

variable {F : FTy → Type} [FloatOps F]
-- ==== Proof.RunI.lean ====
module

public import proofs.«01_k».proof.Proof.Gen.KernelIdeal.Frame.Runs
public import Idealize.ShloMosaic.Lib.VecWindow
import Idealize.ShloMosaic.Lib.WritesUnit
public import Idealize.ShloMosaic.Lib.LoopRemainder
public import Idealize.ShloMosaic.Lib.Pipeline.Value

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

/-- Writing one more rectangle over a view changes what it reads on that rectangle alone. -/
theorem read_put {sg : RefSig} {κ' : Kind} {sp : Space} {s : Shape} {e : EltTy} {Val : EltTy → Type} (v : View sg κ' sp s e)
    (f : v.ty.Contents Val) (r : Rect s) (w : r.shape.Idx → Val e) :
    v.read Val (v.writes Val f [⟨r, w⟩]) = r.overlay (v.read Val f) w := by
  funext y
  by_cases h : y ∈ r.set
  · obtain ⟨x, rfl⟩ : ∃ x, r.emb x = y := by
      rw [← Rect.map_emb_univ] at h
      obtain ⟨x, -, hx⟩ := Finset.mem_map.mp h
      exact ⟨x, hx⟩
    rw [View.read_writes_cons_emb, Rect.overlay_emb]
  · rw [View.read_writes_cons_miss _ _ _ _ _ h, Rect.overlay_of_not_mem _ _ _ h]; rfl

/-- Writing a whole view leaves what was written. -/
theorem read_put_whole {sg : RefSig} {κ' : Kind} {sp : Space} {s : Shape} {e : EltTy} {Val : EltTy → Type}
    [∀ e, Nonempty (Val e)] (v : View sg κ' sp s e)
    (f : v.ty.Contents Val) {off : Fin s.rank → ℕ} (h : off = fun _ => 0) (inb : ∀ a, off a + s.size a ≤ s.size a)
    (w : s.Idx → Val e) :
    v.read Val (v.writes Val f [⟨Rect.unit off s.size inb, w⟩]) = w := by
  subst h
  funext y
  exact View.read_writes_cons_unit_of_mem v f inb w [] y y rfl (fun a => (Nat.zero_add _).symm)

/-- The offsets of a whole block of rank two are zero. -/
theorem off2 : (![0, 0] : Fin 2 → ℕ) = fun _ => 0 := by funext a; fin_cases a <;> rfl

/-- The offsets of a whole block of rank three are zero. -/
theorem off3 : (![0, 0, 0] : Fin 3 → ℕ) = fun _ => 0 := by funext a; fin_cases a <;> rfl

/-- The offsets of a whole block of rank four are zero. -/
theorem off4 : (![0, 0, 0, 0] : Fin 4 → ℕ) = fun _ => 0 := by funext a; fin_cases a <;> rfl

/-- Loading a whole block of queries reads all of it. -/
theorem ld_all2 {e : EltTy} (X : S512x128.Idx → Elt F e) (inb : ∀ a, (![0, 0] : Fin 2 → ℕ) a + (![512, 128] : Fin 2 → ℕ) a ≤ S512x128.size a) :
    View.ld X (Rect.unit (s := S512x128) ![0, 0] ![512, 128] inb) = X := View.ld_unit_zero (S := S512x128) off2 inb X

/-- Loading a whole block of row numbers reads all of it. -/
theorem ld_all3 {e : EltTy} (X : S1x512x128.Idx → Elt F e) (inb : ∀ a, (![0, 0, 0] : Fin 3 → ℕ) a + (![1, 512, 128] : Fin 3 → ℕ) a ≤ S1x512x128.size a) :
    View.ld X (Rect.unit (s := S1x512x128) ![0, 0, 0] ![1, 512, 128] inb) = X := View.ld_unit_zero (S := S1x512x128) off3 inb X

/-- The values one grid point computes before it meets its keys: the block of queries, the block of output
gradients, the two transposed, the row offset of the exponents, and the row sums of gradient times output. -/
structure Pre (F : FTy → Type) where
  v4 : FVec F S512x128 .bf16
  v6 : FVec F S512x128 .bf16
  v9 : FVec F S128x512 .bf16
  v12 : FVec F S128x512 .bf16
  v18 : FVec F S512x512 .f32
  v28 : FVec F S512x512 .f32

/-- What the body accumulates into: the gradient of the queries, the row sums, and the three results over keys. -/
structure St (F : FTy → Type) where
  a15 : Vec F S512x128 .f32
  a16 : Vec F S512x128 .f32
  g11 : Vec F S1x16x128x512 .f32
  g12 : Vec F S1x16x128x512 .f32
  g13 : Vec F S1x16x512 .f32

/-- The values of a grid point, from its input blocks. -/
def pre (x0 x2 x3 : Vec F S512x128 .bf16) (x4 x5 : Vec F S1x512x128 .f32) : Pre F :=
  ⟨k0_pay19 x0, k0_pay20 x2, k0_pay21 x0, k0_pay22 x2, k0_pay23 x4 x5, k0_pay24 x2 x3⟩

/-- One block of keys before the diagonal: every accumulator gains that block's part. -/
def step (i : grid0.Coords) (x1 : Vec F S8192x256 .bf16) (x6 : Vec F S1x16x512 .f32) (p : Pre F)
    (k : Fin (k0_t1_loop i).trips) (s : St F) : St F :=
  let kb : Vec F S512x128 .bf16 := View.ld x1 (Rect.unit (s := S8192x256) (k0_off1 i k) S512x128.size (k0_off1_inb i k))
  let vb : Vec F S512x128 .bf16 := View.ld x1 (Rect.unit (s := S8192x256) (k0_off2 i k) S512x128.size (k0_off2_inb i k))
  let cr : Vec F S1x1x512 .f32 := View.ld x6 (Rect.unit (s := S1x16x512) (k0_off3 i k) S1x1x512.size (k0_off3_inb i k))
  { a15 := k0_pay8 p.v4 p.v6 p.v18 p.v28 kb vb cr s.a15
    a16 := k0_pay30 (k0_pay6 p.v4 p.v6 p.v18 p.v28 kb vb cr) s.a16
    g11 := (Rect.unit (s := S1x16x128x512) (k0_off4 i k) S1x1x128x512.size (k0_off4_inb i k)).overlay s.g11
      (k0_pay9 p.v4 p.v6 p.v9 p.v18 p.v28 kb vb cr
        (View.ld s.g11 (Rect.unit (s := S1x16x128x512) (k0_off4 i k) S1x1x128x512.size (k0_off4_inb i k))))
    g12 := (Rect.unit (s := S1x16x128x512) (k0_off4 i k) S1x1x128x512.size (k0_off4_inb i k)).overlay s.g12
      (k0_pay28 p.v12 (k0_pay5 p.v4 p.v18 kb cr)
        (View.ld s.g12 (Rect.unit (s := S1x16x128x512) (k0_off4 i k) S1x1x128x512.size (k0_off4_inb i k))))
    g13 := (Rect.unit (s := S1x16x512) (k0_off3 i k) S1x1x512.size (k0_off3_inb i k)).overlay s.g13
      (k0_pay29 (k0_pay6 p.v4 p.v6 p.v18 p.v28 kb vb cr)
        (View.ld s.g13 (Rect.unit (s := S1x16x512) (k0_off3 i k) S1x1x512.size (k0_off3_inb i k)))) }

/-- The accumulators after the first `k` blocks of keys. -/
def steps (i : grid0.Coords) (x1 : Vec F S8192x256 .bf16) (x6 : Vec F S1x16x512 .f32) (p : Pre F) (s : St F) : ℕ → St F
  | 0 => s
  | k + 1 => if h : k < (k0_t1_loop i).trips then step i x1 x6 p ⟨k, h⟩ (steps i x1 x6 p s k) else steps i x1 x6 p s k

/-- One more block of keys. -/
theorem steps_succ (i : grid0.Coords) (x1 : Vec F S8192x256 .bf16) (x6 : Vec F S1x16x512 .f32) (p : Pre F) (s : St F)
    (k : Fin (k0_t1_loop i).trips) :
    steps i x1 x6 p s (k.val + 1) = step i x1 x6 p k (steps i x1 x6 p s k.val) := by
  rw [steps, dif_pos k.isLt]

section
variable (c : Dev nD) (i : grid0.Coords) (arg2 : Memref sig .tc .vmem S512x128 .bf16) (harg2 : arg2.IsWhole) (arg3 : Memref sig .tc .vmem S8192x256 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S1x512x128 .f32) (harg6 : arg6.IsWhole) (arg7 : Memref sig .tc .vmem S1x512x128 .f32) (harg7 : arg7.IsWhole) (arg8 : Memref sig .tc .vmem S1x16x512 .f32) (harg8 : arg8.IsWhole) (arg9 : Memref sig .tc .hbm S8192x7168 .bf16) (harg9 : arg9.IsWhole) (arg10 : Memref sig .tc .vmem S512x128 .bf16) (harg10 : arg10.IsWhole) (arg11 : Memref sig .tc .vmem S1x16x128x512 .f32) (harg11 : arg11.IsWhole) (arg12 : Memref sig .tc .vmem S1x16x128x512 .f32) (harg12 : arg12.IsWhole) (arg13 : Memref sig .tc .vmem S1x16x512 .f32) (harg13 : arg13.IsWhole) (arg14 : Memref sig .tc .vmem S1x1x1x512 .f32) (harg14 : arg14.IsWhole) (arg15 : Memref sig .tc .vmem S512x128 .f32) (harg15 : arg15.IsWhole) (arg16 : Memref sig .tc .vmem S512x128 .f32) (harg16 : arg16.IsWhole)

/-- The five accumulators, held at a state. -/
abbrev acc (s : St F) : sProp 𝕄 :=
  iprop(owns (c : Thread nD τ) arg11 fullShare s.g11 ∗ owns (c : Thread nD τ) arg12 fullShare s.g12
    ∗ owns (c : Thread nD τ) arg13 fullShare s.g13 ∗ owns (c : Thread nD τ) arg15 fullShare s.a15
    ∗ owns (c : Thread nD τ) arg16 fullShare s.a16)

/-- One trip of the loop over keys takes the accumulators to their next state. -/
theorem trip (x1 : Vec F S8192x256 .bf16) (x6 : Vec F S1x16x512 .f32) (p : Pre F) (s : St F) (arg1 : BitVec 32)
    (v33 : FVec F S512x128 .f32) (v34 : Vec F S512x128 .f32) (k : Fin (k0_t1_loop i).trips) (u : Unit) (E : Set ℕ) :
    iprop(owns (c : Thread nD τ) arg3 fullShare x1 ∗ owns (c : Thread nD τ) arg8 fullShare x6 ∗ acc c arg11 arg12 arg13 arg15 arg16 s)
      ⊢ wp frame (wpE (defs₀ (F := F)) Variants.none (c : Thread nD τ) none) E
          (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 p.v4 p.v6 p.v9 p.v12 p.v18 p.v28 v33 v34 k u)
          (fun _ => iprop(owns (c : Thread nD τ) arg3 fullShare x1 ∗ owns (c : Thread nD τ) arg8 fullShare x6
            ∗ acc c arg11 arg12 arg13 arg15 arg16 (step i x1 x6 p k s))) := by
  obtain ⟨a15, a16, g11, g12, g13⟩ := s
  unfold k0_t1_body acc owns
  simp only [k0_part1_eq_skeleton]
  iintro ⟨⟨%f1, %h1, H1⟩, ⟨%f6, %h6, H6⟩, ⟨%f11, %h11, H11⟩, ⟨%f12, %h12, H12⟩, ⟨%f13, %h13, H13⟩, ⟨%f15, %h15, H15⟩, ⟨%f16, %h16, H16⟩⟩
  subst h1 h6 h11 h12 h13 h15 h16
  sl_exec
  sl_step
  isplitl [H1]; · iexists _; isplitr; · ipureintro; rfl
                  iexact H1
  isplitl [H6]; · iexists _; isplitr; · ipureintro; rfl
                  iexact H6
  isplitl [H11]
  · iexists _; isplitr; swap; · iexact H11
    ipureintro
    sl_unfold_run_names
    rw [read_put]; simp only [View.readAt_eq_ld]; dsimp only [step]
  isplitl [H12]
  · iexists _; isplitr; swap; · iexact H12
    ipureintro
    sl_unfold_run_names
    rw [read_put]; simp only [View.readAt_eq_ld]; dsimp only [step]
  isplitl [H13]
  · iexists _; isplitr; swap; · iexact H13
    ipureintro
    sl_unfold_run_names
    rw [read_put]; simp only [View.readAt_eq_ld]; dsimp only [step]
  isplitl [H15]
  · iexists _; isplitr; swap; · iexact H15
    ipureintro
    sl_unfold_run_names
    rw [read_put_whole _ _ off2]; simp only [View.readAt_eq_ld]
    exact congrArg (k0_pay8 _ _ _ _ _ _ _) (View.ld_unit_zero off2 _ _)
  · iexists _; isplitr; swap; · iexact H16
    ipureintro
    sl_unfold_run_names
    rw [read_put_whole _ _ off2]; simp only [View.readAt_eq_ld]
    exact congrArg (k0_pay30 _) (View.ld_unit_zero off2 _ _)

/-- The loop over the blocks of keys before the diagonal. -/
theorem loop1 (x1 : Vec F S8192x256 .bf16) (x6 : Vec F S1x16x512 .f32) (p : Pre F) (s : St F) (arg1 : BitVec 32)
    (v33 : FVec F S512x128 .f32) (v34 : Vec F S512x128 .f32) (E : Set ℕ) :
    iprop(owns (c : Thread nD τ) arg3 fullShare x1 ∗ owns (c : Thread nD τ) arg8 fullShare x6 ∗ acc c arg11 arg12 arg13 arg15 arg16 s)
      ⊢ wp frame (wpE (defs₀ (F := F)) Variants.none (c : Thread nD τ) none) E
          (Scf.Loop.for (k0_t1_loop i) (k0_t1_ok i) () (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 p.v4 p.v6 p.v9 p.v12 p.v18 p.v28 v33 v34))
          (fun _ => iprop(owns (c : Thread nD τ) arg3 fullShare x1 ∗ owns (c : Thread nD τ) arg8 fullShare x6
            ∗ acc c arg11 arg12 arg13 arg15 arg16 (steps i x1 x6 p s (k0_t1_loop i).trips))) := by
  iintro H
  iapply (Scf.wp_for frame (wpE (defs₀ (F := F)) Variants.none (c : Thread nD τ) none) E _ _ _ _ _ _
    (fun k _ => iprop(owns (c : Thread nD τ) arg3 fullShare x1 ∗ owns (c : Thread nD τ) arg8 fullShare x6
      ∗ acc c arg11 arg12 arg13 arg15 arg16 (steps i x1 x6 p s k)))
    (fun k u => by
      rw [steps_succ i x1 x6 p s k]
      exact trip c i arg2 harg2 arg3 harg3 arg4 harg4 arg5 harg5 arg6 harg6 arg7 harg7 arg8 harg8 arg9 harg9 arg10 harg10 arg11 harg11 arg12 harg12 arg13 harg13 arg14 harg14 arg15 harg15 arg16 harg16 x1 x6 p _ arg1 v33 v34 k u E))
  isplitl [H]
  · iexact H
  · iintro %_ H
    iexact H

/-- The remainder loop makes no trip. -/
theorem loop2 (p : Pre F) (arg1 v41 : BitVec 32) (v33 : FVec F S512x128 .f32) (v34 : Vec F S512x128 .f32) :
    Scf.Loop.for (k0_t2_loop i) (k0_t2_ok i) ()
      (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 p.v4 p.v6 p.v9 p.v12 p.v18 p.v28 v33 v34 v41) = .ret () :=
  Scf.for_rem_eq 0#32 (Scalar.subi (BitVec.ofNat 32 (i 1).val) 0#32) (k0_t2_ok i) ()
    (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 p.v4 p.v6 p.v9 p.v12 p.v18 p.v28 v33 v34 v41)

/-- The block of keys on the diagonal, the block of values there, and the offsets of those keys. -/
abbrev kd (x1 : Vec F S8192x256 .bf16) : Vec F S512x128 .bf16 :=
  View.ld x1 (Rect.unit (s := S8192x256) (k0_off9 i) S512x128.size (k0_off9_inb i))
@[inherit_doc kd] abbrev vd (x1 : Vec F S8192x256 .bf16) : Vec F S512x128 .bf16 :=
  View.ld x1 (Rect.unit (s := S8192x256) (k0_off10 i) S512x128.size (k0_off10_inb i))
@[inherit_doc kd] abbrev cd (x6 : Vec F S1x16x512 .f32) : Vec F S1x1x512 .f32 :=
  View.ld x6 (Rect.unit (s := S1x16x512) (k0_off11 i) S1x1x512.size (k0_off11_inb i))

/-- The second part of the body: the loops, and the weights of the diagonal block. -/
theorem part4 (x1 : Vec F S8192x256 .bf16) (x6 : Vec F S1x16x512 .f32) (p : Pre F) (s : St F) (arg1 : BitVec 32)
    (v33 : FVec F S512x128 .f32) (v34 j : Vec F S512x128 .f32)
    (hs : s.a16 = k0_pay27 v33) (E : Set ℕ) :
    iprop(owns (c : Thread nD τ) arg3 fullShare x1 ∗ owns (c : Thread nD τ) arg8 fullShare x6 ∗ acc c arg11 arg12 arg13 arg15 arg16 { s with a16 := j })
      ⊢ wp frame (wpE (defs₀ (F := F)) Variants.none (c : Thread nD τ) none) E (k0_part4 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 p.v4 p.v6 p.v9 p.v12 p.v18 p.v28 v33 v34)
          (fun r => iprop(⌜r = ⟨k0_pay34 (kd i x1), k0_pay35 arg1 p.v4 p.v18 (kd i x1) (cd i x6),
              k0_pay36 arg1 p.v4 p.v6 p.v18 p.v28 (kd i x1) (vd i x1) (cd i x6),
              k0_pay37 arg1 p.v4 p.v6 p.v18 p.v28 (kd i x1) (vd i x1) (cd i x6),
              (steps i x1 x6 p s (k0_t1_loop i).trips).a15,
              constant S512x128 .f32 0x00000000#32⟩⌝
            ∗ owns (c : Thread nD τ) arg3 fullShare x1 ∗ owns (c : Thread nD τ) arg8 fullShare x6
            ∗ acc c arg11 arg12 arg13 arg15 arg16 (steps i x1 x6 p s (k0_t1_loop i).trips))) := by
  obtain ⟨a15, a16, g11, g12, g13⟩ := s
  obtain rfl : a16 = k0_pay27 v33 := hs
  simp only [k0_part4_eq_skeleton]
  unfold k0_part4_skel
  iintro ⟨H1, H6, H11, H12, H13, H15, H16⟩
  rw [wp_bind]
  iapply (wp_wand_r frame (wpE (defs₀ (F := F)) Variants.none (c : Thread nD τ) none) E (Q := fun _ => owns (c : Thread nD τ) arg16 fullShare (k0_pay27 v33)))
  isplitl [H16]
  · unfold owns
    icases H16 with ⟨%f16, %h16, H16⟩
    sl_exec
    sl_step
    iexists _; isplitr; swap; · iexact H16
    ipureintro
    exact read_put_whole _ _ off2 _ _
  iintro %_ H16
  rw [wp_bind]
  iapply (wp_wand_r frame (wpE (defs₀ (F := F)) Variants.none (c : Thread nD τ) none) E)
  isplitl [H1 H6 H11 H12 H13 H15 H16]
  · iapply (loop1 c i arg2 harg2 arg3 harg3 arg4 harg4 arg5 harg5 arg6 harg6 arg7 harg7 arg8 harg8 arg9 harg9 arg10 harg10 arg11 harg11 arg12 harg12 arg13 harg13 arg14 harg14 arg15 harg15 arg16 harg16 x1 x6 p ⟨a15, k0_pay27 v33, g11, g12, g13⟩ arg1 v33 v34 E)
    isplitl [H1]; · iexact H1
    isplitl [H6]; · iexact H6
    isplitl [H11]; · iexact H11
    isplitl [H12]; · iexact H12
    isplitl [H13]; · iexact H13
    isplitl [H15]; · iexact H15
    iexact H16
  dsimp only
  generalize steps i x1 x6 p ⟨a15, k0_pay27 v33, g11, g12, g13⟩ (k0_t1_loop i).trips = s'
  obtain ⟨b15, b16, k11, k12, k13⟩ := s'
  iintro %_ ⟨H1, H6, H11, H12, H13, H15, H16⟩
  rw [wp_bind, loop2, wp_ret]
  imodintro
  unfold owns
  icases H1 with ⟨%f1, %h1, H1⟩
  icases H6 with ⟨%f6, %h6, H6⟩
  icases H15 with ⟨%f15, %h15, H15⟩
  subst h1 h6
  sl_exec
  sl_step
  isplitr
  · ipureintro
    sl_unfold_run_names
    simp only [View.readAt_eq_ld]
    refine congrArg (fun z => (⟨_, _, _, _, z, _⟩ : Σ' (v46 : FVec F S512x128 .bf16) (v68 : FVec F S512x512 .f32) (v71 : FVec F S512x512 .f32) (v72 : FVec F S512x512 .bf16) (v73 : Vec F S512x128 .f32), FVec F S512x128 .f32)) ?_
    exact (View.ld_unit_zero off2 _ _).trans h15
  unfold acc owns
  isplitl [H1]; · iexists _; isplitr; · ipureintro; rfl
                  iexact H1
  isplitl [H6]; · iexists _; isplitr; · ipureintro; rfl
                  iexact H6
  isplitl [H11]; · iexact H11
  isplitl [H12]; · iexact H12
  isplitl [H13]; · iexact H13
  isplitl [H15]; · iexists _; isplitr; · ipureintro; exact h15
                   iexact H15
  iexact H16

/-- The state after the diagonal block, before its row sums are added. -/
def diag (v9 v12 : FVec F S128x512 .bf16) (v46 : FVec F S512x128 .bf16) (v68 v71 : FVec F S512x512 .f32) (v72 : FVec F S512x512 .bf16)
    (cst_32 : FVec F S512x128 .f32) (s : St F) : St F :=
  { a15 := k0_pay38 v46 v72 s.a15 cst_32
    a16 := s.a16
    g11 := (Rect.unit (s := S1x16x128x512) (k0_off12 i) S1x1x128x512.size (k0_off12_inb i)).overlay s.g11
      (k0_pay39 v9 v72 (View.ld s.g11 (Rect.unit (s := S1x16x128x512) (k0_off12 i) S1x1x128x512.size (k0_off12_inb i))))
    g12 := (Rect.unit (s := S1x16x128x512) (k0_off12 i) S1x1x128x512.size (k0_off12_inb i)).overlay s.g12
      (k0_pay40 v12 v68 (View.ld s.g12 (Rect.unit (s := S1x16x128x512) (k0_off12 i) S1x1x128x512.size (k0_off12_inb i))))
    g13 := (Rect.unit (s := S1x16x512) (k0_off11 i) S1x1x512.size (k0_off11_inb i)).overlay s.g13
      (k0_pay41 v71 (View.ld s.g13 (Rect.unit (s := S1x16x512) (k0_off11 i) S1x1x512.size (k0_off11_inb i)))) }

/-- The third part of the body: the diagonal block joins the accumulators. -/
theorem part5 (arg1 : BitVec 32) (v9 v12 : FVec F S128x512 .bf16) (v46 : FVec F S512x128 .bf16) (v68 v71 : FVec F S512x512 .f32)
    (v72 : FVec F S512x512 .bf16) (cst_32 : FVec F S512x128 .f32) (s : St F) (E : Set ℕ) :
    acc c arg11 arg12 arg13 arg15 arg16 s
      ⊢ wp frame (wpE (defs₀ (F := F)) Variants.none (c : Thread nD τ) none) E (k0_part5 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v9 v12 v46 v68 v71 v72 s.a15 cst_32)
          (fun _ => acc c arg11 arg12 arg13 arg15 arg16 (diag i v9 v12 v46 v68 v71 v72 cst_32 s)) := by
  obtain ⟨a15, a16, g11, g12, g13⟩ := s
  simp only [k0_part5_eq_skeleton]
  unfold k0_part5_skel acc owns
  iintro ⟨⟨%f11, %h11, H11⟩, ⟨%f12, %h12, H12⟩, ⟨%f13, %h13, H13⟩, ⟨%f15, %h15, H15⟩, H16⟩
  subst h11 h12 h13
  sl_exec
  sl_step
  isplitl [H11]
  · iexists _; isplitr; swap; · iexact H11
    ipureintro
    sl_unfold_run_names
    rw [read_put]; simp only [View.readAt_eq_ld]; dsimp only [diag]
  isplitl [H12]
  · iexists _; isplitr; swap; · iexact H12
    ipureintro
    sl_unfold_run_names
    rw [read_put]; simp only [View.readAt_eq_ld]; dsimp only [diag]
  isplitl [H13]
  · iexists _; isplitr; swap; · iexact H13
    ipureintro
    sl_unfold_run_names
    rw [read_put]; simp only [View.readAt_eq_ld]; dsimp only [diag]
  isplitl [H15]
  · iexists _; isplitr; swap; · iexact H15
    ipureintro
    sl_unfold_run_names
    exact read_put_whole _ _ off2 _ _
  iexact H16

/-- What the three results over keys hold when a grid point's body comes to read them: zero at a head's first point. -/
def start (g11 g12 : Vec F S1x16x128x512 .f32) (g13 : Vec F S1x16x512 .f32) : St F :=
  open Classical in
  { a15 := k0_pay25
    a16 := k0_pay27 k0_pay26
    g11 := if cond0_0 i then k0_pay16 else g11
    g12 := if cond0_0 i then k0_pay17 else g12
    g13 := if cond0_0 i then k0_pay18 else g13 }

/-- The first part of the body: it clears the accumulators and prepares the grid point's values. -/
theorem part3 (x0 x2 x3 : Vec F S512x128 .bf16) (x4 x5 : Vec F S1x512x128 .f32) (s : St F) (E : Set ℕ) :
    iprop(owns (c : Thread nD τ) arg2 fullShare x0 ∗ owns (c : Thread nD τ) arg4 fullShare x2 ∗ owns (c : Thread nD τ) arg5 fullShare x3 ∗ owns (c : Thread nD τ) arg6 fullShare x4 ∗ owns (c : Thread nD τ) arg7 fullShare x5 ∗ acc c arg11 arg12 arg13 arg15 arg16 s)
      ⊢ wp frame (wpE (defs₀ (F := F)) Variants.none (c : Thread nD τ) none) E (k0_part3 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16)
          (fun r => iprop(⌜r = ⟨BitVec.ofNat 32 (i 1).val, (pre x0 x2 x3 x4 x5).v4, (pre x0 x2 x3 x4 x5).v6, (pre x0 x2 x3 x4 x5).v9,
              (pre x0 x2 x3 x4 x5).v12, (pre x0 x2 x3 x4 x5).v18, (pre x0 x2 x3 x4 x5).v28, k0_pay26, s.a16⟩⌝
            ∗ owns (c : Thread nD τ) arg2 fullShare x0 ∗ owns (c : Thread nD τ) arg4 fullShare x2 ∗ owns (c : Thread nD τ) arg5 fullShare x3 ∗ owns (c : Thread nD τ) arg6 fullShare x4 ∗ owns (c : Thread nD τ) arg7 fullShare x5 ∗ acc c arg11 arg12 arg13 arg15 arg16 { start i s.g11 s.g12 s.g13 with a16 := s.a16 })) := by
  obtain ⟨a15, a16, g11, g12, g13⟩ := s
  simp only [k0_part3_eq_skeleton]
  unfold k0_part3_skel acc owns
  iintro ⟨⟨%f0, %h0, H0⟩, ⟨%f2, %h2, H2⟩, ⟨%f3, %h3, H3⟩, ⟨%f4, %h4, H4⟩, ⟨%f5, %h5, H5⟩, ⟨%f11, %h11, H11⟩, ⟨%f12, %h12, H12⟩, ⟨%f13, %h13, H13⟩, ⟨%f15, %h15, H15⟩, ⟨%f16, %h16, H16⟩⟩
  subst h0 h2 h3 h4 h5 h11 h12 h13 h15 h16
  by_cases hc : cond0_0 i
  · sl_exec (disch := first | sl_exact hc)
    sl_step
    isplitr
    · ipureintro
      sl_unfold_run_names
      simp only [View.readAt_eq_ld, ld_all2, ld_all3]
      rfl
    isplitl [H0]; · iexists _; isplitr; · ipureintro; rfl
                    iexact H0
    isplitl [H2]; · iexists _; isplitr; · ipureintro; rfl
                    iexact H2
    isplitl [H3]; · iexists _; isplitr; · ipureintro; rfl
                    iexact H3
    isplitl [H4]; · iexists _; isplitr; · ipureintro; rfl
                    iexact H4
    isplitl [H5]; · iexists _; isplitr; · ipureintro; rfl
                    iexact H5
    dsimp only [start]
    rw [if_pos hc, if_pos hc, if_pos hc]
    isplitl [H11]
    · iexists _; isplitr; swap; · iexact H11
      ipureintro
      exact read_put_whole _ _ off4 _ _
    isplitl [H12]
    · iexists _; isplitr; swap; · iexact H12
      ipureintro
      exact read_put_whole _ _ off4 _ _
    isplitl [H13]
    · iexists _; isplitr; swap; · iexact H13
      ipureintro
      exact read_put_whole _ _ off3 _ _
    isplitl [H15]
    · iexists _; isplitr; swap; · iexact H15
      ipureintro
      exact read_put_whole _ _ off2 _ _
    iexists _; isplitr; · ipureintro; rfl
    iexact H16
  · sl_exec (disch := first | sl_exact hc)
    sl_step
    isplitr
    · ipureintro
      sl_unfold_run_names
      simp only [View.readAt_eq_ld, ld_all2, ld_all3]
      rfl
    isplitl [H0]; · iexists _; isplitr; · ipureintro; rfl
                    iexact H0
    isplitl [H2]; · iexists _; isplitr; · ipureintro; rfl
                    iexact H2
    isplitl [H3]; · iexists _; isplitr; · ipureintro; rfl
                    iexact H3
    isplitl [H4]; · iexists _; isplitr; · ipureintro; rfl
                    iexact H4
    isplitl [H5]; · iexists _; isplitr; · ipureintro; rfl
                    iexact H5
    dsimp only [start]
    rw [if_neg hc, if_neg hc, if_neg hc]
    isplitl [H11]; · iexists _; isplitr; · ipureintro; rfl
                     iexact H11
    isplitl [H12]; · iexists _; isplitr; · ipureintro; rfl
                     iexact H12
    isplitl [H13]; · iexists _; isplitr; · ipureintro; rfl
                     iexact H13
    isplitl [H15]
    · iexists _; isplitr; swap; · iexact H15
      ipureintro
      exact read_put_whole _ _ off2 _ _
    iexists _; isplitr; · ipureintro; rfl
    iexact H16

/-- Where a grid point's body leaves its accumulators, from its input blocks and what the results over keys held. -/
def final (x0 : Vec F S512x128 .bf16) (x1 : Vec F S8192x256 .bf16) (x2 x3 : Vec F S512x128 .bf16) (x4 x5 : Vec F S1x512x128 .f32)
    (x6 : Vec F S1x16x512 .f32) (g11 g12 : Vec F S1x16x128x512 .f32) (g13 : Vec F S1x16x512 .f32) : St F :=
  let p : Pre F := pre x0 x2 x3 x4 x5
  let a : BitVec 32 := BitVec.ofNat 32 (i 1).val
  let s : St F := diag i p.v9 p.v12 (k0_pay34 (kd i x1)) (k0_pay35 a p.v4 p.v18 (kd i x1) (cd i x6))
    (k0_pay36 a p.v4 p.v6 p.v18 p.v28 (kd i x1) (vd i x1) (cd i x6))
    (k0_pay37 a p.v4 p.v6 p.v18 p.v28 (kd i x1) (vd i x1) (cd i x6)) (constant S512x128 .f32 0x00000000#32)
    (steps i x1 x6 p (start i g11 g12 g13) (k0_t1_loop i).trips)
  { s with a16 := k0_pay1 (k0_pay36 a p.v4 p.v6 p.v18 p.v28 (kd i x1) (vd i x1) (cd i x6)) s.a16 }

/-- One grid point: from its input blocks the body leaves the accumulators at `final`, and writes the two blocks of
results that belong to this block of queries. -/
theorem body (x0 : Vec F S512x128 .bf16) (x1 : Vec F S8192x256 .bf16) (x2 x3 : Vec F S512x128 .bf16) (x4 x5 : Vec F S1x512x128 .f32)
    (x6 : Vec F S1x16x512 .f32) (d10 : Vec F S512x128 .bf16) (d14 : Vec F S1x1x1x512 .f32) (s : St F) (E : Set ℕ) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg10 fullShare d10 ∗ owns (c : Thread nD τ) arg14 fullShare d14
        ∗ acc c arg11 arg12 arg13 arg15 arg16 s)
      ⊢ wp frame (wpE (defs₀ (F := F)) Variants.none (c : Thread nD τ) none) E (cc0_fox_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16)
          (fun _ => iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg10 fullShare (k0_pay2 (final i x0 x1 x2 x3 x4 x5 x6 s.g11 s.g12 s.g13).a15)
            ∗ owns (c : Thread nD τ) arg14 fullShare (k0_pay3 (final i x0 x1 x2 x3 x4 x5 x6 s.g11 s.g12 s.g13).a16)
            ∗ acc c arg11 arg12 arg13 arg15 arg16 (final i x0 x1 x2 x3 x4 x5 x6 s.g11 s.g12 s.g13))) := by
  simp only [cc0_fox_bwd_eq_skeleton]
  unfold cc0_fox_bwd_skel
  iintro ⟨H0, H1, H2, H3, H4, H5, H6, H7, H8, HA⟩
  rw [wp_bind]
  iapply (wp_wand_r frame (wpE (defs₀ (F := F)) Variants.none (c : Thread nD τ) none) E)
  isplitl [H0 H2 H3 H4 H5 HA]
  · iapply (part3 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x2 x3 x4 x5 s E)
    isplitl [H0]; · iexact H0
    isplitl [H2]; · iexact H2
    isplitl [H3]; · iexact H3
    isplitl [H4]; · iexact H4
    isplitl [H5]; · iexact H5
    iexact HA
  iintro %r ⟨%hr, H0, H2, H3, H4, H5, HA⟩
  subst hr
  dsimp only
  rw [wp_bind]
  iapply (wp_wand_r frame (wpE (defs₀ (F := F)) Variants.none (c : Thread nD τ) none) E)
  isplitl [H1 H6 HA]
  · iapply (part4 c i arg2 harg2 arg3 harg3 arg4 harg4 arg5 harg5 arg6 harg6 arg7 harg7 arg8 harg8 arg9 harg9 arg10 harg10 arg11 harg11 arg12 harg12 arg13 harg13 arg14 harg14 arg15 harg15 arg16 harg16 x1 x6 (pre x0 x2 x3 x4 x5) (start i s.g11 s.g12 s.g13) _ _ _ _ rfl E)
    isplitl [H1]; · iexact H1
    isplitl [H6]; · iexact H6
    iexact HA
  iintro %r ⟨%hr, H1, H6, HA⟩
  subst hr
  dsimp only
  rw [wp_bind]
  iapply (wp_wand_r frame (wpE (defs₀ (F := F)) Variants.none (c : Thread nD τ) none) E)
  isplitl [HA]
  · iapply (part5 c i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _ _ E)
    iexact HA
  iintro %_ HA
  have hfin : final i x0 x1 x2 x3 x4 x5 x6 s.g11 s.g12 s.g13 = _ := final.eq_1 (F := F) i x0 x1 x2 x3 x4 x5 x6 s.g11 s.g12 s.g13
  rw [hfin]
  dsimp only
  generalize diag (F := F) i _ _ _ _ _ _ _ _ = D
  obtain ⟨b15, b16, k11, k12, k13⟩ := D
  dsimp only
  unfold acc owns
  icases HA with ⟨H11, H12, H13, ⟨%f15, %h15, H15⟩, ⟨%f16, %h16, H16⟩⟩
  icases H7 with ⟨%f7, %h7, H7⟩
  icases H8 with ⟨%f8, %h8, H8⟩
  subst h15 h16
  sl_exec
  sl_step
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; isplitr; swap; · iexact H7
    ipureintro
    sl_unfold_run_names
    rw [read_put_whole _ _ off2]; simp only [View.readAt_eq_ld]
    exact congrArg k0_pay2 (View.ld_unit_zero off2 _ _)
  isplitl [H8]
  · iexists _; isplitr; swap; · iexact H8
    ipureintro
    sl_unfold_run_names
    rw [read_put_whole _ _ off4]; simp only [View.readAt_eq_ld]
    refine (congrArg k0_pay3 (View.readCov_full (s := S512x128) (off := ![0, 0]) (off' := ![0, 0]) _ _ _ _ _)).trans ?_
    exact congrArg (fun z => k0_pay3 (k0_pay1 _ z)) (View.ld_unit_zero (S := S512x128) off2 _ _)
  isplitl [H11]; · iexact H11
  isplitl [H12]; · iexact H12
  isplitl [H13]; · iexact H13
  isplitl [H15]
  · iexists _; isplitr; · ipureintro; rfl
    iexact H15
  · iexists _; isplitr; swap; · iexact H16
    ipureintro
    sl_unfold_run_names
    rw [read_put_whole _ _ off2]; simp only [View.readAt_eq_ld]
    exact congrArg (k0_pay1 _) (View.ld_unit_zero off2 _ _)

end

end Cert.KernelIdeal.Own
-- ==== Proof.FrameI.lean ====
module

public import proofs.«01_k».proof.Proof.RunI
public import Idealize.ShloMosaic.Lib.Claim

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- At the first query block of a head the accumulated gradients do not depend on what the buffers held. -/
theorem final_reset {i : grid0.Coords} (hc : cond0_0 i) (x0 : Vec F S512x128 .bf16) (x1 : Vec F S8192x256 .bf16) (x2 x3 : Vec F S512x128 .bf16)
    (x4 x5 : Vec F S1x512x128 .f32) (x6 : Vec F S1x16x512 .f32) (g11 g12 h11 h12 : Vec F S1x16x128x512 .f32) (g13 h13 : Vec F S1x16x512 .f32) :
    final i x0 x1 x2 x3 x4 x5 x6 g11 g12 g13 = final i x0 x1 x2 x3 x4 x5 x6 h11 h12 h13 := by
  have h : start (F := F) i g11 g12 g13 = start (F := F) i h11 h12 h13 := by unfold start; simp only [if_pos hc]
  unfold final
  rw [h]

variable (m : (ℓ : Loc nD τ sig) → Buf (Elt F) ℓ) (ρ : Dev nD → PrngReg)

/-- What the body leaves at a grid point, from that point's input blocks and the accumulators before it. -/
def leaves (c : Dev nD) (t : Fin cfg0.N) (g11 g12 : Vec F S1x16x128x512 .f32) (g13 : Vec F S1x16x512 .f32) : St F :=
  final (grid0.coords t) (iblk m c 0 t) (iblk m c 1 t) (iblk m c 2 t) (iblk m c 3 t) (iblk m c 4 t) (iblk m c 5 t) (iblk m c 6 t) g11 g12 g13

/-- The accumulators after grid point `n`: each point starts from what the point before it left. -/
def accAt (c : Dev nD) : (n : ℕ) → n < cfg0.N → St F
  | 0, hn => leaves m c ⟨0, hn⟩ k0_pay16 k0_pay17 k0_pay18
  | n + 1, hn => leaves m c ⟨n + 1, hn⟩ (accAt c n (Nat.lt_of_succ_lt hn)).g11 (accAt c n (Nat.lt_of_succ_lt hn)).g12
      (accAt c n (Nat.lt_of_succ_lt hn)).g13

/-- At the first query block of a head the accumulators are those of a run from any contents. -/
theorem accAt_first (c : Dev nD) (t : Fin cfg0.N) (h0 : t.val % 16 = 0) (g11 g12 : Vec F S1x16x128x512 .f32) (g13 : Vec F S1x16x512 .f32) :
    accAt m c t.val t.isLt = leaves m c t g11 g12 g13 := by
  obtain ⟨n, hn⟩ := t
  cases n with
  | zero => exact final_reset ((hcond0_0 _).mpr h0) _ _ _ _ _ _ _ _ _ _ _ _ _
  | succ n => exact final_reset ((hcond0_0 _).mpr h0) _ _ _ _ _ _ _ _ _ _ _ _ _

/-- At a later query block the accumulators go on from the point before. -/
theorem accAt_next (c : Dev nD) (t : Fin cfg0.N) (h0 : ¬t.val % 16 = 0) :
    accAt m c t.val t.isLt = leaves m c t (accAt m c (t.val - 1) (Nat.lt_of_le_of_lt (Nat.sub_le _ _) t.isLt)).g11
      (accAt m c (t.val - 1) (Nat.lt_of_le_of_lt (Nat.sub_le _ _) t.isLt)).g12 (accAt m c (t.val - 1) (Nat.lt_of_le_of_lt (Nat.sub_le _ _) t.isLt)).g13 := by
  obtain ⟨n, hn⟩ := t
  cases n with
  | zero => exact absurd (Nat.zero_mod _) h0
  | succ n => rfl

/-- What each window's buffer holds after each grid point: an input its block, a result what the body left in it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => k0_pay2 (accAt m c t.val t.isLt).a15
    | ⟨8, _⟩ => (accAt m c t.val t.isLt).g11
    | ⟨9, _⟩ => (accAt m c t.val t.isLt).g12
    | ⟨10, _⟩ => (accAt m c t.val t.isLt).g13
    | ⟨11, _⟩ => k0_pay3 (accAt m c t.val t.isLt).a16
  Φ _ := Pipeline.ΦA spec0 c
  q w := Pipeline.shareOf spec0 w
  owed _ := 0

/-- The arrays are those the pipeline finds. -/
theorem A_eq (c : Dev nD) (w : Fin cfg0.W) : (dats m 0 c).A w = V m c (Pipeline.arrRef spec0 w) := by
  dsimp only [dats]

/-- What the body leaves in the buffer of window 0. -/
theorem after_0 (c : Dev nD) (t : Fin cfg0.N) : (dats m 0 c).after 0 t = iblk m c 0 t := by dsimp only [dats]
/-- What the body leaves in the buffer of window 1. -/
theorem after_1 (c : Dev nD) (t : Fin cfg0.N) : (dats m 0 c).after 1 t = iblk m c 1 t := by dsimp only [dats]
/-- What the body leaves in the buffer of window 2. -/
theorem after_2 (c : Dev nD) (t : Fin cfg0.N) : (dats m 0 c).after 2 t = iblk m c 2 t := by dsimp only [dats]
/-- What the body leaves in the buffer of window 3. -/
theorem after_3 (c : Dev nD) (t : Fin cfg0.N) : (dats m 0 c).after 3 t = iblk m c 3 t := by dsimp only [dats]
/-- What the body leaves in the buffer of window 4. -/
theorem after_4 (c : Dev nD) (t : Fin cfg0.N) : (dats m 0 c).after 4 t = iblk m c 4 t := by dsimp only [dats]
/-- What the body leaves in the buffer of window 5. -/
theorem after_5 (c : Dev nD) (t : Fin cfg0.N) : (dats m 0 c).after 5 t = iblk m c 5 t := by dsimp only [dats]
/-- What the body leaves in the buffer of window 6. -/
theorem after_6 (c : Dev nD) (t : Fin cfg0.N) : (dats m 0 c).after 6 t = iblk m c 6 t := by dsimp only [dats]
/-- What the body leaves in the buffer of window 7. -/
theorem after_7 (c : Dev nD) (t : Fin cfg0.N) : (dats m 0 c).after 7 t = k0_pay2 (accAt m c t.val t.isLt).a15 := by dsimp only [dats]
/-- What the body leaves in the buffer of window 8. -/
theorem after_8 (c : Dev nD) (t : Fin cfg0.N) : (dats m 0 c).after 8 t = (accAt m c t.val t.isLt).g11 := by dsimp only [dats]
/-- What the body leaves in the buffer of window 9. -/
theorem after_9 (c : Dev nD) (t : Fin cfg0.N) : (dats m 0 c).after 9 t = (accAt m c t.val t.isLt).g12 := by dsimp only [dats]
/-- What the body leaves in the buffer of window 10. -/
theorem after_10 (c : Dev nD) (t : Fin cfg0.N) : (dats m 0 c).after 10 t = (accAt m c t.val t.isLt).g13 := by dsimp only [dats]
/-- What the body leaves in the buffer of window 11. -/
theorem after_11 (c : Dev nD) (t : Fin cfg0.N) : (dats m 0 c).after 11 t = k0_pay3 (accAt m c t.val t.isLt).a16 := by dsimp only [dats]

/-- Input 0 is staged at every grid point. -/
theorem before_0 (c : Dev nD) (t : Fin cfg0.N) (d) : (dats m 0 c).before 0 t d = iblk m c 0 t :=
  before0_0_of m (dats m 0 c) (A_eq m c 0) (after_0 m c) t d
/-- Input 1 is staged at every grid point. -/
theorem before_1 (c : Dev nD) (t : Fin cfg0.N) (d) : (dats m 0 c).before 1 t d = iblk m c 1 t :=
  before0_1_of m (dats m 0 c) (A_eq m c 1) (after_1 m c) t d
/-- Input 2 is staged at every grid point. -/
theorem before_2 (c : Dev nD) (t : Fin cfg0.N) (d) : (dats m 0 c).before 2 t d = iblk m c 2 t :=
  before0_2_of m (dats m 0 c) (A_eq m c 2) (after_2 m c) t d
/-- Input 3 is staged at every grid point. -/
theorem before_3 (c : Dev nD) (t : Fin cfg0.N) (d) : (dats m 0 c).before 3 t d = iblk m c 3 t :=
  before0_3_of m (dats m 0 c) (A_eq m c 3) (after_3 m c) t d
/-- Input 4 is staged at every grid point. -/
theorem before_4 (c : Dev nD) (t : Fin cfg0.N) (d) : (dats m 0 c).before 4 t d = iblk m c 4 t :=
  before0_4_of m (dats m 0 c) (A_eq m c 4) (after_4 m c) t d
/-- Input 5 is staged at every grid point. -/
theorem before_5 (c : Dev nD) (t : Fin cfg0.N) (d) : (dats m 0 c).before 5 t d = iblk m c 5 t :=
  before0_5_of m (dats m 0 c) (A_eq m c 5) (after_5 m c) t d
/-- Input 6 is staged at every grid point. -/
theorem before_6 (c : Dev nD) (t : Fin cfg0.N) (d) : (dats m 0 c).before 6 t d = iblk m c 6 t :=
  before0_6_of m (dats m 0 c) (A_eq m c 6) (after_6 m c) t d
/-- At a later query block result 8 still holds what the point before left. -/
theorem kept_8 (c : Dev nD) (t : Fin cfg0.N) (h0 : ¬t.val % 16 = 0) (d) :
    (dats m 0 c).before 8 t d = (accAt m c (t.val - 1) (Nat.lt_of_le_of_lt (Nat.sub_le _ _) t.isLt)).g11 := by
  have hN : t.val < 128 := lt_of_lt_of_eq t.isLt (show cfg0.N = 128 from N_0)
  rw [Dat.before_out_kept _ 8 rfl t (by omega) (Bool.eq_false_iff.mpr fun h => by have := (flush0_8 _).mp h; dsimp only at this; omega)
    (fun _ => rfl) (fun _ _ => rfl)]
  dsimp only [dats]
/-- At a later query block result 9 still holds what the point before left. -/
theorem kept_9 (c : Dev nD) (t : Fin cfg0.N) (h0 : ¬t.val % 16 = 0) (d) :
    (dats m 0 c).before 9 t d = (accAt m c (t.val - 1) (Nat.lt_of_le_of_lt (Nat.sub_le _ _) t.isLt)).g12 := by
  have hN : t.val < 128 := lt_of_lt_of_eq t.isLt (show cfg0.N = 128 from N_0)
  rw [Dat.before_out_kept _ 9 rfl t (by omega) (Bool.eq_false_iff.mpr fun h => by have := (flush0_9 _).mp h; dsimp only at this; omega)
    (fun _ => rfl) (fun _ _ => rfl)]
  dsimp only [dats]
/-- At a later query block result 10 still holds what the point before left. -/
theorem kept_10 (c : Dev nD) (t : Fin cfg0.N) (h0 : ¬t.val % 16 = 0) (d) :
    (dats m 0 c).before 10 t d = (accAt m c (t.val - 1) (Nat.lt_of_le_of_lt (Nat.sub_le _ _) t.isLt)).g13 := by
  have hN : t.val < 128 := lt_of_lt_of_eq t.isLt (show cfg0.N = 128 from N_0)
  rw [Dat.before_out_kept _ 10 rfl t (by omega) (Bool.eq_false_iff.mpr fun h => by have := (flush0_10 _).mp h; dsimp only at this; omega)
    (fun _ => rfl) (fun _ _ => rfl)]
  dsimp only [dats]

/-- What the body is called with at grid point `t`. -/
def given (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- What it gives back. -/
def returned (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

set_option maxHeartbeats 2400000 in
/-- The body at any grid point: it finds the inputs staged and leaves the results as stated. -/
theorem sound (c : Dev nD) (t : Fin cfg0.N) :
    given m c t ⊢ wp frame (wpE (defs₀ (F := F)) Variants.none c none) Set.univ (bodyAt0 t) (fun _ => returned m c t) := by
  unfold given returned bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11]
  rw [show (dats m 0 c).Φ t.castSucc = Pipeline.ΦA spec0 c from rfl, PhiA0_eq]
  by_cases h0 : t.val % 16 = 0
  · iintro ⟨⟨⟨⟨%e15, HS0⟩, ⟨%e16, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    rw [accAt_first m c t h0 ((dats m 0 c).before 8 t d8) ((dats m 0 c).before 9 t d9) ((dats m 0 c).before 10 t d10)]
    unfold leaves
    iapply (wp_wand_r frame (wpE (defs₀ (F := F)) Variants.none (c : Thread nD τ) none) Set.univ)
    isplitl [HS0 HS1 H0 H1 H2 H3 H4 H5 H6 H7 H8 H9 H10 H11]
    · iapply (body c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
        (Memref.whole main_arg6) (Memref.isWhole_whole _) (ms0_7 t) (hs0_7 t) (ms0_8 t) (hs0_8 t) (ms0_9 t) (hs0_9 t) (ms0_10 t) (hs0_10 t) (ms0_11 t) (hs0_11 t)
        scM0_0 (Memref.isWhole_whole _) scM0_1 (Memref.isWhole_whole _)
        (iblk m c 0 t) (iblk m c 1 t) (iblk m c 2 t) (iblk m c 3 t) (iblk m c 4 t) (iblk m c 5 t) (iblk m c 6 t) _ _ ⟨e15, e16, _, _, _⟩ Set.univ)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H11]; · iexact H11
      unfold acc
      isplitl [H8]; · iexact H8
      isplitl [H9]; · iexact H9
      isplitl [H10]; · iexact H10
      isplitl [HS0]; · iexact HS0
      iexact HS1
    unfold acc
    iintro %_ ⟨H0, H1, H2, H3, H4, H5, H6, H7, H11, H8, H9, H10, HS0, HS1⟩
    isplitl [HS0 HS1 Hg]
    · isplitl [HS0 HS1]
      · isplitl [HS0]
        · iexists _; iexact HS0
        iexists _; iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · rw [accAt_next m c t h0]
    simp only [kept_8 m c t h0, kept_9 m c t h0, kept_10 m c t h0]
    unfold leaves
    iintro ⟨⟨⟨⟨%e15, HS0⟩, ⟨%e16, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (wp_wand_r frame (wpE (defs₀ (F := F)) Variants.none (c : Thread nD τ) none) Set.univ)
    isplitl [HS0 HS1 H0 H1 H2 H3 H4 H5 H6 H7 H8 H9 H10 H11]
    · iapply (body c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
        (Memref.whole main_arg6) (Memref.isWhole_whole _) (ms0_7 t) (hs0_7 t) (ms0_8 t) (hs0_8 t) (ms0_9 t) (hs0_9 t) (ms0_10 t) (hs0_10 t) (ms0_11 t) (hs0_11 t)
        scM0_0 (Memref.isWhole_whole _) scM0_1 (Memref.isWhole_whole _)
        (iblk m c 0 t) (iblk m c 1 t) (iblk m c 2 t) (iblk m c 3 t) (iblk m c 4 t) (iblk m c 5 t) (iblk m c 6 t) _ _ ⟨e15, e16, _, _, _⟩ Set.univ)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H11]; · iexact H11
      unfold acc
      isplitl [H8]; · iexact H8
      isplitl [H9]; · iexact H9
      isplitl [H10]; · iexact H10
      isplitl [HS0]; · iexact HS0
      iexact HS1
    unfold acc
    iintro %_ ⟨H0, H1, H2, H3, H4, H5, H6, H7, H11, H8, H9, H10, HS0, HS1⟩
    isplitl [HS0 HS1 Hg]
    · isplitl [HS0 HS1]
      · isplitl [HS0]
        · iexists _; iexact HS0
        iexists _; iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

/-- The region's call at a grid point is the body. -/
theorem row (t : Fin cfg0.N) :
    defs₀ (F := F) .tc cfg0.body (cfg0.bodyArgs t (cfg0.slots t)) = bodyAt0 t := by
  unfold defs₀; rw [Defs.onTc_tc]

/-- The body meets its obligation at every grid point. -/
theorem obligation (c : Dev nD) : BodyObligation (dats (F := F) m 0 c) (defs₀ (F := F)) Variants.none () Set.univ := fun t => by
  rw [bigSep_W0, bigSep_W0, row]
  exact triple_restated (sound m c t) rfl .rfl fun _ => .rfl

set_option backward.isDefEq.respectTransparency.types false in
/-- Every run ends with the arrays at what the windows wrote, and with every semaphore at zero. -/
theorem run_quiet : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hΦ := fun _ _ => rfl)

/-- Every run ends with the arrays at what the windows wrote. -/
theorem run : θ_run defs (onTc (τ := τ) (main (F := F))) (s₀ m ρ) (Pipeline.FramePost cfgs (dats m) 0 (V m)) :=
  (θ_run defs _ _).mono (fun _ h => h.1) (run_quiet m ρ)

/-- Every run ends with the arguments unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run m ρ)

/-- Every run ends with the arguments unchanged and every semaphore at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_quiet m ρ))

end Cert.KernelIdeal.Own

end
-- ==== Proof.RefStages.lean ====
/- The reference's value, cut into the stages of the attention's derivative: each stage a definition over the ones
   before it, and each result of the reference the last stage's term of the arguments. -/
module

public import proofs.«01_k».proof.Proof.Gen.ReferenceIdeal.Run

@[expose] public section

set_option maxRecDepth 8192

noncomputable section

namespace Cert.ReferenceIdeal.Stage

open Idealize.ShloMosaic Idealize.ShloMosaic.TcCoe Idealize.ShloMosaic.StableHlo Cert.ReferenceIdeal Cert.ReferenceIdeal.Gen

variable {F : FTy → Type} [FloatOps F]

/-- The reference, the causal mask: key s is at or before query t. -/
def rMask : IVec S8x8192x8192 1 :=
  broadcastInDim S8x8192x8192 ![1, 2] bcast_S8192x8192_S8x8192x8192_1_2 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))

/-- The reference, the logits. -/
def rLogit (q : FVec F S8192x8x128 .f32) (k : FVec F S8192x8x128 .f32) (c : FVec F S8x8192 .f32) : FVec F S8x8192x8192 .f32 :=
  subf (addf (Host.divf (Host.dotGeneral dot_S8192x8x128_S8192x8x128_S8x8192x8192_2_2_0_0_1_1 none q k) (broadcastInDim S8x8192x8192 ![] bcast_S_S8x8192x8192 (Host.sqrt (constant S_ .f32 0x43000000#32)))) (broadcastInDim S8x8192x8192 ![0, 1, 2] bcast_S8x8192x1_S8x8192x8192_0_1_2 (broadcastInDim S8x8192x1 ![0, 1] bcast_S8x8192_S8x8192x1_0_1 c))) (broadcastInDim S8x8192x8192 ![0, 1, 2] bcast_S8x1x8192_S8x8192x8192_0_1_2 (broadcastInDim S8x1x8192 ![0, 2] bcast_S8x8192_S8x1x8192_0_2 c))

/-- The reference, the masked logits. -/
def rSel (q : FVec F S8192x8x128 .f32) (k : FVec F S8192x8x128 .f32) (c : FVec F S8x8192 .f32) : FVec F S8x8192x8192 .f32 :=
  select rMask (rLogit q k c) (broadcastInDim S8x8192x8192 ![] bcast_S_S8x8192x8192 (id (constant S_ .f32 0xFF800000#32)))

/-- The reference, the largest logit of each row. -/
def rMax (q : FVec F S8192x8x128 .f32) (k : FVec F S8192x8x128 .f32) (c : FVec F S8x8192 .f32) : FVec F S8x8192 .f32 :=
  maximumf (broadcastInDim S8x8192 ![] bcast_S_S8x8192 (constant S_ .f32 0xFF800000#32)) (Host.reduce FloatOps.maximumf (rSel q k c) (constant S_ .f32 0xFF800000#32) reducesTo_S8x8192x8192_S8x8192_d2 h_S_)

/-- The reference, the exponentials. -/
def rE (q : FVec F S8192x8x128 .f32) (k : FVec F S8192x8x128 .f32) (c : FVec F S8x8192 .f32) : FVec F S8x8192x8192 .f32 :=
  Host.exp (subf (rSel q k c) (broadcastInDim S8x8192x8192 ![0, 1, 2] bcast_S8x8192x1_S8x8192x8192_0_1_2 (broadcastInDim S8x8192x1 ![0, 1] bcast_S8x8192_S8x8192x1_0_1 (rMax q k c))))

/-- The reference, the row sums. -/
def rL (q : FVec F S8192x8x128 .f32) (k : FVec F S8192x8x128 .f32) (c : FVec F S8x8192 .f32) : FVec F S8x8192 .f32 :=
  Host.reduceAdd (rE q k c) (constant S_ .f32 0x00000000#32) reducesTo_S8x8192x8192_S8x8192_d2 h_S_

/-- The reference, the row sums as a column. -/
def rL1 (q : FVec F S8192x8x128 .f32) (k : FVec F S8192x8x128 .f32) (c : FVec F S8x8192 .f32) : FVec F S8x8192x1 .f32 :=
  broadcastInDim S8x8192x1 ![0, 1] bcast_S8x8192_S8x8192x1_0_1 (rL q k c)

/-- The reference, the output gradient by head and column. -/
def rW (w : FVec F S8192x1024 .f32) : FVec F S8x128x8192 .f32 :=
  transpose S8x128x8192 [1, 2, 0] (shapeCast _ w shapeCasts_S8192x1024_S8192x8x128) transposes_S8192x8x128_S8x128x8192_1_2_0

/-- The reference, the probabilities' gradient. -/
def rDp (w : FVec F S8192x1024 .f32) (v : FVec F S8192x8x128 .f32) : FVec F S8x8192x8192 .f32 :=
  Host.dotGeneral dot_S8x128x8192_S8192x8x128_S8x8192x8192_1_2_2_0_0_1 none (rW w) v

/-- The reference, the row sums that the quotient rule takes. -/
def rR (q : FVec F S8192x8x128 .f32) (k : FVec F S8192x8x128 .f32) (c : FVec F S8x8192 .f32) (w : FVec F S8192x1024 .f32) (v : FVec F S8192x8x128 .f32) : FVec F S8x8192 .f32 :=
  Host.reduceAdd (mulf (mulf (rDp w v) (broadcastInDim S8x8192x8192 ![0, 1, 2] bcast_S8x8192x1_S8x8192x8192_0_1_2 (Host.divf (broadcastInDim S8x8192x1 ![] bcast_S_S8x8192x1 (constant S_ .f32 0x3F800000#32)) (mulf (rL1 q k c) (rL1 q k c))))) (rE q k c)) (constant S_ .f32 0x00000000#32) reducesTo_S8x8192x8192_S8x8192_d2 h_S_

/-- The reference, minus those row sums. -/
def rN (q : FVec F S8192x8x128 .f32) (k : FVec F S8192x8x128 .f32) (c : FVec F S8x8192 .f32) (w : FVec F S8192x1024 .f32) (v : FVec F S8192x8x128 .f32) : FVec F S8x8192 .f32 :=
  Host.reduceAdd (Host.negf (shapeCast _ (rR q k c w v) shapeCasts_S8x8192_S8x8192x1)) (constant S_ .f32 0x00000000#32) reducesTo_S8x8192x1_S8x8192_d2 h_S_

/-- The reference, the logits' gradient. -/
def rDs (q : FVec F S8192x8x128 .f32) (k : FVec F S8192x8x128 .f32) (c : FVec F S8x8192 .f32) (w : FVec F S8192x1024 .f32) (v : FVec F S8192x8x128 .f32) : FVec F S8x8192x8192 .f32 :=
  select rMask (mulf (addf (Host.divf (rDp w v) (broadcastInDim S8x8192x8192 ![0, 1, 2] bcast_S8x8192x1_S8x8192x8192_0_1_2 (rL1 q k c))) (broadcastInDim S8x8192x8192 ![0, 1] bcast_S8x8192_S8x8192x8192_0_1 (rN q k c w v))) (rE q k c)) (broadcastInDim S8x8192x8192 ![] bcast_S_S8x8192x8192 (constant S_ .f32 0x00000000#32))

/-- The reference, the probabilities. -/
def rP (q : FVec F S8192x8x128 .f32) (k : FVec F S8192x8x128 .f32) (c : FVec F S8x8192 .f32) : FVec F S8x8192x8192 .f32 :=
  Host.divf (rE q k c) (broadcastInDim S8x8192x8192 ![0, 1, 2] bcast_S8x8192x1_S8x8192x8192_0_1_2 (rL1 q k c))

/-- The reference, the logits' gradient over the root of 128. -/
def rSc (q : FVec F S8192x8x128 .f32) (k : FVec F S8192x8x128 .f32) (c : FVec F S8x8192 .f32) (w : FVec F S8192x1024 .f32) (v : FVec F S8192x8x128 .f32) : FVec F S8x8192x8192 .f32 :=
  Host.divf (rDs q k c w v) (broadcastInDim S8x8192x8192 ![] bcast_S_S8x8192x8192 (Host.sqrt (constant S_ .f32 0x43000000#32)))

/-- The reference, the queries' gradient beside the given columns. -/
def rOut0 (q : FVec F S8192x8x128 .f32) (k : FVec F S8192x8x128 .f32) (v : FVec F S8192x8x128 .f32) (c : FVec F S8x8192 .f32) (w : FVec F S8192x1024 .f32) (dz : FVec F S8192x7168 .bf16) : FVec F S8192x7168 .bf16 :=
  concatenate S8192x7168 1 [⟨S8192x1024, (truncf .bf16 (shapeCast _ (transpose S8192x8x128 [1, 0, 2] (Host.dotGeneral dot_S8x8192x8192_S8192x8x128_S8x8192x128_2_0_1_2_0_1 none (rSc q k c w v) k) transposes_S8x8192x128_S8192x8x128_1_0_2) shapeCasts_S8192x8x128_S8192x1024) bitsLt_bf16_f32)⟩, ⟨S8192x6144, (extractStridedSlice S8192x6144 ![0, 1024] dz slices_S8192x7168_S8192x6144_0_1024)⟩] concatenates_S8192x1024_S8192x6144_S8192x7168_d1

/-- Result 0 of the reference is the stage `rOut0` of the arguments. -/
theorem res_out0_eq (m : (ℓ : Loc nD τ sig) → Buf (Elt F) ℓ) (c : Dev nD) :
    Value.res_out0 m c = rOut0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) := rfl

/-- The reference, the keys' gradient, as tiles. -/
def rOut1 (q : FVec F S8192x8x128 .f32) (k : FVec F S8192x8x128 .f32) (v : FVec F S8192x8x128 .f32) (c : FVec F S8x8192 .f32) (w : FVec F S8192x1024 .f32) : FVec F S8x16x128x512 .f32 :=
  transpose S8x16x128x512 [2, 0, 3, 1] (shapeCast _ (Host.divf (transpose S8192x8x128 [1, 0, 2] (Host.dotGeneral dot_S8x8192x8192_S8192x8x128_S8x8192x128_1_0_2_2_0_1 none (rSc q k c w v) q) transposes_S8x8192x128_S8192x8x128_1_0_2) (broadcastInDim S8192x8x128 ![] bcast_S_S8192x8x128 (Host.log (constant S_ .f32 0x40000000#32)))) shapeCasts_S8192x8x128_S16x512x8x128) transposes_S16x512x8x128_S8x16x128x512_2_0_3_1

/-- Result 1 of the reference is the stage `rOut1` of the arguments. -/
theorem res_out1_eq (m : (ℓ : Loc nD τ sig) → Buf (Elt F) ℓ) (c : Dev nD) :
    Value.res_out1 m c = rOut1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) := rfl

/-- The reference, the values' gradient, as tiles. -/
def rOut2 (q : FVec F S8192x8x128 .f32) (k : FVec F S8192x8x128 .f32) (c : FVec F S8x8192 .f32) (w : FVec F S8192x1024 .f32) : FVec F S8x16x128x512 .f32 :=
  transpose S8x16x128x512 [2, 0, 3, 1] (shapeCast _ (transpose S8192x8x128 [2, 0, 1] (Host.dotGeneral dot_S8x128x8192_S8x8192x8192_S8x128x8192_2_1_1_2_0_0 none (rW w) (rP q k c)) transposes_S8x128x8192_S8192x8x128_2_0_1) shapeCasts_S8192x8x128_S16x512x8x128) transposes_S16x512x8x128_S8x16x128x512_2_0_3_1

/-- Result 2 of the reference is the stage `rOut2` of the arguments. -/
theorem res_out2_eq (m : (ℓ : Loc nD τ sig) → Buf (Elt F) ℓ) (c : Dev nD) :
    Value.res_out2 m c = rOut2 (m ((c.tc : Thread nD τ).loc main_arg0)) (m ((c.tc : Thread nD τ).loc main_arg1)) (m ((c.tc : Thread nD τ).loc main_arg3)) (m ((c.tc : Thread nD τ).loc main_arg5)) := rfl

/-- The reference, minus the gradient of the keys' gate. -/
def rOut3 (q : FVec F S8192x8x128 .f32) (k : FVec F S8192x8x128 .f32) (v : FVec F S8192x8x128 .f32) (c : FVec F S8x8192 .f32) (w : FVec F S8192x1024 .f32) : FVec F S8x16x512 .f32 :=
  Host.negf (shapeCast _ (Host.reduceAdd (shapeCast _ (Host.reduceAdd (Host.negf (rDs q k c w v)) (constant S_ .f32 0x00000000#32) reducesTo_S8x8192x8192_S8x8192_d1 h_S_) shapeCasts_S8x8192_S8x1x8192) (constant S_ .f32 0x00000000#32) reducesTo_S8x1x8192_S8x8192_d1 h_S_) shapeCasts_S8x8192_S8x16x512)

/-- Result 3 of the reference is the stage `rOut3` of the arguments. -/
theorem res_out3_eq (m : (ℓ : Loc nD τ sig) → Buf (Elt F) ℓ) (c : Dev nD) :
    Value.res_out3 m c = rOut3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) := rfl

/-- The reference, the gradient of the queries' gate. -/
def rOut4 (q : FVec F S8192x8x128 .f32) (k : FVec F S8192x8x128 .f32) (v : FVec F S8192x8x128 .f32) (c : FVec F S8x8192 .f32) (w : FVec F S8192x1024 .f32) : FVec F S8x16x1x512 .f32 :=
  shapeCast _ (Host.reduceAdd (shapeCast _ (Host.reduceAdd (rDs q k c w v) (constant S_ .f32 0x00000000#32) reducesTo_S8x8192x8192_S8x8192_d2 h_S_) shapeCasts_S8x8192_S8x8192x1) (constant S_ .f32 0x00000000#32) reducesTo_S8x8192x1_S8x8192_d2 h_S_) shapeCasts_S8x8192_S8x16x1x512

/-- Result 4 of the reference is the stage `rOut4` of the arguments. -/
theorem res_out4_eq (m : (ℓ : Loc nD τ sig) → Buf (Elt F) ℓ) (c : Dev nD) :
    Value.res_out4 m c = rOut4 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) := rfl

end Cert.ReferenceIdeal.Stage

end
-- ==== Proof.Spec.lean ====
/- The attention's derivative over the real numbers, one head at a time: the logits, the weights, their row sums, the
   probabilities and the gradients of the probabilities and of the logits. -/
module

public import Idealize.ShloMosaic.Lib.Pointwise

@[expose] public section

noncomputable section

namespace Fox

open Idealize.ShloMosaic

/-- A finite sum of real numbers, taken in the extended reals, is the real sum. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The column of head `h`'s coordinate `d` among the 1024 columns. -/
def col (h : Fin 8) (d : Fin 128) : Fin 1024 := ⟨h.val * 128 + d.val, by omega⟩

/-- The real numbers behind the arguments: queries, keys, values, gates and the output's gradient. -/
structure Args where
  q : Fin 8192 → Fin 8 → Fin 128 → ℝ
  k : Fin 8192 → Fin 8 → Fin 128 → ℝ
  v : Fin 8192 → Fin 8 → Fin 128 → ℝ
  c : Fin 8 → Fin 8192 → ℝ
  w : Fin 8192 → Fin 1024 → ℝ

variable (A : Args)

/-- The logit of query `t` and key `u`. -/
def lg (h : Fin 8) (t u : Fin 8192) : ℝ := (∑ d, A.q t h d * A.k u h d) * (1 / Real.sqrt 128) + A.c h t - A.c h u

/-- The weight of key `u` for query `t`: zero after the query. -/
def aw (h : Fin 8) (t u : Fin 8192) : ℝ := if u ≤ t then Real.exp (lg A h t u) else 0

/-- The sum of a query's weights. -/
def zs (h : Fin 8) (t : Fin 8192) : ℝ := ∑ u, aw A h t u

/-- The probability of key `u` for query `t`. -/
def pr (h : Fin 8) (t u : Fin 8192) : ℝ := aw A h t u / zs A h t

/-- The gradient of that probability. -/
def dp (h : Fin 8) (t u : Fin 8192) : ℝ := ∑ d, A.w t (col h d) * A.v u h d

/-- The probabilities' gradient averaged over the keys. -/
def dl (h : Fin 8) (t : Fin 8192) : ℝ := ∑ u, pr A h t u * dp A h t u

/-- The gradient of the logit. -/
def ds (h : Fin 8) (t u : Fin 8192) : ℝ := pr A h t u * (dp A h t u - dl A h t)

theorem aw_nonneg (h : Fin 8) (t u : Fin 8192) : 0 ≤ aw A h t u := by
  unfold aw; split_ifs
  · exact (Real.exp_pos _).le
  · exact le_rfl

/-- A query's weights have a positive sum: its own key has one. -/
theorem zs_pos (h : Fin 8) (t : Fin 8192) : 0 < zs A h t := by
  refine Finset.sum_pos' (fun u _ => aw_nonneg A h t u) ⟨t, Finset.mem_univ _, ?_⟩
  simp [aw, Real.exp_pos]

/-- The probability of a key after the query is zero. -/
theorem pr_eq_zero {h : Fin 8} {t u : Fin 8192} (hu : ¬ u ≤ t) : pr A h t u = 0 := by simp [pr, aw, hu]

/-- The logit's gradient of a key after the query is zero. -/
theorem ds_eq_zero {h : Fin 8} {t u : Fin 8192} (hu : ¬ u ≤ t) : ds A h t u = 0 := by simp [ds, pr_eq_zero A hu]

/-- The probability of a key not after the query, in one exponential. -/
theorem pr_eq_exp {h : Fin 8} {t u : Fin 8192} (hu : u ≤ t) : pr A h t u = Real.exp (lg A h t u - Real.log (zs A h t)) := by
  rw [Real.exp_sub, Real.exp_log (zs_pos A h t)]; simp [pr, aw, hu]

end Fox

end
-- ==== Proof.Consts.lean ====
/- The float constants of the two programs as the extended reals that their patterns denote, and the operations of the
   extended reals on real numbers. -/
module

public import proofs.«01_k».proof.Proof.Spec
public import Idealize.ShloMosaic.PureOps.Reduce

@[expose] public section

noncomputable section

namespace Fox

open Idealize.ShloMosaic

/-- The pattern of 128. -/
theorem bits_128 : Ideal.ofBits .f32 1124073472#32 = ((128 : ℝ) : EReal) := by
  simp [Ideal.ofBits, Ideal.ieee, -EReal.coe_mul]; norm_num

/-- The pattern of 2. -/
theorem bits_2 : Ideal.ofBits .f32 1073741824#32 = ((2 : ℝ) : EReal) := by
  simp [Ideal.ofBits, Ideal.ieee, -EReal.coe_mul]; norm_num

/-- The pattern of minus infinity. -/
theorem bits_bot : Ideal.ofBits .f32 4286578688#32 = (⊥ : EReal) := by
  simp [Ideal.ofBits, Ideal.ieee, -EReal.coe_mul]

/-- The pattern of one. -/
theorem bits_1 : Ideal.ofBits .f32 1065353216#32 = ((1 : ℝ) : EReal) := by
  simp [Ideal.ofBits, Ideal.ieee, -EReal.coe_mul]; norm_num

/-- The pattern of zero. -/
theorem bits_0 : Ideal.ofBits .f32 0#32 = ((0 : ℝ) : EReal) := by
  simp [Ideal.ofBits, Ideal.ieee, -EReal.coe_mul]

/-- A quotient of real numbers by a nonzero one. -/
theorem div_real {y : ℝ} (h : y ≠ 0) (x : ℝ) : Ideal.div (x : EReal) (y : EReal) = ((x / y : ℝ) : EReal) := by
  rw [Ideal.div_coe h, ← EReal.coe_mul, mul_one_div]

/-- The root of 128 is a positive real number. -/
theorem root_pos : 0 < Real.sqrt 128 := Real.sqrt_pos.mpr (by norm_num)

/-- The root of the pattern of 128. -/
theorem root_128 : Ideal.sqrt ((128 : ℝ) : EReal) = ((Real.sqrt 128 : ℝ) : EReal) := by
  rw [Ideal.sqrt_coe, if_neg (by norm_num)]

/-- The logarithm of 2 is a positive real number. -/
theorem ln2_pos : 0 < Real.log 2 := Real.log_pos (by norm_num)

/-- The logarithm of a positive real number. -/
theorem log_real {r : ℝ} (h : 0 < r) : Ideal.log (r : EReal) = ((Real.log r : ℝ) : EReal) := by
  rw [Ideal.log_coe, if_neg (not_le.mpr h)]

/-- The largest element of a reduction is real: none of its elements is plus infinity, and one of them is real. -/
theorem reduce_max_real {s t u : Shape} {axes : List (Fin s.rank)} (x : s.Idx → EReal) (init : u.Idx → EReal)
    (h : s.ReducesTo axes t) (hu : 0 < u.numel) (j : t.Idx) (hinit : init (Shape.Idx.first hu) = ⊥)
    (htop : ∀ i, h.drop i = j → x i ≠ ⊤) (i₀ : s.Idx) (hi : h.drop i₀ = j) (hx : x i₀ ≠ ⊥) :
    ∃ M : ℝ, Host.reduce (max : EReal → EReal → EReal) x init h hu j = (M : EReal) := by
  classical
  rw [Host.reduce_eq_fold, hinit]
  set S := Finset.univ.filter fun i => h.drop i = j with hS
  have key : ∀ T : Finset s.Idx, (∀ i ∈ T, x i ≠ ⊤) →
      Finset.fold (max : EReal → EReal → EReal) ⊥ x T ≠ ⊤ ∧ ∀ i ∈ T, x i ≤ Finset.fold (max : EReal → EReal → EReal) ⊥ x T := by
    intro T
    induction T using Finset.induction_on with
    | empty => intro _; simp
    | insert a T ha ih =>
      intro hT
      obtain ⟨h1, h2⟩ := ih fun i hi => hT i (Finset.mem_insert_of_mem hi)
      rw [Finset.fold_insert ha]
      refine ⟨?_, ?_⟩
      · rcases max_choice (x a) (Finset.fold (max : EReal → EReal → EReal) ⊥ x T) with e | e <;> rw [e]
        · exact hT a (Finset.mem_insert_self _ _)
        · exact h1
      · intro i hi
        rcases Finset.mem_insert.mp hi with rfl | hi
        · exact le_max_left _ _
        · exact (h2 i hi).trans (le_max_right _ _)
  obtain ⟨h1, h2⟩ := key S fun i hi => htop i (Finset.mem_filter.mp hi).2
  have h3 := h2 i₀ (Finset.mem_filter.mpr ⟨Finset.mem_univ _, hi⟩)
  refine ⟨_, (EReal.coe_toReal h1 ?_).symm⟩
  intro hb
  rw [hb] at h3
  exact hx (le_bot_iff.mp h3)

/-- A signed comparison of two small words is the comparison of their values. -/
theorem sle_small {a b : Nat} (ha : a < 2 ^ 31) (hb : b < 2 ^ 31) :
    IntOp.cmpi .sle (BitVec.ofNat 32 a) (BitVec.ofNat 32 b) = if a ≤ b then 1#1 else 0#1 := by
  have e : (BitVec.ofNat 32 a).sle (BitVec.ofNat 32 b) = decide (a ≤ b) := by
    rw [BitVec.sle_eq_decide, BitVec.toInt_ofNat', BitVec.toInt_ofNat']
    apply decide_eq_decide.mpr
    rw [Int.bmod_def, Int.bmod_def]
    omega
  simp only [IntOp.cmpi, e]
  by_cases hab : a ≤ b <;> simp [hab]

end Fox

end
-- ==== Proof.PayMath.lean ====
/- What each value the kernel's body computes holds at an index, over the real numbers. -/
module

public import proofs.«01_k».proof.Proof.Gen.KernelIdeal.Frame.Runs
public import proofs.«01_k».proof.Proof.Consts
public import Idealize.ShloMosaic.Lib.Pointwise

@[expose] public section

set_option maxRecDepth 16384

noncomputable section

namespace Cert.KernelIdeal.Own

open Idealize.ShloMosaic Idealize.ShloMosaic.TcCoe Idealize.ShloMosaic.Pointwise Cert.KernelIdeal Cert.KernelIdeal.Gen Fox

/-- The exponential in base 2 of the logits less the row offset. -/
theorem pay5_at (v4 : FVec Ideal S512x128 .bf16) (v18 : FVec Ideal S512x512 .f32) (kb : Vec Ideal S512x128 .bf16) (cr : Vec Ideal S1x1x512 .f32) (a b : Fin 512) :
    k0_pay5 v4 v18 kb cr (ix2 a b) = Ideal.exp2 ((∑ d, v4 (ix2 a d) * kb (ix2 b d)) - cr (ix3 0 0 b) - v18 (ix2 a b)) := by
  pointwise [k0_pay5, k0_pay4]
  rfl

/-- The gradient of the logits. -/
theorem pay6_at (v4 v6 : FVec Ideal S512x128 .bf16) (v18 v28 : FVec Ideal S512x512 .f32) (kb vb : Vec Ideal S512x128 .bf16) (cr : Vec Ideal S1x1x512 .f32) (a b : Fin 512) :
    k0_pay6 v4 v6 v18 v28 kb vb cr (ix2 a b) = k0_pay5 v4 v18 kb cr (ix2 a b) * ((∑ d, v6 (ix2 a d) * vb (ix2 b d)) - v28 (ix2 a b)) := by
  pointwise [k0_pay6]

/-- The queries' gradient gains a block of keys. -/
theorem pay8_at (v4 v6 : FVec Ideal S512x128 .bf16) (v18 v28 : FVec Ideal S512x512 .f32) (kb vb : Vec Ideal S512x128 .bf16) (cr : Vec Ideal S1x1x512 .f32) (s : Vec Ideal S512x128 .f32) (a : Fin 512) (d : Fin 128) :
    k0_pay8 v4 v6 v18 v28 kb vb cr s (ix2 a d) = s (ix2 a d) + ∑ b, k0_pay6 v4 v6 v18 v28 kb vb cr (ix2 a b) * kb (ix2 b d) := by
  pointwise [k0_pay8, k0_pay7, k0_pay4]

/-- The keys' gradient gains a block of queries. -/
theorem pay9_at (v4 v6 : FVec Ideal S512x128 .bf16) (v9 : FVec Ideal S128x512 .bf16) (v18 v28 : FVec Ideal S512x512 .f32) (kb vb : Vec Ideal S512x128 .bf16) (cr : Vec Ideal S1x1x512 .f32) (s : Vec Ideal S1x1x128x512 .f32) (d : Fin 128) (b : Fin 512) :
    k0_pay9 v4 v6 v9 v18 v28 kb vb cr s (ix4 0 0 d b) = s (ix4 0 0 d b) + ∑ a, v9 (ix2 d a) * k0_pay6 v4 v6 v18 v28 kb vb cr (ix2 a b) := by
  pointwise [k0_pay9, k0_pay7]

/-- The values' gradient gains a block of queries. -/
theorem pay28_at (v12 : FVec Ideal S128x512 .bf16) (P : FVec Ideal S512x512 .f32) (s : Vec Ideal S1x1x128x512 .f32) (d : Fin 128) (b : Fin 512) :
    k0_pay28 v12 P s (ix4 0 0 d b) = s (ix4 0 0 d b) + ∑ a, v12 (ix2 d a) * P (ix2 a b) := by
  pointwise [k0_pay28]

/-- The column sums gain a block. -/
theorem pay29_at (X : FVec Ideal S512x512 .f32) (s : Vec Ideal S1x1x512 .f32) (b : Fin 512) :
    k0_pay29 X s (ix3 0 0 b) = s (ix3 0 0 b) + ∑ a, X (ix2 a b) := by
  pointwise [k0_pay29]

/-- The row sums gain a block. -/
theorem pay30_at (X : FVec Ideal S512x512 .f32) (s : Vec Ideal S512x128 .f32) (a : Fin 512) (d : Fin 128) :
    k0_pay30 X s (ix2 a d) = s (ix2 a d) + ∑ b, X (ix2 a b) := by
  pointwise [k0_pay30]

/-- The row sums gain the diagonal block. -/
theorem pay1_at (X : FVec Ideal S512x512 .f32) (s : Vec Ideal S512x128 .f32) (a : Fin 512) (d : Fin 128) :
    k0_pay1 X s (ix2 a d) = s (ix2 a d) + ∑ b, X (ix2 a b) := by
  pointwise [k0_pay1]

/-- The scaled gradient of the queries. -/
theorem pay2_at (s : Vec Ideal S512x128 .f32) (a : Fin 512) (d : Fin 128) :
    k0_pay2 s (ix2 a d) = s (ix2 a d) * (((Real.sqrt 128)⁻¹ : ℝ) : EReal) := by
  pointwise [k0_pay2]
  rfl

/-- The row sums as a row. -/
theorem pay3_at (s : Vec Ideal S512x128 .f32) (a : Fin 512) :
    k0_pay3 s (ix4 0 0 0 a) = s (ix2 a 0) := by
  pointwise [k0_pay3]

/-- Zeros. -/
theorem pay16_at (j : Fin 16) (d : Fin 128) (b : Fin 512) : (k0_pay16 : FVec Ideal S1x16x128x512 .f32) (ix4 0 j d b) = 0 := by
  pointwise [k0_pay16]
theorem pay17_at (j : Fin 16) (d : Fin 128) (b : Fin 512) : (k0_pay17 : FVec Ideal S1x16x128x512 .f32) (ix4 0 j d b) = 0 := by
  pointwise [k0_pay17]
theorem pay18_at (j : Fin 16) (b : Fin 512) : (k0_pay18 : FVec Ideal S1x16x512 .f32) (ix3 0 j b) = 0 := by
  pointwise [k0_pay18]
theorem pay25_at (a : Fin 512) (d : Fin 128) : (k0_pay25 : FVec Ideal S512x128 .f32) (ix2 a d) = 0 := by
  pointwise [k0_pay25]
theorem pay27_at (a : Fin 512) (d : Fin 128) : (k0_pay27 k0_pay26 : FVec Ideal S512x128 .f32) (ix2 a d) = 0 := by
  pointwise [k0_pay26, k0_pay27]

theorem pay19_at (x : Vec Ideal S512x128 .bf16) (a : Fin 512) (d : Fin 128) : k0_pay19 x (ix2 a d) = x (ix2 a d) := by
  pointwise [k0_pay19]
theorem pay20_at (x : Vec Ideal S512x128 .bf16) (a : Fin 512) (d : Fin 128) : k0_pay20 x (ix2 a d) = x (ix2 a d) := by
  pointwise [k0_pay20]
theorem pay21_at (x : Vec Ideal S512x128 .bf16) (a : Fin 512) (d : Fin 128) : k0_pay21 x (ix2 d a) = x (ix2 a d) := by
  pointwise [k0_pay21, k0_pay19]
theorem pay22_at (x : Vec Ideal S512x128 .bf16) (a : Fin 512) (d : Fin 128) : k0_pay22 x (ix2 d a) = x (ix2 a d) := by
  pointwise [k0_pay22, k0_pay20]
theorem pay34_at (x : Vec Ideal S512x128 .bf16) (a : Fin 512) (d : Fin 128) : k0_pay34 x (ix2 a d) = x (ix2 a d) := by
  pointwise [k0_pay34]

/-- The row offsets, from lanes that all hold the same. -/
theorem pay23_at (x y : Vec Ideal S1x512x128 .f32) (a b : Fin 512) (r : EReal) (h : ∀ d, (x (ix3 0 a d) : EReal) - y (ix3 0 a d) = r) : k0_pay23 x y (ix2 a b) = r := by
  pointwise [k0_pay23]
  split_ifs <;> exact h _

/-- The row sums of the output's gradient times the output. -/
theorem pay24_at (x y : Vec Ideal S512x128 .bf16) (a b : Fin 512) : k0_pay24 x y (ix2 a b) = ∑ d, x (ix2 a d) * y (ix2 a d) := by
  pointwise [k0_pay24, k0_pay20]
  split_ifs <;> rfl

/-- The exponentials on the diagonal block, zero after the query. -/
theorem pay35_at (n : ℕ) (hn : n < 16) (v4 : FVec Ideal S512x128 .bf16) (v18 : FVec Ideal S512x512 .f32) (kb : Vec Ideal S512x128 .bf16) (cr : Vec Ideal S1x1x512 .f32) (a b : Fin 512) :
    k0_pay35 (BitVec.ofNat 32 n) v4 v18 kb cr (ix2 a b) = if b ≤ a then Ideal.exp2 ((∑ d, v4 (ix2 a d) * kb (ix2 b d)) - cr (ix3 0 0 b) - v18 (ix2 a b)) else 0 := by
  pointwise [k0_pay35, k0_pay34]
  have e : ∀ x : Fin 512, IntOp.addi (Scalar.muli (BitVec.ofNat 32 n) 512#32) (BitVec.ofNat 32 x.val) = BitVec.ofNat 32 (n * 512 + x.val) := by
    intro x
    apply BitVec.eq_of_toNat_eq
    simp only [IntOp.addi, IntOp.muli, Scalar.muli, BitVec.toNat_add, BitVec.toNat_mul, BitVec.toNat_ofNat]
    omega
  rw [e, e, sle_small (by omega) (by omega)]
  by_cases h : b ≤ a
  · rw [if_pos h, if_pos (by have : b.val ≤ a.val := h; omega)]; rfl
  · rw [if_neg h, if_neg (by have : ¬b.val ≤ a.val := h; omega)]; rfl

theorem pay36_at (n : BitVec 32) (v4 v6 : FVec Ideal S512x128 .bf16) (v18 v28 : FVec Ideal S512x512 .f32) (kb vb : Vec Ideal S512x128 .bf16) (cr : Vec Ideal S1x1x512 .f32) (a b : Fin 512) :
    k0_pay36 n v4 v6 v18 v28 kb vb cr (ix2 a b) = k0_pay35 n v4 v18 kb cr (ix2 a b) * ((∑ d, v6 (ix2 a d) * vb (ix2 b d)) - v28 (ix2 a b)) := by
  pointwise [k0_pay36]

theorem pay37_at (n : BitVec 32) (v4 v6 : FVec Ideal S512x128 .bf16) (v18 v28 : FVec Ideal S512x512 .f32) (kb vb : Vec Ideal S512x128 .bf16) (cr : Vec Ideal S1x1x512 .f32) (a b : Fin 512) :
    k0_pay37 n v4 v6 v18 v28 kb vb cr (ix2 a b) = k0_pay36 n v4 v6 v18 v28 kb vb cr (ix2 a b) := by
  pointwise [k0_pay37]

theorem pay38_at (kb : FVec Ideal S512x128 .bf16) (X : FVec Ideal S512x512 .bf16) (s : Vec Ideal S512x128 .f32) (a : Fin 512) (d : Fin 128) :
    k0_pay38 kb X s (constant S512x128 .f32 0x00000000#32) (ix2 a d) = s (ix2 a d) + ∑ b, X (ix2 a b) * kb (ix2 b d) := by
  pointwise [k0_pay38]
theorem pay39_at (v9 : FVec Ideal S128x512 .bf16) (X : FVec Ideal S512x512 .bf16) (s : Vec Ideal S1x1x128x512 .f32) (d : Fin 128) (b : Fin 512) :
    k0_pay39 v9 X s (ix4 0 0 d b) = s (ix4 0 0 d b) + ∑ a, v9 (ix2 d a) * X (ix2 a b) := by
  pointwise [k0_pay39]
theorem pay40_at (v12 : FVec Ideal S128x512 .bf16) (P : FVec Ideal S512x512 .f32) (s : Vec Ideal S1x1x128x512 .f32) (d : Fin 128) (b : Fin 512) :
    k0_pay40 v12 P s (ix4 0 0 d b) = s (ix4 0 0 d b) + ∑ a, v12 (ix2 d a) * P (ix2 a b) := by
  pointwise [k0_pay40]
theorem pay41_at (X : FVec Ideal S512x512 .f32) (s : Vec Ideal S1x1x512 .f32) (b : Fin 512) :
    k0_pay41 X s (ix3 0 0 b) = s (ix3 0 0 b) + ∑ a, X (ix2 a b) := by
  pointwise [k0_pay41]

end Cert.KernelIdeal.Own

end
-- ==== Proof.StepMath.lean ====
/- What one block of keys adds to each accumulator, over the real numbers. -/
module

public import proofs.«01_k».proof.Proof.RunI
public import proofs.«01_k».proof.Proof.PayMath
public import proofs.«01_k».proof.Proof.Spec
public import Idealize.ShloMosaic.Lib.Pipeline.ValueKit.Tiles

@[expose] public section

set_option maxRecDepth 16384

noncomputable section

namespace Fox

/-- The position of row `s` of block `j` among the 8192. -/
def pos (j : Fin 16) (s : Fin 512) : Fin 8192 := ⟨j.val * 512 + s.val, by omega⟩

variable (A : Args) (h : Fin 8)

/-- What the block of keys `j` adds to the queries' gradient of block `i`. -/
def gQ (i j : Fin 16) (a : Fin 512) (d : Fin 128) : ℝ := ∑ b, ds A h (pos i a) (pos j b) * A.k (pos j b) h d
/-- What it adds to the row sums. -/
def gR (i j : Fin 16) (a : Fin 512) : ℝ := ∑ b, ds A h (pos i a) (pos j b)
/-- What the block of queries `i` adds to the keys' gradient of block `j`. -/
def gK (i j : Fin 16) (d : Fin 128) (b : Fin 512) : ℝ := ∑ a, A.q (pos i a) h d / (Real.sqrt 128 * Real.log 2) * ds A h (pos i a) (pos j b)
/-- What it adds to the values' gradient. -/
def gV (i j : Fin 16) (d : Fin 128) (b : Fin 512) : ℝ := ∑ a, A.w (pos i a) (col h d) * pr A h (pos i a) (pos j b)
/-- What it adds to the column sums. -/
def gC (i j : Fin 16) (b : Fin 512) : ℝ := ∑ a, ds A h (pos i a) (pos j b)

theorem not_le {i j : Fin 16} (hij : i.val < j.val) (a b : Fin 512) : ¬ pos j b ≤ pos i a := by
  intro hh
  have : j.val * 512 + b.val ≤ i.val * 512 + a.val := hh
  omega

/-- Blocks of keys after the queries add nothing. -/
theorem gQ_zero {i j : Fin 16} (hij : i.val < j.val) (a : Fin 512) (d : Fin 128) : gQ A h i j a d = 0 :=
  Finset.sum_eq_zero fun b _ => by rw [ds_eq_zero A (not_le hij a b), zero_mul]
theorem gR_zero {i j : Fin 16} (hij : i.val < j.val) (a : Fin 512) : gR A h i j a = 0 :=
  Finset.sum_eq_zero fun b _ => ds_eq_zero A (not_le hij a b)
theorem gK_zero {i j : Fin 16} (hij : i.val < j.val) (d : Fin 128) (b : Fin 512) : gK A h i j d b = 0 :=
  Finset.sum_eq_zero fun a _ => by rw [ds_eq_zero A (not_le hij a b), mul_zero]
theorem gV_zero {i j : Fin 16} (hij : i.val < j.val) (d : Fin 128) (b : Fin 512) : gV A h i j d b = 0 :=
  Finset.sum_eq_zero fun a _ => by rw [pr_eq_zero A (not_le hij a b), mul_zero]
theorem gC_zero {i j : Fin 16} (hij : i.val < j.val) (b : Fin 512) : gC A h i j b = 0 :=
  Finset.sum_eq_zero fun a _ => ds_eq_zero A (not_le hij a b)

end Fox

namespace Cert.KernelIdeal.Own

open Idealize.ShloMosaic Idealize.ShloMosaic.TcCoe Idealize.ShloMosaic.Pointwise Cert.KernelIdeal Cert.KernelIdeal.Gen Fox

/-- A row of an array of sixteen blocks, overwritten: that row is new, the others are as before. -/
theorem row4 {α : Type} (j : Fin 16) {off : Fin 4 → ℕ} (ho : off = ![0, j.val, 0, 0]) (inb : ∀ a, off a + S1x1x128x512.size a ≤ S1x16x128x512.size a)
    (X : S1x16x128x512.Idx → α) (G : S1x1x128x512.Idx → α) (l : Fin 16) (d : Fin 128) (b : Fin 512) :
    (Rect.unit (s := S1x16x128x512) off S1x1x128x512.size inb).overlay X G (ix4 0 l d b) = if l = j then G (ix4 0 0 d b) else X (ix4 0 l d b) := by
  subst ho
  split_ifs with hl
  · subst hl
    have e : (ix4 0 l d b : S1x16x128x512.Idx) = (Rect.unit (s := S1x16x128x512) _ S1x1x128x512.size inb).emb (ix4 0 0 d b : S1x1x128x512.Idx) := by
      funext a; apply Fin.ext
      rw [Rect.emb_apply]
      fin_cases a <;> simp [Rect.unit, ix4]
    rw [e, Rect.overlay_emb]
  · refine Rect.overlay_of_not_mem _ _ _ fun hm => hl ?_
    rw [← Rect.map_emb_univ] at hm
    obtain ⟨x, -, hx⟩ := Finset.mem_map.mp hm
    have := congrArg Fin.val (congrFun hx 1)
    rw [Rect.emb_apply] at this
    have h1 : (x 1).val < 1 := (x 1).isLt
    apply Fin.ext
    simp [Rect.unit, ix4] at this
    omega

/-- The same for rank three. -/
theorem row3 {α : Type} (j : Fin 16) {off : Fin 3 → ℕ} (ho : off = ![0, j.val, 0]) (inb : ∀ a, off a + S1x1x512.size a ≤ S1x16x512.size a)
    (X : S1x16x512.Idx → α) (G : S1x1x512.Idx → α) (l : Fin 16) (b : Fin 512) :
    (Rect.unit (s := S1x16x512) off S1x1x512.size inb).overlay X G (ix3 0 l b) = if l = j then G (ix3 0 0 b) else X (ix3 0 l b) := by
  subst ho
  split_ifs with hl
  · subst hl
    have e : (ix3 0 l b : S1x16x512.Idx) = (Rect.unit (s := S1x16x512) _ S1x1x512.size inb).emb (ix3 0 0 b : S1x1x512.Idx) := by
      funext a; apply Fin.ext
      rw [Rect.emb_apply]
      fin_cases a <;> simp [Rect.unit, ix3]
    rw [e, Rect.overlay_emb]
  · refine Rect.overlay_of_not_mem _ _ _ fun hm => hl ?_
    rw [← Rect.map_emb_univ] at hm
    obtain ⟨x, -, hx⟩ := Finset.mem_map.mp hm
    have := congrArg Fin.val (congrFun hx 1)
    rw [Rect.emb_apply] at this
    have h1 : (x 1).val < 1 := (x 1).isLt
    apply Fin.ext
    simp [Rect.unit, ix3] at this
    omega

/-- Loading one row. -/
theorem ld4 {e : EltTy} (j : Fin 16) {off : Fin 4 → ℕ} (ho : off = ![0, j.val, 0, 0]) (inb : ∀ a, off a + S1x1x128x512.size a ≤ S1x16x128x512.size a)
    (X : S1x16x128x512.Idx → Elt Ideal e) (d : Fin 128) (b : Fin 512) :
    View.ld X (Rect.unit (s := S1x16x128x512) off S1x1x128x512.size inb) (ix4 0 0 d b : S1x1x128x512.Idx) = X (ix4 0 j d b) := by
  subst ho
  refine View.ld_unit_apply_of X _ _ inb _ _ fun a => ?_
  fin_cases a <;> simp [ix4]

theorem ld3 {e : EltTy} (j : Fin 16) {off : Fin 3 → ℕ} (ho : off = ![0, j.val, 0]) (inb : ∀ a, off a + S1x1x512.size a ≤ S1x16x512.size a)
    (X : S1x16x512.Idx → Elt Ideal e) (b : Fin 512) :
    View.ld X (Rect.unit (s := S1x16x512) off S1x1x512.size inb) (ix3 0 0 b : S1x1x512.Idx) = X (ix3 0 j b) := by
  subst ho
  refine View.ld_unit_apply_of X _ _ inb _ _ fun a => ?_
  fin_cases a <;> simp [ix3]

theorem ld2 {e : EltTy} (j : Fin 16) (o : ℕ) {off : Fin 2 → ℕ} (ho : off = ![512 * j.val, o]) (inb : ∀ a, off a + S512x128.size a ≤ S8192x256.size a)
    (X : S8192x256.Idx → Elt Ideal e) (b : Fin 512) (d : Fin 128) (x : Fin 256) (hx : x.val = o + d.val) :
    View.ld X (Rect.unit (s := S8192x256) off S512x128.size inb) (ix2 b d : S512x128.Idx) = X (ix2 (pos j b) x) := by
  subst ho
  refine View.ld_unit_apply_of X _ _ inb _ _ fun a => ?_
  fin_cases a <;> simp [ix2, pos, hx] <;> omega

section
variable (A : Args) (h : Fin 8) (i : Fin 16)

/-- The values a grid point prepares hold the real numbers of head `h` and block of queries `i`. -/
structure PreAt (p : Pre Ideal) : Prop where
  v4 : ∀ a d, p.v4 (ix2 a d) = ((A.q (pos i a) h d / (Real.sqrt 128 * Real.log 2) : ℝ) : EReal)
  v6 : ∀ a d, p.v6 (ix2 a d) = ((A.w (pos i a) (col h d) : ℝ) : EReal)
  v9 : ∀ d a, p.v9 (ix2 d a) = ((A.q (pos i a) h d / (Real.sqrt 128 * Real.log 2) : ℝ) : EReal)
  v12 : ∀ d a, p.v12 (ix2 d a) = ((A.w (pos i a) (col h d) : ℝ) : EReal)
  v18 : ∀ a b, p.v18 (ix2 a b) = ((Real.log (zs A h (pos i a)) / Real.log 2 - A.c h (pos i a) / Real.log 2 : ℝ) : EReal)
  v28 : ∀ a b, p.v28 (ix2 a b) = ((dl A h (pos i a) : ℝ) : EReal)

/-- The blocks of keys, values and gates hold the real numbers of head `h`. -/
structure KeysAt (x1 : Vec Ideal S8192x256 .bf16) (x6 : Vec Ideal S1x16x512 .f32) : Prop where
  k : ∀ (u : Fin 8192) (d : Fin 128) (x : Fin 256), x.val = 0 + d.val → x1 (ix2 u x) = ((A.k u h d : ℝ) : EReal)
  v : ∀ (u : Fin 8192) (d : Fin 128) (x : Fin 256), x.val = 128 + d.val → x1 (ix2 u x) = ((A.v u h d : ℝ) : EReal)
  c : ∀ (j : Fin 16) (b : Fin 512), x6 (ix3 0 j b) = ((A.c h (pos j b) / Real.log 2 : ℝ) : EReal)

/-- The accumulators hold given real numbers. -/
structure Holds (s : St Ideal) (q : Fin 512 → Fin 128 → ℝ) (r : Fin 512 → ℝ) (k v : Fin 16 → Fin 128 → Fin 512 → ℝ) (c : Fin 16 → Fin 512 → ℝ) : Prop where
  q : ∀ a d, s.a15 (ix2 a d) = ((q a d : ℝ) : EReal)
  r : ∀ a d, s.a16 (ix2 a d) = ((r a : ℝ) : EReal)
  k : ∀ l d b, s.g11 (ix4 0 l d b) = ((k l d b : ℝ) : EReal)
  v : ∀ l d b, s.g12 (ix4 0 l d b) = ((v l d b : ℝ) : EReal)
  c : ∀ l b, s.g13 (ix3 0 l b) = ((c l b : ℝ) : EReal)

end

variable {A : Args} {h : Fin 8} {i j : Fin 16} {p : Pre Ideal}

/-- The logit in base 2 less the logarithm of the row's sum. -/
theorem base2 (A : Args) (h : Fin 8) (t u : Fin 8192) :
    (∑ d, A.q t h d / (Real.sqrt 128 * Real.log 2) * A.k u h d) - A.c h u / Real.log 2 - (Real.log (zs A h t) / Real.log 2 - A.c h t / Real.log 2)
      = (lg A h t u - Real.log (zs A h t)) / Real.log 2 := by
  have e : ∑ d, A.q t h d / (Real.sqrt 128 * Real.log 2) * A.k u h d = (∑ d, A.q t h d * A.k u h d) * (1 / Real.sqrt 128) / Real.log 2 := by
    rw [Finset.sum_mul, Finset.sum_div]
    refine Finset.sum_congr rfl fun d _ => ?_
    have := root_pos.ne'; have := ln2_pos.ne'
    field_simp
  rw [e, lg]
  ring

/-- Two to the power of a quotient by the logarithm of 2. -/
theorem two_pow (x : ℝ) : Ideal.exp2 ((x / Real.log 2 : ℝ) : EReal) = ((Real.exp x : ℝ) : EReal) := by
  rw [Ideal.exp2_coe]
  refine congrArg (fun y : ℝ => (y : EReal)) ?_
  change (2 : ℝ) ^ (x / Real.log 2) = Real.exp x
  rw [Real.rpow_def_of_pos (by norm_num)]
  congr 1
  have := ln2_pos.ne'
  field_simp

/-- The unmasked exponentials. -/
theorem exps (P : PreAt A h i p) (kb : Vec Ideal S512x128 .bf16) (cr : Vec Ideal S1x1x512 .f32)
    (hk : ∀ b d, kb (ix2 b d) = ((A.k (pos j b) h d : ℝ) : EReal)) (hc : ∀ b, cr (ix3 0 0 b) = ((A.c h (pos j b) / Real.log 2 : ℝ) : EReal)) (a b : Fin 512) :
    Ideal.exp2 ((∑ d, p.v4 (ix2 a d) * kb (ix2 b d)) - cr (ix3 0 0 b) - p.v18 (ix2 a b))
      = ((Real.exp (lg A h (pos i a) (pos j b) - Real.log (zs A h (pos i a))) : ℝ) : EReal) := by
  simp only [P.v4, P.v18, hk, hc, ← EReal.coe_mul, coe_sum, ← EReal.coe_sub]
  rw [base2, two_pow]

/-- The gradients of the probabilities less their average. -/
theorem grads (P : PreAt A h i p) (vb : Vec Ideal S512x128 .bf16)
    (hv : ∀ b d, vb (ix2 b d) = ((A.v (pos j b) h d : ℝ) : EReal)) (a b : Fin 512) :
    (∑ d, p.v6 (ix2 a d) * vb (ix2 b d)) - p.v28 (ix2 a b) = ((dp A h (pos i a) (pos j b) - dl A h (pos i a) : ℝ) : EReal) := by
  simp only [P.v6, P.v28, hv, ← EReal.coe_mul, coe_sum, ← EReal.coe_sub]
  rfl

section
variable (P : PreAt A h i p) (kb vb : Vec Ideal S512x128 .bf16) (cr : Vec Ideal S1x1x512 .f32)
    (hk : ∀ b d, kb (ix2 b d) = ((A.k (pos j b) h d : ℝ) : EReal)) (hv : ∀ b d, vb (ix2 b d) = ((A.v (pos j b) h d : ℝ) : EReal))
    (hc : ∀ b, cr (ix3 0 0 b) = ((A.c h (pos j b) / Real.log 2 : ℝ) : EReal)) (a b : Fin 512)
include P hk hc

/-- Before the diagonal the exponentials are the probabilities. -/
theorem pay5_real (hij : j.val < i.val) : k0_pay5 p.v4 p.v18 kb cr (ix2 a b) = ((pr A h (pos i a) (pos j b) : ℝ) : EReal) := by
  rw [pay5_at]
  refine (exps P kb cr hk hc a b).trans ?_
  rw [pr_eq_exp A (show (pos j b).val ≤ (pos i a).val by simp only [pos]; omega)]

include hv in
/-- Before the diagonal the products are the logits' gradients. -/
theorem pay6_real (hij : j.val < i.val) : k0_pay6 p.v4 p.v6 p.v18 p.v28 kb vb cr (ix2 a b) = ((ds A h (pos i a) (pos j b) : ℝ) : EReal) := by
  rw [pay6_at, pay5_real P kb cr hk hc a b hij]
  refine (congrArg _ (grads P vb hv a b)).trans ?_
  rw [← EReal.coe_mul]; rfl

/-- On the diagonal the masked exponentials are the probabilities. -/
theorem pay35_real (hij : j = i) : k0_pay35 (BitVec.ofNat 32 i.val) p.v4 p.v18 kb cr (ix2 a b) = ((pr A h (pos i a) (pos j b) : ℝ) : EReal) := by
  rw [pay35_at i.val i.isLt]
  subst hij
  by_cases hb : b ≤ a
  · rw [if_pos hb]
    refine (exps P kb cr hk hc a b).trans ?_
    rw [pr_eq_exp A (show (pos j b).val ≤ (pos j a).val by have : b.val ≤ a.val := hb; simp only [pos]; omega)]
  · rw [if_neg hb, pr_eq_zero A (show ¬(pos j b).val ≤ (pos j a).val by have : ¬b.val ≤ a.val := hb; simp only [pos]; omega)]
    rfl

include hv in
/-- On the diagonal the products are the logits' gradients. -/
theorem pay36_real (hij : j = i) : k0_pay36 (BitVec.ofNat 32 i.val) p.v4 p.v6 p.v18 p.v28 kb vb cr (ix2 a b) = ((ds A h (pos i a) (pos j b) : ℝ) : EReal) := by
  rw [pay36_at, pay35_real P kb cr hk hc a b hij]
  refine (congrArg _ (grads P vb hv a b)).trans ?_
  rw [← EReal.coe_mul]; rfl

end

/-- The accumulators with the part of block of keys `j` added. -/
def Adds (A : Args) (h : Fin 8) (i j : Fin 16) (s : St Ideal) (q : Fin 512 → Fin 128 → ℝ) (r : Fin 512 → ℝ) (k v : Fin 16 → Fin 128 → Fin 512 → ℝ) (c : Fin 16 → Fin 512 → ℝ) : Prop :=
  Holds s (fun a d => q a d + gQ A h i j a d) (fun a => r a + gR A h i j a) (fun l d b => k l d b + if l = j then gK A h i j d b else 0)
    (fun l d b => v l d b + if l = j then gV A h i j d b else 0) (fun l b => c l b + if l = j then gC A h i j b else 0)

variable {x1 : Vec Ideal S8192x256 .bf16} {x6 : Vec Ideal S1x16x512 .f32} {s : St Ideal} {q : Fin 512 → Fin 128 → ℝ} {r : Fin 512 → ℝ}
    {k v : Fin 16 → Fin 128 → Fin 512 → ℝ} {c : Fin 16 → Fin 512 → ℝ}

/-- One trip of the loop adds its block of keys. -/
theorem step_adds (P : PreAt A h i p) (K : KeysAt A h x1 x6) (H : Holds s q r k v c) (ic : grid0.Coords) (n : Fin (k0_t1_loop ic).trips)
    (hn : n.val = j.val) (hij : j.val < i.val) : Adds A h i j (step ic x1 x6 p n s) q r k v c := by
  have o1 : k0_off1 ic n = ![512 * j.val, 0] := by rw [k0_off1_eq, hn]
  have o2 : k0_off2 ic n = ![512 * j.val, 128] := by rw [k0_off2_eq, hn]
  have o3 : k0_off3 ic n = ![0, j.val, 0] := by rw [k0_off3_eq, hn]
  have o4 : k0_off4 ic n = ![0, j.val, 0, 0] := by rw [k0_off4_eq, hn]
  have hk : ∀ b d, (View.ld x1 (Rect.unit (s := S8192x256) (k0_off1 ic n) S512x128.size (k0_off1_inb ic n)) : Vec Ideal S512x128 .bf16) (ix2 b d) = ((A.k (pos j b) h d : ℝ) : EReal) :=
    fun b d => (ld2 j 0 o1 _ x1 b d ⟨0 + d.val, by omega⟩ rfl).trans (K.k _ d _ rfl)
  have hv : ∀ b d, (View.ld x1 (Rect.unit (s := S8192x256) (k0_off2 ic n) S512x128.size (k0_off2_inb ic n)) : Vec Ideal S512x128 .bf16) (ix2 b d) = ((A.v (pos j b) h d : ℝ) : EReal) :=
    fun b d => (ld2 j 128 o2 _ x1 b d ⟨128 + d.val, by omega⟩ rfl).trans (K.v _ d _ rfl)
  have hc : ∀ b, (View.ld x6 (Rect.unit (s := S1x16x512) (k0_off3 ic n) S1x1x512.size (k0_off3_inb ic n)) : Vec Ideal S1x1x512 .f32) (ix3 0 0 b) = ((A.c h (pos j b) / Real.log 2 : ℝ) : EReal) :=
    fun b => (ld3 j o3 _ x6 b).trans (K.c j b)
  have h5 := fun a b => pay5_real P _ _ hk hc a b hij
  have h6 := fun a b => pay6_real P _ _ _ hk hv hc a b hij
  unfold step
  dsimp only
  constructor
  · intro a d
    dsimp only
    rw [pay8_at, H.q]
    simp only [h6, hk, ← EReal.coe_mul, coe_sum, ← EReal.coe_add]
    rfl
  · intro a d
    dsimp only
    rw [pay30_at, H.r]
    simp only [h6, coe_sum, ← EReal.coe_add]
    rfl
  · intro l d b
    dsimp only
    rw [row4 j o4]
    by_cases hl : l = j
    · subst hl
      rw [if_pos rfl, if_pos rfl, pay9_at, ld4 l o4, H.k]
      simp only [h6, P.v9, ← EReal.coe_mul, coe_sum, ← EReal.coe_add]
      rfl
    · rw [if_neg hl, if_neg hl, H.k, add_zero]
  · intro l d b
    dsimp only
    rw [row4 j o4]
    by_cases hl : l = j
    · subst hl
      rw [if_pos rfl, if_pos rfl, pay28_at, ld4 l o4, H.v]
      simp only [h5, P.v12, ← EReal.coe_mul, coe_sum, ← EReal.coe_add]
      rfl
    · rw [if_neg hl, if_neg hl, H.v, add_zero]
  · intro l b
    dsimp only
    rw [row3 j o3]
    by_cases hl : l = j
    · subst hl
      rw [if_pos rfl, if_pos rfl, pay29_at, ld3 l o3, H.c]
      simp only [h6, coe_sum, ← EReal.coe_add]
      rfl
    · rw [if_neg hl, if_neg hl, H.c, add_zero]

end Cert.KernelIdeal.Own

end
-- ==== Proof.PointMath.lean ====
/- What the accumulators hold after one grid point, over the real numbers. -/
module

public import proofs.«01_k».proof.Proof.StepMath

@[expose] public section

set_option maxRecDepth 16384

noncomputable section

namespace Cert.KernelIdeal.Own

open Idealize.ShloMosaic Idealize.ShloMosaic.TcCoe Idealize.ShloMosaic.Pointwise Cert.KernelIdeal Cert.KernelIdeal.Gen Fox

variable {A : Args} {h : Fin 8} {i j : Fin 16} {p : Pre Ideal}
variable {x1 : Vec Ideal S8192x256 .bf16} {x6 : Vec Ideal S1x16x512 .f32} {s : St Ideal} {q : Fin 512 → Fin 128 → ℝ} {r : Fin 512 → ℝ}
    {k v : Fin 16 → Fin 128 → Fin 512 → ℝ} {c : Fin 16 → Fin 512 → ℝ}

/-- The loop over keys runs once for each block before the diagonal. -/
theorem trips_eq : ∀ ic : grid0.Coords, (k0_t1_loop ic).trips = (ic 1).val := by decide +kernel

/-- A sum over the blocks before block `n + 1`. -/
theorem sum_before (f : Fin 16 → ℝ) (n : ℕ) (hn : n < 16) :
    (∑ j : Fin 16, if j.val < n + 1 then f j else 0) = (∑ j : Fin 16, if j.val < n then f j else 0) + f ⟨n, hn⟩ := by
  have e : ∀ j : Fin 16, (if j.val < n + 1 then f j else 0) = (if j.val < n then f j else 0) + (if j = ⟨n, hn⟩ then f j else 0) := by
    intro j
    rcases lt_trichotomy j.val n with hj | hj | hj
    · rw [if_pos (by omega), if_pos hj, if_neg (fun e => by rw [e] at hj; simp at hj), add_zero]
    · rw [if_pos (by omega), if_neg (by omega), if_pos (Fin.ext hj), zero_add]
    · rw [if_neg (by omega), if_neg (by omega), if_neg (fun e => by rw [e] at hj; simp at hj), add_zero]
  rw [Finset.sum_congr rfl fun j _ => e j, Finset.sum_add_distrib, Finset.sum_ite_eq' Finset.univ]
  simp

/-- One row more. -/
theorem row_before (x g : ℝ) (l : Fin 16) (n : ℕ) (hn : n < 16) :
    (x + if l.val < n then g else 0) + (if l = ⟨n, hn⟩ then g else 0) = x + if l.val < n + 1 then g else 0 := by
  have e : (l = ⟨n, hn⟩) ↔ l.val = n := ⟨fun e => by rw [e], fun e => Fin.ext e⟩
  simp only [e]
  rcases lt_trichotomy l.val n with hj | hj | hj
  · simp [hj, hj.ne, Nat.lt_succ_of_lt hj]
  · simp [hj]
  · simp [hj.ne', Nat.not_lt.mpr hj.le, show ¬ l.val < n + 1 by omega]

/-- The accumulators with the first `n` blocks of keys added to empty sums and given rows. -/
def Upto (A : Args) (h : Fin 8) (i : Fin 16) (n : ℕ) (s : St Ideal) (k v : Fin 16 → Fin 128 → Fin 512 → ℝ) (c : Fin 16 → Fin 512 → ℝ) : Prop :=
  Holds s (fun a d => ∑ j : Fin 16, if j.val < n then gQ A h i j a d else 0) (fun a => ∑ j : Fin 16, if j.val < n then gR A h i j a else 0)
    (fun l d b => k l d b + if l.val < n then gK A h i l d b else 0)
    (fun l d b => v l d b + if l.val < n then gV A h i l d b else 0) (fun l b => c l b + if l.val < n then gC A h i l b else 0)

/-- A block more than the first `n` makes the first `n + 1`. -/
theorem Upto.succ {n : ℕ} (hn : n < 16) (H : Adds A h i ⟨n, hn⟩ s (fun a d => ∑ j : Fin 16, if j.val < n then gQ A h i j a d else 0) (fun a => ∑ j : Fin 16, if j.val < n then gR A h i j a else 0)
    (fun l d b => k l d b + if l.val < n then gK A h i l d b else 0)
    (fun l d b => v l d b + if l.val < n then gV A h i l d b else 0) (fun l b => c l b + if l.val < n then gC A h i l b else 0)) :
    Upto A h i (n + 1) s k v c := by
  have e : ∀ (f g : Fin 16 → ℝ) (l : Fin 16), (if l = ⟨n, hn⟩ then f ⟨n, hn⟩ else 0) = if l = ⟨n, hn⟩ then f l else 0 := by
    intro f g l; split_ifs with hl
    · rw [hl]
    · rfl
  constructor
  · intro a d; rw [H.q]; exact congrArg _ (sum_before (fun j => gQ A h i j a d) n hn).symm
  · intro a d; rw [H.r]; exact congrArg _ (sum_before (fun j => gR A h i j a) n hn).symm
  · intro l d b; rw [H.k]; refine congrArg _ ?_
    rw [e (fun j => gK A h i j d b) 0, row_before]
  · intro l d b; rw [H.v]; refine congrArg _ ?_
    rw [e (fun j => gV A h i j d b) 0, row_before]
  · intro l b; rw [H.c]; refine congrArg _ ?_
    rw [e (fun j => gC A h i j b) 0, row_before]

/-- The loop over keys adds the blocks before the diagonal. -/
theorem steps_upto (P : PreAt A h i p) (K : KeysAt A h x1 x6) (ic : grid0.Coords) (hi : (ic 1).val = i.val) (H : Upto A h i 0 s k v c) :
    ∀ n : ℕ, n ≤ i.val → Upto A h i n (steps ic x1 x6 p s n) k v c := by
  intro n
  induction n with
  | zero => intro _; exact H
  | succ n ih =>
    intro hn
    have ht : n < (k0_t1_loop ic).trips := by rw [trips_eq, hi]; omega
    have hs := steps_succ ic x1 x6 p s ⟨n, ht⟩
    dsimp only at hs
    rw [hs]
    exact Upto.succ (by omega) (step_adds P K (ih (by omega)) ic ⟨n, ht⟩ rfl (by simp only; omega))

/-- The diagonal block joins. -/
theorem diag_adds (P : PreAt A h i p) (K : KeysAt A h x1 x6) (H : Holds s q r k v c) (ic : grid0.Coords) (hi : (ic 1).val = i.val)
    (kd vd : Vec Ideal S512x128 .bf16) (cd : Vec Ideal S1x1x512 .f32)
    (hk : ∀ b d, kd (ix2 b d) = ((A.k (pos i b) h d : ℝ) : EReal)) (hv : ∀ b d, vd (ix2 b d) = ((A.v (pos i b) h d : ℝ) : EReal))
    (hc : ∀ b, cd (ix3 0 0 b) = ((A.c h (pos i b) / Real.log 2 : ℝ) : EReal)) :
    Adds A h i i { diag ic p.v9 p.v12 (k0_pay34 kd) (k0_pay35 (BitVec.ofNat 32 (ic 1).val) p.v4 p.v18 kd cd)
        (k0_pay36 (BitVec.ofNat 32 (ic 1).val) p.v4 p.v6 p.v18 p.v28 kd vd cd) (k0_pay37 (BitVec.ofNat 32 (ic 1).val) p.v4 p.v6 p.v18 p.v28 kd vd cd)
        (constant S512x128 .f32 0x00000000#32) s with a16 := k0_pay1 (k0_pay36 (BitVec.ofNat 32 (ic 1).val) p.v4 p.v6 p.v18 p.v28 kd vd cd) s.a16 } q r k v c := by
  have o3 : k0_off11 ic = ![0, i.val, 0] := by rw [k0_off11_eq, hi]
  have o4 : k0_off12 ic = ![0, i.val, 0, 0] := by rw [k0_off12_eq, hi]
  rw [hi]
  have h5 := fun a b => pay35_real P _ _ hk hc a b rfl
  have h6 := fun a b => pay36_real P _ _ _ hk hv hc a b rfl
  unfold diag
  constructor
  · intro a d
    dsimp only
    rw [pay38_at, H.q]
    simp only [pay37_at, pay34_at, h6, hk, ← EReal.coe_mul, coe_sum, ← EReal.coe_add]
    rfl
  · intro a d
    dsimp only
    rw [pay1_at, H.r]
    simp only [h6, coe_sum, ← EReal.coe_add]
    rfl
  · intro l d b
    dsimp only
    rw [row4 i o4]
    by_cases hl : l = i
    · subst hl
      rw [if_pos rfl, if_pos rfl, pay39_at, ld4 l o4, H.k]
      simp only [pay37_at, h6, P.v9, ← EReal.coe_mul, coe_sum, ← EReal.coe_add]
      rfl
    · rw [if_neg hl, if_neg hl, H.k, add_zero]
  · intro l d b
    dsimp only
    rw [row4 i o4]
    by_cases hl : l = i
    · subst hl
      rw [if_pos rfl, if_pos rfl, pay40_at, ld4 l o4, H.v]
      simp only [h5, P.v12, ← EReal.coe_mul, coe_sum, ← EReal.coe_add]
      rfl
    · rw [if_neg hl, if_neg hl, H.v, add_zero]
  · intro l b
    dsimp only
    rw [row3 i o3]
    by_cases hl : l = i
    · subst hl
      rw [if_pos rfl, if_pos rfl, pay41_at, ld3 l o3, H.c]
      simp only [h6, coe_sum, ← EReal.coe_add]
      rfl
    · rw [if_neg hl, if_neg hl, H.c, add_zero]

/-- Blocks after the diagonal add nothing, so the sums over the first blocks are the sums over all. -/
theorem sum_all (f : Fin 16 → ℝ) (i : Fin 16) (hf : ∀ j : Fin 16, i.val < j.val → f j = 0) :
    (∑ j : Fin 16, if j.val < i.val + 1 then f j else 0) = ∑ j, f j :=
  Finset.sum_congr rfl fun j _ => by
    split_ifs with hj
    · rfl
    · exact (hf j (by omega)).symm

/-- What one grid point leaves: full sums over the keys, and every row with this block of queries added. -/
theorem final_holds (ic : grid0.Coords) (hi : (ic 1).val = i.val) (x0 x2 x3 : Vec Ideal S512x128 .bf16) (x4 x5 : Vec Ideal S1x512x128 .f32)
    (g11 g12 : Vec Ideal S1x16x128x512 .f32) (g13 : Vec Ideal S1x16x512 .f32)
    (P : PreAt A h i (pre x0 x2 x3 x4 x5)) (K : KeysAt A h x1 x6)
    (hg1 : ∀ l d b, (start ic g11 g12 g13).g11 (ix4 0 l d b) = ((k l d b : ℝ) : EReal))
    (hg2 : ∀ l d b, (start ic g11 g12 g13).g12 (ix4 0 l d b) = ((v l d b : ℝ) : EReal))
    (hg3 : ∀ l b, (start ic g11 g12 g13).g13 (ix3 0 l b) = ((c l b : ℝ) : EReal)) :
    Holds (final ic x0 x1 x2 x3 x4 x5 x6 g11 g12 g13) (fun a d => ∑ j, gQ A h i j a d) (fun a => ∑ j, gR A h i j a)
      (fun l d b => k l d b + gK A h i l d b) (fun l d b => v l d b + gV A h i l d b) (fun l b => c l b + gC A h i l b) := by
  have H0 : Upto A h i 0 (start ic g11 g12 g13) k v c := by
    constructor
    · intro a d; simp only [Nat.not_lt_zero, if_false, Finset.sum_const_zero]; exact pay25_at a d
    · intro a d; simp only [Nat.not_lt_zero, if_false, Finset.sum_const_zero]; exact pay27_at a d
    · intro l d b; simp only [Nat.not_lt_zero, if_false, add_zero]; exact hg1 l d b
    · intro l d b; simp only [Nat.not_lt_zero, if_false, add_zero]; exact hg2 l d b
    · intro l b; simp only [Nat.not_lt_zero, if_false, add_zero]; exact hg3 l b
  have H1 := steps_upto P K ic hi H0 (k0_t1_loop ic).trips (by rw [trips_eq, hi])
  rw [show (k0_t1_loop ic).trips = i.val by rw [trips_eq, hi]] at H1
  have o1 : k0_off9 ic = ![512 * i.val, 0] := by rw [k0_off9_eq, hi]
  have o2 : k0_off10 ic = ![512 * i.val, 128] := by rw [k0_off10_eq, hi]
  have o3 : k0_off11 ic = ![0, i.val, 0] := by rw [k0_off11_eq, hi]
  have hk : ∀ b d, kd ic x1 (ix2 b d) = ((A.k (pos i b) h d : ℝ) : EReal) :=
    fun b d => (ld2 i 0 o1 _ x1 b d ⟨0 + d.val, by omega⟩ rfl).trans (K.k _ d _ rfl)
  have hv : ∀ b d, vd ic x1 (ix2 b d) = ((A.v (pos i b) h d : ℝ) : EReal) :=
    fun b d => (ld2 i 128 o2 _ x1 b d ⟨128 + d.val, by omega⟩ rfl).trans (K.v _ d _ rfl)
  have hc : ∀ b, cd ic x6 (ix3 0 0 b) = ((A.c h (pos i b) / Real.log 2 : ℝ) : EReal) :=
    fun b => (ld3 i o3 _ x6 b).trans (K.c i b)
  have H2 := Upto.succ i.isLt (diag_adds P K H1 ic hi _ _ _ hk hv hc)
  have e : final ic x0 x1 x2 x3 x4 x5 x6 g11 g12 g13 = _ := final.eq_1 (F := Ideal) ic x0 x1 x2 x3 x4 x5 x6 g11 g12 g13
  rw [e]
  dsimp only
  rw [show (k0_t1_loop ic).trips = i.val by rw [trips_eq, hi]]
  have hz : ∀ (x : ℝ) (f : Fin 16 → ℝ) (l : Fin 16), (∀ j : Fin 16, i.val < j.val → f j = 0) → (x + if l.val < i.val + 1 then f l else 0) = x + f l := by
    intro x f l hf
    split_ifs with hl
    · rfl
    · rw [hf l (by omega)]
  constructor
  · intro a d; refine (H2.q a d).trans (congrArg _ (sum_all _ i fun j hj => gQ_zero A h hj a d))
  · intro a d; refine (H2.r a d).trans (congrArg _ (sum_all _ i fun j hj => gR_zero A h hj a))
  · intro l d b; refine (H2.k l d b).trans (congrArg _ (hz _ (fun j => gK A h i j d b) l fun j hj => gK_zero A h hj d b))
  · intro l d b; refine (H2.v l d b).trans (congrArg _ (hz _ (fun j => gV A h i j d b) l fun j hj => gV_zero A h hj d b))
  · intro l b; refine (H2.c l b).trans (congrArg _ (hz _ (fun j => gC A h i j b) l fun j hj => gC_zero A h hj b))

end Cert.KernelIdeal.Own

end
-- ==== Proof.HostI.lean ====
/- What the host code hands to the kernel: each array the kernel reads, as a term of the arguments, in stages. -/
module

public import proofs.«01_k».proof.Proof.Gen.KernelIdeal.Frame.Runs
public import Idealize.ShloMosaic.Lib.StableHlo.RunRead

@[expose] public section

set_option maxRecDepth 16384

noncomputable section

namespace Cert.KernelIdeal.Own

open Idealize.ShloMosaic Idealize.ShloMosaic.TcCoe Idealize.ShloMosaic.StableHlo Cert.KernelIdeal Cert.KernelIdeal.Gen

variable {F : FTy → Type} [FloatOps F] [Named F]

/-- The masked logits of the forward pass. -/
def hSel (q k : FVec F S8192x8x128 .f32) (c : FVec F S8x8192 .f32) : FVec F S8x8192x8192 .f32 :=
  select (broadcastInDim S8x8192x8192 ![1, 2] bcast_S8192x8192_S8x8192x8192_1_2 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0)))))
    (subf (addf (Host.divf (Host.dotGeneral dot_S8192x8x128_S8192x8x128_S8x8192x8192_2_2_0_0_1_1 none q k) (broadcastInDim S8x8192x8192 ![] bcast_S_S8x8192x8192 (Host.sqrt (constant S_ .f32 0x43000000#32)))) (broadcastInDim S8x8192x8192 ![0, 1, 2] bcast_S8x8192x1_S8x8192x8192_0_1_2 (broadcastInDim S8x8192x1 ![0, 1] bcast_S8x8192_S8x8192x1_0_1 c))) (broadcastInDim S8x8192x8192 ![0, 1, 2] bcast_S8x1x8192_S8x8192x8192_0_1_2 (broadcastInDim S8x1x8192 ![0, 2] bcast_S8x8192_S8x1x8192_0_2 c)))
    (broadcastInDim S8x8192x8192 ![] bcast_S_S8x8192x8192 (id (constant S_ .f32 0xFF800000#32)))

/-- The largest logit of each row. -/
def hMax (q k : FVec F S8192x8x128 .f32) (c : FVec F S8x8192 .f32) : FVec F S8x8192 .f32 :=
  Host.reduce FloatOps.maximumf (hSel q k c) (constant S_ .f32 0xFF800000#32) reducesTo_S8x8192x8192_S8x8192_d2 h_S_

/-- The exponentials. -/
def hE (q k : FVec F S8192x8x128 .f32) (c : FVec F S8x8192 .f32) : FVec F S8x8192x8192 .f32 :=
  Host.exp (subf (hSel q k c) (broadcastInDim S8x8192x8192 ![0, 1, 2] bcast_S8x8192x1_S8x8192x8192_0_1_2 (broadcastInDim S8x8192x1 ![0, 1] bcast_S8x8192_S8x8192x1_0_1 (hMax q k c))))

/-- The row sums, as a column. -/
def hL1 (q k : FVec F S8192x8x128 .f32) (c : FVec F S8x8192 .f32) : FVec F S8x8192x1 .f32 :=
  broadcastInDim S8x8192x1 ![0, 1] bcast_S8x8192_S8x8192x1_0_1 (Host.reduceAdd (hE q k c) (constant S_ .f32 0x00000000#32) reducesTo_S8x8192x8192_S8x8192_d2 h_S_)

/-- The attention's output. -/
def hO (q k v : FVec F S8192x8x128 .f32) (c : FVec F S8x8192 .f32) : FVec F S8192x1024 .bf16 :=
  truncf .bf16 (shapeCast _ (transpose S8192x8x128 [2, 0, 1] (Host.dotGeneral dot_S8192x8x128_S8x8192x8192_S8x128x8192_0_2_2_1_1_0 none v (Host.divf (hE q k c) (broadcastInDim S8x8192x8192 ![0, 1, 2] bcast_S8x8192x1_S8x8192x8192_0_1_2 (hL1 q k c)))) transposes_S8x128x8192_S8192x8x128_2_0_1) shapeCasts_S8192x8x128_S8192x1024) bitsLt_bf16_f32

/-- The logarithm of 2. -/
def hLn2 : FVec F S_ .f32 := Host.log (constant S_ .f32 0x40000000#32)

/-- The logarithm of each row's sum, in base 2, along the lanes. -/
def hLse (q k : FVec F S8192x8x128 .f32) (c : FVec F S8x8192 .f32) : FVec F S8x8192x128 .f32 :=
  broadcastInDim S8x8192x128 ![0, 1, 2] bcast_S8x8192x1_S8x8192x128_0_1_2 (Host.divf (addf (broadcastInDim S8x8192x1 ![0, 1] bcast_S8x8192_S8x8192x1_0_1 (hMax q k c)) (Host.log (hL1 q k c))) (broadcastInDim S8x8192x1 ![] bcast_S_S8x8192x1 hLn2))

/-- The gates in base 2. -/
def hC2 (c : FVec F S8x8192 .f32) : FVec F S8x8192 .f32 := Host.divf c (broadcastInDim S8x8192 ![] bcast_S_S8x8192 hLn2)

/-- The gates in base 2, along the lanes. -/
def hCc (c : FVec F S8x8192 .f32) : FVec F S8x8192x128 .f32 :=
  broadcastInDim S8x8192x128 ![0, 1, 2] bcast_S8x8192x1_S8x8192x128_0_1_2 (broadcastInDim S8x8192x1 ![0, 1] bcast_S8x8192_S8x8192x1_0_1 (hC2 c))

/-- The gates in base 2, by blocks of 512. -/
def hCr (c : FVec F S8x8192 .f32) : FVec F S8x16x512 .f32 := shapeCast _ (hC2 c) shapeCasts_S8x8192_S8x16x512

/-- The scaled queries. -/
def hQ (q : FVec F S8192x8x128 .f32) : FVec F S8192x1024 .bf16 :=
  truncf .bf16 (shapeCast _ (Host.divf q (broadcastInDim S8192x8x128 ![] bcast_S_S8192x8x128 (mulf (Host.sqrt (constant S_ .f32 0x43000000#32)) hLn2))) shapeCasts_S8192x8x128_S8192x1024) bitsLt_bf16_f32

/-- The keys and values, a head's keys before its values. -/
def hKv (k v : FVec F S8192x8x128 .f32) : FVec F S8192x2048 .bf16 :=
  truncf .bf16 (shapeCast _ (concatenate S8192x8x2x128 2 [⟨S8192x8x1x128, broadcastInDim S8192x8x1x128 ![0, 1, 3] bcast_S8192x8x128_S8192x8x1x128_0_1_3 k⟩, ⟨S8192x8x1x128, broadcastInDim S8192x8x1x128 ![0, 1, 3] bcast_S8192x8x128_S8192x8x1x128_0_1_3 v⟩] concatenates_S8192x8x1x128_S8192x8x1x128_S8192x8x2x128_d2) shapeCasts_S8192x8x2x128_S8192x2048) bitsLt_bf16_f32

/-- The queries, the keys and values, and the remaining columns, side by side. -/
def hZ (q k v : FVec F S8192x8x128 .f32) (g : FVec F S8192x4096 .bf16) : FVec F S8192x7168 .bf16 :=
  concatenate S8192x7168 1 [⟨S8192x1024, hQ q⟩, ⟨S8192x2048, hKv k v⟩, ⟨S8192x4096, g⟩] concatenates_S8192x1024_S8192x2048_S8192x4096_S8192x7168_d1

variable (m : (ℓ : Loc nD τ sig) → Buf (Elt F) ℓ) (c : Dev nD)

/-- The first array the kernel stages. -/
theorem V_z : V m c main_v42 = hZ (m ((c.tc : Thread nD τ).loc main_arg0)) (m ((c.tc : Thread nD τ).loc main_arg1)) (m ((c.tc : Thread nD τ).loc main_arg2)) (m ((c.tc : Thread nD τ).loc main_arg4)) := by
  unfold V hostOps0 hostOps0_1 hostOps0_2
  simp only [List.flatten_cons, List.flatten_nil, List.append_nil, List.cons_append, List.nil_append]
  after_reads_simp
  rfl

/-- The output's gradient. -/
theorem V_do : V m c main_v51 = truncf .bf16 (m ((c.tc : Thread nD τ).loc main_arg5) : FVec F S8192x1024 .f32) bitsLt_bf16_f32 := by
  unfold V hostOps0 hostOps0_1 hostOps0_2
  simp only [List.flatten_cons, List.flatten_nil, List.append_nil, List.cons_append, List.nil_append]
  after_reads_simp

/-- The attention's output. -/
theorem V_o : V m c main_v53 = hO (m ((c.tc : Thread nD τ).loc main_arg0)) (m ((c.tc : Thread nD τ).loc main_arg1)) (m ((c.tc : Thread nD τ).loc main_arg2)) (m ((c.tc : Thread nD τ).loc main_arg3)) := by
  unfold V hostOps0 hostOps0_1 hostOps0_2
  simp only [List.flatten_cons, List.flatten_nil, List.append_nil, List.cons_append, List.nil_append]
  after_reads_simp
  rfl

/-- The logarithms of the row sums. -/
theorem V_lse : V m c main_v49 = hLse (m ((c.tc : Thread nD τ).loc main_arg0)) (m ((c.tc : Thread nD τ).loc main_arg1)) (m ((c.tc : Thread nD τ).loc main_arg3)) := by
  unfold V hostOps0 hostOps0_1 hostOps0_2
  simp only [List.flatten_cons, List.flatten_nil, List.append_nil, List.cons_append, List.nil_append]
  after_reads_simp
  rfl

/-- The gates along the lanes. -/
theorem V_cc : V m c main_v46 = hCc (m ((c.tc : Thread nD τ).loc main_arg3)) := by
  unfold V hostOps0 hostOps0_1 hostOps0_2
  simp only [List.flatten_cons, List.flatten_nil, List.append_nil, List.cons_append, List.nil_append]
  after_reads_simp
  rfl

/-- The gates by blocks. -/
theorem V_cr : V m c main_v50 = hCr (m ((c.tc : Thread nD τ).loc main_arg3)) := by
  unfold V hostOps0 hostOps0_1 hostOps0_2
  simp only [List.flatten_cons, List.flatten_nil, List.append_nil, List.cons_append, List.nil_append]
  after_reads_simp
  rfl

/-- The array the first result is written into. -/
theorem V_dz : V m c main_v54_0 = (m ((c.tc : Thread nD τ).loc main_arg6)) := by
  unfold V hostOps0 hostOps0_1 hostOps0_2
  simp only [List.flatten_cons, List.flatten_nil, List.append_nil, List.cons_append, List.nil_append]
  after_reads_simp
  rfl

end Cert.KernelIdeal.Own

end
-- ==== Proof.RefMath.lean ====
/- The reference's results at real arguments: each stage of the attention's derivative is the real number that the
   specification gives it. -/
module

public import proofs.«01_k».proof.Proof.RefStages
public import proofs.«01_k».proof.Proof.Consts
public import Idealize.ShloMosaic.Lib.Pointwise

@[expose] public section

set_option maxRecDepth 16384

noncomputable section

namespace Cert.ReferenceIdeal.Stage

open Idealize.ShloMosaic Idealize.ShloMosaic.TcCoe Idealize.ShloMosaic.StableHlo Cert.ReferenceIdeal Cert.ReferenceIdeal.Gen Idealize.ShloMosaic.Pointwise Fox

/-- The arrays hold the real numbers `A`. -/
structure Lifts (A : Args) (q k v : FVec Ideal S8192x8x128 .f32) (c : FVec Ideal S8x8192 .f32) (w : FVec Ideal S8192x1024 .f32) : Prop where
  q : ∀ t h d, q (ix3 t h d) = ((A.q t h d : ℝ) : EReal)
  k : ∀ t h d, k (ix3 t h d) = ((A.k t h d : ℝ) : EReal)
  v : ∀ t h d, v (ix3 t h d) = ((A.v t h d : ℝ) : EReal)
  c : ∀ h t, c (ix2 h t) = ((A.c h t : ℝ) : EReal)
  w : ∀ t j, w (ix2 t j) = ((A.w t j : ℝ) : EReal)

variable {A : Args} {q k v : FVec Ideal S8192x8x128 .f32} {c : FVec Ideal S8x8192 .f32} {w : FVec Ideal S8192x1024 .f32}

/-- The mask at a row and a column. -/
theorem rMask_at (h : Fin 8) (t u : Fin 8192) : rMask (ix3 h t u) = if u ≤ t then 1#1 else 0#1 := by
  pointwise [rMask]
  rw [sle_small (by omega) (by omega)]; rfl

/-- The masked logits: real on and before the query, minus infinity after it. -/
theorem rSel_at (L : Lifts A q k v c w) (h : Fin 8) (t u : Fin 8192) :
    rSel q k c (ix3 h t u) = if u ≤ t then ((lg A h t u : ℝ) : EReal) else ⊥ := by
  have e := rMask_at h t u
  pointwise [rSel, rLogit] at e ⊢
  rw [e]
  split_ifs with hu
  · simp only [Scalar.select, L.q, L.k, L.c, ← EReal.coe_mul, coe_sum, bits_128, root_128, div_real root_pos.ne', ← EReal.coe_add, ← EReal.coe_sub]
    simp [lg, div_eq_mul_inv]
  · simp only [Scalar.select]
    simp [constant, bits_bot]

/-- The largest of two arrays at an index. -/
theorem maximumf_at {s : Shape} (a b : FVec Ideal s .f32) (i : s.Idx) : maximumf a b i = max (a i : EReal) (b i) := rfl

/-- The larger of two numbers, as the program's operation. -/
theorem maximumf_fun : (FloatOps.maximumf : Ideal .f32 → Ideal .f32 → Ideal .f32) = (max : EReal → EReal → EReal) := rfl

/-- Every index of the scores has three coordinates. -/
theorem idx3 (i : S8x8192x8192.Idx) : ∃ a b d, i = ix3 a b d := ⟨i 0, i 1, i 2, by funext x; fin_cases x <;> rfl⟩

/-- The scores of a row. -/
theorem drop3 (h : Fin 8) (t u : Fin 8192) : reducesTo_S8x8192x8192_S8x8192_d2.drop (ix3 h t u) = ix2 h t := by
  funext b
  apply Fin.ext
  fin_cases b
  · exact Shape.ReducesTo.drop_apply_val_of_eq reducesTo_S8x8192x8192_S8x8192_d2 (ix3 h t u) 0 0
  · exact Shape.ReducesTo.drop_apply_val_of_eq reducesTo_S8x8192x8192_S8x8192_d2 (ix3 h t u) 1 1

/-- The largest logit of a row is real. -/
theorem rMax_real (L : Lifts A q k v c w) (h : Fin 8) (t : Fin 8192) : ∃ M : ℝ, rMax q k c (ix2 h t) = (M : EReal) := by
  obtain ⟨M, hM⟩ := reduce_max_real (rSel q k c) (constant (F := Ideal) S_ .f32 0xFF800000#32) reducesTo_S8x8192x8192_S8x8192_d2 h_S_ (ix2 h t)
    bits_bot (fun i _ => by
      obtain ⟨a, b, d, rfl⟩ := idx3 i
      rw [rSel_at L]; split_ifs <;> simp)
    (ix3 h t t) (drop3 h t t) (by rw [rSel_at L]; simp)
  refine ⟨M, ?_⟩
  unfold rMax
  rw [maximumf_at, maximumf_fun, hM]
  rw [show broadcastInDim S8x8192 ![] bcast_S_S8x8192 (constant (F := Ideal) S_ .f32 0xFF800000#32) (ix2 h t) = (⊥ : EReal) from bits_bot]
  simp

/-- The row's largest logit as a real number. -/
def mx (q k : FVec Ideal S8192x8x128 .f32) (c : FVec Ideal S8x8192 .f32) (h : Fin 8) (t : Fin 8192) : ℝ := (rMax q k c (ix2 h t) : EReal).toReal

theorem rMax_at (L : Lifts A q k v c w) (h : Fin 8) (t : Fin 8192) : rMax q k c (ix2 h t) = ((mx q k c h t : ℝ) : EReal) := by
  obtain ⟨M, hM⟩ := rMax_real L h t
  rw [mx, hM]; simp

/-- The exponentials: the weights over the exponential of the row's largest logit. -/
theorem rE_at (L : Lifts A q k v c w) (h : Fin 8) (t u : Fin 8192) :
    rE q k c (ix3 h t u) = ((aw A h t u * Real.exp (- mx q k c h t) : ℝ) : EReal) := by
  have e1 := rSel_at L h t u
  have e2 := rMax_at L h t
  pointwise [rE]
  rw [e1, e2]
  by_cases hu : u ≤ t
  · rw [if_pos hu, ← EReal.coe_sub, Ideal.exp_coe, aw, if_pos hu, ← Real.exp_add, sub_eq_add_neg]
  · rw [if_neg hu, aw, if_neg hu]; simp

theorem rL_at (L : Lifts A q k v c w) (h : Fin 8) (t : Fin 8192) :
    rL q k c (ix2 h t) = ((zs A h t * Real.exp (- mx q k c h t) : ℝ) : EReal) := by
  have e1 := rE_at L h t
  pointwise [rL]
  simp only [e1, coe_sum]
  rw [zs, Finset.sum_mul]

theorem l_pos (A : Args) (h : Fin 8) (t : Fin 8192) (M : ℝ) : 0 < zs A h t * Real.exp (-M) := mul_pos (zs_pos A h t) (Real.exp_pos _)

theorem rP_at (L : Lifts A q k v c w) (h : Fin 8) (t u : Fin 8192) : rP q k c (ix3 h t u) = ((pr A h t u : ℝ) : EReal) := by
  have e1 := rE_at L h t u
  have e2 := rL_at L h t
  pointwise [rP, rL1]
  rw [e1, e2, div_real (l_pos A h t _).ne', mul_div_mul_right _ _ (Real.exp_pos _).ne']; rfl

theorem rDp_at (L : Lifts A q k v c w) (h : Fin 8) (t u : Fin 8192) : rDp w v (ix3 h t u) = ((dp A h t u : ℝ) : EReal) := by
  pointwise [rDp, rW]
  simp only [L.v, L.w, ← EReal.coe_mul, coe_sum]
  rfl

/-- One over the square of a row's sum. -/
theorem one_div_l (A : Args) (h : Fin 8) (t : Fin 8192) (M : ℝ) :
    Ideal.div 1 ((zs A h t * Real.exp (-M) * (zs A h t * Real.exp (-M)) : ℝ) : EReal) = ((1 / (zs A h t * Real.exp (-M) * (zs A h t * Real.exp (-M))) : ℝ) : EReal) :=
  div_real (mul_pos (l_pos A h t M) (l_pos A h t M)).ne' 1

theorem rR_at (L : Lifts A q k v c w) (h : Fin 8) (t : Fin 8192) :
    rR q k c w v (ix2 h t) = ((dl A h t / (zs A h t * Real.exp (- mx q k c h t)) : ℝ) : EReal) := by
  have e1 := rE_at L h t
  have e2 := rL_at L h t
  have e3 := rDp_at L h t
  pointwise [rR, rL1]
  simp only [e1, e2, e3, one_div_l A h t (mx q k c h t), ← EReal.coe_mul, coe_sum]
  refine congrArg _ ?_
  rw [dl, Finset.sum_div]
  apply Finset.sum_congr rfl
  intro u _
  have := (zs_pos A h t).ne'
  have := (Real.exp_pos (- mx q k c h t)).ne'
  rw [pr]; field_simp

theorem rN_at (L : Lifts A q k v c w) (h : Fin 8) (t : Fin 8192) :
    rN q k c w v (ix2 h t) = ((- (dl A h t / (zs A h t * Real.exp (- mx q k c h t))) : ℝ) : EReal) := by
  have e1 := rR_at L h t
  pointwise [rN]
  simp [e1]

theorem rDs_at (L : Lifts A q k v c w) (h : Fin 8) (t u : Fin 8192) : rDs q k c w v (ix3 h t u) = ((ds A h t u : ℝ) : EReal) := by
  have e0 := rMask_at h t u
  have e1 := rE_at L h t u
  have e2 := rL_at L h t
  have e3 := rDp_at L h t u
  have e4 := rN_at L h t
  pointwise [rDs, rL1]
  rw [e0, e1, e2, e3, e4]
  by_cases hu : u ≤ t
  · rw [if_pos hu, div_real (l_pos A h t _).ne', ← EReal.coe_add, ← EReal.coe_mul]
    rw [Scalar.select, if_pos (show (1#1 : BitVec 1) = 1 from rfl)]
    have h1 := (zs_pos A h t).ne'
    have h2 := (Real.exp_pos (- mx q k c h t)).ne'
    refine congrArg _ ?_
    rw [ds, pr]; field_simp; ring
  · rw [if_neg hu, ds_eq_zero A hu]; simp [Scalar.select]

theorem rSc_at (L : Lifts A q k v c w) (h : Fin 8) (t u : Fin 8192) : rSc q k c w v (ix3 h t u) = ((ds A h t u / Real.sqrt 128 : ℝ) : EReal) := by
  have e1 := rDs_at L h t u
  pointwise [rSc]
  rw [e1, bits_128, root_128, div_real root_pos.ne']

/-- The queries' gradient, and the given columns after it. -/
theorem rOut0_at (L : Lifts A q k v c w) (dz : FVec Ideal S8192x7168 .bf16) (t : Fin 8192) (j : Fin 7168) :
    rOut0 q k v c w dz (ix2 t j) = if hj : j.val < 1024 then
      (((∑ u, ds A ⟨j.val / 128, by omega⟩ t u * A.k u ⟨j.val / 128, by omega⟩ ⟨j.val % 128, by omega⟩) / Real.sqrt 128 : ℝ) : EReal)
      else dz (ix2 t j) := by
  pointwise [rOut0]
  split_ifs with hj
  · simp only [rSc_at L, L.k, ← EReal.coe_mul, coe_sum]
    congr 1
    rw [Finset.sum_div]
    exact Finset.sum_congr rfl fun u _ => div_mul_eq_mul_div _ _ _
  all_goals
    refine congrArg (fun y => dz (ix2 t y)) (Fin.ext ?_)
    show 1024 + (j.val - 1024) = j.val
    omega

/-- The key at offset `s` of tile `j`. -/
def key (j : Fin 16) (s : Fin 512) : Fin 8192 := ⟨j.val * 512 + s.val, by omega⟩

/-- The keys' gradient, by tiles. -/
theorem rOut1_at (L : Lifts A q k v c w) (h : Fin 8) (j : Fin 16) (d : Fin 128) (s : Fin 512) :
    rOut1 q k v c w (ix4 h j d s) = (((∑ t, ds A h t (key j s) * A.q t h d) / Real.sqrt 128 / Real.log 2 : ℝ) : EReal) := by
  pointwise [rOut1]
  simp only [rSc_at L, L.q, ← EReal.coe_mul, coe_sum, bits_2, log_real (show (0:ℝ) < 2 by norm_num), div_real ln2_pos.ne']
  congr 2
  rw [Finset.sum_div]
  exact Finset.sum_congr rfl fun u _ => div_mul_eq_mul_div _ _ _

/-- The values' gradient, by tiles. -/
theorem rOut2_at (L : Lifts A q k v c w) (h : Fin 8) (j : Fin 16) (d : Fin 128) (s : Fin 512) :
    rOut2 q k c w (ix4 h j d s) = ((∑ t, A.w t (col h d) * pr A h t (key j s) : ℝ) : EReal) := by
  pointwise [rOut2, rW]
  simp only [rP_at L, L.w, ← EReal.coe_mul, coe_sum]
  rfl

/-- Minus the gradient of the keys' gate. -/
theorem rOut3_at (L : Lifts A q k v c w) (h : Fin 8) (j : Fin 16) (s : Fin 512) :
    rOut3 q k v c w (ix3 h j s) = ((∑ t, ds A h t (key j s) : ℝ) : EReal) := by
  pointwise [rOut3]
  simp only [rDs_at L, ← EReal.coe_neg, coe_sum]
  congr 1
  simp [key]

/-- The gradient of the queries' gate. -/
theorem rOut4_at (L : Lifts A q k v c w) (h : Fin 8) (j : Fin 16) (s : Fin 512) :
    rOut4 q k v c w (ix4 h j 0 s) = ((∑ u, ds A h (key j s) u : ℝ) : EReal) := by
  pointwise [rOut4]
  simp only [rDs_at L, coe_sum]
  simp [key]

end Cert.ReferenceIdeal.Stage

end
-- ==== Proof.HostMath.lean ====
/- What the kernel is handed, at an index, over the real numbers. -/
module

public import proofs.«01_k».proof.Proof.HostI
public import proofs.«01_k».proof.Proof.RefMath

@[expose] public section

set_option maxRecDepth 16384

noncomputable section

namespace Cert.KernelIdeal.Own

open Idealize.ShloMosaic Idealize.ShloMosaic.TcCoe Idealize.ShloMosaic.Pointwise Cert.KernelIdeal Cert.KernelIdeal.Gen Fox
open Cert.ReferenceIdeal.Stage (Lifts rSel rMax rE rSel_at rMax_at rE_at mx key idx3 drop3 maximumf_at maximumf_fun l_pos)

variable {A : Args} {q k v : FVec Ideal S8192x8x128 .f32} {c : FVec Ideal S8x8192 .f32} {w : FVec Ideal S8192x1024 .f32}

/-- The masked logits are the reference's. -/
theorem hSel_eq (q k : FVec Ideal S8192x8x128 .f32) (c : FVec Ideal S8x8192 .f32) : hSel q k c = rSel q k c := rfl

/-- The largest of minus infinity and another is the other. -/
theorem bot_max (x : EReal) : max ⊥ x = x := max_bot_left x

/-- Each row's largest logit is the reference's. -/
theorem hMax_at (L : Lifts A q k v c w) (h : Fin 8) (t : Fin 8192) : hMax q k c (ix2 h t) = ((mx q k c h t : ℝ) : EReal) := by
  rw [← rMax_at L h t, rMax, maximumf_at]
  rw [show (broadcastInDim Cert.ReferenceIdeal.S8x8192 ![] Cert.ReferenceIdeal.Gen.bcast_S_S8x8192 (constant (F := Ideal) Cert.ReferenceIdeal.S_ .f32 0xFF800000#32) : FVec Ideal S8x8192 .f32) (ix2 h t) = (⊥ : EReal) from bits_bot, bot_max]
  rfl

/-- The exponentials. -/
theorem hE_at (L : Lifts A q k v c w) (h : Fin 8) (t u : Fin 8192) :
    hE q k c (ix3 h t u) = ((aw A h t u * Real.exp (- mx q k c h t) : ℝ) : EReal) := by
  have e1 := rSel_at L h t u
  rw [← hSel_eq] at e1
  have e2 := hMax_at L h t
  pointwise [hE]
  rw [e1, e2]
  by_cases hu : u ≤ t
  · rw [if_pos hu, ← EReal.coe_sub, Ideal.exp_coe, aw, if_pos hu, ← Real.exp_add, sub_eq_add_neg]
  · rw [if_neg hu, aw, if_neg hu]; simp

/-- The row sums. -/
theorem hL1_at (L : Lifts A q k v c w) (h : Fin 8) (t : Fin 8192) :
    hL1 q k c (ix3 h t 0) = ((zs A h t * Real.exp (- mx q k c h t) : ℝ) : EReal) := by
  have e1 := hE_at L h t
  pointwise [hL1]
  simp only [e1, coe_sum]
  rw [zs, Finset.sum_mul]

/-- The attention's output from any numerators and row sums. -/
theorem out_at (E : FVec Ideal S8x8192x8192 .f32) (Y : FVec Ideal S8x8192x1 .f32) (v : FVec Ideal S8192x8x128 .f32) (h : Fin 8) (t : Fin 8192) (d : Fin 128) (e b : Fin 8192 → ℝ) (he : ∀ u, E (ix3 h t u) = ((e u : ℝ) : EReal)) (l : ℝ) (hl : Y (ix3 h t 0) = (l : EReal)) (hne : l ≠ 0) (hb : ∀ u, v (ix3 u h d) = ((b u : ℝ) : EReal)) :
    (truncf .bf16 (shapeCast _ (transpose S8192x8x128 [2, 0, 1] (Host.dotGeneral dot_S8192x8x128_S8x8192x8192_S8x128x8192_0_2_2_1_1_0 none v (Host.divf E (broadcastInDim S8x8192x8192 ![0, 1, 2] bcast_S8x8192x1_S8x8192x8192_0_1_2 Y))) transposes_S8x128x8192_S8192x8x128_2_0_1) shapeCasts_S8192x8x128_S8192x1024) bitsLt_bf16_f32 : FVec Ideal S8192x1024 .bf16) (ix2 t (col h d)) = ((∑ u, b u * (e u / l) : ℝ) : EReal) := by
  pointwise []
  have hh : (⟨(col h d).val / 128, by have := h.isLt; have := d.isLt; simp only [col]; omega⟩ : Fin 8) = h := by
    apply Fin.ext; have := d.isLt; simp only [col]; omega
  have hd : (⟨(col h d).val % 128, by omega⟩ : Fin 128) = d := by
    apply Fin.ext; have := d.isLt; simp only [col]; omega
  refine (Finset.sum_congr rfl fun u _ => ?_).trans (coe_sum Finset.univ fun u => b u * (e u / l))
  calc _ = v (ix3 u h d) * Ideal.div (E (ix3 h t u)) (Y (ix3 h t 0)) := congrArg₂ _ (congrArg₂ (fun x y => v (ix3 u x y)) hh hd) (congrArg (fun x => Ideal.div (E (ix3 x t u)) (Y (ix3 x t 0))) hh)
    _ = _ := by rw [he, hl, hb, div_real hne, ← EReal.coe_mul]

/-- The logarithm of the row sums from any maximum and row sums. -/
theorem lse_at (X : FVec Ideal S8x8192 .f32) (Y : FVec Ideal S8x8192x1 .f32) (h : Fin 8) (t : Fin 8192) (d : Fin 128) (x y : ℝ) (hx : X (ix2 h t) = (x : EReal)) (hy : Y (ix3 h t 0) = (y : EReal)) (hp : 0 < y) :
    (broadcastInDim S8x8192x128 ![0, 1, 2] bcast_S8x8192x1_S8x8192x128_0_1_2 (Host.divf (addf (broadcastInDim S8x8192x1 ![0, 1] bcast_S8x8192_S8x8192x1_0_1 X) (Host.log Y)) (broadcastInDim S8x8192x1 ![] bcast_S_S8x8192x1 hLn2)) : FVec Ideal S8x8192x128 .f32) (ix3 h t d) = (((x + Real.log y) / Real.log 2 : ℝ) : EReal) := by
  pointwise [hLn2]
  rw [hx, hy, bits_2, log_real hp, log_real (by norm_num), ← EReal.coe_add, div_real ln2_pos.ne']

/-- The attention's output. -/
theorem hO_at (L : Lifts A q k v c w) (h : Fin 8) (t : Fin 8192) (d : Fin 128) :
    hO q k v c (ix2 t (col h d)) = ((∑ u, A.v u h d * pr A h t u : ℝ) : EReal) := by
  refine (out_at (hE q k c) (hL1 q k c) v h t d _ _ (fun u => hE_at L h t u) _ (hL1_at L h t) (mul_pos (zs_pos A h t) (Real.exp_pos _)).ne' (fun u => L.v u h d)).trans ?_
  congr 1
  refine Finset.sum_congr rfl fun u _ => ?_
  rw [pr, mul_div_mul_right _ _ (Real.exp_pos _).ne']

/-- The logarithm of each row's sum, in base 2. -/
theorem hLse_at (L : Lifts A q k v c w) (h : Fin 8) (t : Fin 8192) (d : Fin 128) :
    hLse q k c (ix3 h t d) = ((Real.log (zs A h t) / Real.log 2 : ℝ) : EReal) := by
  refine (lse_at (hMax q k c) (hL1 q k c) h t d _ _ (hMax_at L h t) (hL1_at L h t) (mul_pos (zs_pos A h t) (Real.exp_pos _))).trans ?_
  rw [Real.log_mul (zs_pos A h t).ne' (Real.exp_pos _).ne', Real.log_exp]
  exact congrArg _ (by rw [show mx q k c h t + (Real.log (zs A h t) + - mx q k c h t) = Real.log (zs A h t) by ring])

/-- The gates along the lanes. -/
theorem hCc_at (L : Lifts A q k v c w) (h : Fin 8) (t : Fin 8192) (d : Fin 128) :
    hCc c (ix3 h t d) = ((A.c h t / Real.log 2 : ℝ) : EReal) := by
  pointwise [hCc, hC2, hLn2]
  rw [L.c, bits_2, log_real (by norm_num), div_real ln2_pos.ne']

/-- The gates by blocks. -/
theorem hCr_at (L : Lifts A q k v c w) (h : Fin 8) (j : Fin 16) (s : Fin 512) :
    hCr c (ix3 h j s) = ((A.c h (key j s) / Real.log 2 : ℝ) : EReal) := by
  pointwise [hCr, hC2, hLn2]
  rw [show (ix2 h ⟨j.val * 512 + s.val, by omega⟩ : S8x8192.Idx) = ix2 h (key j s) from rfl, L.c, bits_2, log_real (by norm_num), div_real ln2_pos.ne']

/-- The queries' columns. -/
theorem hZ_q (L : Lifts A q k v c w) (g : FVec Ideal S8192x4096 .bf16) (h : Fin 8) (t : Fin 8192) (d : Fin 128) (j : Fin 7168) (hj : j.val = h.val * 128 + d.val) :
    hZ q k v g (ix2 t j) = ((A.q t h d / (Real.sqrt 128 * Real.log 2) : ℝ) : EReal) := by
  pointwise [hZ, hQ, hLn2]
  have := h.isLt; have := d.isLt
  rw [dif_pos (by omega)]
  rw [show (⟨j.val / 128, by omega⟩ : Fin 8) = h from Fin.ext (by simp only; omega), show (⟨j.val % 128, by omega⟩ : Fin 128) = d from Fin.ext (by simp only; omega)]
  rw [L.q, bits_2, bits_128, root_128, log_real (by norm_num), ← EReal.coe_mul, div_real (mul_pos root_pos ln2_pos).ne']

/-- The keys' columns. -/
theorem hZ_k (L : Lifts A q k v c w) (g : FVec Ideal S8192x4096 .bf16) (h : Fin 8) (t : Fin 8192) (d : Fin 128) (j : Fin 7168) (hj : j.val = 1024 + h.val * 256 + d.val) :
    hZ q k v g (ix2 t j) = ((A.k t h d : ℝ) : EReal) := by
  pointwise [hZ, hKv]
  have := h.isLt; have := d.isLt
  rw [dif_neg (by omega), dif_pos (by omega), dif_pos (by omega)]
  rw [show (⟨(j.val - 1024) / 256, by omega⟩ : Fin 8) = h from Fin.ext (by simp only; omega), show (⟨(j.val - 1024) % 128, by omega⟩ : Fin 128) = d from Fin.ext (by simp only; omega), L.k]

/-- The values' columns. -/
theorem hZ_v (L : Lifts A q k v c w) (g : FVec Ideal S8192x4096 .bf16) (h : Fin 8) (t : Fin 8192) (d : Fin 128) (j : Fin 7168) (hj : j.val = 1024 + h.val * 256 + 128 + d.val) :
    hZ q k v g (ix2 t j) = ((A.v t h d : ℝ) : EReal) := by
  pointwise [hZ, hKv]
  have := h.isLt; have := d.isLt
  rw [dif_neg (by omega), dif_pos (by omega), dif_neg (by omega)]
  rw [show (⟨(j.val - 1024) / 256, by omega⟩ : Fin 8) = h from Fin.ext (by simp only; omega), show (⟨(j.val - 1024) % 128, by omega⟩ : Fin 128) = d from Fin.ext (by simp only; omega), L.v]

end Cert.KernelIdeal.Own

end
-- ==== Proof.BlockMath.lean ====
/- The blocks each grid point reads, and what the accumulators hold after every grid point. -/
module

public import proofs.«01_k».proof.Proof.PointMath
public import proofs.«01_k».proof.Proof.HostMath
public import proofs.«01_k».proof.Proof.FrameI
public import Idealize.ShloMosaic.Lib.Pipeline.ValueKit

@[expose] public section

set_option maxRecDepth 16384

noncomputable section

namespace Cert.KernelIdeal.Own

open Idealize.ShloMosaic Idealize.ShloMosaic.TcCoe Idealize.ShloMosaic.Pointwise Cert.KernelIdeal Cert.KernelIdeal.Gen Fox
open Cert.ReferenceIdeal.Stage (Lifts key)

/-- The head of a grid point. -/
def hd (t : Fin cfg0.N) : Fin 8 := ⟨t.val / 16, by have : t.val < 128 := lt_of_lt_of_eq t.isLt (show cfg0.N = 128 from N_0); omega⟩
/-- The block of queries of a grid point. -/
def qb (t : Fin cfg0.N) : Fin 16 := ⟨t.val % 16, by omega⟩

theorem coord1 : ∀ t : Fin cfg0.N, (grid0.coords t 1).val = (qb t).val := (by decide +kernel : ∀ t : Fin grid0.N, (grid0.coords t 1).val = t.val % 16)

/-- The block each window reads or writes at a grid point. -/
theorem idx0 : ∀ t : Fin cfg0.N, win0_0.index t = ![(qb t).val, (hd t).val] := (by decide +kernel : ∀ t : Fin grid0.N, win0_0.index t = ![t.val % 16, t.val / 16])
theorem idx1 : ∀ t : Fin cfg0.N, win0_1.index t = ![0, 4 + (hd t).val] := (by decide +kernel : ∀ t : Fin grid0.N, win0_1.index t = ![0, 4 + t.val / 16])
theorem idx2 : ∀ t : Fin cfg0.N, win0_2.index t = ![(qb t).val, (hd t).val] := (by decide +kernel : ∀ t : Fin grid0.N, win0_2.index t = ![t.val % 16, t.val / 16])
theorem idx3 : ∀ t : Fin cfg0.N, win0_3.index t = ![(qb t).val, (hd t).val] := (by decide +kernel : ∀ t : Fin grid0.N, win0_3.index t = ![t.val % 16, t.val / 16])
theorem idx4 : ∀ t : Fin cfg0.N, win0_4.index t = ![(hd t).val, (qb t).val, 0] := (by decide +kernel : ∀ t : Fin grid0.N, win0_4.index t = ![t.val / 16, t.val % 16, 0])
theorem idx5 : ∀ t : Fin cfg0.N, win0_5.index t = ![(hd t).val, (qb t).val, 0] := (by decide +kernel : ∀ t : Fin grid0.N, win0_5.index t = ![t.val / 16, t.val % 16, 0])
theorem idx6 : ∀ t : Fin cfg0.N, win0_6.index t = ![(hd t).val, 0, 0] := (by decide +kernel : ∀ t : Fin grid0.N, win0_6.index t = ![t.val / 16, 0, 0])

variable (m : (ℓ : Loc nD τ sig) → Buf (Elt Ideal) ℓ) (c : Dev nD) (t : Fin cfg0.N)

theorem iblk0 (a : Fin 512) (d : Fin 128) : (iblk m c 0 t : Vec Ideal S512x128 .bf16) (ix2 a d) = (V m c main_v42 : FVec Ideal S8192x7168 .bf16) (ix2 (pos (qb t) a) ⟨(hd t).val * 128 + d.val, by have := (hd t).isLt; omega⟩) := by
  blk_ext [iblk, idx0 t, pos]
theorem iblk1 (u : Fin 8192) (x : Fin 256) : (iblk m c 1 t : Vec Ideal S8192x256 .bf16) (ix2 u x) = (V m c main_v42 : FVec Ideal S8192x7168 .bf16) (ix2 u ⟨(4 + (hd t).val) * 256 + x.val, by have := (hd t).isLt; omega⟩) := by
  blk_ext [iblk, idx1 t, pos]
theorem iblk2 (a : Fin 512) (d : Fin 128) : (iblk m c 2 t : Vec Ideal S512x128 .bf16) (ix2 a d) = (V m c main_v51 : FVec Ideal S8192x1024 .bf16) (ix2 (pos (qb t) a) (col (hd t) d)) := by
  blk_ext [iblk, idx2 t, pos, col]
theorem iblk3 (a : Fin 512) (d : Fin 128) : (iblk m c 3 t : Vec Ideal S512x128 .bf16) (ix2 a d) = (V m c main_v53 : FVec Ideal S8192x1024 .bf16) (ix2 (pos (qb t) a) (col (hd t) d)) := by
  blk_ext [iblk, idx3 t, pos, col]
theorem iblk4 (a : Fin 512) (d : Fin 128) : (iblk m c 4 t : Vec Ideal S1x512x128 .f32) (ix3 0 a d) = (V m c main_v49 : FVec Ideal S8x8192x128 .f32) (ix3 (hd t) (pos (qb t) a) d) := by
  blk_ext [iblk, idx4 t, pos]
theorem iblk5 (a : Fin 512) (d : Fin 128) : (iblk m c 5 t : Vec Ideal S1x512x128 .f32) (ix3 0 a d) = (V m c main_v46 : FVec Ideal S8x8192x128 .f32) (ix3 (hd t) (pos (qb t) a) d) := by
  blk_ext [iblk, idx5 t, pos]
theorem iblk6 (j : Fin 16) (b : Fin 512) : (iblk m c 6 t : Vec Ideal S1x16x512 .f32) (ix3 0 j b) = (V m c main_v50 : FVec Ideal S8x16x512 .f32) (ix3 (hd t) j b) := by
  blk_ext [iblk, idx6 t]

/-- The real numbers behind the launched arguments. -/
abbrev LiftsAt (A : Args) : Prop :=
  Lifts A (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5))

variable {m c} {A : Args} (L : LiftsAt m c A)
include L

theorem keys_at : KeysAt A (hd t) (iblk m c 1 t) (iblk m c 6 t) := by
  constructor
  · intro u d x hx
    rw [iblk1, V_z]
    exact hZ_k L _ (hd t) u d _ (by simp only; omega)
  · intro u d x hx
    rw [iblk1, V_z]
    exact hZ_v L _ (hd t) u d _ (by simp only; omega)
  · intro j b
    rw [iblk6, V_cr]
    exact hCr_at L (hd t) j b

/-- Each grid point prepares the real numbers of its head and block of queries. -/
theorem pre_at : PreAt A (hd t) (qb t) (pre (iblk m c 0 t) (iblk m c 2 t) (iblk m c 3 t) (iblk m c 4 t) (iblk m c 5 t)) := by
  have z0 : ∀ a d, (iblk m c 0 t : Vec Ideal S512x128 .bf16) (ix2 a d) = ((A.q (pos (qb t) a) (hd t) d / (Real.sqrt 128 * Real.log 2) : ℝ) : EReal) := by
    intro a d
    rw [iblk0, V_z]
    exact hZ_q L _ (hd t) _ d _ rfl
  have z2 : ∀ a d, (iblk m c 2 t : Vec Ideal S512x128 .bf16) (ix2 a d) = ((A.w (pos (qb t) a) (col (hd t) d) : ℝ) : EReal) := by
    intro a d
    rw [iblk2, V_do]
    exact L.w _ _
  have z3 : ∀ a d, (iblk m c 3 t : Vec Ideal S512x128 .bf16) (ix2 a d) = ((∑ u, A.v u (hd t) d * pr A (hd t) (pos (qb t) a) u : ℝ) : EReal) := by
    intro a d
    rw [iblk3, V_o]
    exact hO_at L _ _ _
  unfold pre
  constructor
  · intro a d; exact (pay19_at _ a d).trans (z0 a d)
  · intro a d; exact (pay20_at _ a d).trans (z2 a d)
  · intro d a; exact (pay21_at _ a d).trans (z0 a d)
  · intro d a; exact (pay22_at _ a d).trans (z2 a d)
  · intro a b
    refine pay23_at _ _ a b _ fun d => ?_
    rw [iblk4, iblk5, V_lse, V_cc]
    refine (congrArg₂ (fun x y : EReal => x - y) (hLse_at L (hd t) (pos (qb t) a) d) (hCc_at L (hd t) (pos (qb t) a) d)).trans ?_
    rw [← EReal.coe_sub]
  · intro a b
    refine (pay24_at _ _ a b).trans ?_
    simp only [z2, z3, ← EReal.coe_mul, coe_sum]
    refine congrArg (fun x : ℝ => (x : EReal)) ?_
    unfold dl dp
    simp only [Finset.mul_sum]
    rw [Finset.sum_comm]
    exact Finset.sum_congr rfl fun u _ => Finset.sum_congr rfl fun d _ => by ring

/-- The sums over the first `n` blocks of queries of what each adds to the rows. -/
def sK (A : Args) (h : Fin 8) (n : ℕ) (l : Fin 16) (d : Fin 128) (b : Fin 512) : ℝ := ∑ i : Fin 16, if i.val < n then gK A h i l d b else 0
def sV (A : Args) (h : Fin 8) (n : ℕ) (l : Fin 16) (d : Fin 128) (b : Fin 512) : ℝ := ∑ i : Fin 16, if i.val < n then gV A h i l d b else 0
def sC (A : Args) (h : Fin 8) (n : ℕ) (l : Fin 16) (b : Fin 512) : ℝ := ∑ i : Fin 16, if i.val < n then gC A h i l b else 0

/-- What the accumulators hold after grid point `t`: full sums over the keys for its block of queries, and each row
summed over the blocks of queries so far. -/
def After (A : Args) (t : Fin cfg0.N) (s : St Ideal) : Prop :=
  Holds s (fun a d => ∑ j, gQ A (hd t) (qb t) j a d) (fun a => ∑ j, gR A (hd t) (qb t) j a)
    (sK A (hd t) ((qb t).val + 1)) (sV A (hd t) ((qb t).val + 1)) (sC A (hd t) ((qb t).val + 1))

/-- One grid point, from rows that are the sums over the blocks of queries before it. -/
theorem leaves_after (g11 g12 : Vec Ideal S1x16x128x512 .f32) (g13 : Vec Ideal S1x16x512 .f32)
    (hg1 : ∀ l d b, (start (grid0.coords t) g11 g12 g13).g11 (ix4 0 l d b) = ((sK A (hd t) (qb t).val l d b : ℝ) : EReal))
    (hg2 : ∀ l d b, (start (grid0.coords t) g11 g12 g13).g12 (ix4 0 l d b) = ((sV A (hd t) (qb t).val l d b : ℝ) : EReal))
    (hg3 : ∀ l b, (start (grid0.coords t) g11 g12 g13).g13 (ix3 0 l b) = ((sC A (hd t) (qb t).val l b : ℝ) : EReal)) :
    After A t (leaves m c t g11 g12 g13) := by
  have H := final_holds (grid0.coords t) (coord1 t) (iblk m c 0 t) (iblk m c 2 t) (iblk m c 3 t) (iblk m c 4 t) (iblk m c 5 t) g11 g12 g13
    (pre_at t L) (keys_at t L) hg1 hg2 hg3
  constructor
  · exact H.q
  · exact H.r
  · intro l d b; exact (H.k l d b).trans (congrArg _ (sum_before (fun i => gK A (hd t) i l d b) (qb t).val (qb t).isLt).symm)
  · intro l d b; exact (H.v l d b).trans (congrArg _ (sum_before (fun i => gV A (hd t) i l d b) (qb t).val (qb t).isLt).symm)
  · intro l b; exact (H.c l b).trans (congrArg _ (sum_before (fun i => gC A (hd t) i l b) (qb t).val (qb t).isLt).symm)

/-- The first block of queries of a head starts the rows from zero. -/
theorem first_after (h0 : t.val % 16 = 0) : After A t (accAt m c t.val t.isLt) := by
  have hc : cond0_0 (grid0.coords t) := (hcond0_0 t).mpr h0
  have hq : (qb t).val = 0 := h0
  rw [accAt_first m c t h0 (k0_pay16 (F := Ideal)) (k0_pay17 (F := Ideal)) (k0_pay18 (F := Ideal))]
  refine leaves_after t L _ _ _ (fun l d b => ?_) (fun l d b => ?_) (fun l b => ?_)
  · unfold start; dsimp only; rw [if_pos hc, pay16_at, hq]; simp [sK]
  · unfold start; dsimp only; rw [if_pos hc, pay17_at, hq]; simp [sV]
  · unfold start; dsimp only; rw [if_pos hc, pay18_at, hq]; simp [sC]

/-- A later block of queries goes on from the one before. -/
theorem next_after (h0 : ¬t.val % 16 = 0) (u : Fin cfg0.N) (hu : u.val = t.val - 1) (H : After A u (accAt m c u.val u.isLt)) :
    After A t (accAt m c t.val t.isLt) := by
  have hc : ¬cond0_0 (grid0.coords t) := fun hh => h0 ((hcond0_0 t).mp hh)
  have e1 : hd u = hd t := Fin.ext (by simp only [hd]; omega)
  have e2 : (qb u).val + 1 = (qb t).val := by simp only [qb]; omega
  have e3 : ∀ (n : ℕ) (hn : n < cfg0.N), u.val = n → accAt m c u.val u.isLt = accAt m c n hn := by
    intro n hn e; subst e; rfl
  rw [accAt_next m c t h0, ← e3 (t.val - 1) (Nat.lt_of_le_of_lt (Nat.sub_le _ _) t.isLt) hu]
  have Hk := H.k
  have Hv := H.v
  have Hc := H.c
  rw [e1, e2] at Hk Hv Hc
  refine leaves_after t L _ _ _ (fun l d b => ?_) (fun l d b => ?_) (fun l b => ?_)
  · unfold start; dsimp only; rw [if_neg hc]; exact Hk l d b
  · unfold start; dsimp only; rw [if_neg hc]; exact Hv l d b
  · unfold start; dsimp only; rw [if_neg hc]; exact Hc l b

/-- The accumulators after every grid point. -/
theorem acc_at : ∀ (n : ℕ) (t : Fin cfg0.N), t.val = n → After A t (accAt m c t.val t.isLt) := by
  intro n
  induction n with
  | zero => intro t ht; exact first_after t L (by rw [ht])
  | succ n ih =>
    intro t ht
    by_cases h0 : t.val % 16 = 0
    · exact first_after t L h0
    · exact next_after t L h0 (Fin.mk n (by have := t.isLt; omega)) (by simp only [ht]; omega) (ih _ rfl)

end Cert.KernelIdeal.Own

end
-- ==== Proof.FinalMath.lean ====
/- The arrays the kernel leaves are the reference's. -/
module

public import proofs.«01_k».proof.Proof.BlockMath

@[expose] public section

set_option maxRecDepth 16384

noncomputable section

namespace Fox

open Idealize.ShloMosaic Idealize.ShloMosaic.Pointwise

/-- A sum over the 8192 positions, by blocks. -/
theorem sum_pos (f : Fin 8192 → ℝ) : ∑ u, f u = ∑ j : Fin 16, ∑ b : Fin 512, f (pos j b) := Fin.sum_univ_tiles 16 512 rfl f

variable (A : Args) (h : Fin 8)

/-- The sums over the blocks of keys are the sums over the keys. -/
theorem all_gQ (i : Fin 16) (a : Fin 512) (d : Fin 128) : ∑ j, gQ A h i j a d = ∑ u, ds A h (pos i a) u * A.k u h d :=
  (sum_pos fun u => ds A h (pos i a) u * A.k u h d).symm
theorem all_gR (i : Fin 16) (a : Fin 512) : ∑ j, gR A h i j a = ∑ u, ds A h (pos i a) u :=
  (sum_pos fun u => ds A h (pos i a) u).symm

end Fox

namespace Cert.KernelIdeal.Own

open Idealize.ShloMosaic Idealize.ShloMosaic.TcCoe Idealize.ShloMosaic.Pointwise Cert.KernelIdeal Cert.KernelIdeal.Gen Fox
open Idealize.ShloMosaic.Pipeline (Dat)
open Cert.ReferenceIdeal.Stage (Lifts key rOut0 rOut1 rOut2 rOut3 rOut4 rOut0_at rOut1_at rOut2_at rOut3_at rOut4_at)

/-- The sums over all blocks of queries are the sums over the queries. -/
theorem all_sK (A : Args) (h : Fin 8) (l : Fin 16) (d : Fin 128) (b : Fin 512) :
    sK A h 16 l d b = (∑ t, ds A h t (pos l b) * A.q t h d) / Real.sqrt 128 / Real.log 2 := by
  unfold sK
  rw [sum_pos, Finset.sum_div, Finset.sum_div]
  refine Finset.sum_congr rfl fun i _ => ?_
  rw [if_pos i.isLt, gK, Finset.sum_div, Finset.sum_div]
  refine Finset.sum_congr rfl fun a _ => ?_
  have := root_pos.ne'; have := ln2_pos.ne'
  field_simp
theorem all_sV (A : Args) (h : Fin 8) (l : Fin 16) (d : Fin 128) (b : Fin 512) :
    sV A h 16 l d b = ∑ t, A.w t (col h d) * pr A h t (pos l b) := by
  unfold sV
  rw [sum_pos]
  exact Finset.sum_congr rfl fun i _ => by rw [if_pos i.isLt, gV]
theorem all_sC (A : Args) (h : Fin 8) (l : Fin 16) (b : Fin 512) :
    sC A h 16 l b = ∑ t, ds A h t (pos l b) := by
  unfold sC
  rw [sum_pos]
  exact Finset.sum_congr rfl fun i _ => by rw [if_pos i.isLt, gC]

theorem idx7 : ∀ t : Fin cfg0.N, win0_7.index t = ![(qb t).val, (hd t).val] := (by decide +kernel : ∀ t : Fin grid0.N, win0_7.index t = ![t.val % 16, t.val / 16])
theorem idx8 : ∀ t : Fin cfg0.N, win0_8.index t = ![(hd t).val, 0, 0, 0] := (by decide +kernel : ∀ t : Fin grid0.N, win0_8.index t = ![t.val / 16, 0, 0, 0])
theorem idx9 : ∀ t : Fin cfg0.N, win0_9.index t = ![(hd t).val, 0, 0, 0] := (by decide +kernel : ∀ t : Fin grid0.N, win0_9.index t = ![t.val / 16, 0, 0, 0])
theorem idx10 : ∀ t : Fin cfg0.N, win0_10.index t = ![(hd t).val, 0, 0] := (by decide +kernel : ∀ t : Fin grid0.N, win0_10.index t = ![t.val / 16, 0, 0])
theorem idx11 : ∀ t : Fin cfg0.N, win0_11.index t = ![(hd t).val, (qb t).val, 0, 0] := (by decide +kernel : ∀ t : Fin grid0.N, win0_11.index t = ![t.val / 16, t.val % 16, 0, 0])

/-- Where a block of an output lies in its array. -/
theorem emb7 (t : Fin cfg0.N) (f : FVec Ideal S8192x7168 .bf16) (a : Fin 512) (d : Fin 128) :
    f ((win0_7.blk t).view.emb (ix2 a d : S512x128.Idx)) = f (ix2 (pos (qb t) a) ⟨(hd t).val * 128 + d.val, by omega⟩) := by
  blk_ext [idx7 t, pos]
theorem emb8 (t : Fin cfg0.N) (f : FVec Ideal S8x16x128x512 .f32) (l : Fin 16) (d : Fin 128) (b : Fin 512) :
    f ((win0_8.blk t).view.emb (ix4 0 l d b : S1x16x128x512.Idx)) = f (ix4 (hd t) l d b) := by
  blk_ext [idx8 t]
theorem emb9 (t : Fin cfg0.N) (f : FVec Ideal S8x16x128x512 .f32) (l : Fin 16) (d : Fin 128) (b : Fin 512) :
    f ((win0_9.blk t).view.emb (ix4 0 l d b : S1x16x128x512.Idx)) = f (ix4 (hd t) l d b) := by
  blk_ext [idx9 t]
theorem emb10 (t : Fin cfg0.N) (f : FVec Ideal S8x16x512 .f32) (l : Fin 16) (b : Fin 512) :
    f ((win0_10.blk t).view.emb (ix3 0 l b : S1x16x512.Idx)) = f (ix3 (hd t) l b) := by
  blk_ext [idx10 t]
theorem emb11 (t : Fin cfg0.N) (f : FVec Ideal S8x16x1x512 .f32) (a : Fin 512) :
    f ((win0_11.blk t).view.emb (ix4 0 0 0 a : S1x1x1x512.Idx)) = f (ix4 (hd t) (qb t) 0 a) := by
  blk_ext [idx11 t]

variable {m : (ℓ : Loc nD τ sig) → Buf (Elt Ideal) ℓ} {c : Dev nD} {A : Args}

/-- The reference's five results at a device's arguments. -/
abbrev G0 (m : (ℓ : Loc nD τ sig) → Buf (Elt Ideal) ℓ) (c : Dev nD) :=
  rOut0 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6))
abbrev G1 (m : (ℓ : Loc nD τ sig) → Buf (Elt Ideal) ℓ) (c : Dev nD) :=
  rOut1 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5))
abbrev G2 (m : (ℓ : Loc nD τ sig) → Buf (Elt Ideal) ℓ) (c : Dev nD) :=
  rOut2 (F := Ideal) (m ((c.tc : Thread nD τ).loc main_arg0)) (m ((c.tc : Thread nD τ).loc main_arg1)) (m ((c.tc : Thread nD τ).loc main_arg3)) (m ((c.tc : Thread nD τ).loc main_arg5))
abbrev G3 (m : (ℓ : Loc nD τ sig) → Buf (Elt Ideal) ℓ) (c : Dev nD) :=
  rOut3 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5))
abbrev G4 (m : (ℓ : Loc nD τ sig) → Buf (Elt Ideal) ℓ) (c : Dev nD) :=
  rOut4 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5))

variable (L : LiftsAt m c A)
include L

/-- The first result: the queries' gradient in the first columns, the given values after them. -/
theorem final7 : (dats m 0 c).arrAt 7 cfg0.N = G0 m c := by
  refine (dats m 0 c).arrAt_eq_of_coversWhere_of_agree 7 _ (fun β => β (1 : Fin 2) < 8) (by decide +kernel) (fun t hf y => ?_) (fun j hj => ?_)
  · obtain ⟨a, d, rfl⟩ : ∃ (a : Fin 512) (d : Fin 128), y = (ix2 a d : S512x128.Idx) := ⟨y 0, y 1, by funext x; fin_cases x <;> rfl⟩
    blk_simp
    rw [after_7]
    refine Eq.trans ?_ (emb7 t (G0 m c) a d).symm
    rw [pay2_at, (acc_at L _ t rfl).q, G0, rOut0_at L, dif_pos (by have := (hd t).isLt; simp only; omega), ← EReal.coe_mul, all_gQ]
    have e1 : (⟨((hd t).val * 128 + d.val) / 128, by omega⟩ : Fin 8) = hd t := Fin.ext (by simp only; omega)
    have e2 : (⟨((hd t).val * 128 + d.val) % 128, by omega⟩ : Fin 128) = d := Fin.ext (by simp only; omega)
    simp only [e1, e2]
    rfl
  · obtain ⟨t, d, rfl⟩ : ∃ (t : Fin 8192) (d : Fin 7168), j = (ix2 t d : S8192x7168.Idx) := ⟨j 0, j 1, by funext x; fin_cases x <;> rfl⟩
    have hd' : ¬ d.val < 1024 := fun hh => hj (show d.val / 128 < 8 by omega)
    rw [A_eq]
    refine Eq.trans ?_ ((rOut0_at L _ t d).trans (dif_neg hd')).symm
    exact congrFun (V_dz m c) _

/-- The second result: the keys' gradient. -/
theorem final8 : (dats m 0 c).arrAt 8 cfg0.N = G1 m c := by
  refine (dats m 0 c).arrAt_eq_of_covers 8 _ (by decide +kernel) (fun t hf y => ?_)
  obtain ⟨z, l, d, b, rfl⟩ : ∃ (z : Fin 1) (l : Fin 16) (d : Fin 128) (b : Fin 512), y = (ix4 z l d b : S1x16x128x512.Idx) := ⟨y 0, y 1, y 2, y 3, by funext x; fin_cases x <;> rfl⟩
  have hq : (qb t).val = 15 := (flush0_8 t).mp hf
  obtain rfl : z = 0 := Subsingleton.elim _ _
  blk_simp
  rw [after_8]
  refine Eq.trans ?_ (emb8 t (G1 m c) l d b).symm
  rw [(acc_at L _ t rfl).k, G1, rOut1_at L, hq, all_sK]
  rfl

/-- The third result: the values' gradient. -/
theorem final9 : (dats m 0 c).arrAt 9 cfg0.N = G2 m c := by
  refine (dats m 0 c).arrAt_eq_of_covers 9 _ (by decide +kernel) (fun t hf y => ?_)
  obtain ⟨z, l, d, b, rfl⟩ : ∃ (z : Fin 1) (l : Fin 16) (d : Fin 128) (b : Fin 512), y = (ix4 z l d b : S1x16x128x512.Idx) := ⟨y 0, y 1, y 2, y 3, by funext x; fin_cases x <;> rfl⟩
  have hq : (qb t).val = 15 := (flush0_9 t).mp hf
  obtain rfl : z = 0 := Subsingleton.elim _ _
  blk_simp
  rw [after_9]
  refine Eq.trans ?_ (emb9 t (G2 m c) l d b).symm
  rw [(acc_at L _ t rfl).v, G2, rOut2_at L, hq, all_sV]
  rfl

/-- The fourth result: the column sums of the scores' gradient. -/
theorem final10 : (dats m 0 c).arrAt 10 cfg0.N = G3 m c := by
  refine (dats m 0 c).arrAt_eq_of_covers 10 _ (by decide +kernel) (fun t hf y => ?_)
  obtain ⟨z, l, b, rfl⟩ : ∃ (z : Fin 1) (l : Fin 16) (b : Fin 512), y = (ix3 z l b : S1x16x512.Idx) := ⟨y 0, y 1, y 2, by funext x; fin_cases x <;> rfl⟩
  have hq : (qb t).val = 15 := (flush0_10 t).mp hf
  obtain rfl : z = 0 := Subsingleton.elim _ _
  blk_simp
  rw [after_10]
  refine Eq.trans ?_ (emb10 t (G3 m c) l b).symm
  rw [(acc_at L _ t rfl).c, G3, rOut3_at L, hq, all_sC]
  rfl

/-- The fifth result: the row sums of the scores' gradient. -/
theorem final11 : (dats m 0 c).arrAt 11 cfg0.N = G4 m c := by
  refine (dats m 0 c).arrAt_eq_of_covers 11 _ (by decide +kernel) (fun t hf y => ?_)
  obtain ⟨z, z', z'', a, rfl⟩ : ∃ (z z' z'' : Fin 1) (a : Fin 512), y = (ix4 z z' z'' a : S1x1x1x512.Idx) := ⟨y 0, y 1, y 2, y 3, by funext x; fin_cases x <;> rfl⟩
  obtain rfl : z = 0 := Subsingleton.elim _ _
  obtain rfl : z' = 0 := Subsingleton.elim _ _
  obtain rfl : z'' = 0 := Subsingleton.elim _ _
  blk_simp
  rw [after_11]
  refine Eq.trans ?_ (emb11 t (G4 m c) a).symm
  rw [pay3_at, (acc_at L _ t rfl).r, G4, rOut4_at L, all_gR]
  rfl

end Cert.KernelIdeal.Own

end
-- ==== Proof.PreMath.lean ====
/- The precondition: its side conditions, and the real numbers it gives. -/
module

public import proofs.«01_k».proof.Pre_finite
public import proofs.«01_k».proof.Defs
public import proofs.«01_k».proof.Proof.Gen.ReferenceIdeal
public import proofs.«01_k».proof.Proof.Gen.KernelIdeal
public import proofs.«01_k».proof.Proof.RefMath
public import Idealize.ShloMosaic.Lib.Decide

@[expose] public section

set_option maxRecDepth 16384

noncomputable section

namespace Cert.Pre_finite.Own

open Idealize.ShloMosaic Idealize.ShloMosaic.Pointwise Cert.Pre_finite Fox

/-- The side conditions of the precondition's operations. -/
instance facts : Cert.Pre_finite.Facts where
  bcast_S_S8192x8x128 := by decide
  reducesTo_S8192x8x128_S_d0_1_2 := by decide
  h_S_ := by decide
  bcast_S_S8x8192 := by decide
  reducesTo_S8x8192_S_d0_1 := by decide
  bcast_S_S8192x1024 := by decide
  reducesTo_S8192x1024_S_d0_1 := by decide

/-- A conjunction of bits is one only when both are. -/
theorem and_one (a b : BitVec 1) : IntOp.andi a b = 1#1 → a = 1#1 ∧ b = 1#1 := by revert a b; decide

/-- A running conjunction is one only when every bit is. -/
theorem fold_one {α : Type} (x : α → BitVec 1) (l : List α) (i : BitVec 1) :
    l.foldl (fun r n => IntOp.andi r (x n)) i = 1#1 → i = 1#1 ∧ ∀ n ∈ l, x n = 1#1 := by
  induction l generalizing i with
  | nil => exact fun h => ⟨h, fun n hn => absurd hn List.not_mem_nil⟩
  | cons a l ih =>
    intro h
    obtain ⟨h1, h2⟩ := ih _ h
    obtain ⟨h3, h4⟩ := and_one _ _ h1
    refine ⟨h3, fun n hn => ?_⟩
    rcases List.mem_cons.mp hn with rfl | hn
    · exact h4
    · exact h2 n hn

/-- A conjunction over a whole array is one only when every bit of the array is. -/
theorem reduce_one {s t u : Shape} {axes : List (Fin s.rank)} (x : s.Idx → BitVec 1) (init : u.Idx → BitVec 1)
    (h : s.ReducesTo axes t) (hu : 0 < u.numel) (j : t.Idx) (ht : ∀ a b : t.Idx, a = b)
    (e : Host.reduce IntOp.andi x init h hu j = 1#1) (i : s.Idx) : x i = 1#1 := by
  have := (fold_one (fun n => x (s.rowMajor.symm n)) _ _ e).2 (s.rowMajor i)
    (List.mem_filter.mpr ⟨List.mem_finRange _, decide_eq_true (ht _ _)⟩)
  simpa using this

/-- The pattern of plus infinity. -/
theorem bits_top : Ideal.ofBits .f32 0x7F800000#32 = (⊤ : EReal) := by
  simp [Ideal.ofBits, Ideal.ieee, -EReal.coe_mul]

/-- An element below plus infinity in size is a real number. -/
theorem real_of {x : EReal} (h : max x (-x) < ⊤) : x = ((x.toReal : ℝ) : EReal) := by
  refine (EReal.coe_toReal ?_ ?_).symm
  · rintro rfl; simp at h
  · rintro rfl; simp at h

/-- An array whose elements are all below plus infinity in size holds real numbers. -/
theorem real_all {s : Shape} (x : FVec Ideal s .f32) (hb : S_.BroadcastsInDim s (![] : Fin 0 → Fin s.rank))
    {axes : List (Fin s.rank)} (h : s.ReducesTo axes S_) (hu : 0 < S_.numel) (j : S_.Idx)
    (e : Host.reduce IntOp.andi (cmpf .olt (Host.absf x) (broadcastInDim s ![] hb (constant (F := Ideal) S_ .f32 0x7F800000#32))) (constantI S_ 1 1#1) h hu j = 1#1)
    (i : s.Idx) : x i = (((x i : EReal).toReal : ℝ) : EReal) := by
  have h1 := reduce_one _ _ h hu j (fun a b => funext fun y => y.elim0) e i
  refine real_of ?_
  have h2 : BitVec.ofBool (decide (max (x i : EReal) (-(x i : EReal)) < Ideal.ofBits .f32 0x7F800000#32)) = 1#1 := h1
  rw [bits_top] at h2
  by_contra hc
  rw [decide_eq_false hc] at h2
  exact absurd h2 (by decide)

/-- The real numbers behind arrays. -/
def argsOf (q k v : FVec Ideal S8192x8x128 .f32) (c : FVec Ideal S8x8192 .f32) (w : FVec Ideal S8192x1024 .f32) : Args where
  q t h d := EReal.toReal (q (ix3 t h d))
  k t h d := EReal.toReal (k (ix3 t h d))
  v t h d := EReal.toReal (v (ix3 t h d))
  c h t := EReal.toReal (c (ix2 h t))
  w t j := EReal.toReal (w (ix2 t j))

/-- Arrays that meet the precondition hold real numbers. -/
theorem lifts (q k v : FVec Ideal S8192x8x128 .f32) (c : FVec Ideal S8x8192 .f32) (z : FVec Ideal S8192x4096 .bf16)
    (w : FVec Ideal S8192x1024 .f32) (dz : FVec Ideal S8192x7168 .bf16) (e : Cert.Pre_finite.fn (F := Ideal) q k v c z w dz = fun _ => 1#1) :
    Cert.ReferenceIdeal.Stage.Lifts (argsOf q k v c w) q k v c w := by
  have e0 := congrFun e (fun y => y.elim0)
  obtain ⟨e1, ew⟩ := and_one _ _ e0
  obtain ⟨e2, ec⟩ := and_one _ _ e1
  obtain ⟨e3, ev⟩ := and_one _ _ e2
  obtain ⟨eq, ek⟩ := and_one _ _ e3
  exact ⟨fun t h d => real_all q _ _ _ _ eq _, fun t h d => real_all k _ _ _ _ ek _, fun t h d => real_all v _ _ _ _ ev _,
    fun h t => real_all c _ _ _ _ ec _, fun t j => real_all w _ _ _ _ ew _⟩

end Cert.Pre_finite.Own

end
-- ==== Proof.Tiles.lean ====
/- A sum over 8192 rows, accumulated over four blocks of 2048 rows. -/
module

public import Idealize.ShloMosaic.Lib.Pointwise
public import Idealize.ShloMosaic.Lib.Pipeline.Value

@[expose] public section

noncomputable section

namespace Tiles

open Idealize.ShloMosaic

/-- A row of the block of 2048 rows that the `n`-th point of the grid reads. -/
def row (n : ℕ) (s : Fin 2048) : Fin 8192 := ⟨n % 4 * 2048 + s.val, by omega⟩

/-- The sums over the four blocks, added in order, are the sum over all rows. -/
theorem four_blocks (q : ℕ) (f : Fin 8192 → EReal) :
    ∑ s, f (row (4 * q) s) + ∑ s, f (row (4 * q + 1) s) + ∑ s, f (row (4 * q + 2) s) + ∑ s, f (row (4 * q + 3) s) = ∑ u, f u := by
  rw [Fin.sum_univ_tiles 4 2048 (by norm_num) f, Fin.sum_univ_four]
  have e : ∀ (n : ℕ) (j : Fin 4), n % 4 = j.val → ∑ s, f (row n s) = ∑ t : Fin 2048, f ⟨j.val * 2048 + t.val, by omega⟩ := by
    intro n j h
    refine Finset.sum_congr rfl fun s _ => congrArg f (Fin.ext ?_)
    simp only [row, h]
  rw [e (4 * q) 0 (by simp), e (4 * q + 1) 1 (by simp), e (4 * q + 2) 2 (by simp), e (4 * q + 3) 3 (by simp)]

/-- An accumulator that starts from zero at a run of four points, and at each of them gains the sum of the products of two blocks, one of the
    column `x` and one of the column `y`, ends with the sum of the products over all rows. -/
theorem total {N : ℕ} {α : Type*} (a : (n : ℕ) → n < N → α) (g : (n : ℕ) → n < N → α → α) (v : α → EReal) (o : α) (x y : Fin 8192 → EReal)
    (bx by' : (n : ℕ) → n < N → Fin 2048 → EReal) (q j : ℕ) (hj : j = 3) (ha : ∀ n h, a n h = g n h o) (ho : v o = 0)
    (hg : ∀ n h z, v (g n h z) = v z + ∑ s, bx n h s * by' n h s)
    (hx : ∀ n h s, n / 4 = q → bx n h s = x (row n s)) (hy : ∀ n h s, n / 4 = q → by' n h s = y (row n s)) (h : 4 * q + j < N) :
    v (Pipeline.accAt a g (4 * q) j h) = ∑ u, x u * y u := by
  subst hj
  have hg' : ∀ n h z, n / 4 = q → v (g n h z) = v z + ∑ s, x (row n s) * y (row n s) := fun n h z e => by
    rw [hg]; exact congrArg _ (Finset.sum_congr rfl fun s _ => by rw [hx n h s e, hy n h s e])
  rw [Pipeline.accAt_succ, hg' _ _ _ (by omega), Pipeline.accAt_succ, hg' _ _ _ (by omega), Pipeline.accAt_succ, hg' _ _ _ (by omega),
    Pipeline.accAt_zero, ha, hg' _ _ _ (by omega), ho, zero_add]
  exact four_blocks q fun u => x u * y u

end Tiles

end
-- ==== Proof.TilesUp.lean ====
/- The gradient of an FFN's gate or up weight: the blocks, their sum, and the result's array. -/
module

public import proofs.«01_k».proof.Proof.Gen.Kernel2Ideal.Value
public import proofs.«01_k».proof.Proof.Gen.Reference2Ideal.Run
public import proofs.«01_k».proof.Proof.Tiles
public import Idealize.ShloMosaic.Lib.Pipeline.ValueKit
public import Idealize.ShloMosaic.Lib.StableHlo.RunRead

@[expose] public section

set_option maxRecDepth 16384

noncomputable section

namespace Cert.Kernel2Ideal.Own

open Idealize.ShloMosaic Idealize.ShloMosaic.TcCoe Idealize.ShloMosaic.Pointwise Idealize.SL.Sem Cert.Kernel2Ideal Cert.Kernel2Ideal.Gen Cert.Kernel2Ideal.Value Tiles

/-- A block of the result gains the product of two blocks. -/
theorem gain (o : Vec Ideal S1x1024x1024 .f32) (x y : Vec Ideal S2048x1024 .bf16) (a b : Fin 1024) :
    k0_pay2 o x y (ix3 0 a b) = o (ix3 0 a b) + ∑ s, x (ix2 s a) * y (ix2 s b) := by
  pointwise [k0_pay2]

/-- A block of the result starts at zero. -/
theorem start (a b : Fin 1024) : k0_pay1 (F := Ideal) (ix3 0 a b) = 0 := by
  pointwise [k0_pay1]

/-- The block each window reads or writes at a grid point. -/
theorem idx0 : ∀ t : Fin cfg0.N, win0_0.index t = ![t.val % 4, 0] := (by decide +kernel : ∀ t : Fin grid0.N, win0_0.index t = ![t.val % 4, 0])
theorem idx1 : ∀ t : Fin cfg0.N, win0_1.index t = ![t.val % 4, t.val / 4] := (by decide +kernel : ∀ t : Fin grid0.N, win0_1.index t = ![t.val % 4, t.val / 4])
theorem idx2 : ∀ t : Fin cfg0.N, win0_2.index t = ![t.val / 4, 0, 0] := (by decide +kernel : ∀ t : Fin grid0.N, win0_2.index t = ![t.val / 4, 0, 0])

/-- A column of the block of 1024 columns of the second factor that a point reads. -/
def col (t : Fin cfg0.N) (b : Fin 1024) : Fin 4096 := ⟨t.val / 4 * 1024 + b.val, by have : t.val < 16 := lt_of_lt_of_eq t.isLt (show cfg0.N = 16 from N_0); omega⟩

/-- Where the blocks lie in their arrays. -/
theorem emb0 (t : Fin cfg0.N) (f : FVec Ideal S8192x1024 .bf16) (s : Fin 2048) (a : Fin 1024) :
    f ((win0_0.blk t).view.emb (ix2 s a : S2048x1024.Idx)) = f (ix2 (row t.val s) a) := by
  blk_ext [idx0 t, row]
theorem emb1 (t : Fin cfg0.N) (f : FVec Ideal S8192x4096 .bf16) (s : Fin 2048) (b : Fin 1024) :
    f ((win0_1.blk t).view.emb (ix2 s b : S2048x1024.Idx)) = f (ix2 (row t.val s) (col t b)) := by
  blk_ext [idx1 t, row, col]
/-- The tile of the result that a point adds to. -/
def tile (t : Fin cfg0.N) : Fin 4 := ⟨t.val / 4, by have : t.val < 16 := lt_of_lt_of_eq t.isLt (show cfg0.N = 16 from N_0); omega⟩
theorem emb2 (t : Fin cfg0.N) (f : FVec Ideal S4x1024x1024 .f32) (a b : Fin 1024) :
    f ((win0_2.blk t).view.emb (ix3 0 a b : S1x1024x1024.Idx)) = f (ix3 (tile t) a b) := by
  blk_ext [idx2 t, tile]

variable (m : (ℓ : Loc nD τ sig) → Buf (Elt Ideal) ℓ) (c : Dev nD)

/-- The two factors. -/
abbrev X : FVec Ideal S8192x1024 .f32 := m ((c.tc : Thread nD τ).loc main_arg0)
abbrev Y : FVec Ideal S8192x4096 .f32 := m ((c.tc : Thread nD τ).loc main_arg1)

/-- The arrays the kernel stages are the factors. -/
theorem V_x : V m c main_v0 = truncf .bf16 (X m c) bitsLt_bf16_f32 := by
  unfold V hostOps0
  after_reads_simp
theorem V_y : V m c main_v1 = truncf .bf16 (Y m c) bitsLt_bf16_f32 := by
  unfold V hostOps0
  after_reads_simp

/-- The blocks a point reads are blocks of the factors. -/
theorem blk_x (t : Fin cfg0.N) (s : Fin 2048) (a : Fin 1024) : iblk m c 0 t (ix2 s a : S2048x1024.Idx) = X m c (ix2 (row t.val s) a) := by
  refine (emb0 t (V m c main_v0) s a).trans ?_
  rw [V_x]; rfl
theorem blk_y (t : Fin cfg0.N) (s : Fin 2048) (b : Fin 1024) : iblk m c 1 t (ix2 s b : S2048x1024.Idx) = Y m c (ix2 (row t.val s) (col t b)) := by
  refine (emb1 t (V m c main_v1) s b).trans ?_
  rw [V_y]; rfl

/-- The reference's result at two factors. -/
def ref (x : FVec Ideal S8192x1024 .f32) (y : FVec Ideal S8192x4096 .f32) : FVec Ideal S4x1024x1024 .f32 :=
  transpose Cert.Reference2Ideal.S4x1024x1024 [1, 0, 2]
    (shapeCast Cert.Reference2Ideal.S1024x4x1024
      (transpose Cert.Reference2Ideal.S1024x4096 [1, 0] (Host.dotGeneral Cert.Reference2Ideal.dot_S8192x4096_S8192x1024_S4096x1024_0_0_1_1_n_n none y x : FVec Ideal Cert.Reference2Ideal.S4096x1024 .f32) Cert.Reference2Ideal.Gen.transposes_S4096x1024_S1024x4096_1_0)
      Cert.Reference2Ideal.Gen.shapeCasts_S1024x4096_S1024x4x1024)
    Cert.Reference2Ideal.Gen.transposes_S1024x4x1024_S4x1024x1024_1_0_2

/-- The reference's result at an index: tile `n` holds the columns from `1024 n` on. -/
theorem ref_at (x : FVec Ideal S8192x1024 .f32) (y : FVec Ideal S8192x4096 .f32) (n : Fin 4) (a b : Fin 1024) :
    ref x y (ix3 n a b) = ∑ u, x (ix2 u a) * y (ix2 u ⟨n.val * 1024 + b.val, by omega⟩) := by
  refine Eq.trans (b := ∑ u, y (ix2 u ⟨n.val * 1024 + b.val, by omega⟩) * x (ix2 u a)) ?_ (Finset.sum_congr rfl fun u _ => mul_comm _ _)
  pointwise [ref]

/-- The result's array holds the reference's result. -/
theorem final : (dats m 0 c).arrAt 2 cfg0.N = ref (X m c) (Y m c) := by
  refine (dats m 0 c).arrAt_eq_of_covers 2 _ (by decide +kernel) (fun t hf y => ?_)
  obtain ⟨z, a, b, rfl⟩ : ∃ (z : Fin 1) (a b : Fin 1024), y = (ix3 z a b : S1x1024x1024.Idx) := ⟨y 0, y 1, y 2, by funext x; fin_cases x <;> rfl⟩
  obtain rfl : z = 0 := Subsingleton.elim _ _
  blk_simp
  rw [after0_2, outsAt_2_eq]
  refine Eq.trans ?_ (emb2 t (ref (X m c) (Y m c)) a b).symm
  rw [ref_at]
  exact total (reset2 m c) (step2 m c) (fun o : Vec Ideal S1x1024x1024 .f32 => o (ix3 0 a b)) (k0_pay1 (F := Ideal)) (fun u => X m c (ix2 u a)) (fun u => Y m c (ix2 u (col t b)))
    (fun n h s => iblk m c 0 ⟨n, h⟩ (ix2 s a : S2048x1024.Idx)) (fun n h s => iblk m c 1 ⟨n, h⟩ (ix2 s b : S2048x1024.Idx)) (t.val / 4) _ ((flush0_2 t).mp hf)
    (fun _ _ => rfl) (start a b) (fun n h o => gain o _ _ a b)
    (fun n h s _ => blk_x m c ⟨n, h⟩ s a)
    (fun n h s e => (blk_y m c ⟨n, h⟩ s b).trans (congrArg (fun i => Y m c (ix2 (row n s) i)) (Fin.ext (by simp only [col, e])))) _

/-- Every run ends with the reference's result, and the arguments unchanged. -/
theorem values (ρ : Dev nD → PrngReg) :
    θ_run defs (onTc (τ := τ) (main (F := Ideal))) ⟨m, fun _ => 0, ρ⟩ (fun r => ∀ c : Dev nD,
      r.2.mem ((c.tc : Thread nD τ).loc main_v2) = ref (X m c) (Y m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (final m c), (h c).2⟩) (run_blocks m ρ)

end Cert.Kernel2Ideal.Own

end
-- ==== Proof.TilesDown.lean ====
/- The gradient of an FFN's down weight: the blocks, their sum, and the result's array. -/
module

public import proofs.«01_k».proof.Proof.Gen.Kernel3Ideal.Value
public import proofs.«01_k».proof.Proof.Gen.Reference3Ideal.Run
public import proofs.«01_k».proof.Proof.Tiles
public import Idealize.ShloMosaic.Lib.Pipeline.ValueKit
public import Idealize.ShloMosaic.Lib.StableHlo.RunRead

@[expose] public section

set_option maxRecDepth 16384

noncomputable section

namespace Cert.Kernel3Ideal.Own

open Idealize.ShloMosaic Idealize.ShloMosaic.TcCoe Idealize.ShloMosaic.Pointwise Idealize.SL.Sem Cert.Kernel3Ideal Cert.Kernel3Ideal.Gen Cert.Kernel3Ideal.Value Tiles

/-- A block of the result gains the product of two blocks. -/
theorem gain (o : Vec Ideal S1024x1024 .f32) (x y : Vec Ideal S2048x1024 .bf16) (a b : Fin 1024) :
    k0_pay2 o x y (ix2 a b) = o (ix2 a b) + ∑ s, x (ix2 s a) * y (ix2 s b) := by
  pointwise [k0_pay2]

/-- A block of the result starts at zero. -/
theorem start (a b : Fin 1024) : k0_pay1 (F := Ideal) (ix2 a b) = 0 := by
  pointwise [k0_pay1]

/-- The block each window reads or writes at a grid point. -/
theorem idx0 : ∀ t : Fin cfg0.N, win0_0.index t = ![t.val % 4, t.val / 4] := (by decide +kernel : ∀ t : Fin grid0.N, win0_0.index t = ![t.val % 4, t.val / 4])
theorem idx1 : ∀ t : Fin cfg0.N, win0_1.index t = ![t.val % 4, 0] := (by decide +kernel : ∀ t : Fin grid0.N, win0_1.index t = ![t.val % 4, 0])
theorem idx2 : ∀ t : Fin cfg0.N, win0_2.index t = ![t.val / 4, 0] := (by decide +kernel : ∀ t : Fin grid0.N, win0_2.index t = ![t.val / 4, 0])

/-- A column of the block of 1024 columns of the first factor that a point reads. -/
def col (t : Fin cfg0.N) (a : Fin 1024) : Fin 4096 := ⟨t.val / 4 * 1024 + a.val, by have : t.val < 16 := lt_of_lt_of_eq t.isLt (show cfg0.N = 16 from N_0); omega⟩

/-- Where the blocks lie in their arrays. -/
theorem emb0 (t : Fin cfg0.N) (f : FVec Ideal S8192x4096 .bf16) (s : Fin 2048) (a : Fin 1024) :
    f ((win0_0.blk t).view.emb (ix2 s a : S2048x1024.Idx)) = f (ix2 (row t.val s) (col t a)) := by
  blk_ext [idx0 t, row, col]
theorem emb1 (t : Fin cfg0.N) (f : FVec Ideal S8192x1024 .bf16) (s : Fin 2048) (b : Fin 1024) :
    f ((win0_1.blk t).view.emb (ix2 s b : S2048x1024.Idx)) = f (ix2 (row t.val s) b) := by
  blk_ext [idx1 t, row]
theorem emb2 (t : Fin cfg0.N) (f : FVec Ideal S4096x1024 .f32) (a b : Fin 1024) :
    f ((win0_2.blk t).view.emb (ix2 a b : S1024x1024.Idx)) = f (ix2 (col t a) b) := by
  blk_ext [idx2 t, col]

variable (m : (ℓ : Loc nD τ sig) → Buf (Elt Ideal) ℓ) (c : Dev nD)

/-- The two factors. -/
abbrev X : FVec Ideal S8192x4096 .f32 := m ((c.tc : Thread nD τ).loc main_arg0)
abbrev Y : FVec Ideal S8192x1024 .f32 := m ((c.tc : Thread nD τ).loc main_arg1)

/-- The arrays the kernel stages are the factors. -/
theorem V_x : V m c main_v0 = truncf .bf16 (X m c) bitsLt_bf16_f32 := by
  unfold V hostOps0
  after_reads_simp
theorem V_y : V m c main_v1 = truncf .bf16 (Y m c) bitsLt_bf16_f32 := by
  unfold V hostOps0
  after_reads_simp

/-- The blocks a point reads are blocks of the factors. -/
theorem blk_x (t : Fin cfg0.N) (s : Fin 2048) (a : Fin 1024) : iblk m c 0 t (ix2 s a : S2048x1024.Idx) = X m c (ix2 (row t.val s) (col t a)) := by
  refine (emb0 t (V m c main_v0) s a).trans ?_
  rw [V_x]; rfl
theorem blk_y (t : Fin cfg0.N) (s : Fin 2048) (b : Fin 1024) : iblk m c 1 t (ix2 s b : S2048x1024.Idx) = Y m c (ix2 (row t.val s) b) := by
  refine (emb1 t (V m c main_v1) s b).trans ?_
  rw [V_y]; rfl

/-- The reference's result at two factors. -/
def ref (x : FVec Ideal S8192x4096 .f32) (y : FVec Ideal S8192x1024 .f32) : FVec Ideal S4096x1024 .f32 :=
  transpose Cert.Reference3Ideal.S4096x1024 [1, 0] (Host.dotGeneral Cert.Reference3Ideal.dot_S8192x1024_S8192x4096_S1024x4096_0_0_1_1_n_n none y x : FVec Ideal Cert.Reference3Ideal.S1024x4096 .f32) Cert.Reference3Ideal.Gen.transposes_S1024x4096_S4096x1024_1_0

/-- The reference's result at an index. -/
theorem ref_at (x : FVec Ideal S8192x4096 .f32) (y : FVec Ideal S8192x1024 .f32) (a : Fin 4096) (b : Fin 1024) :
    ref x y (ix2 a b) = ∑ u, x (ix2 u a) * y (ix2 u b) := by
  refine Eq.trans (b := ∑ u, y (ix2 u b) * x (ix2 u a)) ?_ (Finset.sum_congr rfl fun u _ => mul_comm _ _)
  pointwise [ref]

/-- The result's array holds the reference's result. -/
theorem final : (dats m 0 c).arrAt 2 cfg0.N = ref (X m c) (Y m c) := by
  refine (dats m 0 c).arrAt_eq_of_covers 2 _ (by decide +kernel) (fun t hf y => ?_)
  obtain ⟨a, b, rfl⟩ : ∃ (a b : Fin 1024), y = (ix2 a b : S1024x1024.Idx) := ⟨y 0, y 1, by funext x; fin_cases x <;> rfl⟩
  blk_simp
  rw [after0_2, outsAt_2_eq]
  refine Eq.trans ?_ (emb2 t (ref (X m c) (Y m c)) a b).symm
  rw [ref_at]
  exact total (reset2 m c) (step2 m c) (fun o : Vec Ideal S1024x1024 .f32 => o (ix2 a b)) (k0_pay1 (F := Ideal)) (fun u => X m c (ix2 u (col t a))) (fun u => Y m c (ix2 u b))
    (fun n h s => iblk m c 0 ⟨n, h⟩ (ix2 s a : S2048x1024.Idx)) (fun n h s => iblk m c 1 ⟨n, h⟩ (ix2 s b : S2048x1024.Idx)) (t.val / 4) _ ((flush0_2 t).mp hf)
    (fun _ _ => rfl) (start a b) (fun n h o => gain o _ _ a b)
    (fun n h s e => (blk_x m c ⟨n, h⟩ s a).trans (congrArg (fun i => X m c (ix2 (row n s) i)) (Fin.ext (by simp only [col, e]))))
    (fun n h s _ => blk_y m c ⟨n, h⟩ s b) _

/-- Every run ends with the reference's result, and the arguments unchanged. -/
theorem values (ρ : Dev nD → PrngReg) :
    θ_run defs (onTc (τ := τ) (main (F := Ideal))) ⟨m, fun _ => 0, ρ⟩ (fun r => ∀ c : Dev nD,
      r.2.mem ((c.tc : Thread nD τ).loc main_v2) = ref (X m c) (Y m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (final m c), (h c).2⟩) (run_blocks m ρ)

end Cert.Kernel3Ideal.Own

end
-- ==== Proof.TilesIn.lean ====
/- The gradient of the input projection: the blocks, their sum, and the result's array. -/
module

public import proofs.«01_k».proof.Proof.Gen.Kernel4Ideal.Value
public import proofs.«01_k».proof.Proof.Gen.Reference4Ideal.Run
public import proofs.«01_k».proof.Proof.Tiles
public import Idealize.ShloMosaic.Lib.Pipeline.ValueKit
public import Idealize.ShloMosaic.Lib.StableHlo.RunRead

@[expose] public section

set_option maxRecDepth 16384

noncomputable section

namespace Cert.Kernel4Ideal.Own

open Idealize.ShloMosaic Idealize.ShloMosaic.TcCoe Idealize.ShloMosaic.Pointwise Idealize.SL.Sem Cert.Kernel4Ideal Cert.Kernel4Ideal.Gen Cert.Kernel4Ideal.Value Tiles

/-- A block of the result gains the product of two blocks. -/
theorem gain (o : Vec Ideal S1024x1024 .f32) (x y : Vec Ideal S2048x1024 .bf16) (a b : Fin 1024) :
    k0_pay2 o x y (ix2 a b) = o (ix2 a b) + ∑ s, x (ix2 s a) * y (ix2 s b) := by
  pointwise [k0_pay2]

/-- A block of the result starts at zero. -/
theorem start (a b : Fin 1024) : k0_pay1 (F := Ideal) (ix2 a b) = 0 := by
  pointwise [k0_pay1]

/-- The block each window reads or writes at a grid point. -/
theorem idx0 : ∀ t : Fin cfg0.N, win0_0.index t = ![t.val % 4, 0] := (by decide +kernel : ∀ t : Fin grid0.N, win0_0.index t = ![t.val % 4, 0])
theorem idx1 : ∀ t : Fin cfg0.N, win0_1.index t = ![t.val % 4, t.val / 4] := (by decide +kernel : ∀ t : Fin grid0.N, win0_1.index t = ![t.val % 4, t.val / 4])
theorem idx2 : ∀ t : Fin cfg0.N, win0_2.index t = ![0, t.val / 4] := (by decide +kernel : ∀ t : Fin grid0.N, win0_2.index t = ![0, t.val / 4])

/-- A column of the block of 1024 columns of the second factor that a point reads. -/
def col (t : Fin cfg0.N) (b : Fin 1024) : Fin 7168 := ⟨t.val / 4 * 1024 + b.val, by have : t.val < 28 := lt_of_lt_of_eq t.isLt (show cfg0.N = 28 from N_0); omega⟩

/-- Where the blocks lie in their arrays. -/
theorem emb0 (t : Fin cfg0.N) (f : FVec Ideal S8192x1024 .bf16) (s : Fin 2048) (a : Fin 1024) :
    f ((win0_0.blk t).view.emb (ix2 s a : S2048x1024.Idx)) = f (ix2 (row t.val s) a) := by
  blk_ext [idx0 t, row]
theorem emb1 (t : Fin cfg0.N) (f : FVec Ideal S8192x7168 .bf16) (s : Fin 2048) (b : Fin 1024) :
    f ((win0_1.blk t).view.emb (ix2 s b : S2048x1024.Idx)) = f (ix2 (row t.val s) (col t b)) := by
  blk_ext [idx1 t, row, col]
theorem emb2 (t : Fin cfg0.N) (f : FVec Ideal S1024x7168 .f32) (a b : Fin 1024) :
    f ((win0_2.blk t).view.emb (ix2 a b : S1024x1024.Idx)) = f (ix2 a (col t b)) := by
  blk_ext [idx2 t, col]

variable (m : (ℓ : Loc nD τ sig) → Buf (Elt Ideal) ℓ) (c : Dev nD)

/-- The two factors. -/
abbrev X : FVec Ideal S8192x1024 .f32 := m ((c.tc : Thread nD τ).loc main_arg0)
abbrev Y : FVec Ideal S8192x7168 .f32 := m ((c.tc : Thread nD τ).loc main_arg1)

/-- The arrays the kernel stages are the factors. -/
theorem V_x : V m c main_v0 = truncf .bf16 (X m c) bitsLt_bf16_f32 := by
  unfold V hostOps0
  after_reads_simp
theorem V_y : V m c main_v1 = truncf .bf16 (Y m c) bitsLt_bf16_f32 := by
  unfold V hostOps0
  after_reads_simp

/-- The blocks a point reads are blocks of the factors. -/
theorem blk_x (t : Fin cfg0.N) (s : Fin 2048) (a : Fin 1024) : iblk m c 0 t (ix2 s a : S2048x1024.Idx) = X m c (ix2 (row t.val s) a) := by
  refine (emb0 t (V m c main_v0) s a).trans ?_
  rw [V_x]; rfl
theorem blk_y (t : Fin cfg0.N) (s : Fin 2048) (b : Fin 1024) : iblk m c 1 t (ix2 s b : S2048x1024.Idx) = Y m c (ix2 (row t.val s) (col t b)) := by
  refine (emb1 t (V m c main_v1) s b).trans ?_
  rw [V_y]; rfl

/-- The reference's result at two factors. -/
def ref (x : FVec Ideal S8192x1024 .f32) (y : FVec Ideal S8192x7168 .f32) : FVec Ideal S1024x7168 .f32 :=
  transpose Cert.Reference4Ideal.S1024x7168 [1, 0] (Host.dotGeneral Cert.Reference4Ideal.dot_S8192x7168_S8192x1024_S7168x1024_0_0_1_1_n_n none y x : FVec Ideal Cert.Reference4Ideal.S7168x1024 .f32) Cert.Reference4Ideal.Gen.transposes_S7168x1024_S1024x7168_1_0

/-- The reference's result at an index. -/
theorem ref_at (x : FVec Ideal S8192x1024 .f32) (y : FVec Ideal S8192x7168 .f32) (a : Fin 1024) (b : Fin 7168) :
    ref x y (ix2 a b) = ∑ u, x (ix2 u a) * y (ix2 u b) := by
  refine Eq.trans (b := ∑ u, y (ix2 u b) * x (ix2 u a)) ?_ (Finset.sum_congr rfl fun u _ => mul_comm _ _)
  pointwise [ref]

/-- The result's array holds the reference's result. -/
theorem final : (dats m 0 c).arrAt 2 cfg0.N = ref (X m c) (Y m c) := by
  refine (dats m 0 c).arrAt_eq_of_covers 2 _ (by decide +kernel) (fun t hf y => ?_)
  obtain ⟨a, b, rfl⟩ : ∃ (a b : Fin 1024), y = (ix2 a b : S1024x1024.Idx) := ⟨y 0, y 1, by funext x; fin_cases x <;> rfl⟩
  blk_simp
  rw [after0_2, outsAt_2_eq]
  refine Eq.trans ?_ (emb2 t (ref (X m c) (Y m c)) a b).symm
  rw [ref_at]
  exact total (reset2 m c) (step2 m c) (fun o : Vec Ideal S1024x1024 .f32 => o (ix2 a b)) (k0_pay1 (F := Ideal)) (fun u => X m c (ix2 u a)) (fun u => Y m c (ix2 u (col t b)))
    (fun n h s => iblk m c 0 ⟨n, h⟩ (ix2 s a : S2048x1024.Idx)) (fun n h s => iblk m c 1 ⟨n, h⟩ (ix2 s b : S2048x1024.Idx)) (t.val / 4) _ ((flush0_2 t).mp hf)
    (fun _ _ => rfl) (start a b) (fun n h o => gain o _ _ a b)
    (fun n h s _ => blk_x m c ⟨n, h⟩ s a)
    (fun n h s e => (blk_y m c ⟨n, h⟩ s b).trans (congrArg (fun i => Y m c (ix2 (row n s) i)) (Fin.ext (by simp only [col, e])))) _

/-- Every run ends with the reference's result, and the arguments unchanged. -/
theorem values (ρ : Dev nD → PrngReg) :
    θ_run defs (onTc (τ := τ) (main (F := Ideal))) ⟨m, fun _ => 0, ρ⟩ (fun r => ∀ c : Dev nD,
      r.2.mem ((c.tc : Thread nD τ).loc main_v2) = ref (X m c) (Y m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (final m c), (h c).2⟩) (run_blocks m ρ)

end Cert.Kernel4Ideal.Own

end
-- ==== Proof.TilesOut.lean ====
/- The gradient of the output projection: the blocks, their sum, and the result's array. -/
module

public import proofs.«01_k».proof.Proof.Gen.Kernel5Ideal.Value
public import proofs.«01_k».proof.Proof.Gen.Reference5Ideal.Run
public import proofs.«01_k».proof.Proof.Tiles
public import Idealize.ShloMosaic.Lib.Pipeline.ValueKit
public import Idealize.ShloMosaic.Lib.StableHlo.RunRead

@[expose] public section

set_option maxRecDepth 16384

noncomputable section

namespace Cert.Kernel5Ideal.Own

open Idealize.ShloMosaic Idealize.ShloMosaic.TcCoe Idealize.ShloMosaic.Pointwise Idealize.SL.Sem Cert.Kernel5Ideal Cert.Kernel5Ideal.Gen Cert.Kernel5Ideal.Value Tiles

/-- A block of the result gains the product of two blocks. -/
theorem gain (o : Vec Ideal S1024x1024 .f32) (x y : Vec Ideal S2048x1024 .bf16) (a b : Fin 1024) :
    k0_pay2 o x y (ix2 a b) = o (ix2 a b) + ∑ s, x (ix2 s a) * y (ix2 s b) := by
  pointwise [k0_pay2]

/-- A block of the result starts at zero. -/
theorem start (a b : Fin 1024) : k0_pay1 (F := Ideal) (ix2 a b) = 0 := by
  pointwise [k0_pay1]

/-- The block each window reads or writes at a grid point. -/
theorem idx0 : ∀ t : Fin cfg0.N, win0_0.index t = ![t.val % 4, 0] := (by decide +kernel : ∀ t : Fin grid0.N, win0_0.index t = ![t.val % 4, 0])
theorem idx1 : ∀ t : Fin cfg0.N, win0_1.index t = ![t.val % 4, t.val / 4] := (by decide +kernel : ∀ t : Fin grid0.N, win0_1.index t = ![t.val % 4, t.val / 4])
theorem idx2 : ∀ t : Fin cfg0.N, win0_2.index t = ![0, t.val / 4] := (by decide +kernel : ∀ t : Fin grid0.N, win0_2.index t = ![0, t.val / 4])

/-- A column of the block of 1024 columns of the second factor that a point reads. -/
def col (t : Fin cfg0.N) (b : Fin 1024) : Fin 1024 := ⟨t.val / 4 * 1024 + b.val, by have : t.val < 4 := lt_of_lt_of_eq t.isLt (show cfg0.N = 4 from N_0); omega⟩

/-- Where the blocks lie in their arrays. -/
theorem emb0 (t : Fin cfg0.N) (f : FVec Ideal S8192x1024 .bf16) (s : Fin 2048) (a : Fin 1024) :
    f ((win0_0.blk t).view.emb (ix2 s a : S2048x1024.Idx)) = f (ix2 (row t.val s) a) := by
  blk_ext [idx0 t, row]
theorem emb1 (t : Fin cfg0.N) (f : FVec Ideal S8192x1024 .bf16) (s : Fin 2048) (b : Fin 1024) :
    f ((win0_1.blk t).view.emb (ix2 s b : S2048x1024.Idx)) = f (ix2 (row t.val s) (col t b)) := by
  blk_ext [idx1 t, row, col]
theorem emb2 (t : Fin cfg0.N) (f : FVec Ideal S1024x1024 .f32) (a b : Fin 1024) :
    f ((win0_2.blk t).view.emb (ix2 a b : S1024x1024.Idx)) = f (ix2 a (col t b)) := by
  blk_ext [idx2 t, col]

variable (m : (ℓ : Loc nD τ sig) → Buf (Elt Ideal) ℓ) (c : Dev nD)

/-- The two factors. -/
abbrev X : FVec Ideal S8192x1024 .f32 := m ((c.tc : Thread nD τ).loc main_arg0)
abbrev Y : FVec Ideal S8192x1024 .f32 := m ((c.tc : Thread nD τ).loc main_arg1)

/-- The arrays the kernel stages are the factors. -/
theorem V_x : V m c main_v0 = truncf .bf16 (X m c) bitsLt_bf16_f32 := by
  unfold V hostOps0
  after_reads_simp
theorem V_y : V m c main_v1 = truncf .bf16 (Y m c) bitsLt_bf16_f32 := by
  unfold V hostOps0
  after_reads_simp

/-- The blocks a point reads are blocks of the factors. -/
theorem blk_x (t : Fin cfg0.N) (s : Fin 2048) (a : Fin 1024) : iblk m c 0 t (ix2 s a : S2048x1024.Idx) = X m c (ix2 (row t.val s) a) := by
  refine (emb0 t (V m c main_v0) s a).trans ?_
  rw [V_x]; rfl
theorem blk_y (t : Fin cfg0.N) (s : Fin 2048) (b : Fin 1024) : iblk m c 1 t (ix2 s b : S2048x1024.Idx) = Y m c (ix2 (row t.val s) (col t b)) := by
  refine (emb1 t (V m c main_v1) s b).trans ?_
  rw [V_y]; rfl

/-- The reference's result at two factors. -/
def ref (x : FVec Ideal S8192x1024 .f32) (y : FVec Ideal S8192x1024 .f32) : FVec Ideal S1024x1024 .f32 :=
  transpose Cert.Reference5Ideal.S1024x1024 [1, 0] (Host.dotGeneral Cert.Reference5Ideal.dot_S8192x1024_S8192x1024_S1024x1024_0_0_1_1_n_n none y x : FVec Ideal Cert.Reference5Ideal.S1024x1024 .f32) Cert.Reference5Ideal.Gen.transposes_S1024x1024_S1024x1024_1_0

/-- The reference's result at an index. -/
theorem ref_at (x : FVec Ideal S8192x1024 .f32) (y : FVec Ideal S8192x1024 .f32) (a : Fin 1024) (b : Fin 1024) :
    ref x y (ix2 a b) = ∑ u, x (ix2 u a) * y (ix2 u b) := by
  refine Eq.trans (b := ∑ u, y (ix2 u b) * x (ix2 u a)) ?_ (Finset.sum_congr rfl fun u _ => mul_comm _ _)
  pointwise [ref]

/-- The result's array holds the reference's result. -/
theorem final : (dats m 0 c).arrAt 2 cfg0.N = ref (X m c) (Y m c) := by
  refine (dats m 0 c).arrAt_eq_of_covers 2 _ (by decide +kernel) (fun t hf y => ?_)
  obtain ⟨a, b, rfl⟩ : ∃ (a b : Fin 1024), y = (ix2 a b : S1024x1024.Idx) := ⟨y 0, y 1, by funext x; fin_cases x <;> rfl⟩
  blk_simp
  rw [after0_2, outsAt_2_eq]
  refine Eq.trans ?_ (emb2 t (ref (X m c) (Y m c)) a b).symm
  rw [ref_at]
  exact total (reset2 m c) (step2 m c) (fun o : Vec Ideal S1024x1024 .f32 => o (ix2 a b)) (k0_pay1 (F := Ideal)) (fun u => X m c (ix2 u a)) (fun u => Y m c (ix2 u (col t b)))
    (fun n h s => iblk m c 0 ⟨n, h⟩ (ix2 s a : S2048x1024.Idx)) (fun n h s => iblk m c 1 ⟨n, h⟩ (ix2 s b : S2048x1024.Idx)) (t.val / 4) _ ((flush0_2 t).mp hf)
    (fun _ _ => rfl) (start a b) (fun n h o => gain o _ _ a b)
    (fun n h s _ => blk_x m c ⟨n, h⟩ s a)
    (fun n h s e => (blk_y m c ⟨n, h⟩ s b).trans (congrArg (fun i => Y m c (ix2 (row n s) i)) (Fin.ext (by simp only [col, e])))) _

/-- Every run ends with the reference's result, and the arguments unchanged. -/
theorem values (ρ : Dev nD → PrngReg) :
    θ_run defs (onTc (τ := τ) (main (F := Ideal))) ⟨m, fun _ => 0, ρ⟩ (fun r => ∀ c : Dev nD,
      r.2.mem ((c.tc : Thread nD τ).loc main_v2) = ref (X m c) (Y m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (final m c), (h c).2⟩) (run_blocks m ρ)

end Cert.Kernel5Ideal.Own

end
-- ==== Proof.FwdRun.lean ====
/- The forward pass at a grid point: the run of the body, with the loop over pairs of blocks of keys by induction. -/
module

public import proofs.«01_k».proof.Proof.Gen.Kernel7Ideal.Frame.Runs
public import proofs.«01_k».proof.Proof.RunI

@[expose] public section

set_option maxRecDepth 16384

noncomputable section

namespace Cert.Kernel7Ideal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel7Ideal Cert.Kernel7Ideal.Gen
open Cert.KernelIdeal.Own (off2 off3)

variable {F : FTy → Type} [FloatOps F] [Named F]

local notation "𝕄" => MT nD τ sig Unit (Elt F) ℕ (UR sig nD τ) ℕ

/-- The last write of a whole view is what it holds. -/
theorem read_top {sg : RefSig} {κ' : Kind} {sp : Space} {s : Shape} {e : EltTy} {Val : EltTy → Type}
    [∀ e, Nonempty (Val e)] (v : View sg κ' sp s e)
    (f : v.ty.Contents Val) {off : Fin s.rank → ℕ} (h : off = fun _ => 0) (inb : ∀ a, off a + s.size a ≤ s.size a)
    (w : s.Idx → Val e) (L : List (View.Piece Val s e)) :
    v.read Val (v.writes Val f (⟨Rect.unit off s.size inb, w⟩ :: L)) = w := by
  subst h
  funext y
  exact View.read_writes_cons_unit_of_mem v f inb w L y y rfl (fun a => (Nat.zero_add _).symm)

/-- Loading a whole block reads all of it. -/
theorem ld_q {e : EltTy} (X : S512x128.Idx → Elt F e) (inb : ∀ a, (![0, 0] : Fin 2 → ℕ) a + (![512, 128] : Fin 2 → ℕ) a ≤ S512x128.size a) :
    View.ld X (Rect.unit (s := S512x128) ![0, 0] ![512, 128] inb) = X := View.ld_unit_zero (S := S512x128) off2 inb X
theorem ld_w {e : EltTy} (X : S512x256.Idx → Elt F e) (inb : ∀ a, (![0, 0] : Fin 2 → ℕ) a + (![512, 256] : Fin 2 → ℕ) a ≤ S512x256.size a) :
    View.ld X (Rect.unit (s := S512x256) ![0, 0] ![512, 256] inb) = X := View.ld_unit_zero (S := S512x256) off2 inb X
theorem ld_s {e : EltTy} (X : S512x512.Idx → Elt F e) (inb : ∀ a, (![0, 0] : Fin 2 → ℕ) a + (![512, 512] : Fin 2 → ℕ) a ≤ S512x512.size a) :
    View.ld X (Rect.unit (s := S512x512) ![0, 0] ![512, 512] inb) = X := View.ld_unit_zero (S := S512x512) off2 inb X

theorem ld_c {e : EltTy} (X : S1x512x128.Idx → Elt F e) (inb : ∀ a, (![0, 0, 0] : Fin 3 → ℕ) a + (![1, 512, 128] : Fin 3 → ℕ) a ≤ S1x512x128.size a) :
    View.ld X (Rect.unit (s := S1x512x128) ![0, 0, 0] ![1, 512, 128] inb) = X := View.ld_unit_zero (S := S1x512x128) off3 inb X

/-- Loading a whole block just written reads what was written. -/
theorem cov_q (V : View sig .tc .vmem S512x128 .f32) (inb inb' : ∀ a, (![0, 0] : Fin 2 → ℕ) a + (![512, 128] : Fin 2 → ℕ) a ≤ S512x128.size a)
    (w : Vec F S512x128 .f32) : V.readCov (Val := Elt F) [⟨Rect.unit ![0, 0] ![512, 128] inb, w⟩] (Rect.unit (s := S512x128) ![0, 0] ![512, 128] inb').toLoadRect = w :=
  View.readCov_unit_zero (S := S512x128) V off2 inb w
theorem cov_w (V : View sig .tc .vmem S512x256 .f32) (inb inb' : ∀ a, (![0, 0] : Fin 2 → ℕ) a + (![512, 256] : Fin 2 → ℕ) a ≤ S512x256.size a)
    (w : Vec F S512x256 .f32) : V.readCov (Val := Elt F) [⟨Rect.unit ![0, 0] ![512, 256] inb, w⟩] (Rect.unit (s := S512x256) ![0, 0] ![512, 256] inb').toLoadRect = w :=
  View.readCov_unit_zero (S := S512x256) V off2 inb w
theorem cov_s (V : View sig .tc .vmem S512x512 .f32) (inb inb' : ∀ a, (![0, 0] : Fin 2 → ℕ) a + (![512, 512] : Fin 2 → ℕ) a ≤ S512x512.size a)
    (w : Vec F S512x512 .f32) : V.readCov (Val := Elt F) [⟨Rect.unit ![0, 0] ![512, 512] inb, w⟩] (Rect.unit (s := S512x512) ![0, 0] ![512, 512] inb').toLoadRect = w :=
  View.readCov_unit_zero (S := S512x512) V off2 inb w

/-- Loading a part of what was just written whole reads that part of it. -/
theorem cov_ld {S : Shape} {e : EltTy} {κ' : Kind} {sp : Space} {sg : RefSig} (V : View sg κ' sp S e) {off : Fin S.rank → ℕ} (h : off = fun _ => 0)
    (inb : ∀ a, off a + S.size a ≤ S.size a) (w : S.Idx → Elt F e) (r : Rect S) :
    V.readCov (Val := Elt F) [⟨Rect.unit off S.size inb, w⟩] r.toLoadRect = View.ld w r := by
  rw [View.readCov_eq_canon_ld _ _ _ (fun y => ⟨_, List.mem_singleton_self _, View.mem_set_unit_zero h inb y⟩), View.canon_unit_zero h]
@[inherit_doc cov_ld]
theorem cov_part (V : View sig .tc .vmem S512x256 .f32) (inb : ∀ a, (![0, 0] : Fin 2 → ℕ) a + (![512, 256] : Fin 2 → ℕ) a ≤ S512x256.size a)
    (w : Vec F S512x256 .f32) (off : Fin 2 → ℕ) (inb' : ∀ a, off a + (![512, 128] : Fin 2 → ℕ) a ≤ S512x256.size a) :
    V.readCov (Val := Elt F) [⟨Rect.unit ![0, 0] ![512, 256] inb, w⟩] (Rect.unit (s := S512x256) off ![512, 128] inb').toLoadRect
      = View.ld w (Rect.unit (s := S512x256) off ![512, 128] inb') := cov_ld V off2 inb w _

/-- What the body keeps in its scratch: the row maxima, the weighted sums, and two blocks of scores. -/
structure St (F : FTy → Type) where
  top : Vec F S512x128 .f32
  acc : Vec F S512x256 .f32
  sa : Vec F S512x512 .f32
  sb : Vec F S512x512 .f32

/-- The row maxima after a block of scores. -/
def topOf (s : Vec F S512x512 .f32) (m : Vec F S512x128 .f32) : Vec F S512x128 .f32 := k0_pay7 s m

/-- The weighted sums after a block of scores with its block of values. -/
def accOf (v : Vec F S512x128 .bf16) (s : Vec F S512x512 .f32) (m : Vec F S512x128 .f32) (a : Vec F S512x256 .f32) : Vec F S512x256 .f32 :=
  k0_pay10 (k0_pay6 k0_pay33 v) (k0_pay8 s m) (k0_pay9 s m a)

/-- The printed forms of the two, before the diagonal and on it. -/
theorem top_11 (s : Vec F S512x512 .f32) (m : Vec F S512x128 .f32) : k0_pay11 (k0_pay7 s m) = topOf s m := by
  simp only [k0_pay11, shapeCast_self]; rfl
theorem top_39 (s : Vec F S512x512 .f32) (m : Vec F S512x128 .f32) : k0_pay39 s m = topOf s m := by
  simp only [k0_pay39, shapeCast_self]; rfl
theorem top_28 (s : Vec F S512x512 .f32) (m : Vec F S512x128 .f32) : k0_pay28 (k0_pay24 s m) = topOf s m := by
  simp only [k0_pay28, shapeCast_self]; rfl
theorem top_2 (x : BitVec 32) (s : Vec F S512x512 .f32) (m : Vec F S512x128 .f32) : k0_pay2 (k0_pay30 x s m) = topOf (k0_pay43 x s) m := by
  simp only [k0_pay2, shapeCast_self]; rfl
theorem top_46 (x : BitVec 32) (s : Vec F S512x512 .f32) (m : Vec F S512x128 .f32) : k0_pay46 x s m = topOf (k0_pay43 x s) m := by
  simp only [k0_pay46, shapeCast_self]; rfl
theorem acc_38 (v : Vec F S512x128 .bf16) (s : Vec F S512x512 .f32) (m : Vec F S512x128 .f32) (a : Vec F S512x256 .f32) :
    k0_pay38 (k0_pay13 k0_pay33 v) s m a = accOf v s m a := by
  simp only [k0_pay38, k0_pay13, accOf, k0_pay10, k0_pay6, shapeCast_self]; rfl
theorem acc_27 (v : Vec F S512x128 .bf16) (s : Vec F S512x512 .f32) (m : Vec F S512x128 .f32) (a : Vec F S512x256 .f32) :
    k0_pay27 (k0_pay25 s m a) (k0_pay26 k0_pay33 v s m) = accOf v s m a := by
  simp only [k0_pay27, k0_pay26, accOf, k0_pay10, k0_pay6, shapeCast_self]; rfl
theorem acc_1 (x : BitVec 32) (v : Vec F S512x128 .bf16) (s : Vec F S512x512 .f32) (m : Vec F S512x128 .f32) (a : Vec F S512x256 .f32) :
    k0_pay1 (k0_pay31 x k0_pay33 v s m a) = accOf v (k0_pay43 x s) m a := by
  simp only [k0_pay1, k0_pay31, accOf, k0_pay10, k0_pay6, shapeCast_self]; rfl
theorem acc_45 (x : BitVec 32) (v : Vec F S512x128 .bf16) (s : Vec F S512x512 .f32) (m : Vec F S512x128 .f32) (a : Vec F S512x256 .f32) :
    k0_pay45 x k0_pay33 v s m a = accOf v (k0_pay43 x s) m a := by
  simp only [k0_pay45, accOf, k0_pay10, k0_pay6, shapeCast_self]; rfl

/-- Two blocks of keys before the diagonal: the scores of the next two are prepared while the last two are summed. -/
def step (i : grid0.Coords) (x0 : Vec F S512x128 .bf16) (x1 : Vec F S8192x256 .bf16) (x3 : Vec F S1x16x512 .f32)
    (k : Fin (k0_t1_loop i).trips) (s : St F) : St F :=
  let va : Vec F S512x128 .bf16 := View.ld x1 (Rect.unit (s := S8192x256) (k0_off3 i k) S512x128.size (k0_off3_inb i k))
  let vb : Vec F S512x128 .bf16 := View.ld x1 (Rect.unit (s := S8192x256) (k0_off4 i k) S512x128.size (k0_off4_inb i k))
  let sb : Vec F S512x512 .f32 := k0_pay36 x0
    (View.ld x1 (Rect.unit (s := S8192x256) (k0_off1 i k 1#32) S512x128.size (k0_off1_inb i k 0)))
    (View.ld x3 (Rect.unit (s := S1x16x512) (k0_off2 i k 1#32) S1x1x512.size (k0_off2_inb i k 0)))
  let sa : Vec F S512x512 .f32 := k0_pay36 x0
    (View.ld x1 (Rect.unit (s := S8192x256) (k0_off1 i k 2#32) S512x128.size (k0_off1_inb i k 1)))
    (View.ld x3 (Rect.unit (s := S1x16x512) (k0_off2 i k 2#32) S1x1x512.size (k0_off2_inb i k 1)))
  { top := topOf sb (topOf s.sa s.top)
    acc := accOf vb sb (topOf s.sa s.top) (accOf va s.sa s.top s.acc)
    sa := sa
    sb := sb }

/-- The state after the first `k` pairs. -/
def steps (i : grid0.Coords) (x0 : Vec F S512x128 .bf16) (x1 : Vec F S8192x256 .bf16) (x3 : Vec F S1x16x512 .f32) (s : St F) : ℕ → St F
  | 0 => s
  | k + 1 => if h : k < (k0_t1_loop i).trips then step i x0 x1 x3 ⟨k, h⟩ (steps i x0 x1 x3 s k) else steps i x0 x1 x3 s k

/-- One more pair. -/
theorem steps_succ (i : grid0.Coords) (x0 : Vec F S512x128 .bf16) (x1 : Vec F S8192x256 .bf16) (x3 : Vec F S1x16x512 .f32) (s : St F)
    (k : Fin (k0_t1_loop i).trips) :
    steps i x0 x1 x3 s (k.val + 1) = step i x0 x1 x3 k (steps i x0 x1 x3 s k.val) := by
  rw [steps, dif_pos k.isLt]

section
variable (c : Dev nD) (i : grid0.Coords) (arg2 : Memref sig .tc .vmem S512x128 .bf16) (harg2 : arg2.IsWhole) (arg3 : Memref sig .tc .vmem S8192x256 .bf16) (harg3 : arg3.IsWhole) (arg4 : Memref sig .tc .vmem S1x512x128 .f32) (harg4 : arg4.IsWhole) (arg5 : Memref sig .tc .vmem S1x16x512 .f32) (harg5 : arg5.IsWhole) (arg6 : Memref sig .tc .vmem S512x128 .bf16) (harg6 : arg6.IsWhole) (arg7 : Memref sig .tc .vmem S1x512x128 .f32) (harg7 : arg7.IsWhole) (arg8 : Memref sig .tc .vmem S512x128 .f32) (harg8 : arg8.IsWhole) (arg9 : Memref sig .tc .vmem S512x256 .f32) (harg9 : arg9.IsWhole) (arg10 : Memref sig .tc .vmem S512x512 .f32) (harg10 : arg10.IsWhole) (arg11 : Memref sig .tc .vmem S512x512 .f32) (harg11 : arg11.IsWhole)

/-- The scratch, held at a state. -/
abbrev held (s : St F) : sProp 𝕄 :=
  iprop(owns (c : Thread nD τ) arg8 fullShare s.top ∗ owns (c : Thread nD τ) arg9 fullShare s.acc
    ∗ owns (c : Thread nD τ) arg10 fullShare s.sa ∗ owns (c : Thread nD τ) arg11 fullShare s.sb)

/-- The inputs that the loop reads. -/
abbrev given3 (x0 : Vec F S512x128 .bf16) (x1 : Vec F S8192x256 .bf16) (x3 : Vec F S1x16x512 .f32) : sProp 𝕄 :=
  iprop(owns (c : Thread nD τ) arg2 fullShare x0 ∗ owns (c : Thread nD τ) arg3 fullShare x1 ∗ owns (c : Thread nD τ) arg5 fullShare x3)

/-- One trip of the loop takes the scratch to its next state. -/
theorem trip (x0 : Vec F S512x128 .bf16) (x1 : Vec F S8192x256 .bf16) (x3 : Vec F S1x16x512 .f32) (s : St F) (arg1 : BitVec 32)
    (c2 v25 v30 c0 : BitVec 32) (k : Fin (k0_t1_loop i).trips) (u : Unit) (E : Set ℕ) :
    iprop(given3 c arg2 arg3 arg5 x0 x1 x3 ∗ held c arg8 arg9 arg10 arg11 s)
      ⊢ wp frame (wpE (defs₀ (F := F)) Variants.none (c : Thread nD τ) none) E
          (k0_t1_body (F := F) i arg2 harg2 arg3 harg3 arg4 harg4 arg5 harg5 arg6 harg6 arg7 harg7 arg8 harg8 arg9 harg9 arg10 harg10 arg11 harg11 arg1 k0_pay33 c2 v25 v30 c0 k u)
          (fun _ => iprop(given3 c arg2 arg3 arg5 x0 x1 x3 ∗ held c arg8 arg9 arg10 arg11 (step i x0 x1 x3 k s))) := by
  obtain ⟨top, acc, sa, sb⟩ := s
  unfold k0_t1_body held given3 owns
  simp only [k0_part1_eq_skeleton, k0_part2_eq_skeleton]
  iintro ⟨⟨⟨%f0, %h0, H0⟩, ⟨%f1, %h1, H1⟩, ⟨%f3, %h3, H3⟩⟩, ⟨%f8, %h8, H8⟩, ⟨%f9, %h9, H9⟩, ⟨%f10, %h10, H10⟩, ⟨%f11, %h11, H11⟩⟩
  subst h0 h1 h3 h8 h9 h10 h11
  sl_exec
  sl_step
  isplitl [H0 H1 H3]
  · isplitl [H0]; · iexists _; isplitr; · ipureintro; rfl
                    iexact H0
    isplitl [H1]; · iexists _; isplitr; · ipureintro; rfl
                    iexact H1
    iexists _; isplitr; · ipureintro; rfl
    iexact H3
  isplitl [H8]
  · iexists _; isplitr; swap; · iexact H8
    ipureintro
    sl_unfold_run_names
    rw [read_top _ _ off2]
    simp only [View.readAt_eq_ld, ld_q, ld_w, ld_s, cov_q, cov_w, cov_s, top_39, top_11]
    rfl
  isplitl [H9]
  · iexists _; isplitr; swap; · iexact H9
    ipureintro
    sl_unfold_run_names
    rw [read_top _ _ off2]
    simp only [View.readAt_eq_ld, ld_q, ld_w, ld_s, cov_q, cov_w, cov_s, acc_38, top_11]
    rfl
  isplitl [H10]
  · iexists _; isplitr; swap; · iexact H10
    ipureintro
    sl_unfold_run_names
    rw [read_top _ _ off2]
    simp only [View.readAt_eq_ld, ld_q, ld_w, ld_s]
    rfl
  · iexists _; isplitr; swap; · iexact H11
    ipureintro
    sl_unfold_run_names
    rw [read_top _ _ off2]
    simp only [View.readAt_eq_ld, ld_q, ld_w, ld_s]
    rfl

/-- The loop over the pairs of blocks. -/
theorem loop1 (x0 : Vec F S512x128 .bf16) (x1 : Vec F S8192x256 .bf16) (x3 : Vec F S1x16x512 .f32) (s : St F) (arg1 : BitVec 32)
    (c2 v25 v30 c0 : BitVec 32) (E : Set ℕ) :
    iprop(given3 c arg2 arg3 arg5 x0 x1 x3 ∗ held c arg8 arg9 arg10 arg11 s)
      ⊢ wp frame (wpE (defs₀ (F := F)) Variants.none (c : Thread nD τ) none) E
          (Scf.Loop.for (k0_t1_loop i) (k0_t1_ok i) () (k0_t1_body (F := F) i arg2 harg2 arg3 harg3 arg4 harg4 arg5 harg5 arg6 harg6 arg7 harg7 arg8 harg8 arg9 harg9 arg10 harg10 arg11 harg11 arg1 k0_pay33 c2 v25 v30 c0))
          (fun _ => iprop(given3 c arg2 arg3 arg5 x0 x1 x3 ∗ held c arg8 arg9 arg10 arg11 (steps i x0 x1 x3 s (k0_t1_loop i).trips))) := by
  iintro H
  iapply (Scf.wp_for frame (wpE (defs₀ (F := F)) Variants.none (c : Thread nD τ) none) E _ _ _ _ _ _
    (fun k _ => iprop(given3 c arg2 arg3 arg5 x0 x1 x3 ∗ held c arg8 arg9 arg10 arg11 (steps i x0 x1 x3 s k)))
    (fun k u => by
      rw [steps_succ i x0 x1 x3 s k]
      exact trip c i arg2 harg2 arg3 harg3 arg4 harg4 arg5 harg5 arg6 harg6 arg7 harg7 arg8 harg8 arg9 harg9 arg10 harg10 arg11 harg11 x0 x1 x3 _ arg1 c2 v25 v30 c0 k u E))
  isplitl [H]
  · iexact H
  · iintro %_ H
    iexact H

/-- The state before the loop: nothing summed, and the scores of the first block. -/
def start (x0 : Vec F S512x128 .bf16) (x1 : Vec F S8192x256 .bf16) (x3 : Vec F S1x16x512 .f32) (j : Vec F S512x512 .f32) : St F :=
  { top := k0_pay34
    acc := k0_pay35
    sa := k0_pay36 x0 (View.ld x1 (Rect.unit (s := S8192x256) ![0, 0] S512x128.size inb_S8192x256_S512x128_0_0))
      (View.ld x3 (Rect.unit (s := S1x16x512) ![0, 0, 0] S1x1x512.size inb_S1x16x512_S1x1x512_0_0_0))
    sb := j }

/-- The first part of the body: it clears the sums and prepares the first scores. -/
theorem part7 (x0 : Vec F S512x128 .bf16) (x1 : Vec F S8192x256 .bf16) (x2 : Vec F S1x512x128 .f32) (x3 : Vec F S1x16x512 .f32) (s : St F) (E : Set ℕ) :
    iprop(owns (c : Thread nD τ) arg4 fullShare x2 ∗ given3 c arg2 arg3 arg5 x0 x1 x3 ∗ held c arg8 arg9 arg10 arg11 s)
      ⊢ wp frame (wpE (defs₀ (F := F)) Variants.none (c : Thread nD τ) none) E (k0_part7 (F := F) i arg2 harg2 arg3 harg3 arg4 harg4 arg5 harg5 arg6 harg6 arg7 harg7 arg8 harg8 arg9 harg9 arg10 harg10 arg11 harg11)
          (fun r => iprop(⌜∃ a b, r = ⟨BitVec.ofNat 32 (i 1).val, k0_pay32 x2, k0_pay33, 2#32, a, b, 0#32⟩⌝
            ∗ owns (c : Thread nD τ) arg4 fullShare x2 ∗ given3 c arg2 arg3 arg5 x0 x1 x3 ∗ held c arg8 arg9 arg10 arg11 (start x0 x1 x3 s.sb))) := by
  obtain ⟨top, acc, sa, sb⟩ := s
  simp only [k0_part7_eq_skeleton]
  unfold k0_part7_skel held given3 owns
  iintro ⟨⟨%f2, %h2, H2⟩, ⟨⟨%f0, %h0, H0⟩, ⟨%f1, %h1, H1⟩, ⟨%f3, %h3, H3⟩⟩, ⟨%f8, %h8, H8⟩, ⟨%f9, %h9, H9⟩, ⟨%f10, %h10, H10⟩, H11⟩
  subst h0 h1 h2 h3 h8 h9 h10
  sl_exec
  sl_step
  isplitr
  · ipureintro
    sl_unfold_run_names
    simp only [View.readAt_eq_ld, ld_c]
    exact ⟨_, _, rfl⟩
  isplitl [H2]; · iexists _; isplitr; · ipureintro; rfl
                  iexact H2
  isplitl [H0 H1 H3]
  · isplitl [H0]; · iexists _; isplitr; · ipureintro; rfl
                    iexact H0
    isplitl [H1]; · iexists _; isplitr; · ipureintro; rfl
                    iexact H1
    iexists _; isplitr; · ipureintro; rfl
    iexact H3
  isplitl [H8]
  · iexists _; isplitr; swap; · iexact H8
    ipureintro
    exact read_top _ _ off2 _ _ _
  isplitl [H9]
  · iexists _; isplitr; swap; · iexact H9
    ipureintro
    exact read_top _ _ off2 _ _ _
  isplitl [H10]
  · iexists _; isplitr; swap; · iexact H10
    ipureintro
    sl_unfold_run_names
    rw [read_top _ _ off2]
    simp only [View.readAt_eq_ld, ld_q]
    rfl
  iexact H11

/-- The remainder loop makes no trip. -/
theorem loop2 (arg1 c2 v25 v30 c0 v46 : BitVec 32) (v2 : FVec F S512x128 .bf16) :
    Scf.Loop.for (k0_t2_loop i) (k0_t2_ok i) ()
      (k0_t2_body (F := F) i arg2 harg2 arg3 harg3 arg4 harg4 arg5 harg5 arg6 harg6 arg7 harg7 arg8 harg8 arg9 harg9 arg10 harg10 arg11 harg11 arg1 v2 c2 v25 v30 c0 v46) = .ret () := by
  exact Scf.for_rem_eq _ _ (k0_t2_ok i) () (k0_t2_body (F := F) i arg2 harg2 arg3 harg3 arg4 harg4 arg5 harg5 arg6 harg6 arg7 harg7 arg8 harg8 arg9 harg9 arg10 harg10 arg11 harg11 arg1 v2 c2 v25 v30 c0 v46)

/-- At an even block of queries: the block on the diagonal, after the loop. -/
def even (x1 : Vec F S8192x256 .bf16) (h : k0_cond1 i = 1#1) (s : St F) : St F :=
  { top := topOf (k0_pay43 (BitVec.ofNat 32 (i 1).val) s.sa) s.top
    acc := accOf (View.ld x1 (Rect.unit (s := S8192x256) (k0_off9 i) S512x128.size (k0_off9_inb i h)))
      (k0_pay43 (BitVec.ofNat 32 (i 1).val) s.sa) s.top s.acc
    sa := s.sa
    sb := s.sb }

/-- The diagonal's block joins after the loop if the block of queries is an even one. -/
def after (x1 : Vec F S8192x256 .bf16) (s : St F) : St F := if h : k0_cond1 i = 1#1 then even i x1 h s else s

/-- The scores of the diagonal block, at an odd block of queries. -/
def sdiag (x0 : Vec F S512x128 .bf16) (x1 : Vec F S8192x256 .bf16) (x3 : Vec F S1x16x512 .f32) (h : k0_cond2 i = 1#1) : Vec F S512x512 .f32 :=
  k0_pay36 x0 (View.ld x1 (Rect.unit (s := S8192x256) (k0_off10 i) S512x128.size (k0_off10_inb i h)))
    (View.ld x3 (Rect.unit (s := S1x16x512) (k0_off11 i) S1x1x512.size (k0_off11_inb i h)))

/-- At an odd block of queries: the last block before the diagonal, and the block on it. -/
def odd (x0 : Vec F S512x128 .bf16) (x1 : Vec F S8192x256 .bf16) (x3 : Vec F S1x16x512 .f32) (h : k0_cond2 i = 1#1) (s : St F) : St F :=
  let va : Vec F S512x128 .bf16 := View.ld x1 (Rect.unit (s := S8192x256) (k0_off12 i) S512x128.size (k0_off12_inb i h))
  let vb : Vec F S512x128 .bf16 := View.ld x1 (Rect.unit (s := S8192x256) (k0_off13 i) S512x128.size (k0_off13_inb i h))
  { top := topOf (k0_pay43 (BitVec.ofNat 32 (i 1).val) (sdiag i x0 x1 x3 h)) (topOf s.sa s.top)
    acc := accOf vb (k0_pay43 (BitVec.ofNat 32 (i 1).val) (sdiag i x0 x1 x3 h)) (topOf s.sa s.top) (accOf va s.sa s.top s.acc)
    sa := s.sa
    sb := sdiag i x0 x1 x3 h }

/-- The second part of the body: the loops, and the diagonal at an even block of queries. -/
theorem part8 (x0 : Vec F S512x128 .bf16) (x1 : Vec F S8192x256 .bf16) (x3 : Vec F S1x16x512 .f32) (s : St F)
    (v25 v30 : BitVec 32) (E : Set ℕ) :
    iprop(given3 c arg2 arg3 arg5 x0 x1 x3 ∗ held c arg8 arg9 arg10 arg11 s)
      ⊢ wp frame (wpE (defs₀ (F := F)) Variants.none (c : Thread nD τ) none) E
          (k0_part8 (F := F) i arg2 harg2 arg3 harg3 arg4 harg4 arg5 harg5 arg6 harg6 arg7 harg7 arg8 harg8 arg9 harg9 arg10 harg10 arg11 harg11 (BitVec.ofNat 32 (i 1).val) k0_pay33 2#32 v25 v30 0#32)
          (fun _ => iprop(given3 c arg2 arg3 arg5 x0 x1 x3 ∗ held c arg8 arg9 arg10 arg11
            (after i x1 (steps i x0 x1 x3 s (k0_t1_loop i).trips)))) := by
  simp only [k0_part8_eq_skeleton]
  unfold k0_part8_skel
  iintro H
  rw [wp_bind]
  iapply (wp_wand_r frame (wpE (defs₀ (F := F)) Variants.none (c : Thread nD τ) none) E)
  isplitl [H]
  · iapply (loop1 c i arg2 harg2 arg3 harg3 arg4 harg4 arg5 harg5 arg6 harg6 arg7 harg7 arg8 harg8 arg9 harg9 arg10 harg10 arg11 harg11 x0 x1 x3 s _ _ _ _ _ E)
    iexact H
  generalize steps i x0 x1 x3 s (k0_t1_loop i).trips = s'
  obtain ⟨top, acc, sa, sb⟩ := s'
  iintro %_ ⟨HG, HS⟩
  rw [wp_bind, loop2, wp_ret]
  imodintro
  unfold held given3 owns
  icases HG with ⟨⟨%f0, %h0, H0⟩, ⟨%f1, %h1, H1⟩, ⟨%f3, %h3, H3⟩⟩
  icases HS with ⟨⟨%f8, %h8, H8⟩, ⟨%f9, %h9, H9⟩, ⟨%f10, %h10, H10⟩, ⟨%f11, %h11, H11⟩⟩
  subst h0 h1 h3 h8 h9 h10 h11
  by_cases hc : k0_cond1 i = 1#1
  · sl_exec (disch := first | sl_exact hc)
    sl_step
    rw [after, dif_pos hc]
    isplitl [H0 H1 H3]
    · isplitl [H0]; · iexists _; isplitr; · ipureintro; rfl
                      iexact H0
      isplitl [H1]; · iexists _; isplitr; · ipureintro; rfl
                      iexact H1
      iexists _; isplitr; · ipureintro; rfl
      iexact H3
    isplitl [H8]
    · iexists _; isplitr; swap; · iexact H8
      ipureintro
      sl_unfold_run_names
      rw [read_top _ _ off2]
      simp only [View.readAt_eq_ld, ld_q, ld_s, top_46]
      rfl
    isplitl [H9]
    · iexists _; isplitr; swap; · iexact H9
      ipureintro
      sl_unfold_run_names
      rw [read_top _ _ off2]
      simp only [View.readAt_eq_ld, ld_q, ld_w, ld_s, acc_45]
      rfl
    isplitl [H10]; · iexists _; isplitr; · ipureintro; rfl
                     iexact H10
    iexists _; isplitr; · ipureintro; rfl
    iexact H11
  · sl_exec (disch := first | sl_exact hc)
    sl_step
    rw [after, dif_neg hc]
    isplitl [H0 H1 H3]
    · isplitl [H0]; · iexists _; isplitr; · ipureintro; rfl
                      iexact H0
      isplitl [H1]; · iexists _; isplitr; · ipureintro; rfl
                      iexact H1
      iexists _; isplitr; · ipureintro; rfl
      iexact H3
    isplitl [H8]; · iexists _; isplitr; · ipureintro; rfl
                    iexact H8
    isplitl [H9]; · iexists _; isplitr; · ipureintro; rfl
                    iexact H9
    isplitl [H10]; · iexists _; isplitr; · ipureintro; rfl
                     iexact H10
    iexists _; isplitr; · ipureintro; rfl
    iexact H11

/-- At an odd block of queries, the scores of the diagonal block and the last block before it. -/
theorem part5 (x0 : Vec F S512x128 .bf16) (x1 : Vec F S8192x256 .bf16) (x3 : Vec F S1x16x512 .f32) (s : St F) (h : k0_cond2 i = 1#1)
    (arg1 : BitVec 32) (E : Set ℕ) :
    iprop(given3 c arg2 arg3 arg5 x0 x1 x3 ∗ held c arg8 arg9 arg10 arg11 s)
      ⊢ wp frame (wpE (defs₀ (F := F)) Variants.none (c : Thread nD τ) none) E (k0_part5 (F := F) i arg2 harg2 arg3 harg3 arg4 harg4 arg5 harg5 arg6 harg6 arg7 harg7 arg8 harg8 arg9 harg9 arg10 harg10 arg11 harg11 arg1 k0_pay33 h)
          (fun r => iprop(⌜r = ⟨k0_pay24 s.sa s.top, k0_pay25 s.sa s.top s.acc, k0_pay26 k0_pay33
              (View.ld x1 (Rect.unit (s := S8192x256) (k0_off12 i) S512x128.size (k0_off12_inb i h))) s.sa s.top⟩⌝
            ∗ given3 c arg2 arg3 arg5 x0 x1 x3 ∗ held c arg8 arg9 arg10 arg11 { s with sb := sdiag i x0 x1 x3 h })) := by
  obtain ⟨top, acc, sa, sb⟩ := s
  simp only [k0_part5_eq_skeleton]
  unfold k0_part5_skel held given3 owns
  iintro ⟨⟨⟨%f0, %h0, H0⟩, ⟨%f1, %h1, H1⟩, ⟨%f3, %h3, H3⟩⟩, ⟨%f8, %h8, H8⟩, ⟨%f9, %h9, H9⟩, ⟨%f10, %h10, H10⟩, ⟨%f11, %h11, H11⟩⟩
  subst h0 h1 h3 h8 h9 h10 h11
  sl_exec
  sl_step
  isplitr
  · ipureintro
    sl_unfold_run_names
    simp only [View.readAt_eq_ld, ld_q, ld_w, ld_s]
  isplitl [H0 H1 H3]
  · isplitl [H0]; · iexists _; isplitr; · ipureintro; rfl
                    iexact H0
    isplitl [H1]; · iexists _; isplitr; · ipureintro; rfl
                    iexact H1
    iexists _; isplitr; · ipureintro; rfl
    iexact H3
  isplitl [H8]; · iexists _; isplitr; · ipureintro; rfl
                  iexact H8
  isplitl [H9]; · iexists _; isplitr; · ipureintro; rfl
                  iexact H9
  isplitl [H10]; · iexists _; isplitr; · ipureintro; rfl
                   iexact H10
  iexists _; isplitr; swap; · iexact H11
  ipureintro
  sl_unfold_run_names
  rw [read_top _ _ off2]
  simp only [View.readAt_eq_ld, ld_q]
  rfl

/-- At an odd block of queries, the sums before the diagonal are stored and those on it computed. -/
theorem part6 (x0 : Vec F S512x128 .bf16) (x1 : Vec F S8192x256 .bf16) (x3 : Vec F S1x16x512 .f32) (s : St F) (h : k0_cond2 i = 1#1)
    (arg1 : BitVec 32) (v115 : FVec F S512x128 .f32) (v123 v125 : FVec F S512x256 .f32) (E : Set ℕ) :
    iprop(given3 c arg2 arg3 arg5 x0 x1 x3 ∗ held c arg8 arg9 arg10 arg11 s)
      ⊢ wp frame (wpE (defs₀ (F := F)) Variants.none (c : Thread nD τ) none) E (k0_part6 (F := F) i arg2 harg2 arg3 harg3 arg4 harg4 arg5 harg5 arg6 harg6 arg7 harg7 arg8 harg8 arg9 harg9 arg10 harg10 arg11 harg11 arg1 k0_pay33 h v115 v123 v125)
          (fun r => iprop(⌜r = ⟨k0_pay30 arg1 s.sb (k0_pay28 v115), k0_pay31 arg1 k0_pay33
              (View.ld x1 (Rect.unit (s := S8192x256) (k0_off13 i) S512x128.size (k0_off13_inb i h))) s.sb (k0_pay28 v115) (k0_pay27 v123 v125)⟩⌝
            ∗ given3 c arg2 arg3 arg5 x0 x1 x3 ∗ held c arg8 arg9 arg10 arg11 { s with top := k0_pay28 v115, acc := k0_pay27 v123 v125 })) := by
  obtain ⟨top, acc, sa, sb⟩ := s
  simp only [k0_part6_eq_skeleton]
  unfold k0_part6_skel held given3 owns
  iintro ⟨⟨⟨%f0, %h0, H0⟩, ⟨%f1, %h1, H1⟩, ⟨%f3, %h3, H3⟩⟩, ⟨%f8, %h8, H8⟩, ⟨%f9, %h9, H9⟩, ⟨%f10, %h10, H10⟩, ⟨%f11, %h11, H11⟩⟩
  subst h0 h1 h3 h8 h9 h10 h11
  sl_exec
  sl_step
  isplitr
  · ipureintro
    sl_unfold_run_names
    simp only [View.readAt_eq_ld, ld_q, ld_w, ld_s, cov_q, cov_w, cov_s]
  isplitl [H0 H1 H3]
  · isplitl [H0]; · iexists _; isplitr; · ipureintro; rfl
                    iexact H0
    isplitl [H1]; · iexists _; isplitr; · ipureintro; rfl
                    iexact H1
    iexists _; isplitr; · ipureintro; rfl
    iexact H3
  isplitl [H8]
  · iexists _; isplitr; swap; · iexact H8
    ipureintro
    exact read_top _ _ off2 _ _ _
  isplitl [H9]
  · iexists _; isplitr; swap; · iexact H9
    ipureintro
    exact read_top _ _ off2 _ _ _
  isplitl [H10]; · iexists _; isplitr; · ipureintro; rfl
                   iexact H10
  iexists _; isplitr; · ipureintro; rfl
  iexact H11

/-- The state after the loop, and the diagonal if the block of queries is an even one. -/
def mid (x0 : Vec F S512x128 .bf16) (x1 : Vec F S8192x256 .bf16) (x3 : Vec F S1x16x512 .f32) (j : Vec F S512x512 .f32) : St F :=
  after i x1 (steps i x0 x1 x3 (start x0 x1 x3 j) (k0_t1_loop i).trips)

/-- The state once every block of keys is summed. -/
def final (x0 : Vec F S512x128 .bf16) (x1 : Vec F S8192x256 .bf16) (x3 : Vec F S1x16x512 .f32) (j : Vec F S512x512 .f32) : St F :=
  if h : k0_cond2 i = 1#1 then odd i x0 x1 x3 h (mid i x0 x1 x3 j) else mid i x0 x1 x3 j

/-- The weights' sum, along the lanes: the right half of the weighted sums. -/
def lsum (a : Vec F S512x256 .f32) : Vec F S512x128 .f32 :=
  View.ld a (Rect.unit (s := S512x256) ![0, 128] S512x128.size inb_S512x256_S512x128_0_128)

/-- The values' weighted sum: the left half. -/
def vsum (a : Vec F S512x256 .f32) : Vec F S512x128 .f32 :=
  View.ld a (Rect.unit (s := S512x256) ![0, 0] S512x128.size inb_S512x256_S512x128_0_0)

/-- One grid point: from its input blocks the body writes the block of outputs and the block of log-sums. -/
theorem body (x0 : Vec F S512x128 .bf16) (x1 : Vec F S8192x256 .bf16) (x2 : Vec F S1x512x128 .f32) (x3 : Vec F S1x16x512 .f32)
    (d6 : Vec F S512x128 .bf16) (d7 : Vec F S1x512x128 .f32) (s : St F) (E : Set ℕ) :
    iprop(owns (c : Thread nD τ) arg4 fullShare x2 ∗ given3 c arg2 arg3 arg5 x0 x1 x3 ∗ owns (c : Thread nD τ) arg6 fullShare d6
        ∗ owns (c : Thread nD τ) arg7 fullShare d7 ∗ held c arg8 arg9 arg10 arg11 s)
      ⊢ wp frame (wpE (defs₀ (F := F)) Variants.none (c : Thread nD τ) none) E (cc0_fox_fwd (F := F) i arg2 harg2 arg3 harg3 arg4 harg4 arg5 harg5 arg6 harg6 arg7 harg7 arg8 harg8 arg9 harg9 arg10 harg10 arg11 harg11)
          (fun _ => iprop(owns (c : Thread nD τ) arg4 fullShare x2 ∗ given3 c arg2 arg3 arg5 x0 x1 x3
            ∗ owns (c : Thread nD τ) arg6 fullShare (k0_pay3 (lsum (final i x0 x1 x3 s.sb).acc) (vsum (final i x0 x1 x3 s.sb).acc))
            ∗ owns (c : Thread nD τ) arg7 fullShare (k0_pay4 (k0_pay32 x2) (lsum (final i x0 x1 x3 s.sb).acc) (final i x0 x1 x3 s.sb).top)
            ∗ held c arg8 arg9 arg10 arg11 (final i x0 x1 x3 s.sb))) := by
  simp only [cc0_fox_fwd_eq_skeleton]
  unfold cc0_fox_fwd_skel
  iintro ⟨H2, HG, H6, H7, HS⟩
  rw [wp_bind]
  iapply (wp_wand_r frame (wpE (defs₀ (F := F)) Variants.none (c : Thread nD τ) none) E)
  isplitl [H2 HG HS]
  · iapply (part7 c i arg2 harg2 arg3 harg3 arg4 harg4 arg5 harg5 arg6 harg6 arg7 harg7 arg8 harg8 arg9 harg9 arg10 harg10 arg11 harg11 x0 x1 x2 x3 s E)
    isplitl [H2]; · iexact H2
    isplitl [HG]; · iexact HG
    iexact HS
  iintro %r ⟨%hr, H2, HG, HS⟩
  obtain ⟨a, b, rfl⟩ := hr
  dsimp only
  rw [wp_bind]
  iapply (wp_wand_r frame (wpE (defs₀ (F := F)) Variants.none (c : Thread nD τ) none) E)
  isplitl [HG HS]
  · iapply (part8 c i arg2 harg2 arg3 harg3 arg4 harg4 arg5 harg5 arg6 harg6 arg7 harg7 arg8 harg8 arg9 harg9 arg10 harg10 arg11 harg11 x0 x1 x3 (start x0 x1 x3 s.sb) a b E)
    isplitl [HG]; · iexact HG
    iexact HS
  iintro %r ⟨HG, HS⟩
  rw [show after i x1 (steps i x0 x1 x3 (start x0 x1 x3 s.sb) (k0_t1_loop i).trips) = mid i x0 x1 x3 s.sb from rfl]
  by_cases hc : k0_cond2 i = 1#1
  · rw [show final i x0 x1 x3 s.sb = odd i x0 x1 x3 hc (mid i x0 x1 x3 s.sb) from dif_pos hc]
    generalize mid i x0 x1 x3 s.sb = s'
    obtain ⟨top, acc, sa, sb⟩ := s'
    rw [dif_pos hc, wp_bind]
    iapply (wp_wand_r frame (wpE (defs₀ (F := F)) Variants.none (c : Thread nD τ) none) E)
    isplitl [HG HS]
    · iapply (part5 c i arg2 harg2 arg3 harg3 arg4 harg4 arg5 harg5 arg6 harg6 arg7 harg7 arg8 harg8 arg9 harg9 arg10 harg10 arg11 harg11 x0 x1 x3 ⟨top, acc, sa, sb⟩ hc _ E)
      isplitl [HG]; · iexact HG
      iexact HS
    iintro %r ⟨%hr, HG, HS⟩
    subst hr
    dsimp only
    rw [wp_bind]
    iapply (wp_wand_r frame (wpE (defs₀ (F := F)) Variants.none (c : Thread nD τ) none) E)
    isplitl [HG HS]
    · iapply (part6 c i arg2 harg2 arg3 harg3 arg4 harg4 arg5 harg5 arg6 harg6 arg7 harg7 arg8 harg8 arg9 harg9 arg10 harg10 arg11 harg11 x0 x1 x3 ⟨top, acc, sa, sdiag i x0 x1 x3 hc⟩ hc _ _ _ _ E)
      isplitl [HG]; · iexact HG
      iexact HS
    iintro %r ⟨%hr, HG, HS⟩
    subst hr
    dsimp only
    unfold held given3 owns
    icases HG with ⟨H0, H1, H3⟩
    icases HS with ⟨⟨%f8, %h8, H8⟩, ⟨%f9, %h9, H9⟩, H10, H11⟩
    icases H6 with ⟨%f6, %h6, H6⟩
    icases H7 with ⟨%f7, %h7, H7⟩
    sl_exec
    sl_step
    isplitl [H2]; · iexact H2
    isplitl [H0 H1 H3]
    · isplitl [H0]; · iexact H0
      isplitl [H1]; · iexact H1
      iexact H3
    isplitl [H6]
    · iexists _; isplitr; swap; · iexact H6
      ipureintro
      sl_unfold_run_names
      rw [read_top _ _ off2]
      simp only [cov_part, acc_1, acc_27, top_28]
      rfl
    isplitl [H7]
    · iexists _; isplitr; swap; · iexact H7
      ipureintro
      sl_unfold_run_names
      rw [read_top _ _ off3]
      simp only [cov_part, cov_q, acc_1, acc_27, top_28, top_2]
      rfl
    isplitl [H8]
    · iexists _; isplitr; swap; · iexact H8
      ipureintro
      sl_unfold_run_names
      rw [read_top _ _ off2]
      simp only [top_28, top_2]
      rfl
    isplitl [H9]
    · iexists _; isplitr; swap; · iexact H9
      ipureintro
      sl_unfold_run_names
      rw [read_top _ _ off2]
      simp only [top_28, acc_1, acc_27]
      rfl
    isplitl [H10]; · iexact H10
    iexact H11
  · rw [show final i x0 x1 x3 s.sb = mid i x0 x1 x3 s.sb from dif_neg hc]
    generalize mid i x0 x1 x3 s.sb = s'
    obtain ⟨top, acc, sa, sb⟩ := s'
    rw [dif_neg hc]
    unfold held given3 owns
    icases HG with ⟨H0, H1, H3⟩
    icases HS with ⟨⟨%f8, %h8, H8⟩, ⟨%f9, %h9, H9⟩, H10, H11⟩
    icases H6 with ⟨%f6, %h6, H6⟩
    icases H7 with ⟨%f7, %h7, H7⟩
    subst h8 h9
    sl_exec
    sl_step
    isplitl [H2]; · iexact H2
    isplitl [H0 H1 H3]
    · isplitl [H0]; · iexact H0
      isplitl [H1]; · iexact H1
      iexact H3
    isplitl [H6]
    · iexists _; isplitr; swap; · iexact H6
      ipureintro
      sl_unfold_run_names
      rw [read_top _ _ off2]
      simp only [View.readAt_eq_ld]
      rfl
    isplitl [H7]
    · iexists _; isplitr; swap; · iexact H7
      ipureintro
      sl_unfold_run_names
      rw [read_top _ _ off3]
      simp only [View.readAt_eq_ld, ld_q]
      rfl

    isplitl [H8]; · iexists _; isplitr; · ipureintro; rfl
                    iexact H8
    isplitl [H9]; · iexists _; isplitr; · ipureintro; rfl
                    iexact H9
    isplitl [H10]; · iexact H10
    iexact H11

end

end Cert.Kernel7Ideal.Own

end
-- ==== Proof.FwdFrame.lean ====
/- The forward pass's program runs: every grid point by the body's run, then the whole grid. -/
module

public import proofs.«01_k».proof.Proof.FwdRun
public import Idealize.ShloMosaic.Lib.Claim

@[expose] public section

set_option maxRecDepth 16384

noncomputable section

namespace Cert.Kernel7Ideal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal Cert.Kernel7Ideal.Gen

variable {F : FTy → Type} [FloatOps F] [Named F]

local notation "𝕄" => MT nD τ sig Unit (Elt F) ℕ (UR sig nD τ) ℕ

/-- What the second block of scores holds at the start does not reach the sums. -/
theorem steps_sb (i : grid0.Coords) (x0 : Vec F S512x128 .bf16) (x1 : Vec F S8192x256 .bf16) (x3 : Vec F S1x16x512 .f32) (j j' : Vec F S512x512 .f32) (k : ℕ) :
    (steps i x0 x1 x3 (start x0 x1 x3 j) k).top = (steps i x0 x1 x3 (start x0 x1 x3 j') k).top
    ∧ (steps i x0 x1 x3 (start x0 x1 x3 j) k).acc = (steps i x0 x1 x3 (start x0 x1 x3 j') k).acc
    ∧ (steps i x0 x1 x3 (start x0 x1 x3 j) k).sa = (steps i x0 x1 x3 (start x0 x1 x3 j') k).sa := by
  induction k with
  | zero => exact ⟨rfl, rfl, rfl⟩
  | succ k ih =>
    obtain ⟨h1, h2, h3⟩ := ih
    by_cases h : k < (k0_t1_loop i).trips
    · simp only [steps, dif_pos h, step, h1, h2, h3, and_self]
    · simp only [steps, dif_neg h]
      exact ⟨h1, h2, h3⟩

/-- Nor the sums at the end. -/
theorem final_sb (i : grid0.Coords) (x0 : Vec F S512x128 .bf16) (x1 : Vec F S8192x256 .bf16) (x3 : Vec F S1x16x512 .f32) (j j' : Vec F S512x512 .f32) :
    (final i x0 x1 x3 j).top = (final i x0 x1 x3 j').top ∧ (final i x0 x1 x3 j).acc = (final i x0 x1 x3 j').acc := by
  obtain ⟨h1, h2, h3⟩ := steps_sb i x0 x1 x3 j j' (k0_t1_loop i).trips
  unfold final mid after
  split <;> split <;> simp only [odd, even, h1, h2, h3, and_self]

variable (m : (ℓ : Loc nD τ sig) → Buf (Elt F) ℓ) (ρ : Dev nD → PrngReg)

/-- The sums at the end of a grid point, from that point's input blocks. -/
def ends (c : Dev nD) (t : Fin cfg0.N) : St F :=
  final (grid0.coords t) (iblk m c 0 t) (iblk m c 1 t) (iblk m c 3 t) (constant S512x512 .f32 0x00000000#32)

/-- What each window's buffer holds after each grid point: an input its block, a result what the body left in it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay3 (lsum (ends m c t).acc) (vsum (ends m c t).acc)
    | ⟨5, _⟩ => k0_pay4 (k0_pay32 (iblk m c 2 t)) (lsum (ends m c t).acc) (ends m c t).top
  Φ _ := Pipeline.ΦA spec0 c
  q w := Pipeline.shareOf spec0 w
  owed _ := 0

/-- The arrays are those the pipeline finds. -/
theorem A_eq (c : Dev nD) (w : Fin cfg0.W) : (dats m 0 c).A w = V m c (Pipeline.arrRef spec0 w) := by
  dsimp only [dats]

/-- What the body leaves in the buffer of window 0. -/
theorem after_0 (c : Dev nD) (t : Fin cfg0.N) : (dats m 0 c).after 0 t = iblk m c 0 t := by dsimp only [dats]
/-- What the body leaves in the buffer of window 1. -/
theorem after_1 (c : Dev nD) (t : Fin cfg0.N) : (dats m 0 c).after 1 t = iblk m c 1 t := by dsimp only [dats]
/-- What the body leaves in the buffer of window 2. -/
theorem after_2 (c : Dev nD) (t : Fin cfg0.N) : (dats m 0 c).after 2 t = iblk m c 2 t := by dsimp only [dats]
/-- What the body leaves in the buffer of window 3. -/
theorem after_3 (c : Dev nD) (t : Fin cfg0.N) : (dats m 0 c).after 3 t = iblk m c 3 t := by dsimp only [dats]
/-- What the body leaves in the buffer of window 4. -/
theorem after_4 (c : Dev nD) (t : Fin cfg0.N) : (dats m 0 c).after 4 t = k0_pay3 (lsum (ends m c t).acc) (vsum (ends m c t).acc) := by dsimp only [dats]
/-- What the body leaves in the buffer of window 5. -/
theorem after_5 (c : Dev nD) (t : Fin cfg0.N) : (dats m 0 c).after 5 t = k0_pay4 (k0_pay32 (iblk m c 2 t)) (lsum (ends m c t).acc) (ends m c t).top := by dsimp only [dats]
/-- Input 0 is staged at every grid point. -/
theorem before_0 (c : Dev nD) (t : Fin cfg0.N) (d) : (dats m 0 c).before 0 t d = iblk m c 0 t :=
  before0_0_of m (dats m 0 c) (A_eq m c 0) (after_0 m c) t d
/-- Input 1 is staged at every grid point. -/
theorem before_1 (c : Dev nD) (t : Fin cfg0.N) (d) : (dats m 0 c).before 1 t d = iblk m c 1 t :=
  before0_1_of m (dats m 0 c) (A_eq m c 1) (after_1 m c) t d
/-- Input 2 is staged at every grid point. -/
theorem before_2 (c : Dev nD) (t : Fin cfg0.N) (d) : (dats m 0 c).before 2 t d = iblk m c 2 t :=
  before0_2_of m (dats m 0 c) (A_eq m c 2) (after_2 m c) t d
/-- Input 3 is staged at every grid point. -/
theorem before_3 (c : Dev nD) (t : Fin cfg0.N) (d) : (dats m 0 c).before 3 t d = iblk m c 3 t :=
  before0_3_of m (dats m 0 c) (A_eq m c 3) (after_3 m c) t d

/-- What the body is called with at grid point `t`. -/
def given (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- What it gives back. -/
def returned (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 2400000 in
/-- The body at any grid point: it finds the inputs staged and leaves the results as stated. -/
theorem sound (c : Dev nD) (t : Fin cfg0.N) :
    given m c t ⊢ wp frame (wpE (defs₀ (F := F)) Variants.none c none) Set.univ (bodyAt0 t) (fun _ => returned m c t) := by
  unfold given returned bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4, after_5]
  rw [show (dats m 0 c).Φ t.castSucc = Pipeline.ΦA spec0 c from rfl, PhiA0_eq]
  iintro ⟨⟨⟨⟨%e0, HS0⟩, ⟨%e1, HS1⟩, ⟨%e2, HS2⟩, ⟨%e3, HS3⟩⟩, Hg⟩, Ho, ⟨%d0, H0⟩, ⟨%d1, H1⟩, ⟨%d2, H2⟩, ⟨%d3, H3⟩, ⟨%d4, H4⟩, ⟨%d5, H5⟩⟩
  obtain ⟨ht, ha⟩ := final_sb (grid0.coords t) (iblk m c 0 t) (iblk m c 1 t) (iblk m c 3 t) (constant S512x512 .f32 0x00000000#32) e3
  unfold ends
  rw [ht, ha]
  iapply (wp_wand_r frame (wpE (defs₀ (F := F)) Variants.none (c : Thread nD τ) none) Set.univ)
  isplitl [HS0 HS1 HS2 HS3 H0 H1 H2 H3 H4 H5]
  · iapply (body c (grid0.coords t) (ms0_0 t) (hs0_0 t) (ms0_1 t) (hs0_1 t) (ms0_2 t) (hs0_2 t) (ms0_3 t) (hs0_3 t) (ms0_4 t) (hs0_4 t) (ms0_5 t) (hs0_5 t)
      scM0_0 (Memref.isWhole_whole _) scM0_1 (Memref.isWhole_whole _) scM0_2 (Memref.isWhole_whole _) scM0_3 (Memref.isWhole_whole _)
      (iblk m c 0 t) (iblk m c 1 t) (iblk m c 2 t) (iblk m c 3 t) _ _ ⟨e0, e1, e2, e3⟩ Set.univ)
    isplitl [H2]; · iexact H2
    isplitl [H0 H1 H3]
    · isplitl [H0]; · iexact H0
      isplitl [H1]; · iexact H1
      iexact H3
    isplitl [H4]; · iexact H4
    isplitl [H5]; · iexact H5
    isplitl [HS0]; · iexact HS0
    isplitl [HS1]; · iexact HS1
    isplitl [HS2]; · iexact HS2
    iexact HS3
  iintro %_ ⟨H2, ⟨H0, H1, H3⟩, H4, H5, HS0, HS1, HS2, HS3⟩
  isplitl [HS0 HS1 HS2 HS3 Hg]
  · isplitl [HS0 HS1 HS2 HS3]
    · isplitl [HS0]; · iexists _; iexact HS0
      isplitl [HS1]; · iexists _; iexact HS1
      isplitl [HS2]; · iexists _; iexact HS2
      iexists _; iexact HS3
    iexact Hg
  isplitl [Ho]; · iexact Ho
  isplitl [H0]; · iexact H0
  isplitl [H1]; · iexact H1
  isplitl [H2]; · iexact H2
  isplitl [H3]; · iexact H3
  isplitl [H4]; · iexact H4
  iexact H5

/-- The region's call at a grid point is the body. -/
theorem row (t : Fin cfg0.N) :
    defs₀ (F := F) .tc cfg0.body (cfg0.bodyArgs t (cfg0.slots t)) = bodyAt0 t := by
  unfold defs₀; rw [Defs.onTc_tc]

/-- The body meets its obligation at every grid point. -/
theorem obligation (c : Dev nD) : BodyObligation (dats (F := F) m 0 c) (defs₀ (F := F)) Variants.none () Set.univ := fun t => by
  rw [bigSep_W0, bigSep_W0, row]
  exact triple_restated (sound m c t) rfl .rfl fun _ => .rfl

set_option backward.isDefEq.respectTransparency.types false in
/-- Every run ends with the arrays at what the windows wrote, and with every semaphore at zero. -/
theorem run_quiet : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hΦ := fun _ _ => rfl)

/-- Every run ends with the arrays at what the windows wrote. -/
theorem run : θ_run defs (onTc (τ := τ) (main (F := F))) (s₀ m ρ) (Pipeline.FramePost cfgs (dats m) 0 (V m)) :=
  (θ_run defs _ _).mono (fun _ h => h.1) (run_quiet m ρ)

/-- Every run ends with the arguments unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run m ρ)

/-- Every run ends with the arguments unchanged and every semaphore at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_quiet m ρ))

end Cert.Kernel7Ideal.Own

end
-- ==== Proof.FwdPay.lean ====
/- What each value of the forward pass holds at an index, over the real numbers extended by the infinities. -/
module

public import proofs.«01_k».proof.Proof.FwdRun
public import proofs.«01_k».proof.Proof.Consts
public import Idealize.ShloMosaic.Lib.Pointwise
public import Idealize.ShloMosaic.Lib.KernelVsHost

@[expose] public section

set_option maxRecDepth 16384

noncomputable section

namespace Cert.Kernel7Ideal.Own

open Idealize.ShloMosaic Idealize.ShloMosaic.TcCoe Idealize.ShloMosaic.Pointwise Cert.Kernel7Ideal Cert.Kernel7Ideal.Gen Fox

/-- The scores of a block of keys. -/
theorem pay36_at (x0 kb : Vec Ideal S512x128 .bf16) (cr : Vec Ideal S1x1x512 .f32) (a b : Fin 512) :
    k0_pay36 x0 kb cr (ix2 a b) = (∑ d, x0 (ix2 a d) * kb (ix2 b d)) - cr (ix3 0 0 b) := by
  pointwise [k0_pay36]

/-- The scores on the diagonal: minus infinity after the query. -/
theorem pay43_at (n : ℕ) (hn : n < 16) (s : Vec Ideal S512x512 .f32) (a b : Fin 512) :
    k0_pay43 (BitVec.ofNat 32 n) s (ix2 a b) = if b ≤ a then s (ix2 a b) else (⊥ : EReal) := by
  pointwise [k0_pay43]
  have e : ∀ x : Fin 512, IntOp.addi (Scalar.muli (BitVec.ofNat 32 n) 512#32) (BitVec.ofNat 32 x.val) = BitVec.ofNat 32 (n * 512 + x.val) := by
    intro x
    apply BitVec.eq_of_toNat_eq
    simp only [IntOp.addi, IntOp.muli, Scalar.muli, BitVec.toNat_add, BitVec.toNat_mul, BitVec.toNat_ofNat]
    omega
  rw [e, e, sle_small (by omega) (by omega)]
  by_cases h : b ≤ a
  · rw [if_pos h, if_pos (by have : b.val ≤ a.val := h; omega)]; rfl
  · rw [if_neg h, if_neg (by have : ¬b.val ≤ a.val := h; omega)]; rfl

theorem pay34_at (a : Fin 512) (d : Fin 128) : (k0_pay34 : FVec Ideal S512x128 .f32) (ix2 a d) = (⊥ : EReal) := by
  pointwise [k0_pay34]
  rfl

theorem pay35_at (a : Fin 512) (x : Fin 256) : (k0_pay35 : FVec Ideal S512x256 .f32) (ix2 a x) = (0 : EReal) := by
  pointwise [k0_pay35]

/-- The quotient of the two halves. -/
theorem pay3_at (l v : Vec Ideal S512x128 .f32) (a : Fin 512) (d : Fin 128) : k0_pay3 l v (ix2 a d) = Ideal.div (v (ix2 a d)) (l (ix2 a d)) := by
  pointwise [k0_pay3]

/-- The log-sum. -/
theorem pay4_at (x2 : Vec Ideal S1x512x128 .f32) (l m : Vec Ideal S512x128 .f32) (a : Fin 512) (d : Fin 128) :
    k0_pay4 (k0_pay32 x2) l m (ix3 0 a d) = m (ix2 a d) + x2 (ix3 0 a d) + Ideal.log (l (ix2 a d)) * (((Real.log 2)⁻¹ : ℝ) : EReal) := by
  pointwise [k0_pay4, k0_pay32]
  rfl

/-- The column of a lane among the 128 lanes. -/
def lane {n : ℕ} (b : Fin n) : Fin 128 := ⟨b.val % 128, Nat.mod_lt _ (by norm_num)⟩

theorem pay8_at (s : Vec Ideal S512x512 .f32) (m : Vec Ideal S512x128 .f32) (a b : Fin 512) :
    k0_pay8 s m (ix2 a b) = Ideal.exp2 (s (ix2 a b) - topOf s m (ix2 a (lane b))) := by
  pointwise [k0_pay8]
  have e : ∀ (k : ℕ) (hk : k < 128), k = b.val % 128 → (⟨k, hk⟩ : Fin 128) = lane b := fun k hk h => Fin.ext h
  split_ifs <;> rw [e _ _ (by omega)] <;> rfl

theorem pay9_at (s : Vec Ideal S512x512 .f32) (m : Vec Ideal S512x128 .f32) (w : Vec Ideal S512x256 .f32) (a : Fin 512) (x : Fin 256) :
    k0_pay9 s m w (ix2 a x) = Ideal.exp2 (m (ix2 a (lane x)) - topOf s m (ix2 a (lane x))) * w (ix2 a x) := by
  pointwise [k0_pay9]
  have e : ∀ (k : ℕ) (hk : k < 128), k = x.val % 128 → (⟨k, hk⟩ : Fin 128) = lane x := fun k hk h => Fin.ext h
  split_ifs <;> rw [e _ _ (by omega)] <;> rfl

/-- The values with a column of ones after them. -/
theorem pay6_at (v : Vec Ideal S512x128 .bf16) (b : Fin 512) (x : Fin 256) :
    k0_pay6 k0_pay33 v (ix2 b x) = if h : x.val < 128 then v (ix2 b ⟨x.val, h⟩) else (1 : EReal) := by
  pointwise [k0_pay6, k0_pay33]

/-- The weighted sums gain a block. -/
theorem accOf_at (v : Vec Ideal S512x128 .bf16) (s : Vec Ideal S512x512 .f32) (m : Vec Ideal S512x128 .f32) (w : Vec Ideal S512x256 .f32) (a : Fin 512) (x : Fin 256) :
    accOf v s m w (ix2 a x) = k0_pay9 s m w (ix2 a x) + ∑ b, k0_pay8 s m (ix2 a b) * k0_pay6 k0_pay33 v (ix2 b x) := by
  unfold accOf
  pointwise [k0_pay10]

theorem drop2 (a b : Fin 512) (h : S512x512.ReducesTo [1] S512) : h.drop (ix2 a b) = ix1 a := by
  funext c
  apply Fin.ext
  fin_cases c
  exact Shape.ReducesTo.drop_apply_val_of_eq h (ix2 a b) 0 0

theorem idx2 (i : S512x512.Idx) : ∃ a b, i = ix2 a b := ⟨i 0, i 1, by funext x; fin_cases x <;> rfl⟩

/-- The row maxima stay the same real number across a row's lanes: no score is plus infinity, and one of them is real. -/
theorem topOf_real (s : Vec Ideal S512x512 .f32) (m : Vec Ideal S512x128 .f32) (a : Fin 512) (μ : EReal)
    (hm : ∀ d, m (ix2 a d) = μ) (hμ : μ ≠ ⊤) (hs : ∀ b, s (ix2 a b) ≠ (⊤ : EReal)) (b₀ : Fin 512) (hb : s (ix2 a b₀) ≠ (⊥ : EReal)) :
    ∃ M : ℝ, ∀ d, topOf s m (ix2 a d) = (M : EReal) := by
  have key : ∃ M : ℝ, multiReduction (F := Ideal) .maximumf [1] S512 s 0xFF800000#32 reduces_S512x512_S512 (.inl rfl) rfl (ix1 a) = (M : EReal) := by
    have hr : S512x512.ReducesTo [1] S512 := by decide
    have hu : 0 < S_.numel := by decide
    have e := hostReduce_maximumf_eq_multiReduction (F := Ideal) (φ := .f32) (u := S_) s 0xFF800000#32 hr hu reduces_S512x512_S512 (.inl rfl) rfl
    obtain ⟨M, hM⟩ := reduce_max_real s (constant (F := Ideal) S_ .f32 0xFF800000#32) hr hu (ix1 a) bits_bot (fun i hi => by
      obtain ⟨a', b, rfl⟩ := idx2 i
      rw [drop2] at hi
      obtain rfl : a' = a := congrFun hi 0
      exact hs b) (ix2 a b₀) (drop2 a b₀ _) hb
    exact ⟨M, (congrFun e (ix1 a)).symm.trans hM⟩
  obtain ⟨M, hM⟩ := key
  have e : ∀ d, topOf s m (ix2 a d) = max μ (M : EReal) := by
    intro d
    have h1 : topOf s m (ix2 a d) = max (m (ix2 a d)) (multiReduction (F := Ideal) .maximumf [1] S512 s 0xFF800000#32 reduces_S512x512_S512 (.inl rfl) rfl (ix1 a)) := by
      unfold topOf k0_pay7
      generalize multiReduction (F := Ideal) .maximumf [1] S512 s 0xFF800000#32 reduces_S512x512_S512 (.inl rfl) rfl = R
      pointwise []
    rw [h1, hM, hm]
  induction μ using EReal.rec with
  | bot => exact ⟨M, fun d => (e d).trans (by simp)⟩
  | coe x => exact ⟨max x M, fun d => (e d).trans (EReal.coe_strictMono.monotone.map_max).symm⟩
  | top => exact absurd rfl hμ

end Cert.Kernel7Ideal.Own
-- ==== Proof.FwdMath.lean ====
/- The forward pass over the real numbers: the weighted sums of the blocks of keys taken so far, scaled by a power of two
   that the quotient and the log-sum do not see. -/
module

public import proofs.«01_k».proof.Proof.FwdPay
public import proofs.«01_k».proof.Proof.StepMath

@[expose] public section

set_option maxRecDepth 16384

noncomputable section

namespace Cert.Kernel7Ideal.Own

open Idealize.ShloMosaic Idealize.ShloMosaic.TcCoe Idealize.ShloMosaic.Pointwise Cert.Kernel7Ideal Cert.Kernel7Ideal.Gen Fox
open Cert.KernelIdeal.Own (KeysAt ld2 ld3)

/-- Two to a real power. -/
theorem two_exp (x : ℝ) : Ideal.exp2 (x : EReal) = ((Real.exp (x * Real.log 2) : ℝ) : EReal) := by
  rw [← Cert.KernelIdeal.Own.two_pow, mul_div_cancel_right₀ _ ln2_pos.ne']

/-- A score and its key's weight: two to the score, or minus infinity and zero. -/
def Fits (s : EReal) (e : ℝ) : Prop := (s = ⊥ ∧ e = 0) ∨ ∃ σ : ℝ, s = (σ : EReal) ∧ e = Real.exp (σ * Real.log 2)

theorem Fits.ne_top {s : EReal} {e : ℝ} (h : Fits s e) : s ≠ ⊤ := by
  rcases h with ⟨rfl, -⟩ | ⟨σ, rfl, -⟩ <;> simp

/-- Two to the difference of a score and an offset. -/
theorem Fits.exp2 {s : EReal} {e : ℝ} (h : Fits s e) (M : ℝ) : Ideal.exp2 (s - (M : EReal)) = ((e * Real.exp (-(M * Real.log 2)) : ℝ) : EReal) := by
  rcases h with ⟨rfl, rfl⟩ | ⟨σ, rfl, rfl⟩
  · rw [EReal.bot_sub, zero_mul]; rfl
  · rw [← EReal.coe_sub, two_exp, ← Real.exp_add]
    congr 2; ring

/-- A row's sums with their offset: the offset is real. -/
def RowReal (m : Fin 128 → EReal) (w : Fin 256 → EReal) (Z : Fin 256 → ℝ) : Prop :=
  ∃ M : ℝ, (∀ d, m d = (M : EReal)) ∧ ∀ x, w x = ((Z x * Real.exp (-(M * Real.log 2)) : ℝ) : EReal)

/-- A row's sums: nothing is taken yet, or the offset is real. -/
def Row (m : Fin 128 → EReal) (w : Fin 256 → EReal) (Z : Fin 256 → ℝ) : Prop :=
  ((∀ d, m d = ⊥) ∧ (∀ x, w x = 0) ∧ ∀ x, Z x = 0) ∨ RowReal m w Z

/-- A row takes a block of keys. -/
theorem row_step (v : Vec Ideal S512x128 .bf16) (s : Vec Ideal S512x512 .f32) (m : Vec Ideal S512x128 .f32) (w : Vec Ideal S512x256 .f32) (a : Fin 512)
    (e : Fin 512 → ℝ) (y : Fin 512 → Fin 256 → ℝ) (Z : Fin 256 → ℝ) (hs : ∀ b, Fits (s (ix2 a b)) (e b)) (b₀ : Fin 512) (hb : s (ix2 a b₀) ≠ (⊥ : EReal))
    (hv : ∀ b x, k0_pay6 k0_pay33 v (ix2 b x) = ((y b x : ℝ) : EReal)) (H : Row (fun d => m (ix2 a d)) (fun x => w (ix2 a x)) Z) :
    RowReal (fun d => topOf s m (ix2 a d)) (fun x => accOf v s m w (ix2 a x)) (fun x => Z x + ∑ b, e b * y b x) := by
  have hM : ∃ M : ℝ, ∀ d, topOf s m (ix2 a d) = (M : EReal) := by
    rcases H with ⟨h, -, -⟩ | ⟨M, h, -⟩
    · exact topOf_real s m a ⊥ h (by simp) (fun b => (hs b).ne_top) b₀ hb
    · exact topOf_real s m a M h (by simp) (fun b => (hs b).ne_top) b₀ hb
  obtain ⟨M, hM⟩ := hM
  refine ⟨M, hM, fun x => ?_⟩
  dsimp only
  have h2 : ∑ b, k0_pay8 s m (ix2 a b) * k0_pay6 k0_pay33 v (ix2 b x) = (((∑ b, e b * y b x) * Real.exp (-(M * Real.log 2)) : ℝ) : EReal) := by
    rw [Finset.sum_mul, ← coe_sum]
    refine Finset.sum_congr rfl fun b _ => ?_
    rw [pay8_at, hM, (hs b).exp2, hv, ← EReal.coe_mul]
    congr 1; ring
  have h1 : k0_pay9 s m w (ix2 a x) = ((Z x * Real.exp (-(M * Real.log 2)) : ℝ) : EReal) := by
    rw [pay9_at, hM]
    rcases H with ⟨-, h, h'⟩ | ⟨M', h, h'⟩
    · rw [show w (ix2 a x) = 0 from h x, h' x, zero_mul, mul_zero]; rfl
    · rw [show m (ix2 a (lane x)) = (M' : EReal) from h (lane x), show w (ix2 a x) = _ from h' x, ← EReal.coe_sub, two_exp, ← EReal.coe_mul]
      congr 1
      rw [mul_left_comm, ← Real.exp_add]
      congr 2; ring
  rw [accOf_at, h1, h2, ← EReal.coe_add, add_mul]

section
variable (A : Args) (h : Fin 8) (i : Fin 16)

/-- A key's weight with the query's own gate taken out. -/
def wt (a : Fin 512) (u : Fin 8192) : ℝ := aw A h (pos i a) u * Real.exp (-A.c h (pos i a))

/-- The values, then ones. -/
def vv (u : Fin 8192) (x : Fin 256) : ℝ := if hx : x.val < 128 then A.v u h ⟨x.val, hx⟩ else 1

/-- The weighted sums over the first `n` blocks of keys. -/
def part (n : ℕ) (a : Fin 512) (x : Fin 256) : ℝ := ∑ j : Fin 16, if j.val < n then ∑ b, wt A h i a (pos j b) * vv A h (pos j b) x else 0

theorem part_succ (j : Fin 16) (a : Fin 512) (x : Fin 256) :
    part A h i (j.val + 1) a x = part A h i j.val a x + ∑ b, wt A h i a (pos j b) * vv A h (pos j b) x := by
  have e : ∀ l : Fin 16, (if l.val < j.val + 1 then ∑ b, wt A h i a (pos l b) * vv A h (pos l b) x else 0)
      = (if l.val < j.val then ∑ b, wt A h i a (pos l b) * vv A h (pos l b) x else 0) + (if l = j then ∑ b, wt A h i a (pos l b) * vv A h (pos l b) x else 0) := by
    intro l
    by_cases h1 : l = j
    · subst h1; simp
    · have h2 : l.val ≠ j.val := fun h => h1 (Fin.ext h)
      rw [if_neg h1, add_zero]
      exact if_congr (by omega) rfl rfl
  unfold part
  rw [Finset.sum_congr rfl fun l _ => e l, Finset.sum_add_distrib, Finset.sum_ite_eq' Finset.univ j]
  simp

theorem part_zero (a : Fin 512) (x : Fin 256) : part A h i 0 a x = 0 := by simp [part]

/-- The score of a key in base 2, without the query's own gate. -/
def sc (a : Fin 512) (u : Fin 8192) : ℝ := (∑ d, A.q (pos i a) h d / (Real.sqrt 128 * Real.log 2) * A.k u h d) - A.c h u / Real.log 2

/-- Two to the score is the weight, if the key is not after the query. -/
theorem wt_eq {a : Fin 512} {u : Fin 8192} (hu : u ≤ pos i a) : wt A h i a u = Real.exp (sc A h i a u * Real.log 2) := by
  have e : sc A h i a u * Real.log 2 = lg A h (pos i a) u + -A.c h (pos i a) := by
    have e' : ∑ d, A.q (pos i a) h d / (Real.sqrt 128 * Real.log 2) * A.k u h d = (∑ d, A.q (pos i a) h d * A.k u h d) * (1 / Real.sqrt 128) / Real.log 2 := by
      rw [Finset.sum_mul, Finset.sum_div]
      refine Finset.sum_congr rfl fun d _ => ?_
      have := root_pos.ne'; have := ln2_pos.ne'
      field_simp
    rw [sc, e', lg, ← sub_div, div_mul_cancel₀ _ ln2_pos.ne']
    ring
  rw [e, Real.exp_add, wt, aw, if_pos hu]

theorem wt_zero {a : Fin 512} {u : Fin 8192} (hu : ¬ u ≤ pos i a) : wt A h i a u = 0 := by rw [wt, aw, if_neg hu, zero_mul]

/-- The scratch holds the sums of the first `n` blocks. -/
def Sums (n : ℕ) (m : Vec Ideal S512x128 .f32) (w : Vec Ideal S512x256 .f32) : Prop :=
  ∀ a, Row (fun d => m (ix2 a d)) (fun x => w (ix2 a x)) (part A h i n a)

/-- A block of scores holds those of block `j` of keys. -/
def Scores (j : Fin 16) (s : Vec Ideal S512x512 .f32) : Prop := ∀ a b, s (ix2 a b) = ((sc A h i a (pos j b) : ℝ) : EReal)

/-- A block of values. -/
def Vals (j : Fin 16) (v : Vec Ideal S512x128 .bf16) : Prop := ∀ b d, v (ix2 b d) = ((A.v (pos j b) h d : ℝ) : EReal)
end

variable {A : Args} {h : Fin 8} {i j : Fin 16}

theorem Vals.ones {v : Vec Ideal S512x128 .bf16} (hv : Vals A h j v) (b : Fin 512) (x : Fin 256) :
    k0_pay6 k0_pay33 v (ix2 b x) = ((vv A h (pos j b) x : ℝ) : EReal) := by
  rw [pay6_at, vv]
  split_ifs with hx
  · exact hv b _
  · rfl

/-- A block of keys before the diagonal is taken. -/
theorem take {v : Vec Ideal S512x128 .bf16} {s : Vec Ideal S512x512 .f32} {m : Vec Ideal S512x128 .f32} {w : Vec Ideal S512x256 .f32}
    (hij : j.val < i.val) (hs : Scores A h i j s) (hv : Vals A h j v) (H : Sums A h i j.val m w) : Sums A h i (j.val + 1) (topOf s m) (accOf v s m w) := by
  intro a
  right
  refine (funext fun x => part_succ A h i j a x : part A h i (j.val + 1) a = _) ▸ row_step v s m w a (fun b => wt A h i a (pos j b)) (fun b x => vv A h (pos j b) x) (part A h i j.val a) (fun b => ?_) 0 ?_ (hv.ones) (H a)
  · exact .inr ⟨_, hs a b, wt_eq A h i (show (pos j b).val ≤ (pos i a).val by simp only [pos]; omega)⟩
  · rw [hs]; simp

/-- The block on the diagonal is taken, its keys after the query masked. -/
theorem take_diag {v : Vec Ideal S512x128 .bf16} {s : Vec Ideal S512x512 .f32} {m : Vec Ideal S512x128 .f32} {w : Vec Ideal S512x256 .f32}
    (hs : Scores A h i i s) (hv : Vals A h i v) (H : Sums A h i i.val m w) (a : Fin 512) :
    RowReal (fun d => topOf (k0_pay43 (BitVec.ofNat 32 i.val) s) m (ix2 a d)) (fun x => accOf v (k0_pay43 (BitVec.ofNat 32 i.val) s) m w (ix2 a x)) (part A h i (i.val + 1) a) := by
  refine (funext fun x => part_succ A h i i a x : part A h i (i.val + 1) a = _) ▸ row_step v _ m w a (fun b => wt A h i a (pos i b)) (fun b x => vv A h (pos i b) x) (part A h i i.val a) (fun b => ?_) 0 ?_ (hv.ones) (H a)
  · rw [pay43_at i.val i.isLt]
    by_cases hb : b ≤ a
    · rw [if_pos hb]
      exact .inr ⟨_, hs a b, wt_eq A h i (show (pos i b).val ≤ (pos i a).val by have : b.val ≤ a.val := hb; simp only [pos]; omega)⟩
    · rw [if_neg hb]
      exact .inl ⟨rfl, wt_zero A h i (show ¬(pos i b).val ≤ (pos i a).val by have : ¬b.val ≤ a.val := hb; simp only [pos]; omega)⟩
  · rw [pay43_at i.val i.isLt, if_pos (Fin.zero_le a), hs]; simp

theorem trips_eq : ∀ ic : grid0.Coords, (k0_t1_loop ic).trips = (ic 1).val / 2 := by decide +kernel
theorem off1_eq : ∀ (ic : grid0.Coords) (k : Fin (k0_t1_loop ic).trips) (r : Fin 2), k0_off1 ic k (BitVec.ofNat 32 (1 + r.val)) = ![512 * (2 * k.val + 1 + r.val), 0] := by decide +kernel
theorem off2_eq : ∀ (ic : grid0.Coords) (k : Fin (k0_t1_loop ic).trips) (r : Fin 2), k0_off2 ic k (BitVec.ofNat 32 (1 + r.val)) = ![0, 2 * k.val + 1 + r.val, 0] := by decide +kernel
theorem off3_eq : ∀ (ic : grid0.Coords) (k : Fin (k0_t1_loop ic).trips), k0_off3 ic k = ![512 * (2 * k.val), 128] := by decide +kernel
theorem off4_eq : ∀ (ic : grid0.Coords) (k : Fin (k0_t1_loop ic).trips), k0_off4 ic k = ![512 * (2 * k.val + 1), 128] := by decide +kernel
theorem off12_eq : ∀ ic : grid0.Coords, (ic 1).val % 2 = 1 → k0_off12 ic = ![512 * ((ic 1).val - 1), 128] := by decide +kernel
theorem cond1_iff : ∀ ic : grid0.Coords, k0_cond1 ic = 1#1 ↔ (ic 1).val % 2 = 0 := by decide +kernel
theorem cond2_iff : ∀ ic : grid0.Coords, k0_cond2 ic = 1#1 ↔ (ic 1).val % 2 = 1 := by decide +kernel

section
variable {x0 : Vec Ideal S512x128 .bf16} {x1 : Vec Ideal S8192x256 .bf16} {x3 : Vec Ideal S1x16x512 .f32}

/-- The block of queries. -/
def QueriesAt (A : Args) (h : Fin 8) (i : Fin 16) (x0 : Vec Ideal S512x128 .bf16) : Prop :=
  ∀ a d, x0 (ix2 a d) = ((A.q (pos i a) h d / (Real.sqrt 128 * Real.log 2) : ℝ) : EReal)

/-- Scores computed from a block of keys and their gates. -/
theorem scores_of (Q : QueriesAt A h i x0) (K : KeysAt A h x1 x3) {o : Fin 2 → ℕ} (ho : o = ![512 * j.val, 0])
    (inb : ∀ a, o a + S512x128.size a ≤ S8192x256.size a) {p : Fin 3 → ℕ} (hp : p = ![0, j.val, 0]) (inb' : ∀ a, p a + S1x1x512.size a ≤ S1x16x512.size a) :
    Scores A h i j (k0_pay36 x0 (View.ld x1 (Rect.unit (s := S8192x256) o S512x128.size inb)) (View.ld x3 (Rect.unit (s := S1x16x512) p S1x1x512.size inb'))) := by
  intro a b
  have hk : ∀ b d, (View.ld x1 (Rect.unit (s := S8192x256) o S512x128.size inb) : Vec Ideal S512x128 .bf16) (ix2 b d) = ((A.k (pos j b) h d : ℝ) : EReal) :=
    fun b d => (ld2 j 0 ho inb x1 b d ⟨0 + d.val, by omega⟩ rfl).trans (K.k _ d _ rfl)
  have hc : (View.ld x3 (Rect.unit (s := S1x16x512) p S1x1x512.size inb') : Vec Ideal S1x1x512 .f32) (ix3 0 0 b) = ((A.c h (pos j b) / Real.log 2 : ℝ) : EReal) :=
    (ld3 j hp inb' x3 b).trans (K.c j b)
  rw [pay36_at, hc]
  simp only [hk, Q a, ← EReal.coe_mul, coe_sum, ← EReal.coe_sub]
  rfl

/-- Values loaded from a block of keys and values. -/
theorem vals_of (K : KeysAt A h x1 x3) {o : Fin 2 → ℕ} (ho : o = ![512 * j.val, 128]) (inb : ∀ a, o a + S512x128.size a ≤ S8192x256.size a) :
    Vals A h j (View.ld x1 (Rect.unit (s := S8192x256) o S512x128.size inb)) :=
  fun b d => (ld2 j 128 ho inb x1 b d ⟨128 + d.val, by omega⟩ rfl).trans (K.v _ d _ rfl)

/-- At the start nothing is taken, and the first block's scores are there. -/
theorem start_sums (Q : QueriesAt A h i x0) (K : KeysAt A h x1 x3) (y : Vec Ideal S512x512 .f32) :
    Sums A h i 0 (start x0 x1 x3 y).top (start x0 x1 x3 y).acc ∧ Scores A h i 0 (start x0 x1 x3 y).sa :=
  ⟨fun a => .inl ⟨fun d => pay34_at a d, fun x => pay35_at a x, fun x => part_zero A h i a x⟩, scores_of Q K rfl _ rfl _⟩

/-- After `k` pairs of blocks. -/
theorem steps_sums (Q : QueriesAt A h i x0) (K : KeysAt A h x1 x3) (y : Vec Ideal S512x512 .f32) (ic : grid0.Coords) (hi : (ic 1).val = i.val) (k : ℕ)
    (hk : k ≤ (k0_t1_loop ic).trips) :
    Sums A h i (2 * k) (steps ic x0 x1 x3 (start x0 x1 x3 y) k).top (steps ic x0 x1 x3 (start x0 x1 x3 y) k).acc
      ∧ ∀ j : Fin 16, j.val = 2 * k → Scores A h i j (steps ic x0 x1 x3 (start x0 x1 x3 y) k).sa := by
  induction k with
  | zero =>
    obtain ⟨h1, h2⟩ := start_sums Q K y
    exact ⟨h1, fun j hj => (show j = 0 from Fin.ext hj) ▸ h2⟩
  | succ k ih =>
    obtain ⟨H, S⟩ := ih (Nat.le_of_succ_le hk)
    have ht : k < i.val / 2 := by have := trips_eq ic; omega
    have hi16 := i.isLt
    rw [steps_succ ic x0 x1 x3 _ ⟨k, hk⟩]
    have H1 := take (j := ⟨2 * k, by omega⟩) (show 2 * k < i.val by omega) (S ⟨2 * k, by omega⟩ rfl)
      (vals_of K (off3_eq ic ⟨k, hk⟩) (k0_off3_inb ic ⟨k, hk⟩)) H
    have Sb := scores_of (j := ⟨2 * k + 1, by omega⟩) Q K (off1_eq ic ⟨k, hk⟩ 0) (k0_off1_inb ic ⟨k, hk⟩ 0) (off2_eq ic ⟨k, hk⟩ 0) (k0_off2_inb ic ⟨k, hk⟩ 0)
    have H2 := take (j := ⟨2 * k + 1, by omega⟩) (show 2 * k + 1 < i.val by omega) Sb (vals_of K (off4_eq ic ⟨k, hk⟩) (k0_off4_inb ic ⟨k, hk⟩)) H1
    exact ⟨H2, fun j hj => scores_of Q K ((off1_eq ic ⟨k, hk⟩ 1).trans (by rw [hj]; rfl)) (k0_off1_inb ic ⟨k, hk⟩ 1) ((off2_eq ic ⟨k, hk⟩ 1).trans (by rw [hj]; rfl)) (k0_off2_inb ic ⟨k, hk⟩ 1)⟩

/-- At the end every block up to the diagonal is taken. -/
theorem final_sums (Q : QueriesAt A h i x0) (K : KeysAt A h x1 x3) (y : Vec Ideal S512x512 .f32) (ic : grid0.Coords) (hi : (ic 1).val = i.val) (a : Fin 512) :
    RowReal (fun d => (final ic x0 x1 x3 y).top (ix2 a d)) (fun x => (final ic x0 x1 x3 y).acc (ix2 a x)) (part A h i (i.val + 1) a) := by
  obtain ⟨H, S⟩ := steps_sums Q K y ic hi (k0_t1_loop ic).trips le_rfl
  have ht := trips_eq ic
  unfold final mid after
  generalize steps ic x0 x1 x3 (start x0 x1 x3 y) (k0_t1_loop ic).trips = s at H S
  rw [ht, hi] at H
  have hi16 := i.isLt
  by_cases he : i.val % 2 = 0
  · have h1 : k0_cond1 ic = 1#1 := (cond1_iff ic).mpr (by rw [hi]; exact he)
    have h2 : ¬k0_cond2 ic = 1#1 := fun hh => by have := (cond2_iff ic).mp hh; omega
    rw [dif_neg h2, dif_pos h1]
    rw [show 2 * (i.val / 2) = i.val by omega] at H
    have := take_diag (S i (by rw [ht, hi]; omega)) (vals_of K ((k0_off9_eq ic).trans (by rw [hi])) (k0_off9_inb ic h1)) H a
    rw [← hi] at this ⊢
    exact this
  · have h1 : ¬k0_cond1 ic = 1#1 := fun hh => by have := (cond1_iff ic).mp hh; omega
    have h2 : k0_cond2 ic = 1#1 := (cond2_iff ic).mpr (by omega)
    rw [dif_pos h2, dif_neg h1]
    have hj : i.val - 1 < 16 := by omega
    rw [show 2 * (i.val / 2) = (⟨i.val - 1, hj⟩ : Fin 16).val by simp only; omega] at H
    have H1 := take (j := ⟨i.val - 1, hj⟩) (show i.val - 1 < i.val by omega) (S ⟨i.val - 1, hj⟩ (by simp only; omega))
      (vals_of K ((off12_eq ic (by omega)).trans (by rw [hi])) (k0_off12_inb ic h2)) H
    rw [show (⟨i.val - 1, hj⟩ : Fin 16).val + 1 = i.val by simp only; omega] at H1
    have := take_diag (scores_of Q K ((k0_off10_eq ic).trans (by rw [hi])) (k0_off10_inb ic h2) ((k0_off11_eq ic).trans (by rw [hi])) (k0_off11_inb ic h2))
      (vals_of K ((k0_off13_eq ic).trans (by rw [hi])) (k0_off13_inb ic h2)) H1 a
    rw [← hi] at this ⊢
    exact this
end

end Cert.Kernel7Ideal.Own
-- ==== Proof.FwdFinal.lean ====
/- The arrays the forward pass leaves: the attention's output and the log-sums. -/
module

public import proofs.«01_k».proof.Proof.FwdMath
public import proofs.«01_k».proof.Proof.FwdFrame
public import proofs.«01_k».proof.Proof.FinalMath
public import Idealize.ShloMosaic.Lib.Pipeline.ValueKit

@[expose] public section

set_option maxRecDepth 16384

noncomputable section

namespace Cert.Kernel7Ideal.Own

open Idealize.ShloMosaic Idealize.ShloMosaic.TcCoe Idealize.ShloMosaic.StableHlo Idealize.ShloMosaic.Pointwise Cert.Kernel7Ideal Cert.Kernel7Ideal.Gen Fox
open Idealize.ShloMosaic.Pipeline (Dat)
open Cert.ReferenceIdeal.Stage (Lifts key)
open Cert.KernelIdeal.Own (KeysAt hO hLse hZ hCc hCr hZ_q hZ_k hZ_v hCc_at hCr_at hO_at hLse_at)

section
variable {F : FTy → Type} [FloatOps F] [Named F] (m : (ℓ : Loc nD τ sig) → Buf (Elt F) ℓ) (c : Dev nD)

/-- The queries, the keys and values, and the remaining columns, side by side. -/
theorem V_z : V m c main_v12 = hZ (m ((c.tc : Thread nD τ).loc main_arg0)) (m ((c.tc : Thread nD τ).loc main_arg1)) (m ((c.tc : Thread nD τ).loc main_arg2)) (m ((c.tc : Thread nD τ).loc main_arg4)) := by
  unfold V hostOps0
  after_reads_simp
  rfl

/-- The gates along the lanes. -/
theorem V_cc : V m c main_v16 = hCc (m ((c.tc : Thread nD τ).loc main_arg3)) := by
  unfold V hostOps0
  after_reads_simp
  rfl

/-- The gates by blocks. -/
theorem V_cr : V m c main_v17 = hCr (m ((c.tc : Thread nD τ).loc main_arg3)) := by
  unfold V hostOps0
  after_reads_simp
  rfl
end

/-- The head of a grid point. -/
def hd (t : Fin cfg0.N) : Fin 8 := ⟨t.val / 16, by have : t.val < 128 := lt_of_lt_of_eq t.isLt (show cfg0.N = 128 from N_0); omega⟩
/-- The block of queries of a grid point. -/
def qb (t : Fin cfg0.N) : Fin 16 := ⟨t.val % 16, by omega⟩

theorem coord1 : ∀ t : Fin cfg0.N, (grid0.coords t 1).val = (qb t).val := (by decide +kernel : ∀ t : Fin grid0.N, (grid0.coords t 1).val = t.val % 16)

/-- The block each window reads or writes at a grid point. -/
theorem idx0 : ∀ t : Fin cfg0.N, win0_0.index t = ![(qb t).val, (hd t).val] := (by decide +kernel : ∀ t : Fin grid0.N, win0_0.index t = ![t.val % 16, t.val / 16])
theorem idx1 : ∀ t : Fin cfg0.N, win0_1.index t = ![0, 4 + (hd t).val] := (by decide +kernel : ∀ t : Fin grid0.N, win0_1.index t = ![0, 4 + t.val / 16])
theorem idxc : ∀ t : Fin cfg0.N, win0_2.index t = ![(hd t).val, (qb t).val, 0] := (by decide +kernel : ∀ t : Fin grid0.N, win0_2.index t = ![t.val / 16, t.val % 16, 0])
theorem idxr : ∀ t : Fin cfg0.N, win0_3.index t = ![(hd t).val, 0, 0] := (by decide +kernel : ∀ t : Fin grid0.N, win0_3.index t = ![t.val / 16, 0, 0])
theorem idx4 : ∀ t : Fin cfg0.N, win0_4.index t = ![(qb t).val, (hd t).val] := (by decide +kernel : ∀ t : Fin grid0.N, win0_4.index t = ![t.val % 16, t.val / 16])
theorem idx5 : ∀ t : Fin cfg0.N, win0_5.index t = ![(hd t).val, (qb t).val, 0] := (by decide +kernel : ∀ t : Fin grid0.N, win0_5.index t = ![t.val / 16, t.val % 16, 0])

section
variable (m : (ℓ : Loc nD τ sig) → Buf (Elt Ideal) ℓ) (c : Dev nD) (t : Fin cfg0.N)

theorem iblk0 (a : Fin 512) (d : Fin 128) : (iblk m c 0 t : Vec Ideal S512x128 .bf16) (ix2 a d) = (V m c main_v12 : FVec Ideal S8192x7168 .bf16) (ix2 (pos (qb t) a) ⟨(hd t).val * 128 + d.val, by have := (hd t).isLt; omega⟩) := by
  blk_ext [iblk, idx0 t, pos]
theorem iblk1 (u : Fin 8192) (x : Fin 256) : (iblk m c 1 t : Vec Ideal S8192x256 .bf16) (ix2 u x) = (V m c main_v12 : FVec Ideal S8192x7168 .bf16) (ix2 u ⟨(4 + (hd t).val) * 256 + x.val, by have := (hd t).isLt; omega⟩) := by
  blk_ext [iblk, idx1 t, pos]
theorem iblk2 (a : Fin 512) (d : Fin 128) : (iblk m c 2 t : Vec Ideal S1x512x128 .f32) (ix3 0 a d) = (V m c main_v16 : FVec Ideal S8x8192x128 .f32) (ix3 (hd t) (pos (qb t) a) d) := by
  blk_ext [iblk, idxc t, pos]
theorem iblk3 (j : Fin 16) (b : Fin 512) : (iblk m c 3 t : Vec Ideal S1x16x512 .f32) (ix3 0 j b) = (V m c main_v17 : FVec Ideal S8x16x512 .f32) (ix3 (hd t) j b) := by
  blk_ext [iblk, idxr t]

/-- Where a block of a result lies in its array. -/
theorem emb4 (f : FVec Ideal S8192x1024 .bf16) (a : Fin 512) (d : Fin 128) :
    f ((win0_4.blk t).view.emb (ix2 a d : S512x128.Idx)) = f (ix2 (pos (qb t) a) (col (hd t) d)) := by
  blk_ext [idx4 t, pos, col]
theorem emb5 (f : FVec Ideal S8x8192x128 .f32) (a : Fin 512) (d : Fin 128) :
    f ((win0_5.blk t).view.emb (ix3 0 a d : S1x512x128.Idx)) = f (ix3 (hd t) (pos (qb t) a) d) := by
  blk_ext [idx5 t, pos]

theorem lsum_at (w : Vec Ideal S512x256 .f32) (a : Fin 512) (d : Fin 128) : lsum w (ix2 a d) = w (ix2 a ⟨128 + d.val, by omega⟩) := by
  unfold lsum
  refine View.ld_unit_apply_of w _ _ _ _ _ fun b => ?_
  fin_cases b <;> simp [ix2]
theorem vsum_at (w : Vec Ideal S512x256 .f32) (a : Fin 512) (d : Fin 128) : vsum w (ix2 a d) = w (ix2 a ⟨d.val, by omega⟩) := by
  unfold vsum
  refine View.ld_unit_apply_of w _ _ _ _ _ fun b => ?_
  fin_cases b <;> simp [ix2]
end

section
variable (A : Args) (h : Fin 8) (i : Fin 16) (a : Fin 512)

/-- The blocks up to the diagonal hold every key with a weight. -/
theorem part_all (x : Fin 256) : part A h i (i.val + 1) a x = (∑ u, aw A h (pos i a) u * vv A h u x) * Real.exp (-A.c h (pos i a)) := by
  rw [sum_pos, Finset.sum_mul]
  refine Finset.sum_congr rfl fun j _ => ?_
  rw [Finset.sum_mul]
  by_cases hj : j.val < i.val + 1
  · rw [if_pos hj]
    exact Finset.sum_congr rfl fun b _ => by rw [wt]; ring
  · rw [if_neg hj]
    exact (Finset.sum_eq_zero fun b _ => by rw [aw, if_neg (not_le (by omega) a b), zero_mul, zero_mul]).symm

/-- The sum of the weights. -/
theorem part_ones (d : Fin 128) : part A h i (i.val + 1) a ⟨128 + d.val, by omega⟩ = zs A h (pos i a) * Real.exp (-A.c h (pos i a)) := by
  rw [part_all, zs]
  congr 1
  exact Finset.sum_congr rfl fun u _ => by rw [vv, dif_neg (by simp only; omega), mul_one]

/-- The weighted sum of the values. -/
theorem part_vals (d : Fin 128) : part A h i (i.val + 1) a ⟨d.val, by omega⟩ = (∑ u, aw A h (pos i a) u * A.v u h d) * Real.exp (-A.c h (pos i a)) := by
  rw [part_all]
  congr 1
  exact Finset.sum_congr rfl fun u _ => by rw [vv, dif_pos d.isLt]
end

/-- The two results at a device's arguments: the attention's output, and the log-sums. -/
abbrev Gout (m : (ℓ : Loc nD τ sig) → Buf (Elt Ideal) ℓ) (c : Dev nD) : FVec Ideal S8192x1024 .bf16 := hO (F := Ideal) (m ((c.tc : Thread nD τ).loc main_arg0)) (m ((c.tc : Thread nD τ).loc main_arg1)) (m ((c.tc : Thread nD τ).loc main_arg2)) (m ((c.tc : Thread nD τ).loc main_arg3))
abbrev Gsum (m : (ℓ : Loc nD τ sig) → Buf (Elt Ideal) ℓ) (c : Dev nD) : FVec Ideal S8x8192x128 .f32 := hLse (F := Ideal) (m ((c.tc : Thread nD τ).loc main_arg0)) (m ((c.tc : Thread nD τ).loc main_arg1)) (m ((c.tc : Thread nD τ).loc main_arg3))

section

variable {m : (ℓ : Loc nD τ sig) → Buf (Elt Ideal) ℓ} {c : Dev nD} {A : Args} {w : FVec Ideal S8192x1024 .f32}
variable (L : Lifts A (m ((c.tc : Thread nD τ).loc main_arg0)) (m ((c.tc : Thread nD τ).loc main_arg1)) (m ((c.tc : Thread nD τ).loc main_arg2)) (m ((c.tc : Thread nD τ).loc main_arg3)) w)
include L

theorem queries_at (t : Fin cfg0.N) : QueriesAt A (hd t) (qb t) (iblk m c 0 t) := by
  intro a d
  rw [iblk0, V_z]
  exact hZ_q L _ (hd t) _ d _ rfl

theorem keys_at (t : Fin cfg0.N) : KeysAt A (hd t) (iblk m c 1 t) (iblk m c 3 t) := by
  constructor
  · intro u d x hx
    refine (iblk1 m c t u x).trans ?_
    rw [V_z]
    exact hZ_k L _ (hd t) u d _ (by simp only; omega)
  · intro u d x hx
    refine (iblk1 m c t u x).trans ?_
    rw [V_z]
    exact hZ_v L _ (hd t) u d _ (by simp only; omega)
  · intro j b
    refine (iblk3 m c t j b).trans ?_
    rw [V_cr]
    exact hCr_at L (hd t) j b

/-- The sums at the end of a grid point. -/
theorem ends_at (t : Fin cfg0.N) (a : Fin 512) :
    RowReal (fun d => (ends m c t).top (ix2 a d)) (fun x => (ends m c t).acc (ix2 a x)) (part A (hd t) (qb t) ((qb t).val + 1) a) :=
  final_sums (queries_at L t) (keys_at L t) _ (grid0.coords t) (coord1 t) a

/-- The first result: the attention's output. -/
theorem final4 : (dats m 0 c).arrAt 4 cfg0.N = Gout m c := by
  refine (dats m 0 c).arrAt_eq_of_covers 4 _ (by decide +kernel) (fun t hf y => ?_)
  obtain ⟨a, d, rfl⟩ : ∃ (a : Fin 512) (d : Fin 128), y = (ix2 a d : S512x128.Idx) := ⟨y 0, y 1, by funext x; fin_cases x <;> rfl⟩
  blk_simp
  rw [after_4]
  refine Eq.trans ?_ (emb4 t (Gout m c) a d).symm
  refine Eq.trans ?_ (hO_at L (hd t) (pos (qb t) a) d).symm
  obtain ⟨M, -, hw⟩ := ends_at L t a
  replace hw : ∀ x, (ends m c t).acc (ix2 a x) = _ := hw
  rw [pay3_at, lsum_at, vsum_at, hw, hw, part_ones, part_vals, div_real (mul_pos (mul_pos (zs_pos A _ _) (Real.exp_pos _)) (Real.exp_pos _)).ne']
  congr 1
  rw [mul_div_mul_right _ _ (Real.exp_pos _).ne', mul_div_mul_right _ _ (Real.exp_pos _).ne', Finset.sum_div]
  exact Finset.sum_congr rfl fun u _ => by rw [pr]; ring

/-- The second result: the log-sums. -/
theorem final5 : (dats m 0 c).arrAt 5 cfg0.N = Gsum m c := by
  refine (dats m 0 c).arrAt_eq_of_covers 5 _ (by decide +kernel) (fun t hf y => ?_)
  obtain ⟨z, a, d, rfl⟩ : ∃ (z : Fin 1) (a : Fin 512) (d : Fin 128), y = (ix3 z a d : S1x512x128.Idx) := ⟨y 0, y 1, y 2, by funext x; fin_cases x <;> rfl⟩
  obtain rfl : z = 0 := Subsingleton.elim _ _
  blk_simp
  rw [after_5]
  refine Eq.trans ?_ (emb5 t (Gsum m c) a d).symm
  refine Eq.trans ?_ (hLse_at L (hd t) (pos (qb t) a) d).symm
  obtain ⟨M, hm, hw⟩ := ends_at L t a
  replace hw : ∀ x, (ends m c t).acc (ix2 a x) = _ := hw
  have hz := zs_pos A (hd t) (pos (qb t) a)
  have hc : (iblk m c 2 t : Vec Ideal S1x512x128 .f32) (ix3 0 a d) = ((A.c (hd t) (pos (qb t) a) / Real.log 2 : ℝ) : EReal) := by
    rw [iblk2, V_cc]
    exact hCc_at L (hd t) (pos (qb t) a) d
  rw [pay4_at, lsum_at, hw, show (ends m c t).top (ix2 a d) = (M : EReal) from hm d, hc, part_ones, log_real (mul_pos (mul_pos hz (Real.exp_pos _)) (Real.exp_pos _)),
    ← EReal.coe_mul, ← EReal.coe_add, ← EReal.coe_add]
  congr 1
  rw [Real.log_mul (mul_pos hz (Real.exp_pos _)).ne' (Real.exp_pos _).ne', Real.log_mul hz.ne' (Real.exp_pos _).ne', Real.log_exp, Real.log_exp]
  have := ln2_pos.ne'
  field_simp
  ring

end

open Idealize.SL.Sem in
/-- Every run from arguments that are real numbers ends with the reference's two results, and the arguments unchanged. -/
theorem values (m : (ℓ : Loc nD τ sig) → Buf (Elt Ideal) ℓ) (ρ : Dev nD → PrngReg) (A : Dev nD → Args) (w : FVec Ideal S8192x1024 .f32)
    (L : ∀ c, Lifts (A c) (m ((c.tc : Thread nD τ).loc main_arg0)) (m ((c.tc : Thread nD τ).loc main_arg1))
      (m ((c.tc : Thread nD τ).loc main_arg2)) (m ((c.tc : Thread nD τ).loc main_arg3)) w) :
    θ_run defs (onTc (τ := τ) (main (F := Ideal))) ⟨m, fun _ => 0, ρ⟩ (fun r => ∀ c : Dev nD,
      r.2.mem ((c.tc : Thread nD τ).loc main_v18_0) = Gout m c
      ∧ r.2.mem ((c.tc : Thread nD τ).loc main_v18_1) = Gsum m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h.1 c).1 4).trans (final4 (L c)), ((h.1 c).1 5).trans (final5 (L c)), h.2 c⟩)
    (θ_run_and (run m ρ) (unchanged m ρ))

end Cert.Kernel7Ideal.Own
-- ==== Proof.FwdRef.lean ====
/- The forward's reference and precondition: its two results and the real numbers its arguments hold. -/
module

public import proofs.«01_k».proof.Pre_finite7
public import proofs.«01_k».proof.Proof.Gen.Reference7Ideal
public import proofs.«01_k».proof.Proof.Gen.Reference7Ideal.Run
public import proofs.«01_k».proof.Proof.PreMath
public import proofs.«01_k».proof.Proof.HostI

@[expose] public section

set_option maxRecDepth 16384

noncomputable section

namespace Cert.Pre_finite7.Own

open Idealize.ShloMosaic Cert.Pre_finite7 Cert.Pre_finite.Own Fox

/-- The side conditions of the precondition's operations. -/
instance facts : Cert.Pre_finite7.Facts where
  bcast_S_S8192x8x128 := by decide
  reducesTo_S8192x8x128_S_d0_1_2 := by decide
  h_S_ := by decide
  bcast_S_S8x8192 := by decide
  reducesTo_S8x8192_S_d0_1 := by decide

/-- An array of zeros, in the place of the output's gradient, which the forward does not read. -/
abbrev noGrad : FVec Ideal Cert.Pre_finite.S8192x1024 .f32 := fun _ => ((0 : ℝ) : EReal)

/-- Arrays that meet the precondition hold real numbers. -/
theorem lifts (q k v : FVec Ideal S8192x8x128 .f32) (c : FVec Ideal S8x8192 .f32) (z : FVec Ideal S8192x4096 .bf16)
    (e : Cert.Pre_finite7.fn (F := Ideal) q k v c z = fun _ => 1#1) :
    Cert.ReferenceIdeal.Stage.Lifts (argsOf q k v c noGrad) q k v c noGrad := by
  have e0 := congrFun e (fun y => y.elim0)
  obtain ⟨e1, ec⟩ := and_one _ _ e0
  obtain ⟨e2, ev⟩ := and_one _ _ e1
  obtain ⟨eq, ek⟩ := and_one _ _ e2
  exact ⟨fun t h d => real_all q _ _ _ _ eq _, fun t h d => real_all k _ _ _ _ ek _, fun t h d => real_all v _ _ _ _ ev _,
    fun h t => real_all c _ _ _ _ ec _, fun t j => (congrArg _ (EReal.toReal_coe 0)).symm⟩

end Cert.Pre_finite7.Own

namespace Cert.Reference7Ideal.Own

open Idealize.ShloMosaic Idealize.ShloMosaic.TcCoe Cert.Reference7Ideal

variable (m : (ℓ : Loc nD τ sig) → Buf (Elt Ideal) ℓ) (c : Dev nD)

/-- The first result is the attention's output. -/
theorem out0_eq : Value.res_main_v34 (F := Ideal) m c = Cert.KernelIdeal.Own.hO (F := Ideal) (m ((c.tc : Thread nD τ).loc main_arg0))
    (m ((c.tc : Thread nD τ).loc main_arg1)) (m ((c.tc : Thread nD τ).loc main_arg2)) (m ((c.tc : Thread nD τ).loc main_arg3)) := rfl

/-- The second result is the logarithm of each row's sum, in base 2, along the lanes. -/
theorem out1_eq : Value.res_main_v35 (F := Ideal) m c = Cert.KernelIdeal.Own.hLse (F := Ideal) (m ((c.tc : Thread nD τ).loc main_arg0))
    (m ((c.tc : Thread nD τ).loc main_arg1)) (m ((c.tc : Thread nD τ).loc main_arg3)) := rfl

end Cert.Reference7Ideal.Own

end
-- ==== Proof.Project.lean ====
/- The input projection: the blocks, and the result's array. -/
module

public import proofs.«01_k».proof.Proof.Gen.Kernel6Ideal.Value
public import proofs.«01_k».proof.Proof.Gen.Reference6Ideal.Run
public import proofs.«01_k».proof.Proof.Consts
public import Idealize.ShloMosaic.Lib.Pipeline.ValueKit
public import Idealize.ShloMosaic.Lib.StableHlo.RunRead

@[expose] public section

set_option maxRecDepth 16384

noncomputable section

namespace Cert.Kernel6Ideal.Own

open Idealize.ShloMosaic Idealize.ShloMosaic.TcCoe Idealize.ShloMosaic.Pointwise Idealize.SL.Sem Cert.Kernel6Ideal Cert.Kernel6Ideal.Gen Cert.Kernel6Ideal.Value

/-- The scale of a block of columns: the first one holds the queries. -/
def scale (j : Nat) : EReal := if j = 0 then (((Real.sqrt 128)⁻¹ * (Real.log 2)⁻¹ : ℝ) : EReal) else ((1 : ℝ) : EReal)

/-- The block each window reads or writes at a grid point. -/
theorem idx0 : ∀ t : Fin cfg0.N, win0_0.index t = ![t.val / 7, 0] := (by decide +kernel : ∀ t : Fin grid0.N, win0_0.index t = ![t.val / 7, 0])
theorem idx1 : ∀ t : Fin cfg0.N, win0_1.index t = ![0, t.val % 7] := (by decide +kernel : ∀ t : Fin grid0.N, win0_1.index t = ![0, t.val % 7])
theorem idx2 : ∀ t : Fin cfg0.N, win0_2.index t = ![t.val / 7, t.val % 7] := (by decide +kernel : ∀ t : Fin grid0.N, win0_2.index t = ![t.val / 7, t.val % 7])
theorem coord : ∀ t : Fin cfg0.N, (grid0.coords t 1).val = t.val % 7 := (by decide +kernel : ∀ t : Fin grid0.N, (grid0.coords t 1).val = t.val % 7)

/-- The choice of the scale by the block of columns. -/
theorem pick (j : Fin 7) :
    Scalar.select (Scalar.cmpi .eq (BitVec.ofNat 32 j.val) 0#32) (Named.named (F := Ideal) κ "scale2" 0x3E0293EE#32 : Ideal .f32) (Scalar.ofBits .f32 0x3F800000#32 : Ideal .f32) = scale j.val := by
  have h1 : (Named.named (F := Ideal) κ "scale2" 0x3E0293EE#32 : Ideal .f32) = (((Real.sqrt 128)⁻¹ * (Real.log 2)⁻¹ : ℝ) : EReal) := rfl
  have h2 : (Scalar.ofBits .f32 0x3F800000#32 : Ideal .f32) = ((1 : ℝ) : EReal) := Fox.bits_1
  rw [h1, h2]
  fin_cases j <;> rfl

/-- A block of the result: a product of two blocks, scaled. -/
theorem tile (t : Fin cfg0.N) (x y : Vec Ideal S1024x1024 .bf16) (a b : Fin 1024) :
    k0_pay1 (grid0.coords t) x y (ix2 a b) = (∑ s, x (ix2 a s) * y (ix2 s b)) * scale (t.val % 7) := by
  rw [← coord t]
  refine Eq.trans ?_ (congrArg _ (pick (grid0.coords t 1)))
  pointwise [k0_pay1]

/-- A row and a column of the blocks that a point works on. -/
def row (t : Fin cfg0.N) (a : Fin 1024) : Fin 8192 := ⟨t.val / 7 * 1024 + a.val, by have : t.val < 56 := lt_of_lt_of_eq t.isLt (show cfg0.N = 56 from N_0); omega⟩
def col (t : Fin cfg0.N) (b : Fin 1024) : Fin 7168 := ⟨t.val % 7 * 1024 + b.val, by omega⟩

/-- Where the blocks lie in their arrays. -/
theorem emb0 (t : Fin cfg0.N) (f : FVec Ideal S8192x1024 .bf16) (a s : Fin 1024) :
    f ((win0_0.blk t).view.emb (ix2 a s : S1024x1024.Idx)) = f (ix2 (row t a) s) := by
  blk_ext [idx0 t, row]
theorem emb1 (t : Fin cfg0.N) (f : FVec Ideal S1024x7168 .bf16) (s b : Fin 1024) :
    f ((win0_1.blk t).view.emb (ix2 s b : S1024x1024.Idx)) = f (ix2 s (col t b)) := by
  blk_ext [idx1 t, col]
theorem emb2 (t : Fin cfg0.N) (f : FVec Ideal S8192x7168 .bf16) (a b : Fin 1024) :
    f ((win0_2.blk t).view.emb (ix2 a b : S1024x1024.Idx)) = f (ix2 (row t a) (col t b)) := by
  blk_ext [idx2 t, row, col]

variable (m : (ℓ : Loc nD τ sig) → Buf (Elt Ideal) ℓ) (c : Dev nD)

/-- The two factors. -/
abbrev X : FVec Ideal S8192x1024 .f32 := m ((c.tc : Thread nD τ).loc main_arg0)
abbrev Y : FVec Ideal S1024x7168 .f32 := m ((c.tc : Thread nD τ).loc main_arg1)

/-- The arrays the kernel stages are the factors. -/
theorem V_x : V m c main_v0 = truncf .bf16 (X m c) bitsLt_bf16_f32 := by
  unfold V hostOps0
  after_reads_simp
theorem V_y : V m c main_v1 = truncf .bf16 (Y m c) bitsLt_bf16_f32 := by
  unfold V hostOps0
  after_reads_simp

/-- The blocks a point reads are blocks of the factors. -/
theorem blk_x (t : Fin cfg0.N) (a s : Fin 1024) : iblk m c 0 t (ix2 a s : S1024x1024.Idx) = X m c (ix2 (row t a) s) := by
  refine (emb0 t (V m c main_v0) a s).trans ?_
  rw [V_x]; rfl
theorem blk_y (t : Fin cfg0.N) (s b : Fin 1024) : iblk m c 1 t (ix2 s b : S1024x1024.Idx) = Y m c (ix2 s (col t b)) := by
  refine (emb1 t (V m c main_v1) s b).trans ?_
  rw [V_y]; rfl

/-- The product of the reference. -/
def prod (x : FVec Ideal S8192x1024 .f32) (y : FVec Ideal S1024x7168 .f32) : FVec Ideal S8192x7168 .f32 :=
  Host.dotGeneral Cert.Reference6Ideal.dot_S8192x1024_S1024x7168_S8192x7168_1_0_0_1_n_n none x y

/-- The reference's result at two factors. -/
def ref (x : FVec Ideal S8192x1024 .f32) (y : FVec Ideal S1024x7168 .f32) : FVec Ideal S8192x7168 .bf16 :=
  truncf .bf16 (concatenate S8192x7168 1 [⟨S8192x1024, (Host.divf (extractStridedSlice S8192x1024 ![0, 0] (prod x y) Cert.Reference6Ideal.Gen.slices_S8192x7168_S8192x1024_0_0) (broadcastInDim S8192x1024 ![] Cert.Reference6Ideal.Gen.bcast_S_S8192x1024 (mulf (Host.sqrt (constant Cert.Reference6Ideal.S_ .f32 0x43000000#32)) (Host.log (constant Cert.Reference6Ideal.S_ .f32 0x40000000#32)))) : FVec Ideal S8192x1024 .f32)⟩, ⟨Cert.Reference6Ideal.S8192x6144, (extractStridedSlice Cert.Reference6Ideal.S8192x6144 ![0, 1024] (prod x y) Cert.Reference6Ideal.Gen.slices_S8192x7168_S8192x6144_0_1024)⟩] Cert.Reference6Ideal.Gen.concatenates_S8192x1024_S8192x6144_S8192x7168_d1) bitsLt_bf16_f32

/-- The product at an index. -/
theorem prod_at (x : FVec Ideal S8192x1024 .f32) (y : FVec Ideal S1024x7168 .f32) (a : Fin 8192) (b : Fin 7168) :
    prod x y (ix2 a b) = ∑ s, x (ix2 a s) * y (ix2 s b) := by
  pointwise [prod]

/-- A quotient by the reference's constant is a product with the scale. -/
theorem quot (z : EReal) :
    Ideal.div z (Ideal.sqrt (Ideal.ofBits .f32 0x43000000#32) * Ideal.log (Ideal.ofBits .f32 0x40000000#32)) = z * scale 0 := by
  rw [Fox.bits_128, Fox.bits_2, Fox.root_128, Fox.log_real (by norm_num), ← EReal.coe_mul,
    Ideal.div_coe (mul_pos Fox.root_pos Fox.ln2_pos).ne', scale, if_pos rfl, one_div, mul_inv]

/-- The reference's result at an index. -/
theorem ref_at (x : FVec Ideal S8192x1024 .f32) (y : FVec Ideal S1024x7168 .f32) (t : Fin cfg0.N) (a b : Fin 1024) :
    ref x y (ix2 (row t a) (col t b)) = (∑ s, x (ix2 (row t a) s) * y (ix2 s (col t b))) * scale (t.val % 7) := by
  rw [← prod_at]
  rcases Nat.eq_zero_or_pos (t.val % 7) with h | h
  · rw [h, ← quot]
    have e : (col t b).val = b.val := by simp only [col, h]; omega
    pointwise [ref]
    exact dif_pos (by omega)
  · rw [scale, if_neg h.ne', EReal.coe_one, mul_one]
    have e : 1024 ≤ (col t b).val := by simp only [col]; omega
    pointwise [ref]
    rw [dif_neg (by omega)]
    exact congrArg (fun i => prod x y (ix2 (row t a) i)) (Fin.ext (by simp only []; omega))

/-- The result's array holds the reference's result. -/
theorem final : (dats m 0 c).arrAt 2 cfg0.N = ref (X m c) (Y m c) := by
  refine (dats m 0 c).arrAt_eq_of_covers 2 _ (by decide +kernel) (fun t hf y => ?_)
  obtain ⟨a, b, rfl⟩ : ∃ (a b : Fin 1024), y = (ix2 a b : S1024x1024.Idx) := ⟨y 0, y 1, by funext x; fin_cases x <;> rfl⟩
  blk_simp
  rw [after0_2]
  refine Eq.trans ?_ (emb2 t (ref (X m c) (Y m c)) a b).symm
  rw [ref_at]
  have hz2 : (![0, 0] : Fin 2 → Nat) = fun _ => 0 := by funext x; fin_cases x <;> rfl
  unfold out0_2
  rw [View.canon_unit_zero hz2, View.ld_unit_zero (S := S1024x1024) hz2, View.ld_unit_zero (S := S1024x1024) hz2, tile]
  exact congrArg (· * scale (t.val % 7)) (Finset.sum_congr rfl fun s _ => congrArg₂ (· * ·) (blk_x m c t a s) (blk_y m c t s b))

/-- Every run ends with the reference's result, and the arguments unchanged. -/
theorem values (ρ : Dev nD → PrngReg) :
    θ_run defs (onTc (τ := τ) (main (F := Ideal))) ⟨m, fun _ => 0, ρ⟩ (fun r => ∀ c : Dev nD,
      r.2.mem ((c.tc : Thread nD τ).loc main_v2) = ref (X m c) (Y m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (final m c), (h c).2⟩) (run_blocks m ρ)

end Cert.Kernel6Ideal.Own

end
-- ==== Proof.FfnRun.lean ====
/- The forward FFN at a grid point: the run of the body at the first, a middle and the last of a row's four points. -/
module

public import proofs.«01_k».proof.Proof.Gen.Kernel8Ideal.Frame
public import proofs.«01_k».proof.Proof.Gen.Kernel8Ideal.Skeleton
public import proofs.«01_k».proof.Proof.FwdRun

@[expose] public section

set_option maxRecDepth 16384

noncomputable section

namespace Cert.Kernel8Ideal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel8Ideal Cert.Kernel8Ideal.Gen
open Cert.KernelIdeal.Own (off2 off3)
open Cert.Kernel7Ideal.Own (read_top cov_ld)

variable {F : FTy → Type} [FloatOps F]

local notation "𝕄" => MT nD τ sig Unit (Elt F) ℕ (UR sig nD τ) ℕ

/-- Loading a whole block reads all of it. -/
theorem ld_x {e : EltTy} (X : S512x1024.Idx → Elt F e) (inb : ∀ a, (![0, 0] : Fin 2 → ℕ) a + (![512, 1024] : Fin 2 → ℕ) a ≤ S512x1024.size a) :
    View.ld X (Rect.unit (s := S512x1024) ![0, 0] ![512, 1024] inb) = X := View.ld_unit_zero (S := S512x1024) off2 inb X
theorem ld_g {e : EltTy} (X : S1x1024.Idx → Elt F e) (inb : ∀ a, (![0, 0] : Fin 2 → ℕ) a + (![1, 1024] : Fin 2 → ℕ) a ≤ S1x1024.size a) :
    View.ld X (Rect.unit (s := S1x1024) ![0, 0] ![1, 1024] inb) = X := View.ld_unit_zero (S := S1x1024) off2 inb X
theorem ld_w {e : EltTy} (X : S1x1024x1024.Idx → Elt F e) (inb : ∀ a, (![0, 0, 0] : Fin 3 → ℕ) a + (![1, 1024, 1024] : Fin 3 → ℕ) a ≤ S1x1024x1024.size a) :
    View.ld X (Rect.unit (s := S1x1024x1024) ![0, 0, 0] ![1, 1024, 1024] inb) = X := View.ld_unit_zero (S := S1x1024x1024) off3 inb X

/-- A load of a buffer just written whole reads what was written. -/
theorem cov_h (V : View sig .tc .vmem S512x1024 .bf16) (inb inb' : ∀ a, (![0, 0] : Fin 2 → ℕ) a + (![512, 1024] : Fin 2 → ℕ) a ≤ S512x1024.size a)
    (w : Vec F S512x1024 .bf16) : V.readCov (Val := Elt F) [⟨Rect.unit ![0, 0] ![512, 1024] inb, w⟩] (Rect.unit (s := S512x1024) ![0, 0] ![512, 1024] inb').toLoadRect = w :=
  View.readCov_unit_zero (S := S512x1024) V off2 inb w
theorem cov_x (V : View sig .tc .vmem S512x1024 .f32) (inb inb' : ∀ a, (![0, 0] : Fin 2 → ℕ) a + (![512, 1024] : Fin 2 → ℕ) a ≤ S512x1024.size a)
    (w : Vec F S512x1024 .f32) : V.readCov (Val := Elt F) [⟨Rect.unit ![0, 0] ![512, 1024] inb, w⟩] (Rect.unit (s := S512x1024) ![0, 0] ![512, 1024] inb').toLoadRect = w :=
  View.readCov_unit_zero (S := S512x1024) V off2 inb w

section
variable (c : Dev nD) (i : grid0.Coords)
  (arg2 : Memref sig .tc .vmem S512x1024 .f32) (harg2 : arg2.IsWhole) (arg3 : Memref sig .tc .vmem S1x1024 .f32) (harg3 : arg3.IsWhole)
  (arg4 : Memref sig .tc .vmem S1x1024x1024 .bf16) (harg4 : arg4.IsWhole) (arg5 : Memref sig .tc .vmem S1x1024x1024 .bf16) (harg5 : arg5.IsWhole)
  (arg6 : Memref sig .tc .vmem S1x1024x1024 .bf16) (harg6 : arg6.IsWhole) (arg7 : Memref sig .tc .vmem S1x1024 .f32) (harg7 : arg7.IsWhole)
  (arg8 : Memref sig .tc .vmem S512x1024 .bf16) (harg8 : arg8.IsWhole) (arg9 : Memref sig .tc .vmem S512x1024 .bf16) (harg9 : arg9.IsWhole)
  (arg10 : Memref sig .tc .vmem S512x1024 .bf16) (harg10 : arg10.IsWhole) (arg11 : Memref sig .tc .vmem S512x1024 .f32) (harg11 : arg11.IsWhole)
  (arg12 : Memref sig .tc .vmem S512x1024 .f32) (harg12 : arg12.IsWhole) (arg13 : Memref sig .tc .vmem S512x1024 .bf16) (harg13 : arg13.IsWhole)
  (arg14 : Memref sig .tc .vmem S512x1024 .f32) (harg14 : arg14.IsWhole)

/-- What one point adds to the weighted sum. -/
def step (h : Vec F S512x1024 .bf16) (wg wu wd : Vec F S1x1024x1024 .bf16) (acc : Vec F S512x1024 .f32) : Vec F S512x1024 .f32 :=
  k0_pay1 (k0_pay10 h wg wu acc wd)

/-- The buffers the body runs over, at their contents. -/
def bufs (x : Vec F S512x1024 .f32) (g : Vec F S1x1024 .f32) (wg wu wd : Vec F S1x1024x1024 .bf16) (gq : Vec F S1x1024 .f32)
    (h a b : Vec F S512x1024 .bf16) (y o : Vec F S512x1024 .f32) (hs : Vec F S512x1024 .bf16) (acc : Vec F S512x1024 .f32) : sProp 𝕄 :=
  iprop(owns (c : Thread nD τ) arg2 fullShare x ∗ owns (c : Thread nD τ) arg3 fullShare g ∗ owns (c : Thread nD τ) arg4 fullShare wg
    ∗ owns (c : Thread nD τ) arg5 fullShare wu ∗ owns (c : Thread nD τ) arg6 fullShare wd ∗ owns (c : Thread nD τ) arg7 fullShare gq
    ∗ owns (c : Thread nD τ) arg8 fullShare h ∗ owns (c : Thread nD τ) arg9 fullShare a ∗ owns (c : Thread nD τ) arg10 fullShare b
    ∗ owns (c : Thread nD τ) arg11 fullShare y ∗ owns (c : Thread nD τ) arg12 fullShare o
    ∗ owns (c : Thread nD τ) arg13 fullShare hs ∗ owns (c : Thread nD τ) arg14 fullShare acc)

variable (x : Vec F S512x1024 .f32) (g : Vec F S1x1024 .f32) (wg wu wd : Vec F S1x1024x1024 .bf16) (gq : Vec F S1x1024 .f32)
    (h a b : Vec F S512x1024 .bf16) (y o : Vec F S512x1024 .f32) (hs : Vec F S512x1024 .bf16) (acc : Vec F S512x1024 .f32) (E : Set ℕ)

set_option maxHeartbeats 2400000 in
/-- The first point of a row: the normalized block is made, and the sum starts from zero. -/
theorem body_first (h1 : k0_cond1 i = 1#1) (h2 : ¬k0_cond2 i = 1#1) :
    bufs c arg2 arg3 arg4 arg5 arg6 arg7 arg8 arg9 arg10 arg11 arg12 arg13 arg14 x g wg wu wd gq h a b y o hs acc
      ⊢ wp frame (wpE (defs₀ (F := F)) Variants.none (c : Thread nD τ) none) E (cc0_ffn_fwd (F := F) i arg2 harg2 arg3 harg3 arg4 harg4 arg5 harg5 arg6 harg6 arg7 harg7 arg8 harg8 arg9 harg9 arg10 harg10 arg11 harg11 arg12 harg12 arg13 harg13 arg14 harg14)
          (fun _ => bufs c arg2 arg3 arg4 arg5 arg6 arg7 arg8 arg9 arg10 arg11 arg12 arg13 arg14 x g wg wu wd gq (k0_pay3 x g)
            (k0_pay8 (k0_pay4 x g) wg) (k0_pay9 (k0_pay4 x g) wu) y o (k0_pay4 x g) (step (k0_pay4 x g) wg wu wd k0_pay5)) := by
  simp only [cc0_ffn_fwd_eq_skeleton]
  unfold cc0_ffn_fwd_skel
  simp only [k0_part1_eq_skeleton]
  unfold k0_part1_skel bufs owns
  iintro ⟨⟨%f2, %q2, H2⟩, ⟨%f3, %q3, H3⟩, ⟨%f4, %q4, H4⟩, ⟨%f5, %q5, H5⟩, ⟨%f6, %q6, H6⟩, H7, ⟨%f8, %q8, H8⟩, ⟨%f9, %q9, H9⟩, ⟨%f10, %q10, H10⟩, H11, H12, ⟨%f13, %q13, H13⟩, ⟨%f14, %q14, H14⟩⟩
  subst q2 q3 q4 q5 q6
  sl_exec (disch := first | sl_exact h1 | sl_exact h2)
  sl_step
  isplitl [H2]; · iexists _; isplitr; · ipureintro; rfl
                  iexact H2
  isplitl [H3]; · iexists _; isplitr; · ipureintro; rfl
                  iexact H3
  isplitl [H4]; · iexists _; isplitr; · ipureintro; rfl
                  iexact H4
  isplitl [H5]; · iexists _; isplitr; · ipureintro; rfl
                  iexact H5
  isplitl [H6]; · iexists _; isplitr; · ipureintro; rfl
                  iexact H6
  isplitl [H7]; · iexact H7
  isplitl [H8]
  · iexists _; isplitr; swap; · iexact H8
    ipureintro
    sl_unfold_run_names
    rw [read_top _ _ off2]
    simp only [View.readAt_eq_ld, ld_x, ld_g]
  isplitl [H9]
  · iexists _; isplitr; swap; · iexact H9
    ipureintro
    sl_unfold_run_names
    rw [read_top _ _ off2]
    simp only [View.readAt_eq_ld, ld_x, ld_g, ld_w, cov_h, cov_x]
  isplitl [H10]
  · iexists _; isplitr; swap; · iexact H10
    ipureintro
    sl_unfold_run_names
    rw [read_top _ _ off2]
    simp only [View.readAt_eq_ld, ld_x, ld_g, ld_w, cov_h, cov_x]
  isplitl [H11]; · iexact H11
  isplitl [H12]; · iexact H12
  isplitl [H13]
  · iexists _; isplitr; swap; · iexact H13
    ipureintro
    sl_unfold_run_names
    rw [read_top _ _ off2]
    simp only [View.readAt_eq_ld, ld_x, ld_g]
  iexists _; isplitr; swap; · iexact H14
  ipureintro
  sl_unfold_run_names
  rw [read_top _ _ off2]
  simp only [View.readAt_eq_ld, ld_x, ld_g, ld_w, cov_h, cov_x]
  rfl

set_option maxHeartbeats 2400000 in
/-- A middle point of a row: its block of the hidden axis is added to the sum. -/
theorem body_middle (h1 : ¬k0_cond1 i = 1#1) (h2 : ¬k0_cond2 i = 1#1) :
    bufs c arg2 arg3 arg4 arg5 arg6 arg7 arg8 arg9 arg10 arg11 arg12 arg13 arg14 x g wg wu wd gq h a b y o hs acc
      ⊢ wp frame (wpE (defs₀ (F := F)) Variants.none (c : Thread nD τ) none) E (cc0_ffn_fwd (F := F) i arg2 harg2 arg3 harg3 arg4 harg4 arg5 harg5 arg6 harg6 arg7 harg7 arg8 harg8 arg9 harg9 arg10 harg10 arg11 harg11 arg12 harg12 arg13 harg13 arg14 harg14)
          (fun _ => bufs c arg2 arg3 arg4 arg5 arg6 arg7 arg8 arg9 arg10 arg11 arg12 arg13 arg14 x g wg wu wd gq h
            (k0_pay8 hs wg) (k0_pay9 hs wu) y o hs (step hs wg wu wd acc)) := by
  simp only [cc0_ffn_fwd_eq_skeleton]
  unfold cc0_ffn_fwd_skel
  simp only [k0_part1_eq_skeleton]
  unfold k0_part1_skel bufs owns
  iintro ⟨H2, H3, ⟨%f4, %q4, H4⟩, ⟨%f5, %q5, H5⟩, ⟨%f6, %q6, H6⟩, H7, H8, ⟨%f9, %q9, H9⟩, ⟨%f10, %q10, H10⟩, H11, H12, ⟨%f13, %q13, H13⟩, ⟨%f14, %q14, H14⟩⟩
  subst q4 q5 q6 q13 q14
  sl_exec (disch := first | sl_exact h1 | sl_exact h2)
  sl_step
  isplitl [H2]; · iexact H2
  isplitl [H3]; · iexact H3
  isplitl [H4]; · iexists _; isplitr; · ipureintro; rfl
                  iexact H4
  isplitl [H5]; · iexists _; isplitr; · ipureintro; rfl
                  iexact H5
  isplitl [H6]; · iexists _; isplitr; · ipureintro; rfl
                  iexact H6
  isplitl [H7]; · iexact H7
  isplitl [H8]; · iexact H8
  isplitl [H9]
  · iexists _; isplitr; swap; · iexact H9
    ipureintro
    sl_unfold_run_names
    rw [read_top _ _ off2]
    simp only [View.readAt_eq_ld, ld_x, ld_w]
  isplitl [H10]
  · iexists _; isplitr; swap; · iexact H10
    ipureintro
    sl_unfold_run_names
    rw [read_top _ _ off2]
    simp only [View.readAt_eq_ld, ld_x, ld_w]
  isplitl [H11]; · iexact H11
  isplitl [H12]; · iexact H12
  isplitl [H13]; · iexists _; isplitr; · ipureintro; rfl
                   iexact H13
  iexists _; isplitr; swap; · iexact H14
  ipureintro
  sl_unfold_run_names
  rw [read_top _ _ off2]
  simp only [View.readAt_eq_ld, ld_x, ld_w]
  rfl

set_option maxHeartbeats 2400000 in
/-- The last point of a row: its block is added, and the sum and the block of results are written. -/
theorem body_last (h1 : ¬k0_cond1 i = 1#1) (h2 : k0_cond2 i = 1#1) :
    bufs c arg2 arg3 arg4 arg5 arg6 arg7 arg8 arg9 arg10 arg11 arg12 arg13 arg14 x g wg wu wd gq h a b y o hs acc
      ⊢ wp frame (wpE (defs₀ (F := F)) Variants.none (c : Thread nD τ) none) E (cc0_ffn_fwd (F := F) i arg2 harg2 arg3 harg3 arg4 harg4 arg5 harg5 arg6 harg6 arg7 harg7 arg8 harg8 arg9 harg9 arg10 harg10 arg11 harg11 arg12 harg12 arg13 harg13 arg14 harg14)
          (fun _ => bufs c arg2 arg3 arg4 arg5 arg6 arg7 arg8 arg9 arg10 arg11 arg12 arg13 arg14 x g wg wu wd gq h
            (k0_pay8 hs wg) (k0_pay9 hs wu) (step hs wg wu wd acc) (k0_pay2 (step hs wg wu wd acc) x gq) hs (step hs wg wu wd acc)) := by
  simp only [cc0_ffn_fwd_eq_skeleton]
  unfold cc0_ffn_fwd_skel
  simp only [k0_part1_eq_skeleton]
  unfold k0_part1_skel bufs owns
  iintro ⟨⟨%f2, %q2, H2⟩, H3, ⟨%f4, %q4, H4⟩, ⟨%f5, %q5, H5⟩, ⟨%f6, %q6, H6⟩, ⟨%f7, %q7, H7⟩, H8, ⟨%f9, %q9, H9⟩, ⟨%f10, %q10, H10⟩, ⟨%f11, %q11, H11⟩, ⟨%f12, %q12, H12⟩, ⟨%f13, %q13, H13⟩, ⟨%f14, %q14, H14⟩⟩
  subst q2 q4 q5 q6 q7 q13 q14
  sl_exec (disch := first | sl_exact h1 | sl_exact h2)
  sl_step
  isplitl [H2]; · iexists _; isplitr; · ipureintro; rfl
                  iexact H2
  isplitl [H3]; · iexact H3
  isplitl [H4]; · iexists _; isplitr; · ipureintro; rfl
                  iexact H4
  isplitl [H5]; · iexists _; isplitr; · ipureintro; rfl
                  iexact H5
  isplitl [H6]; · iexists _; isplitr; · ipureintro; rfl
                  iexact H6
  isplitl [H7]; · iexists _; isplitr; · ipureintro; rfl
                  iexact H7
  isplitl [H8]; · iexact H8
  isplitl [H9]
  · iexists _; isplitr; swap; · iexact H9
    ipureintro
    sl_unfold_run_names
    rw [read_top _ _ off2]
    simp only [View.readAt_eq_ld, ld_x, ld_w]
  isplitl [H10]
  · iexists _; isplitr; swap; · iexact H10
    ipureintro
    sl_unfold_run_names
    rw [read_top _ _ off2]
    simp only [View.readAt_eq_ld, ld_x, ld_w]
  isplitl [H11]
  · iexists _; isplitr; swap; · iexact H11
    ipureintro
    sl_unfold_run_names
    rw [read_top _ _ off2]
    simp only [View.readAt_eq_ld, ld_x, ld_w, cov_h, cov_x]
    rfl
  isplitl [H12]
  · iexists _; isplitr; swap; · iexact H12
    ipureintro
    sl_unfold_run_names
    rw [read_top _ _ off2]
    simp only [View.readAt_eq_ld, ld_x, ld_w, ld_g, cov_x]
    rfl
  isplitl [H13]; · iexists _; isplitr; · ipureintro; rfl
                   iexact H13
  iexists _; isplitr; swap; · iexact H14
  ipureintro
  sl_unfold_run_names
  rw [read_top _ _ off2]
  simp only [View.readAt_eq_ld, ld_x, ld_w]
  rfl

end

end Cert.Kernel8Ideal.Own

end
-- ==== Proof.FfnFrame.lean ====
/- The forward FFN's program runs: every grid point by the body's run, then the whole grid. -/
module

public import proofs.«01_k».proof.Proof.FfnRun
public import Idealize.ShloMosaic.Lib.Claim

@[expose] public section

set_option maxRecDepth 16384

noncomputable section

namespace Cert.Kernel8Ideal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel8Ideal Cert.Kernel8Ideal.Gen

variable {F : FTy → Type} [FloatOps F]

local notation "𝕄" => MT nD τ sig Unit (Elt F) ℕ (UR sig nD τ) ℕ

/-- The first condition holds at the first point of a row, the second at the last. -/
theorem cond_first : ∀ t : Fin cfg0.N, k0_cond1 (grid0.coords t) = 1#1 ↔ t.val % 4 = 0 :=
  (by decide +kernel : ∀ t : Fin grid0.N, k0_cond1 (grid0.coords t) = 1#1 ↔ t.val % 4 = 0)
theorem cond_last : ∀ t : Fin cfg0.N, k0_cond2 (grid0.coords t) = 1#1 ↔ t.val % 4 = 3 :=
  (by decide +kernel : ∀ t : Fin grid0.N, k0_cond2 (grid0.coords t) = 1#1 ↔ t.val % 4 = 3)

theorem points : cfg0.N = 64 := N_0

/-- The two buffers that live across points: the normalized block and the sum. -/
abbrev scM0_0 : Memref sig .tc .vmem S512x1024 .bf16 := Memref.whole cc0_scratch0
abbrev scM0_1 : Memref sig .tc .vmem S512x1024 .f32 := Memref.whole cc0_scratch1

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

variable (m : (ℓ : Loc nD τ sig) → Buf (Elt F) ℓ) (ρ : Dev nD → PrngReg)

/-- The first point of a point's row. -/
def first (t : Fin cfg0.N) : Fin cfg0.N := ⟨t.val / 4 * 4, lt_of_le_of_lt (Nat.div_mul_le_self _ _) t.isLt⟩

/-- The row's normalized block, as written out and as kept. -/
def hb (c : Dev nD) (t : Fin cfg0.N) : Vec F S512x1024 .bf16 := k0_pay3 (iblk m c 0 (first t)) (iblk m c 1 (first t))
def hk (c : Dev nD) (t : Fin cfg0.N) : Vec F S512x1024 .bf16 := k0_pay4 (iblk m c 0 (first t)) (iblk m c 1 (first t))

/-- The row's sum after a point. -/
def sumN (c : Dev nD) : (n : ℕ) → n < cfg0.N → Vec F S512x1024 .f32
  | 0, h => step (hk m c ⟨0, h⟩) (X0_2 m c ⟨0, h⟩) (X0_3 m c ⟨0, h⟩) (X0_4 m c ⟨0, h⟩) k0_pay5
  | n + 1, h => step (hk m c ⟨n + 1, h⟩) (X0_2 m c ⟨n + 1, h⟩) (X0_3 m c ⟨n + 1, h⟩) (X0_4 m c ⟨n + 1, h⟩)
      (if (n + 1) % 4 = 0 then k0_pay5 else sumN c n (Nat.lt_of_succ_lt h))

/-- The same at a point of the grid. -/
def sum (c : Dev nD) (t : Fin cfg0.N) : Vec F S512x1024 .f32 := sumN m c t.val t.isLt

/-- The point before. -/
def prev (t : Fin cfg0.N) : Fin cfg0.N := ⟨t.val - 1, lt_of_le_of_lt (Nat.sub_le _ _) t.isLt⟩

theorem sum_first (c : Dev nD) (t : Fin cfg0.N) (h : t.val % 4 = 0) :
    sum m c t = step (hk m c t) (X0_2 m c t) (X0_3 m c t) (X0_4 m c t) k0_pay5 := by
  obtain ⟨n, hn⟩ := t
  cases n with
  | zero => rfl
  | succ n => unfold sum sumN; rw [if_pos h]

theorem sum_next (c : Dev nD) (t : Fin cfg0.N) (h : ¬t.val % 4 = 0) :
    sum m c t = step (hk m c t) (X0_2 m c t) (X0_3 m c t) (X0_4 m c t) (sum m c (prev t)) := by
  obtain ⟨n, hn⟩ := t
  cases n with
  | zero => exact absurd (Nat.zero_mod _) h
  | succ n => unfold sum; rw [sumN.eq_2, if_neg h]; rfl

theorem first_prev (t : Fin cfg0.N) (h : ¬t.val % 4 = 0) : first (prev t) = first t :=
  Fin.ext (by unfold first prev; dsimp only; omega)

theorem first_self (t : Fin cfg0.N) (h : t.val % 4 = 0) : first t = t :=
  Fin.ext (by unfold first; dsimp only; omega)

theorem hk_prev (c : Dev nD) (t : Fin cfg0.N) (h : ¬t.val % 4 = 0) : hk m c (prev t) = hk m c t := by
  unfold hk; rw [first_prev t h]

theorem hb_prev (c : Dev nD) (t : Fin cfg0.N) (h : ¬t.val % 4 = 0) : hb m c (prev t) = hb m c t := by
  unfold hb; rw [first_prev t h]

/-- What the kept buffers hold after point `t`. -/
def kept (c : Dev nD) (t : Fin cfg0.N) : sProp 𝕄 :=
  iprop((owns (c : Thread nD τ) scM0_0 fullShare (hk m c t) ∗ owns (c : Thread nD τ) scM0_1 fullShare (sum m c t)) ∗ (∃ r, prngReg c r))

/-- What each window's buffer holds after each grid point: an input its block, a result what the body left in it.
    The kept buffers hold anything between rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => X0_3 m c t
    | ⟨4, _⟩ => X0_4 m c t
    | ⟨5, _⟩ => iblk m c 5 t
    | ⟨6, _⟩ => hb m c t
    | ⟨7, _⟩ => k0_pay8 (hk m c t) (X0_2 m c t)
    | ⟨8, _⟩ => k0_pay9 (hk m c t) (X0_3 m c t)
    | ⟨9, _⟩ => sum m c t
    | ⟨10, _⟩ => k0_pay2 (sum m c t) (iblk m c 0 t) (iblk m c 5 t)
  Φ k := if h : k.val % 4 = 0 then Pipeline.ΦA spec0 c else kept m c ⟨k.val - 1, by omega⟩
  q w := Pipeline.shareOf spec0 w
  owed _ := 0

/-- The arrays are those the pipeline finds. -/
theorem A_eq (c : Dev nD) (w : Fin cfg0.W) : (dats m 0 c).A w = V m c (Pipeline.arrRef spec0 w) := by
  dsimp only [dats]

/-- What the body leaves in each window's buffer. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = X0_2 m c t := by dsimp only [dats]
theorem after_3 (c : Dev nD) (t : Fin cfg0.N) : (dats m 0 c).after 3 t = X0_3 m c t := by dsimp only [dats]
theorem after_4 (c : Dev nD) (t : Fin cfg0.N) : (dats m 0 c).after 4 t = X0_4 m c t := by dsimp only [dats]
theorem after_5 (c : Dev nD) (t : Fin cfg0.N) : (dats m 0 c).after 5 t = iblk m c 5 t := by dsimp only [dats]
theorem after_6 (c : Dev nD) (t : Fin cfg0.N) : (dats m 0 c).after 6 t = hb m c t := by dsimp only [dats]
theorem after_7 (c : Dev nD) (t : Fin cfg0.N) : (dats m 0 c).after 7 t = k0_pay8 (hk m c t) (X0_2 m c t) := by dsimp only [dats]
theorem after_8 (c : Dev nD) (t : Fin cfg0.N) : (dats m 0 c).after 8 t = k0_pay9 (hk m c t) (X0_3 m c t) := by dsimp only [dats]
theorem after_9 (c : Dev nD) (t : Fin cfg0.N) : (dats m 0 c).after 9 t = sum m c t := by dsimp only [dats]
theorem after_10 (c : Dev nD) (t : Fin cfg0.N) : (dats m 0 c).after 10 t = k0_pay2 (sum m c t) (iblk m c 0 t) (iblk m c 5 t) := by dsimp only [dats]

/-- Every input is staged at every grid point. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = X0_2 m c t :=
  before0_2_of m (dats m 0 c) (A_eq m c 2) (after_2 m c) t d
theorem before_3 (c : Dev nD) (t : Fin cfg0.N) (d) : (dats m 0 c).before 3 t d = X0_3 m c t :=
  before0_3_of m (dats m 0 c) (A_eq m c 3) (after_3 m c) t d
theorem before_4 (c : Dev nD) (t : Fin cfg0.N) (d) : (dats m 0 c).before 4 t d = X0_4 m c t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- Where the body stores nothing into a result's buffer. -/
theorem idle_6 (t : Fin cfg0.N) : cfg0.idle 6 (cfg0.grid.coords t) = true ↔ ¬t.val % 4 = 0 := by
  rw [← cond_first t]
  show (!(k0_cond1 (grid0.coords t) == 1#1)) = true ↔ _
  rw [Bool.not_eq_true', beq_eq_false_iff_ne]
theorem idle_9 (t : Fin cfg0.N) : cfg0.idle 9 (cfg0.grid.coords t) = true ↔ ¬t.val % 4 = 3 := by
  rw [← cond_last t]
  show (!(k0_cond2 (grid0.coords t) == 1#1)) = true ↔ _
  rw [Bool.not_eq_true', beq_eq_false_iff_ne]
theorem idle_10 (t : Fin cfg0.N) : cfg0.idle 10 (cfg0.grid.coords t) = true ↔ ¬t.val % 4 = 3 := idle_9 t

/-- The normalized block stays in its buffer through its row. -/
theorem before_6 (c : Dev nD) (d) : ∀ (n : ℕ) (hn : n < cfg0.N), ¬n % 4 = 0 → (dats m 0 c).before 6 ⟨n, hn⟩ d = hb m c ⟨n, hn⟩
  | 0, hn, h => absurd (Nat.zero_mod _) h
  | n + 1, hn, h => by
    have hfl : (cfg0.win 6).flush (prev ⟨n + 1, hn⟩) = false :=
      Bool.eq_false_iff.mpr fun hh => by have := (flush0_6 _).mp hh; unfold prev at this; dsimp only at this; omega
    rw [← hb_prev m c ⟨n + 1, hn⟩ h]
    rw [(dats m 0 c).before_of_pos 6 ⟨n + 1, hn⟩ (Nat.succ_ne_zero n) ((cfg0.win 6).fetch_out rfl _) d]
    show (if (cfg0.win 6).flush (prev ⟨n + 1, hn⟩) then d else (dats m 0 c).left 6 (prev ⟨n + 1, hn⟩) d) = _
    rw [hfl, if_neg Bool.false_ne_true]
    unfold Dat.left
    by_cases h0 : n % 4 = 0
    · have hi : cfg0.idle 6 (cfg0.grid.coords (prev ⟨n + 1, hn⟩)) = false :=
        Bool.eq_false_iff.mpr fun hh => (idle_6 _).mp hh h0
      rw [hi]
      show (dats m 0 c).kept 6 (prev ⟨n + 1, hn⟩) d = _
      unfold Dat.kept
      rw [Pipeline.fill_of_clip_none 6 _ (fun _ => rfl) d ((dats m 0 c).after 6 _), Window.fill_cut, after_6]
    · have hi : cfg0.idle 6 (cfg0.grid.coords (prev ⟨n + 1, hn⟩)) = true := (idle_6 _).mpr h0
      rw [hi]
      exact before_6 c d n (Nat.lt_of_succ_lt hn) h0

/-- The kept buffers, before and after a point. -/
theorem Phi_first (c : Dev nD) (t : Fin cfg0.N) (h : t.val % 4 = 0) : (dats m 0 c).Φ t.castSucc = Pipeline.ΦA spec0 c := by
  dsimp only [dats]; exact dif_pos h
theorem Phi_in (c : Dev nD) (t : Fin cfg0.N) (h : ¬t.val % 4 = 0) : (dats m 0 c).Φ t.castSucc = kept m c (prev t) := by
  dsimp only [dats]; exact dif_neg h
theorem Phi_out (c : Dev nD) (t : Fin cfg0.N) (h : ¬t.val % 4 = 3) : (dats m 0 c).Φ t.succ = kept m c t := by
  dsimp only [dats]; exact dif_neg (show ¬(t.val + 1) % 4 = 0 by omega)
theorem Phi_last (c : Dev nD) (t : Fin cfg0.N) (h : t.val % 4 = 3) : (dats m 0 c).Φ t.succ = Pipeline.ΦA spec0 c := by
  dsimp only [dats]; exact dif_pos (show (t.val + 1) % 4 = 0 by omega)

/-- What the body is called with at grid point `t`. -/
def given (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- What it gives back. -/
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (dats m 0 c).leavesExact 6 t
    ∗ owns (c : Thread nD τ) (st0_7 t) fullShare ((dats m 0 c).after 7 t)
    ∗ owns (c : Thread nD τ) (st0_8 t) fullShare ((dats m 0 c).after 8 t)
    ∗ (dats m 0 c).leavesExact 9 t
    ∗ (dats m 0 c).leavesExact 10 t)

/-- A buffer the body stored into, or that is written back, holds what is stated. -/
theorem leaves_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]
theorem leaves_flush (c : Dev nD) (w : Fin cfg0.W) (t : Fin cfg0.N) (h : cfg0.idle w (cfg0.grid.coords t) = true) (hf : (cfg0.win w).flush t = true) :
    (dats m 0 c).leavesExact w t = owns (c : Thread nD τ) ((cfg0.win w).stage (cfg0.slots t w)) fullShare ((dats m 0 c).after w t) := by
  unfold Dat.leavesExact; rw [h, hf]

/-- The body's run at point `t`, over the buffers it is called with. -/
abbrev at_point (c : Dev nD) (t : Fin cfg0.N) := bufs (F := F) c (st0_0 t) (st0_1 t) (st0_2 t) (st0_3 t) (st0_4 t) (st0_5 t) (st0_6 t) (st0_7 t)
  (st0_8 t) (st0_9 t) (st0_10 t) scM0_0 scM0_1

set_option maxHeartbeats 2400000 in
/-- The body at any grid point: it finds the inputs staged and leaves the results as stated. -/
theorem sound (c : Dev nD) (t : Fin cfg0.N) :
    given m c t ⊢ wp frame (wpE (defs₀ (F := F)) Variants.none c none) Set.univ (bodyAt0 t) (fun _ => returned m c t) := by
  unfold given returned bodyAt0
  simp only [before_0, before_1, before_2, before_3, before_4, before_5]
  rw [show (dats m 0 c).owesAt () t.succ = (dats m 0 c).owesAt () t.castSucc from rfl,
    after_0, after_1, after_2, after_3, after_4, after_5, after_7, after_8]
  by_cases h0 : t.val % 4 = 0
  · have h3 : ¬t.val % 4 = 3 := by omega
    rw [Phi_first m c t h0, Phi_out m c t h3, PhiA0_eq,
      leaves_live m c 6 t (Bool.eq_false_iff.mpr fun h => (idle_6 t).mp h h0), after_6,
      (dats m 0 c).leavesExact_idle 9 t ((idle_9 t).mpr h3) (Bool.eq_false_iff.mpr fun h => h3 ((flush0_9 t).mp h)),
      (dats m 0 c).leavesExact_idle 10 t ((idle_10 t).mpr h3) (Bool.eq_false_iff.mpr fun h => h3 ((flush0_10 t).mp h))]
    unfold kept
    rw [sum_first m c t h0]
    unfold hb hk
    rw [first_self t h0]
    iintro ⟨⟨⟨⟨%e0, HS0⟩, ⟨%e1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (wp_wand_r frame (wpE (defs₀ (F := F)) Variants.none (c : Thread nD τ) none) Set.univ)
    isplitl [HS0 HS1 H0 H1 H2 H3 H4 H5 H6 H7 H8 H9 H10]
    · iapply (body_first c (grid0.coords t) (st0_0 t) (hstage0_0 _) (st0_1 t) (hstage0_1 _) (st0_2 t) (hstage0_2 _) (st0_3 t) (hstage0_3 _) (st0_4 t) (hstage0_4 _)
        (st0_5 t) (hstage0_5 _) (st0_6 t) (hstage0_6 _) (st0_7 t) (hstage0_7 _) (st0_8 t) (hstage0_8 _) (st0_9 t) (hstage0_9 _) (st0_10 t) (hstage0_10 _)
        scM0_0 (Memref.isWhole_whole _) scM0_1 (Memref.isWhole_whole _)
        (iblk m c 0 t) (iblk m c 1 t) (X0_2 m c t) (X0_3 m c t) (X0_4 m c t) (iblk m c 5 t) _ _ _ _ _ _ _ Set.univ
        ((cond_first t).mpr h0) (fun h => h3 ((cond_last t).mp h)))
      unfold bufs
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      iexact HS1
    unfold bufs
    iintro %_ ⟨H0, H1, H2, H3, H4, H5, H6, H7, H8, H9, H10, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists d9; iexact H9
    iexists d10; iexact H10
  · by_cases h3 : t.val % 4 = 3
    · rw [Phi_in m c t h0, Phi_last m c t h3, PhiA0_eq,
        leaves_flush m c 6 t ((idle_6 t).mpr h0) ((flush0_6 t).mpr h3), after_6,
        leaves_live m c 9 t (Bool.eq_false_iff.mpr fun h => (idle_9 t).mp h h3), after_9,
        leaves_live m c 10 t (Bool.eq_false_iff.mpr fun h => (idle_10 t).mp h h3), after_10]
      simp only [show ∀ d, (dats m 0 c).before 6 t d = hb m c t from fun d => before_6 m c d t.val t.isLt h0]
      unfold kept
      rw [sum_next m c t h0, hk_prev m c t h0]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (wp_wand_r frame (wpE (defs₀ (F := F)) Variants.none (c : Thread nD τ) none) Set.univ)
      isplitl [HS0 HS1 H0 H1 H2 H3 H4 H5 H6 H7 H8 H9 H10]
      · iapply (body_last c (grid0.coords t) (st0_0 t) (hstage0_0 _) (st0_1 t) (hstage0_1 _) (st0_2 t) (hstage0_2 _) (st0_3 t) (hstage0_3 _) (st0_4 t) (hstage0_4 _)
          (st0_5 t) (hstage0_5 _) (st0_6 t) (hstage0_6 _) (st0_7 t) (hstage0_7 _) (st0_8 t) (hstage0_8 _) (st0_9 t) (hstage0_9 _) (st0_10 t) (hstage0_10 _)
          scM0_0 (Memref.isWhole_whole _) scM0_1 (Memref.isWhole_whole _)
          (iblk m c 0 t) (iblk m c 1 t) (X0_2 m c t) (X0_3 m c t) (X0_4 m c t) (iblk m c 5 t) (hb m c t) _ _ _ _ (hk m c t) (sum m c (prev t)) Set.univ
          (fun h => h0 ((cond_first t).mp h)) ((cond_last t).mpr h3))
        unfold bufs
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexact HS0
        iexact HS1
      unfold bufs
      iintro %_ ⟨H0, H1, H2, H3, H4, H5, H6, H7, H8, H9, H10, HS0, HS1⟩
      isplitl [HS0 HS1 Hg]
      · isplitl [HS0 HS1]
        · isplitl [HS0]; · iexists _; iexact HS0
          iexists _; iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · have hf : (cfg0.win 6).flush t = false := Bool.eq_false_iff.mpr fun h => h3 ((flush0_6 t).mp h)
      rw [Phi_in m c t h0, Phi_out m c t h3,
        (dats m 0 c).leavesExact_idle 6 t ((idle_6 t).mpr h0) hf,
        (dats m 0 c).leavesExact_idle 9 t ((idle_9 t).mpr h3) (Bool.eq_false_iff.mpr fun h => h3 ((flush0_9 t).mp h)),
        (dats m 0 c).leavesExact_idle 10 t ((idle_10 t).mpr h3) (Bool.eq_false_iff.mpr fun h => h3 ((flush0_10 t).mp h))]
      unfold kept
      rw [sum_next m c t h0, hk_prev m c t h0]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (wp_wand_r frame (wpE (defs₀ (F := F)) Variants.none (c : Thread nD τ) none) Set.univ)
      isplitl [HS0 HS1 H0 H1 H2 H3 H4 H5 H6 H7 H8 H9 H10]
      · iapply (body_middle c (grid0.coords t) (st0_0 t) (hstage0_0 _) (st0_1 t) (hstage0_1 _) (st0_2 t) (hstage0_2 _) (st0_3 t) (hstage0_3 _) (st0_4 t) (hstage0_4 _)
          (st0_5 t) (hstage0_5 _) (st0_6 t) (hstage0_6 _) (st0_7 t) (hstage0_7 _) (st0_8 t) (hstage0_8 _) (st0_9 t) (hstage0_9 _) (st0_10 t) (hstage0_10 _)
          scM0_0 (Memref.isWhole_whole _) scM0_1 (Memref.isWhole_whole _)
          (iblk m c 0 t) (iblk m c 1 t) (X0_2 m c t) (X0_3 m c t) (X0_4 m c t) (iblk m c 5 t) _ _ _ _ _ (hk m c t) (sum m c (prev t)) Set.univ
          (fun h => h0 ((cond_first t).mp h)) (fun h => h3 ((cond_last t).mp h)))
        unfold bufs
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexact HS0
        iexact HS1
      unfold bufs
      iintro %_ ⟨H0, H1, H2, H3, H4, H5, H6, H7, H8, H9, H10, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists d6; iexact H6
      isplitl [H7]; · iexact H7
      isplitl [H8]; · iexact H8
      isplitl [H9]; · iexists d9; iexact H9
      iexists d10; iexact H10

/-- The region's call at a grid point is the body. -/
theorem row (t : Fin cfg0.N) :
    defs₀ (F := F) .tc cfg0.body (cfg0.bodyArgs t (cfg0.slots t)) = bodyAt0 t := by
  unfold defs₀; rw [Defs.onTc_tc]

/-- The body meets its obligation at every grid point. -/
theorem obligation (c : Dev nD) : BodyObligation (dats (F := F) m 0 c) (defs₀ (F := F)) Variants.none () Set.univ := fun t => by
  rw [bigSep_W0, bigSep_W0, row]
  exact triple_restated (sound m c t) rfl .rfl fun _ => .rfl

set_option backward.isDefEq.respectTransparency.types false in
/-- Every run ends with the arrays at what the windows wrote, and with every semaphore at zero. -/
theorem run_quiet : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m)
    (hin := fun c => (show (dats m 0 c).Φ 0 = Pipeline.ΦA spec0 c by dsimp only [dats]; exact dif_pos rfl) ▸ .rfl)
    (hout := fun c => (show (dats m 0 c).Φ (Fin.last cfg0.N) = Pipeline.ΦA spec0 c by
      dsimp only [dats]; exact dif_pos (show cfg0.N % 4 = 0 by rw [points])) ▸ .rfl)

/-- Every run ends with the arrays at what the windows wrote. -/
theorem run : θ_run defs (onTc (τ := τ) (main (F := F))) (s₀ m ρ) (Pipeline.FramePost cfgs (dats m) 0 (V m)) :=
  (θ_run defs _ _).mono (fun _ h => h.1) (run_quiet m ρ)

/-- Every run ends with the arguments unchanged and every semaphore at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run m ρ)) ((θ_run defs _ _).mono (fun _ h => h.2) (run_quiet m ρ))

end Cert.Kernel8Ideal.Own

end
-- ==== Proof.FfnPay.lean ====
/- The forward FFN's blocks, entry by entry. -/
module

public import proofs.«01_k».proof.Proof.Gen.Kernel8Ideal.Skeleton
public import proofs.«01_k».proof.Proof.Consts

@[expose] public section

set_option maxRecDepth 16384

noncomputable section

namespace Cert.Kernel8Ideal.Own

open Idealize.ShloMosaic Idealize.ShloMosaic.TcCoe Idealize.ShloMosaic.Pointwise Idealize.SL.Sem Cert.Kernel8Ideal Cert.Kernel8Ideal.Gen

/-- The factor that normalizes a row whose squares sum to `z`. -/
def unit (z : EReal) : EReal := Ideal.rsqrt (Ideal.div z (Ideal.ofBits .f32 0x44800000#32) + Ideal.ofBits .f32 0x358637BD#32)

/-- The gate: `a` times its logistic. -/
def gate (a : EReal) : EReal := a * Ideal.div 1 (1 + Ideal.exp (-a))

/-- The normalized block. -/
theorem pay3_at (x : Vec Ideal S512x1024 .f32) (g : Vec Ideal S1x1024 .f32) (a : Fin 512) (k : Fin 1024) :
    k0_pay3 x g (ix2 a k) = x (ix2 a k) * unit (∑ s, x (ix2 a s) * x (ix2 a s)) * g (ix2 0 k) := by
  pointwise [k0_pay3, unit]

theorem pay4_eq (x : Vec Ideal S512x1024 .f32) (g : Vec Ideal S1x1024 .f32) : k0_pay4 x g = k0_pay3 x g := by
  funext i
  pointwise [k0_pay4]

theorem pay6_at (h : Vec Ideal S512x1024 .bf16) (w : Vec Ideal S1x1024x1024 .bf16) (a : Fin 512) (b : Fin 1024) :
    k0_pay6 h w (ix2 a b) = ∑ s, h (ix2 a s) * w (ix3 0 s b) := by
  pointwise [k0_pay6]

theorem pay7_at (h : Vec Ideal S512x1024 .bf16) (w : Vec Ideal S1x1024x1024 .bf16) (a : Fin 512) (b : Fin 1024) :
    k0_pay7 h w (ix2 a b) = ∑ s, h (ix2 a s) * w (ix3 0 s b) := by
  pointwise [k0_pay7]

theorem pay8_at (h : Vec Ideal S512x1024 .bf16) (w : Vec Ideal S1x1024x1024 .bf16) (a : Fin 512) (b : Fin 1024) :
    k0_pay8 h w (ix2 a b) = ∑ s, h (ix2 a s) * w (ix3 0 s b) := by
  rw [← pay6_at]; rfl

theorem pay9_at (h : Vec Ideal S512x1024 .bf16) (w : Vec Ideal S1x1024x1024 .bf16) (a : Fin 512) (b : Fin 1024) :
    k0_pay9 h w (ix2 a b) = ∑ s, h (ix2 a s) * w (ix3 0 s b) := by
  rw [← pay7_at]; rfl

/-- The sum starts from zero. -/
theorem pay5_at (a : Fin 512) (k : Fin 1024) : (k0_pay5 (F := Ideal)) (ix2 a k) = 0 := by
  pointwise [k0_pay5]

theorem pay1_eq (x : Vec Ideal S512x1024 .f32) : k0_pay1 (F := Ideal) x = x := by
  funext i
  pointwise [k0_pay1]

/-- One point's addition to the sum. -/
theorem pay10_at (h : Vec Ideal S512x1024 .bf16) (wg wu wd : Vec Ideal S1x1024x1024 .bf16) (acc : Vec Ideal S512x1024 .f32) (a : Fin 512) (k : Fin 1024) :
    k0_pay10 h wg wu acc wd (ix2 a k) = acc (ix2 a k) + ∑ s, gate (k0_pay6 h wg (ix2 a s)) * k0_pay7 h wu (ix2 a s) * wd (ix3 0 s k) := by
  pointwise [k0_pay10, gate]
  simp only [zero_sub]

/-- The residual sum of a block. -/
theorem pay2_at (y x : Vec Ideal S512x1024 .f32) (g : Vec Ideal S1x1024 .f32) (a : Fin 512) (k : Fin 1024) :
    k0_pay2 y x g (ix2 a k) = x (ix2 a k) + Ideal.ofBits .f32 0x3F000000#32 * (y (ix2 a k) * unit (∑ s, y (ix2 a s) * y (ix2 a s)) * g (ix2 0 k)) := by
  pointwise [k0_pay2, unit]

end Cert.Kernel8Ideal.Own

end
-- ==== Proof.FfnRef.lean ====
/- The forward FFN's reference: its five results, and their entries. -/
module

public import proofs.«01_k».proof.Proof.Gen.Reference8Ideal.Run
public import proofs.«01_k».proof.Proof.FfnPay
public import Idealize.ShloMosaic.Lib.StableHlo.RunRead

@[expose] public section

set_option maxRecDepth 16384

noncomputable section

namespace Cert.Reference8Ideal.Own

open Idealize.ShloMosaic Idealize.ShloMosaic.TcCoe Idealize.ShloMosaic.Pointwise Idealize.SL.Sem Cert.Reference8Ideal Cert.Reference8Ideal.Gen
open Cert.Kernel8Ideal.Own (unit gate)

/-- The rows of an array, normalized and scaled. -/
def norm (x : FVec Ideal S8192x1024 .f32) (g : FVec Ideal S1x1024 .f32) : FVec Ideal S8192x1024 .f32 :=
  mulf (mulf x (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 g)

/-- A projection to the hidden columns. -/
def wide (h : FVec Ideal S8192x1024 .f32) (w : FVec Ideal S1024x4096 .f32) : FVec Ideal S8192x4096 .f32 :=
  Host.dotGeneral dot_S8192x1024_S1024x4096_S8192x4096_1_0_0_1_n_n none h w

/-- The gated hidden columns. -/
def hidden (a b : FVec Ideal S8192x4096 .f32) : FVec Ideal S8192x4096 .f32 :=
  mulf (mulf a (Host.divf (broadcastInDim S8192x4096 ![] bcast_S_S8192x4096 (constant S_ .f32 0x3F800000#32)) (addf (broadcastInDim S8192x4096 ![] bcast_S_S8192x4096 (constant S_ .f32 0x3F800000#32)) (Host.exp (Host.negf a))))) b

/-- The projection back. -/
def narrow (z : FVec Ideal S8192x4096 .f32) (w : FVec Ideal S4096x1024 .f32) : FVec Ideal S8192x1024 .f32 :=
  Host.dotGeneral dot_S8192x4096_S4096x1024_S8192x1024_1_0_0_1_n_n none z w

/-- Half of an array, added to the residual. -/
def half (x z : FVec Ideal S8192x1024 .f32) : FVec Ideal S8192x1024 .f32 :=
  addf x (mulf (broadcastInDim S8192x1024 ![] bcast_S_S8192x1024 (constant S_ .f32 0x3F000000#32)) z)

/-- The FFN's output, of the arguments. -/
def ffn (x : FVec Ideal S8192x1024 .f32) (g : FVec Ideal S1x1024 .f32) (wg wu : FVec Ideal S1024x4096 .f32) (wd : FVec Ideal S4096x1024 .f32) : FVec Ideal S8192x1024 .f32 :=
  narrow (hidden (wide (norm x g) wg) (wide (norm x g) wu)) wd

theorem norm_at (x : FVec Ideal S8192x1024 .f32) (g : FVec Ideal S1x1024 .f32) (r : Fin 8192) (k : Fin 1024) :
    norm x g (ix2 r k) = x (ix2 r k) * unit (∑ s, x (ix2 r s) * x (ix2 r s)) * g (ix2 0 k) := by
  pointwise [norm, unit]

theorem wide_at (h : FVec Ideal S8192x1024 .f32) (w : FVec Ideal S1024x4096 .f32) (r : Fin 8192) (q : Fin 4096) :
    wide h w (ix2 r q) = ∑ s, h (ix2 r s) * w (ix2 s q) := by
  pointwise [wide]

theorem hidden_at (a b : FVec Ideal S8192x4096 .f32) (r : Fin 8192) (q : Fin 4096) :
    hidden a b (ix2 r q) = gate (a (ix2 r q)) * b (ix2 r q) := by
  pointwise [hidden, gate]

theorem narrow_at (z : FVec Ideal S8192x4096 .f32) (w : FVec Ideal S4096x1024 .f32) (r : Fin 8192) (k : Fin 1024) :
    narrow z w (ix2 r k) = ∑ q, z (ix2 r q) * w (ix2 q k) := by
  pointwise [narrow]

theorem half_at (x z : FVec Ideal S8192x1024 .f32) (r : Fin 8192) (k : Fin 1024) :
    half x z (ix2 r k) = x (ix2 r k) + Ideal.ofBits .f32 0x3F000000#32 * z (ix2 r k) := by
  pointwise [half]

variable (m : (ℓ : Loc nD τ sig) → Buf (Elt Ideal) ℓ) (c : Dev nD)

/-- The arguments of a device. -/
abbrev aX : FVec Ideal S8192x1024 .f32 := m ((c.tc : Thread nD τ).loc main_arg0)
abbrev aG : FVec Ideal S1x1024 .f32 := m ((c.tc : Thread nD τ).loc main_arg1)
abbrev aWg : FVec Ideal S1024x4096 .f32 := m ((c.tc : Thread nD τ).loc main_arg2)
abbrev aWu : FVec Ideal S1024x4096 .f32 := m ((c.tc : Thread nD τ).loc main_arg3)
abbrev aWd : FVec Ideal S4096x1024 .f32 := m ((c.tc : Thread nD τ).loc main_arg4)
abbrev aQ : FVec Ideal S1x1024 .f32 := m ((c.tc : Thread nD τ).loc main_arg5)

theorem out4_eq : Value.res_main_v34 m c = half (aX m c) (norm (ffn (aX m c) (aG m c) (aWg m c) (aWu m c) (aWd m c)) (aQ m c)) := rfl

/-- Every run ends with the five results, and the arguments unchanged. -/
theorem values (ρ : Dev nD → PrngReg) :
    θ_run defs (onTc (τ := τ) (main (F := Ideal))) ⟨m, fun _ => 0, ρ⟩ (fun r => ∀ c : Dev nD,
      r.2.mem ((c.tc : Thread nD τ).loc main_v17) = norm (aX m c) (aG m c)
      ∧ r.2.mem ((c.tc : Thread nD τ).loc main_v18) = wide (norm (aX m c) (aG m c)) (aWg m c)
      ∧ r.2.mem ((c.tc : Thread nD τ).loc main_v19) = wide (norm (aX m c) (aG m c)) (aWu m c)
      ∧ r.2.mem ((c.tc : Thread nD τ).loc main_v16) = ffn (aX m c) (aG m c) (aWg m c) (aWu m c) (aWd m c)
      ∧ r.2.mem ((c.tc : Thread nD τ).loc main_v34) = half (aX m c) (norm (ffn (aX m c) (aG m c) (aWg m c) (aWu m c) (aWd m c)) (aQ m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h => h) (Value.run m ρ)

end Cert.Reference8Ideal.Own

end
-- ==== Proof.FfnBlocks.lean ====
/- The forward FFN's blocks in their arrays. -/
module

public import proofs.«01_k».proof.Proof.FfnFrame
public import proofs.«01_k».proof.Proof.FfnRef
public import Idealize.ShloMosaic.Lib.Pipeline.ValueKit

@[expose] public section

set_option maxRecDepth 16384

noncomputable section

namespace Cert.Kernel8Ideal.Own

open Idealize.ShloMosaic Idealize.ShloMosaic.TcCoe Idealize.ShloMosaic.Pointwise Idealize.SL.Sem Cert.Kernel8Ideal Cert.Kernel8Ideal.Gen

/-- The block each window reads or writes at a grid point. -/
theorem idx0 : ∀ t : Fin cfg0.N, win0_0.index t = ![t.val / 4, 0] := (by decide +kernel : ∀ t : Fin grid0.N, win0_0.index t = ![t.val / 4, 0])
theorem idx1 : ∀ t : Fin cfg0.N, win0_1.index t = ![0, 0] := (by decide +kernel : ∀ t : Fin grid0.N, win0_1.index t = ![0, 0])
theorem idx2 : ∀ t : Fin cfg0.N, win0_2.index t = ![t.val % 4, 0, 0] := (by decide +kernel : ∀ t : Fin grid0.N, win0_2.index t = ![t.val % 4, 0, 0])
theorem idx3 : ∀ t : Fin cfg0.N, win0_3.index t = ![t.val % 4, 1, 0] := (by decide +kernel : ∀ t : Fin grid0.N, win0_3.index t = ![t.val % 4, 1, 0])
theorem idx4 : ∀ t : Fin cfg0.N, win0_4.index t = ![t.val % 4, 2, 0] := (by decide +kernel : ∀ t : Fin grid0.N, win0_4.index t = ![t.val % 4, 2, 0])
theorem idx5 : ∀ t : Fin cfg0.N, win0_5.index t = ![0, 0] := (by decide +kernel : ∀ t : Fin grid0.N, win0_5.index t = ![0, 0])
theorem idx6 : ∀ t : Fin cfg0.N, win0_6.index t = ![t.val / 4, 0] := (by decide +kernel : ∀ t : Fin grid0.N, win0_6.index t = ![t.val / 4, 0])
theorem idx7 : ∀ t : Fin cfg0.N, win0_7.index t = ![t.val / 4, t.val % 4] := (by decide +kernel : ∀ t : Fin grid0.N, win0_7.index t = ![t.val / 4, t.val % 4])
theorem idx8 : ∀ t : Fin cfg0.N, win0_8.index t = ![t.val / 4, t.val % 4] := (by decide +kernel : ∀ t : Fin grid0.N, win0_8.index t = ![t.val / 4, t.val % 4])
theorem idx9 : ∀ t : Fin cfg0.N, win0_9.index t = ![t.val / 4, 0] := (by decide +kernel : ∀ t : Fin grid0.N, win0_9.index t = ![t.val / 4, 0])
theorem idx10 : ∀ t : Fin cfg0.N, win0_10.index t = ![t.val / 4, 0] := (by decide +kernel : ∀ t : Fin grid0.N, win0_10.index t = ![t.val / 4, 0])

/-- A row of the block of rows that a point works on, and a column of its block of hidden columns. -/
def rw8 (t : Fin cfg0.N) (a : Fin 512) : Fin 8192 := ⟨t.val / 4 * 512 + a.val, by have : t.val < 64 := lt_of_lt_of_eq t.isLt points; omega⟩
def col (j : ℕ) (b : Fin 1024) : Fin 4096 := ⟨j % 4 * 1024 + b.val, by omega⟩

/-- The block of weights of a point. -/
def wb (j : ℕ) : Fin 4 := ⟨j % 4, Nat.mod_lt _ (by norm_num)⟩

section
variable (t : Fin cfg0.N)

theorem emb6 (f : FVec Ideal S8192x1024 .bf16) (a : Fin 512) (k : Fin 1024) :
    f ((win0_6.blk t).view.emb (ix2 a k : S512x1024.Idx)) = f (ix2 (rw8 t a) k) := by
  blk_ext [idx6 t, rw8]
theorem emb7 (f : FVec Ideal S8192x4096 .bf16) (a : Fin 512) (k : Fin 1024) :
    f ((win0_7.blk t).view.emb (ix2 a k : S512x1024.Idx)) = f (ix2 (rw8 t a) (col t.val k)) := by
  blk_ext [idx7 t, rw8, col]
theorem emb8 (f : FVec Ideal S8192x4096 .bf16) (a : Fin 512) (k : Fin 1024) :
    f ((win0_8.blk t).view.emb (ix2 a k : S512x1024.Idx)) = f (ix2 (rw8 t a) (col t.val k)) := by
  blk_ext [idx8 t, rw8, col]
theorem emb9 (f : FVec Ideal S8192x1024 .f32) (a : Fin 512) (k : Fin 1024) :
    f ((win0_9.blk t).view.emb (ix2 a k : S512x1024.Idx)) = f (ix2 (rw8 t a) k) := by
  blk_ext [idx9 t, rw8]
theorem emb10 (f : FVec Ideal S8192x1024 .f32) (a : Fin 512) (k : Fin 1024) :
    f ((win0_10.blk t).view.emb (ix2 a k : S512x1024.Idx)) = f (ix2 (rw8 t a) k) := by
  blk_ext [idx10 t, rw8]
end

variable (m : (ℓ : Loc nD τ sig) → Buf (Elt Ideal) ℓ) (c : Dev nD)

/-- The arguments of a device. -/
abbrev aX : FVec Ideal S8192x1024 .f32 := m ((c.tc : Thread nD τ).loc main_arg0)
abbrev aG : FVec Ideal S1x1024 .f32 := m ((c.tc : Thread nD τ).loc main_arg1)
abbrev aWg : FVec Ideal S1024x4096 .f32 := m ((c.tc : Thread nD τ).loc main_arg2)
abbrev aWu : FVec Ideal S1024x4096 .f32 := m ((c.tc : Thread nD τ).loc main_arg3)
abbrev aWd : FVec Ideal S4096x1024 .f32 := m ((c.tc : Thread nD τ).loc main_arg4)
abbrev aQ : FVec Ideal S1x1024 .f32 := m ((c.tc : Thread nD τ).loc main_arg5)
abbrev aRest : FVec Ideal S4x2304x1024 .f32 := m ((c.tc : Thread nD τ).loc main_arg6)

/-- The weights in one array. -/
def packed (wg wu : FVec Ideal S1024x4096 .f32) (wd : FVec Ideal S4096x1024 .f32) (z : FVec Ideal S4x2304x1024 .f32) : FVec Ideal S4x5376x1024 .bf16 :=
  truncf .bf16 (concatenate S4x5376x1024 1 [⟨S4x1024x1024, transpose S4x1024x1024 [1, 0, 2] (shapeCast S1024x4x1024 wg shapeCasts_S1024x4096_S1024x4x1024) transposes_S1024x4x1024_S4x1024x1024_1_0_2⟩,
    ⟨S4x1024x1024, transpose S4x1024x1024 [1, 0, 2] (shapeCast S1024x4x1024 wu shapeCasts_S1024x4096_S1024x4x1024) transposes_S1024x4x1024_S4x1024x1024_1_0_2⟩,
    ⟨S4x1024x1024, shapeCast S4x1024x1024 wd shapeCasts_S4096x1024_S4x1024x1024⟩, ⟨S4x2304x1024, z⟩] concatenates_S4x1024x1024_S4x1024x1024_S4x1024x1024_S4x2304x1024_S4x5376x1024_d1) bitsLt_bf16_f32

theorem V_w : V m c main_v6 = packed (aWg m c) (aWu m c) (aWd m c) (aRest m c) := by
  unfold V hostOps0
  after_reads_simp
  rfl

/-- The three parts of the array of the weights. -/
theorem packed_gate (wg wu : FVec Ideal S1024x4096 .f32) (wd : FVec Ideal S4096x1024 .f32) (z : FVec Ideal S4x2304x1024 .f32) (j : ℕ) (s b : Fin 1024) :
    packed wg wu wd z (ix3 (wb j) (⟨s.val, by omega⟩ : Fin 5376) b) = wg (ix2 s (col j b)) := by
  pointwise [packed]
  rfl
theorem packed_up (wg wu : FVec Ideal S1024x4096 .f32) (wd : FVec Ideal S4096x1024 .f32) (z : FVec Ideal S4x2304x1024 .f32) (j : ℕ) (s b : Fin 1024) :
    packed wg wu wd z (ix3 (wb j) (⟨1024 + s.val, by omega⟩ : Fin 5376) b) = wu (ix2 s (col j b)) := by
  pointwise [packed]
  rfl
theorem packed_down (wg wu : FVec Ideal S1024x4096 .f32) (wd : FVec Ideal S4096x1024 .f32) (z : FVec Ideal S4x2304x1024 .f32) (j : ℕ) (s b : Fin 1024) :
    packed wg wu wd z (ix3 (wb j) (⟨2048 + s.val, by omega⟩ : Fin 5376) b) = wd (ix2 (col j s) b) := by
  pointwise [packed]
  rw [dif_neg (by omega), dif_neg (by omega), dif_pos (by omega)]
  exact congrArg (fun i => wd (ix2 i b)) (Fin.ext (by simp only [col, wb]; omega))

theorem blk_x (t : Fin cfg0.N) (a : Fin 512) (k : Fin 1024) : (iblk m c 0 t : Vec Ideal S512x1024 .f32) (ix2 a k) = aX m c (ix2 (rw8 t a) k) := by
  refine Eq.trans ?_ (congrFun (V_main_arg0 m c) _)
  blk_ext [iblk, idx0 t, rw8]
theorem blk_g (t : Fin cfg0.N) (k : Fin 1024) : (iblk m c 1 t : Vec Ideal S1x1024 .f32) (ix2 0 k) = aG m c (ix2 0 k) := by
  refine Eq.trans ?_ (congrFun (V_main_arg1 m c) _)
  blk_ext [iblk, idx1 t]
theorem blk_q (t : Fin cfg0.N) (k : Fin 1024) : (iblk m c 5 t : Vec Ideal S1x1024 .f32) (ix2 0 k) = aQ m c (ix2 0 k) := by
  refine Eq.trans ?_ (congrFun (V_main_arg5 m c) _)
  blk_ext [iblk, idx5 t]

theorem blk_gate (t : Fin cfg0.N) (s b : Fin 1024) : (X0_2 m c t : Vec Ideal S1x1024x1024 .bf16) (ix3 0 s b) = aWg m c (ix2 s (col t.val b)) := by
  refine Eq.trans ?_ (packed_gate (aWg m c) (aWu m c) (aWd m c) (aRest m c) t.val s b)
  rw [← V_w]
  unfold X0_2 Pipeline.Window.fill
  refine (dif_pos (moved0_2 t _)).trans ?_
  blk_ext [iblk, idx2 t, wb]
theorem blk_up (t : Fin cfg0.N) (s b : Fin 1024) : (X0_3 m c t : Vec Ideal S1x1024x1024 .bf16) (ix3 0 s b) = aWu m c (ix2 s (col t.val b)) := by
  refine Eq.trans ?_ (packed_up (aWg m c) (aWu m c) (aWd m c) (aRest m c) t.val s b)
  rw [← V_w]
  unfold X0_3 Pipeline.Window.fill
  refine (dif_pos (moved0_3 t _)).trans ?_
  blk_ext [iblk, idx3 t, wb]
theorem blk_down (t : Fin cfg0.N) (s b : Fin 1024) : (X0_4 m c t : Vec Ideal S1x1024x1024 .bf16) (ix3 0 s b) = aWd m c (ix2 (col t.val s) b) := by
  refine Eq.trans ?_ (packed_down (aWg m c) (aWu m c) (aWd m c) (aRest m c) t.val s b)
  rw [← V_w]
  unfold X0_4 Pipeline.Window.fill
  refine (dif_pos (moved0_4 t _)).trans ?_
  blk_ext [iblk, idx4 t, wb]

end Cert.Kernel8Ideal.Own

end
-- ==== Proof.FfnValue.lean ====
/- The forward FFN's results: the reference's. -/
module

public import proofs.«01_k».proof.Proof.FfnBlocks

@[expose] public section

set_option maxRecDepth 16384

noncomputable section

namespace Cert.Kernel8Ideal.Own

open Idealize.ShloMosaic Idealize.ShloMosaic.TcCoe Idealize.ShloMosaic.Pointwise Idealize.SL.Sem Cert.Kernel8Ideal Cert.Kernel8Ideal.Gen
open Cert.Reference8Ideal.Own (norm wide hidden narrow half ffn norm_at wide_at hidden_at narrow_at half_at)

variable (m : (ℓ : Loc nD τ sig) → Buf (Elt Ideal) ℓ) (c : Dev nD)

/-- The reference's normalized rows, its two projections, its gated columns and its two outputs, at a device's arguments. -/
abbrev rH : FVec Ideal S8192x1024 .f32 := norm (aX m c) (aG m c)
abbrev rA : FVec Ideal S8192x4096 .f32 := wide (rH m c) (aWg m c)
abbrev rB : FVec Ideal S8192x4096 .f32 := wide (rH m c) (aWu m c)
abbrev rY : FVec Ideal S8192x1024 .f32 := ffn (aX m c) (aG m c) (aWg m c) (aWu m c) (aWd m c)
abbrev rO : FVec Ideal S8192x1024 .f32 := half (aX m c) (norm (rY m c) (aQ m c))

/-- The first point of a block of rows works on the same rows. -/
theorem rw8_first (t : Fin cfg0.N) (a : Fin 512) : rw8 (first t) a = rw8 t a :=
  Fin.ext (by simp only [rw8, first]; omega)
theorem rw8_prev (t : Fin cfg0.N) (h : ¬t.val % 4 = 0) (a : Fin 512) : rw8 (prev t) a = rw8 t a :=
  Fin.ext (by simp only [rw8, prev]; omega)

/-- The normalized rows. -/
theorem hb_at (t : Fin cfg0.N) (a : Fin 512) (k : Fin 1024) : hb m c t (ix2 a k) = rH m c (ix2 (rw8 t a) k) := by
  unfold hb
  refine Eq.trans ?_ (norm_at (aX m c) (aG m c) (rw8 t a) k).symm
  rw [pay3_at, blk_x, blk_g, rw8_first]
  simp only [blk_x, rw8_first]
theorem hk_at (t : Fin cfg0.N) (a : Fin 512) (k : Fin 1024) : hk m c t (ix2 a k) = rH m c (ix2 (rw8 t a) k) := by
  rw [← hb_at]
  exact congrFun (pay4_eq _ _) _

/-- The projections. -/
theorem gate_at (t : Fin cfg0.N) (a : Fin 512) (b : Fin 1024) :
    k0_pay8 (hk m c t) (X0_2 m c t) (ix2 a b) = rA m c (ix2 (rw8 t a) (col t.val b)) := by
  refine Eq.trans ?_ (wide_at (rH m c) (aWg m c) _ _).symm
  rw [pay8_at]
  exact Finset.sum_congr rfl fun s _ => congrArg₂ (· * ·) (hk_at m c t a s) (blk_gate m c t s b)
theorem up_at (t : Fin cfg0.N) (a : Fin 512) (b : Fin 1024) :
    k0_pay9 (hk m c t) (X0_3 m c t) (ix2 a b) = rB m c (ix2 (rw8 t a) (col t.val b)) := by
  refine Eq.trans ?_ (wide_at (rH m c) (aWu m c) _ _).symm
  rw [pay9_at]
  exact Finset.sum_congr rfl fun s _ => congrArg₂ (· * ·) (hk_at m c t a s) (blk_up m c t s b)

/-- The summand of the output, and its sum over a block of hidden columns. -/
def term (r : Fin 8192) (k : Fin 1024) (q : Fin 4096) : EReal := hidden (rA m c) (rB m c) (ix2 r q) * aWd m c (ix2 q k)
def part (r : Fin 8192) (k : Fin 1024) (j : ℕ) : EReal := ∑ s, term m c r k (col j s)

/-- A point adds its block's sum. -/
theorem step_at (t : Fin cfg0.N) (acc : Vec Ideal S512x1024 .f32) (a : Fin 512) (k : Fin 1024) :
    step (hk m c t) (X0_2 m c t) (X0_3 m c t) (X0_4 m c t) acc (ix2 a k) = acc (ix2 a k) + part m c (rw8 t a) k t.val := by
  unfold step
  rw [pay1_eq, pay10_at]
  refine congrArg _ (Finset.sum_congr rfl fun s _ => ?_)
  rw [blk_down, term, hidden_at, ← gate_at, ← up_at]
  rfl

/-- The sum after the last of the four points of a block of rows. -/
theorem sum_at (t : Fin cfg0.N) (h : t.val % 4 = 3) (a : Fin 512) (k : Fin 1024) : sum m c t (ix2 a k) = rY m c (ix2 (rw8 t a) k) := by
  have h2 : (prev t).val % 4 = 2 := by simp only [prev]; omega
  have h1 : (prev (prev t)).val % 4 = 1 := by simp only [prev] at *; omega
  have h0 : (prev (prev (prev t))).val % 4 = 0 := by simp only [prev] at *; omega
  have e : ∀ (n : ℕ) (j : Fin 4), n % 4 = j.val → part m c (rw8 t a) k n = ∑ s : Fin 1024, term m c (rw8 t a) k ⟨j.val * 1024 + s.val, by omega⟩ := by
    intro n j hn
    refine Finset.sum_congr rfl fun s _ => congrArg _ (Fin.ext ?_)
    simp only [col, hn]
  rw [sum_next m c t (by omega), step_at, sum_next m c (prev t) (by omega), step_at, sum_next m c (prev (prev t)) (by omega), step_at,
    sum_first m c _ h0, step_at, pay5_at, zero_add, rw8_prev (prev (prev t)) (by omega), rw8_prev (prev t) (by omega), rw8_prev t (by omega),
    e _ 3 h, e _ 2 h2, e _ 1 h1, e _ 0 h0]
  refine Eq.trans ?_ (narrow_at _ _ _ _).symm
  exact ((Fin.sum_univ_tiles 4 1024 (by norm_num) (term m c (rw8 t a) k)).trans (Fin.sum_univ_four _)).symm

/-- The points that write back an output of a block of rows are the last of their four. -/
theorem flush6 : ∀ t : Fin cfg0.N, (cfg0.win 9).flush t = true → t.val % 4 = 3 :=
  (by decide +kernel : ∀ t : Fin grid0.N, win0_9.flush t = true → t.val % 4 = 3)
theorem flush10 : ∀ t : Fin cfg0.N, (cfg0.win 10).flush t = true → t.val % 4 = 3 :=
  (by decide +kernel : ∀ t : Fin grid0.N, win0_10.flush t = true → t.val % 4 = 3)

/-- An index of a block. -/
theorem ix_block (y : S512x1024.Idx) : ∃ (a : Fin 512) (k : Fin 1024), y = ix2 a k := ⟨y 0, y 1, by funext x; fin_cases x <;> rfl⟩

theorem final6 : (dats m 0 c).arrAt 6 cfg0.N = rH m c := by
  refine (dats m 0 c).arrAt_eq_of_covers 6 _ (by decide +kernel) (fun t hf y => ?_)
  obtain ⟨a, k, rfl⟩ := ix_block y
  blk_simp
  rw [after_6]
  exact (hb_at m c t a k).trans (emb6 t (rH m c) a k).symm
theorem final7 : (dats m 0 c).arrAt 7 cfg0.N = rA m c := by
  refine (dats m 0 c).arrAt_eq_of_covers 7 _ (by decide +kernel) (fun t hf y => ?_)
  obtain ⟨a, k, rfl⟩ := ix_block y
  blk_simp
  rw [after_7]
  exact (gate_at m c t a k).trans (emb7 t (rA m c) a k).symm
theorem final8 : (dats m 0 c).arrAt 8 cfg0.N = rB m c := by
  refine (dats m 0 c).arrAt_eq_of_covers 8 _ (by decide +kernel) (fun t hf y => ?_)
  obtain ⟨a, k, rfl⟩ := ix_block y
  blk_simp
  rw [after_8]
  exact (up_at m c t a k).trans (emb8 t (rB m c) a k).symm
theorem final9 : (dats m 0 c).arrAt 9 cfg0.N = rY m c := by
  refine (dats m 0 c).arrAt_eq_of_covers 9 _ (by decide +kernel) (fun t hf y => ?_)
  obtain ⟨a, k, rfl⟩ := ix_block y
  blk_simp
  rw [after_9]
  exact (sum_at m c t (flush6 t hf) a k).trans (emb9 t (rY m c) a k).symm
theorem final10 : (dats m 0 c).arrAt 10 cfg0.N = rO m c := by
  refine (dats m 0 c).arrAt_eq_of_covers 10 _ (by decide +kernel) (fun t hf y => ?_)
  obtain ⟨a, k, rfl⟩ := ix_block y
  blk_simp
  rw [after_10]
  refine Eq.trans ?_ (emb10 t (rO m c) a k).symm
  have h := fun k => sum_at m c t (flush10 t hf) a k
  refine Eq.trans ?_ (half_at (aX m c) (norm (rY m c) (aQ m c)) (rw8 t a) k).symm
  rw [pay2_at, norm_at, h, blk_x, blk_q]
  simp only [h]

/-- Every run ends with the reference's five results, and the arguments unchanged. -/
theorem values (ρ : Dev nD → PrngReg) :
    θ_run defs (onTc (τ := τ) (main (F := Ideal))) ⟨m, fun _ => 0, ρ⟩ (fun r => ∀ c : Dev nD,
      r.2.mem ((c.tc : Thread nD τ).loc main_v7_0) = rH m c
      ∧ r.2.mem ((c.tc : Thread nD τ).loc main_v7_1) = rA m c
      ∧ r.2.mem ((c.tc : Thread nD τ).loc main_v7_2) = rB m c
      ∧ r.2.mem ((c.tc : Thread nD τ).loc main_v7_3) = rY m c
      ∧ r.2.mem ((c.tc : Thread nD τ).loc main_v7_4) = rO m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨((h.1 c).1 6).trans (final6 m c), ((h.1 c).1 7).trans (final7 m c), ((h.1 c).1 8).trans (final8 m c),
    ((h.1 c).1 9).trans (final9 m c), ((h.1 c).1 10).trans (final10 m c), h.2.1 c⟩)
    (θ_run_and (run m ρ) (quiet m ρ))

end Cert.Kernel8Ideal.Own

end
-- ==== Proof.BackRun.lean ====
/- The backward FFN at a grid point: the run of the body at the grid's first point, and at the first, a middle and the last of a row's
   four points. -/
module

public import proofs.«01_k».proof.Proof.Gen.Kernel9Ideal.Frame
public import proofs.«01_k».proof.Proof.Gen.Kernel9Ideal.Skeleton
public import proofs.«01_k».proof.Proof.FwdRun

@[expose] public section

set_option maxRecDepth 16384

noncomputable section

namespace Cert.Kernel9Ideal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel9Ideal Cert.Kernel9Ideal.Gen
open Cert.KernelIdeal.Own (off2 off3)
open Cert.Kernel7Ideal.Own (read_top cov_ld)

variable {F : FTy → Type} [FloatOps F]

local notation "𝕄" => MT nD τ sig Unit (Elt F) ℕ (UR sig nD τ) ℕ

/-- Loading a whole block reads all of it. -/
theorem ld_x {e : EltTy} (X : S512x1024.Idx → Elt F e) (inb : ∀ a, (![0, 0] : Fin 2 → ℕ) a + (![512, 1024] : Fin 2 → ℕ) a ≤ S512x1024.size a) :
    View.ld X (Rect.unit (s := S512x1024) ![0, 0] ![512, 1024] inb) = X := View.ld_unit_zero (S := S512x1024) off2 inb X
theorem ld_g {e : EltTy} (X : S1x1024.Idx → Elt F e) (inb : ∀ a, (![0, 0] : Fin 2 → ℕ) a + (![1, 1024] : Fin 2 → ℕ) a ≤ S1x1024.size a) :
    View.ld X (Rect.unit (s := S1x1024) ![0, 0] ![1, 1024] inb) = X := View.ld_unit_zero (S := S1x1024) off2 inb X
theorem ld_w {e : EltTy} (X : S1x1024x1024.Idx → Elt F e) (inb : ∀ a, (![0, 0, 0] : Fin 3 → ℕ) a + (![1, 1024, 1024] : Fin 3 → ℕ) a ≤ S1x1024x1024.size a) :
    View.ld X (Rect.unit (s := S1x1024x1024) ![0, 0, 0] ![1, 1024, 1024] inb) = X := View.ld_unit_zero (S := S1x1024x1024) off3 inb X

/-- A load of a buffer just written whole reads what was written. -/
theorem cov_h (V : View sig .tc .vmem S512x1024 .bf16) (inb inb' : ∀ a, (![0, 0] : Fin 2 → ℕ) a + (![512, 1024] : Fin 2 → ℕ) a ≤ S512x1024.size a)
    (w : Vec F S512x1024 .bf16) : V.readCov (Val := Elt F) [⟨Rect.unit ![0, 0] ![512, 1024] inb, w⟩] (Rect.unit (s := S512x1024) ![0, 0] ![512, 1024] inb').toLoadRect = w :=
  View.readCov_unit_zero (S := S512x1024) V off2 inb w
theorem cov_x (V : View sig .tc .vmem S512x1024 .f32) (inb inb' : ∀ a, (![0, 0] : Fin 2 → ℕ) a + (![512, 1024] : Fin 2 → ℕ) a ≤ S512x1024.size a)
    (w : Vec F S512x1024 .f32) : V.readCov (Val := Elt F) [⟨Rect.unit ![0, 0] ![512, 1024] inb, w⟩] (Rect.unit (s := S512x1024) ![0, 0] ![512, 1024] inb').toLoadRect = w :=
  View.readCov_unit_zero (S := S512x1024) V off2 inb w
theorem cov_g (V : View sig .tc .vmem S1x1024 .f32) (inb inb' : ∀ a, (![0, 0] : Fin 2 → ℕ) a + (![1, 1024] : Fin 2 → ℕ) a ≤ S1x1024.size a)
    (w : Vec F S1x1024 .f32) : V.readCov (Val := Elt F) [⟨Rect.unit ![0, 0] ![1, 1024] inb, w⟩] (Rect.unit (s := S1x1024) ![0, 0] ![1, 1024] inb').toLoadRect = w :=
  View.readCov_unit_zero (S := S1x1024) V off2 inb w

section
variable (c : Dev nD) (i : grid0.Coords)
  (arg2 : Memref sig .tc .vmem S512x1024 .f32) (harg2 : arg2.IsWhole)
  (arg3 : Memref sig .tc .vmem S512x1024 .f32) (harg3 : arg3.IsWhole)
  (arg4 : Memref sig .tc .vmem S1x1024 .f32) (harg4 : arg4.IsWhole)
  (arg5 : Memref sig .tc .vmem S512x1024 .bf16) (harg5 : arg5.IsWhole)
  (arg6 : Memref sig .tc .vmem S512x1024 .bf16) (harg6 : arg6.IsWhole)
  (arg7 : Memref sig .tc .vmem S1x1024x1024 .bf16) (harg7 : arg7.IsWhole)
  (arg8 : Memref sig .tc .vmem S1x1024x1024 .bf16) (harg8 : arg8.IsWhole)
  (arg9 : Memref sig .tc .vmem S1x1024x1024 .bf16) (harg9 : arg9.IsWhole)
  (arg10 : Memref sig .tc .vmem S512x1024 .f32) (harg10 : arg10.IsWhole)
  (arg11 : Memref sig .tc .vmem S1x1024 .f32) (harg11 : arg11.IsWhole)
  (arg12 : Memref sig .tc .vmem S512x1024 .bf16) (harg12 : arg12.IsWhole)
  (arg13 : Memref sig .tc .vmem S512x1024 .bf16) (harg13 : arg13.IsWhole)
  (arg14 : Memref sig .tc .vmem S512x1024 .bf16) (harg14 : arg14.IsWhole)
  (arg15 : Memref sig .tc .vmem S512x1024 .bf16) (harg15 : arg15.IsWhole)
  (arg16 : Memref sig .tc .vmem S512x1024 .f32) (harg16 : arg16.IsWhole)
  (arg17 : Memref sig .tc .vmem S1x1024 .f32) (harg17 : arg17.IsWhole)
  (arg18 : Memref sig .tc .vmem S1x1024 .f32) (harg18 : arg18.IsWhole)
  (arg19 : Memref sig .tc .vmem S512x1024 .bf16) (harg19 : arg19.IsWhole)
  (arg20 : Memref sig .tc .vmem S512x1024 .f32) (harg20 : arg20.IsWhole)

/-- The gradients of the two hidden products at one point. -/
def dgate (ys : Vec F S512x1024 .bf16) (wd : Vec F S1x1024x1024 .bf16) (a b : Vec F S512x1024 .bf16) : Vec F S512x1024 .bf16 :=
  k0_pay1 (k0_pay19 a) (k0_pay23 ys wd b) (k0_pay24 a) (Scalar.ofBits .f32 0x3F800000#32)

/-- What one point adds to the sum. -/
def step (ys : Vec F S512x1024 .bf16) (wg wu wd : Vec F S1x1024x1024 .bf16) (a b : Vec F S512x1024 .bf16) (acc : Vec F S512x1024 .f32) : Vec F S512x1024 .f32 :=
  k0_pay2 (k0_pay19 a) (k0_pay22 ys wd a) (k0_pay23 ys wd b) (k0_pay24 a) (Scalar.ofBits .f32 0x3F800000#32) acc wg wu

/-- The buffers the body runs over, at their contents. -/
def bufs (D Y : Vec F S512x1024 .f32) (G : Vec F S1x1024 .f32) (a b : Vec F S512x1024 .bf16) (wg wu wd : Vec F S1x1024x1024 .bf16) (x : Vec F S512x1024 .f32) (g : Vec F S1x1024 .f32) (dy da db act : Vec F S512x1024 .bf16) (dx : Vec F S512x1024 .f32) (gq gp : Vec F S1x1024 .f32) (ys : Vec F S512x1024 .bf16) (acc : Vec F S512x1024 .f32) : sProp 𝕄 :=
  iprop(owns (c : Thread nD τ) arg2 fullShare D ∗ owns (c : Thread nD τ) arg3 fullShare Y ∗ owns (c : Thread nD τ) arg4 fullShare G ∗ owns (c : Thread nD τ) arg5 fullShare a ∗ owns (c : Thread nD τ) arg6 fullShare b ∗ owns (c : Thread nD τ) arg7 fullShare wg ∗ owns (c : Thread nD τ) arg8 fullShare wu ∗ owns (c : Thread nD τ) arg9 fullShare wd ∗ owns (c : Thread nD τ) arg10 fullShare x ∗ owns (c : Thread nD τ) arg11 fullShare g ∗ owns (c : Thread nD τ) arg12 fullShare dy ∗ owns (c : Thread nD τ) arg13 fullShare da ∗ owns (c : Thread nD τ) arg14 fullShare db ∗ owns (c : Thread nD τ) arg15 fullShare act ∗ owns (c : Thread nD τ) arg16 fullShare dx ∗ owns (c : Thread nD τ) arg17 fullShare gq ∗ owns (c : Thread nD τ) arg18 fullShare gp ∗ owns (c : Thread nD τ) arg19 fullShare ys ∗ owns (c : Thread nD τ) arg20 fullShare acc)

variable (D Y : Vec F S512x1024 .f32) (G : Vec F S1x1024 .f32) (a b : Vec F S512x1024 .bf16) (wg wu wd : Vec F S1x1024x1024 .bf16) (x : Vec F S512x1024 .f32) (g : Vec F S1x1024 .f32) (dy da db act : Vec F S512x1024 .bf16) (dx : Vec F S512x1024 .f32) (gq gp : Vec F S1x1024 .f32) (ys : Vec F S512x1024 .bf16) (acc : Vec F S512x1024 .f32) (E : Set ℕ)

set_option maxHeartbeats 4800000 in
/-- The grid's first point: the two gradients of the scales start from zero, and then as at the first point of a row. -/
theorem body_start (h1 : k0_cond1 i = 1#1) (h2 : k0_cond2 i = 1#1) (h3 : ¬k0_cond3 i = 1#1) :
    bufs c arg2 arg3 arg4 arg5 arg6 arg7 arg8 arg9 arg10 arg11 arg12 arg13 arg14 arg15 arg16 arg17 arg18 arg19 arg20 D Y G a b wg wu wd x g dy da db act dx gq gp ys acc
      ⊢ wp frame (wpE (defs₀ (F := F)) Variants.none (c : Thread nD τ) none) E (cc0_ffn_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)
          (fun _ => bufs c arg2 arg3 arg4 arg5 arg6 arg7 arg8 arg9 arg10 arg11 arg12 arg13 arg14 arg15 arg16 arg17 arg18 arg19 arg20 D Y G a b wg wu wd x g (k0_pay10 D Y G) (dgate (k0_pay11 D Y G) wd a b) (k0_pay22 (k0_pay11 D Y G) wd a) (k0_pay21 a b) dx (k0_pay12 D Y k0_pay13) (k0_pay14) (k0_pay11 D Y G) (step (k0_pay11 D Y G) wg wu wd a b k0_pay15)) := by
  simp only [cc0_ffn_bwd_eq_skeleton]
  unfold cc0_ffn_bwd_skel
  simp only [k0_part2_eq_skeleton]
  unfold k0_part2_skel
  simp only [k0_part1_eq_skeleton]
  unfold k0_part1_skel bufs owns
  iintro ⟨⟨%f2, %q2, H2⟩, ⟨%f3, %q3, H3⟩, ⟨%f4, %q4, H4⟩, ⟨%f5, %q5, H5⟩, ⟨%f6, %q6, H6⟩, ⟨%f7, %q7, H7⟩, ⟨%f8, %q8, H8⟩, ⟨%f9, %q9, H9⟩, H10, H11, ⟨%f12, %q12, H12⟩, ⟨%f13, %q13, H13⟩, ⟨%f14, %q14, H14⟩, ⟨%f15, %q15, H15⟩, H16, ⟨%f17, %q17, H17⟩, ⟨%f18, %q18, H18⟩, ⟨%f19, %q19, H19⟩, ⟨%f20, %q20, H20⟩⟩
  subst q2 q3 q4 q5 q6 q7 q8 q9
  sl_exec (disch := first | sl_exact h1 | sl_exact h2 | sl_exact h3)
  sl_step
  isplitl [H2]; · iexists _; isplitr; · ipureintro; rfl
                  iexact H2
  isplitl [H3]; · iexists _; isplitr; · ipureintro; rfl
                  iexact H3
  isplitl [H4]; · iexists _; isplitr; · ipureintro; rfl
                  iexact H4
  isplitl [H5]; · iexists _; isplitr; · ipureintro; rfl
                  iexact H5
  isplitl [H6]; · iexists _; isplitr; · ipureintro; rfl
                  iexact H6
  isplitl [H7]; · iexists _; isplitr; · ipureintro; rfl
                  iexact H7
  isplitl [H8]; · iexists _; isplitr; · ipureintro; rfl
                  iexact H8
  isplitl [H9]; · iexists _; isplitr; · ipureintro; rfl
                  iexact H9
  isplitl [H10]; · iexact H10
  isplitl [H11]; · iexact H11
  isplitl [H12]
  · iexists _; isplitr; swap; · iexact H12
    ipureintro
    sl_unfold_run_names
    rw [read_top _ _ off2]
    try simp only [View.readAt_eq_ld, ld_x, ld_g, ld_w, cov_h, cov_x, cov_g]
    try rfl
  isplitl [H13]
  · iexists _; isplitr; swap; · iexact H13
    ipureintro
    sl_unfold_run_names
    rw [read_top _ _ off2]
    try simp only [View.readAt_eq_ld, ld_x, ld_g, ld_w, cov_h, cov_x, cov_g]
    try rfl
  isplitl [H14]
  · iexists _; isplitr; swap; · iexact H14
    ipureintro
    sl_unfold_run_names
    rw [read_top _ _ off2]
    try simp only [View.readAt_eq_ld, ld_x, ld_g, ld_w, cov_h, cov_x, cov_g]
    try rfl
  isplitl [H15]
  · iexists _; isplitr; swap; · iexact H15
    ipureintro
    sl_unfold_run_names
    rw [read_top _ _ off2]
    try simp only [View.readAt_eq_ld, ld_x, ld_g, ld_w, cov_h, cov_x, cov_g]
    try rfl
  isplitl [H16]; · iexact H16
  isplitl [H17]
  · iexists _; isplitr; swap; · iexact H17
    ipureintro
    sl_unfold_run_names
    rw [read_top _ _ off2]
    try simp only [View.readAt_eq_ld, ld_x, ld_g, ld_w, cov_h, cov_x, cov_g]
    try rfl
  isplitl [H18]
  · iexists _; isplitr; swap; · iexact H18
    ipureintro
    sl_unfold_run_names
    rw [read_top _ _ off2]
    try simp only [View.readAt_eq_ld, ld_x, ld_g, ld_w, cov_h, cov_x, cov_g]
    try rfl
  isplitl [H19]
  · iexists _; isplitr; swap; · iexact H19
    ipureintro
    sl_unfold_run_names
    rw [read_top _ _ off2]
    try simp only [View.readAt_eq_ld, ld_x, ld_g, ld_w, cov_h, cov_x, cov_g]
    try rfl
  iexists _; isplitr; swap; · iexact H20
  ipureintro
  sl_unfold_run_names
  rw [read_top _ _ off2]
  try simp only [View.readAt_eq_ld, ld_x, ld_g, ld_w, cov_h, cov_x, cov_g]
  try rfl

set_option maxHeartbeats 4800000 in
/-- The first point of a row: the gradient of the last norm's input is made and added up, and the sum starts from zero. -/
theorem body_first (h1 : ¬k0_cond1 i = 1#1) (h2 : k0_cond2 i = 1#1) (h3 : ¬k0_cond3 i = 1#1) :
    bufs c arg2 arg3 arg4 arg5 arg6 arg7 arg8 arg9 arg10 arg11 arg12 arg13 arg14 arg15 arg16 arg17 arg18 arg19 arg20 D Y G a b wg wu wd x g dy da db act dx gq gp ys acc
      ⊢ wp frame (wpE (defs₀ (F := F)) Variants.none (c : Thread nD τ) none) E (cc0_ffn_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)
          (fun _ => bufs c arg2 arg3 arg4 arg5 arg6 arg7 arg8 arg9 arg10 arg11 arg12 arg13 arg14 arg15 arg16 arg17 arg18 arg19 arg20 D Y G a b wg wu wd x g (k0_pay10 D Y G) (dgate (k0_pay11 D Y G) wd a b) (k0_pay22 (k0_pay11 D Y G) wd a) (k0_pay21 a b) dx (k0_pay12 D Y gq) gp (k0_pay11 D Y G) (step (k0_pay11 D Y G) wg wu wd a b k0_pay15)) := by
  simp only [cc0_ffn_bwd_eq_skeleton]
  unfold cc0_ffn_bwd_skel
  simp only [k0_part2_eq_skeleton]
  unfold k0_part2_skel
  simp only [k0_part1_eq_skeleton]
  unfold k0_part1_skel bufs owns
  iintro ⟨⟨%f2, %q2, H2⟩, ⟨%f3, %q3, H3⟩, ⟨%f4, %q4, H4⟩, ⟨%f5, %q5, H5⟩, ⟨%f6, %q6, H6⟩, ⟨%f7, %q7, H7⟩, ⟨%f8, %q8, H8⟩, ⟨%f9, %q9, H9⟩, H10, H11, ⟨%f12, %q12, H12⟩, ⟨%f13, %q13, H13⟩, ⟨%f14, %q14, H14⟩, ⟨%f15, %q15, H15⟩, H16, ⟨%f17, %q17, H17⟩, H18, ⟨%f19, %q19, H19⟩, ⟨%f20, %q20, H20⟩⟩
  subst q2 q3 q4 q5 q6 q7 q8 q9 q17
  sl_exec (disch := first | sl_exact h1 | sl_exact h2 | sl_exact h3)
  sl_step
  isplitl [H2]; · iexists _; isplitr; · ipureintro; rfl
                  iexact H2
  isplitl [H3]; · iexists _; isplitr; · ipureintro; rfl
                  iexact H3
  isplitl [H4]; · iexists _; isplitr; · ipureintro; rfl
                  iexact H4
  isplitl [H5]; · iexists _; isplitr; · ipureintro; rfl
                  iexact H5
  isplitl [H6]; · iexists _; isplitr; · ipureintro; rfl
                  iexact H6
  isplitl [H7]; · iexists _; isplitr; · ipureintro; rfl
                  iexact H7
  isplitl [H8]; · iexists _; isplitr; · ipureintro; rfl
                  iexact H8
  isplitl [H9]; · iexists _; isplitr; · ipureintro; rfl
                  iexact H9
  isplitl [H10]; · iexact H10
  isplitl [H11]; · iexact H11
  isplitl [H12]
  · iexists _; isplitr; swap; · iexact H12
    ipureintro
    sl_unfold_run_names
    rw [read_top _ _ off2]
    try simp only [View.readAt_eq_ld, ld_x, ld_g, ld_w, cov_h, cov_x, cov_g]
    try rfl
  isplitl [H13]
  · iexists _; isplitr; swap; · iexact H13
    ipureintro
    sl_unfold_run_names
    rw [read_top _ _ off2]
    try simp only [View.readAt_eq_ld, ld_x, ld_g, ld_w, cov_h, cov_x, cov_g]
    try rfl
  isplitl [H14]
  · iexists _; isplitr; swap; · iexact H14
    ipureintro
    sl_unfold_run_names
    rw [read_top _ _ off2]
    try simp only [View.readAt_eq_ld, ld_x, ld_g, ld_w, cov_h, cov_x, cov_g]
    try rfl
  isplitl [H15]
  · iexists _; isplitr; swap; · iexact H15
    ipureintro
    sl_unfold_run_names
    rw [read_top _ _ off2]
    try simp only [View.readAt_eq_ld, ld_x, ld_g, ld_w, cov_h, cov_x, cov_g]
    try rfl
  isplitl [H16]; · iexact H16
  isplitl [H17]
  · iexists _; isplitr; swap; · iexact H17
    ipureintro
    sl_unfold_run_names
    rw [read_top _ _ off2]
    try simp only [View.readAt_eq_ld, ld_x, ld_g, ld_w, cov_h, cov_x, cov_g]
    try rfl
  isplitl [H18]; · iexact H18
  isplitl [H19]
  · iexists _; isplitr; swap; · iexact H19
    ipureintro
    sl_unfold_run_names
    rw [read_top _ _ off2]
    try simp only [View.readAt_eq_ld, ld_x, ld_g, ld_w, cov_h, cov_x, cov_g]
    try rfl
  iexists _; isplitr; swap; · iexact H20
  ipureintro
  sl_unfold_run_names
  rw [read_top _ _ off2]
  try simp only [View.readAt_eq_ld, ld_x, ld_g, ld_w, cov_h, cov_x, cov_g]
  try rfl

set_option maxHeartbeats 4800000 in
/-- A middle point of a row: its block of the hidden axis is added to the sum. -/
theorem body_middle (h1 : ¬k0_cond1 i = 1#1) (h2 : ¬k0_cond2 i = 1#1) (h3 : ¬k0_cond3 i = 1#1) :
    bufs c arg2 arg3 arg4 arg5 arg6 arg7 arg8 arg9 arg10 arg11 arg12 arg13 arg14 arg15 arg16 arg17 arg18 arg19 arg20 D Y G a b wg wu wd x g dy da db act dx gq gp ys acc
      ⊢ wp frame (wpE (defs₀ (F := F)) Variants.none (c : Thread nD τ) none) E (cc0_ffn_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)
          (fun _ => bufs c arg2 arg3 arg4 arg5 arg6 arg7 arg8 arg9 arg10 arg11 arg12 arg13 arg14 arg15 arg16 arg17 arg18 arg19 arg20 D Y G a b wg wu wd x g dy (dgate ys wd a b) (k0_pay22 ys wd a) (k0_pay21 a b) dx gq gp ys (step ys wg wu wd a b acc)) := by
  simp only [cc0_ffn_bwd_eq_skeleton]
  unfold cc0_ffn_bwd_skel
  simp only [k0_part2_eq_skeleton]
  unfold k0_part2_skel
  simp only [k0_part1_eq_skeleton]
  unfold k0_part1_skel bufs owns
  iintro ⟨H2, H3, H4, ⟨%f5, %q5, H5⟩, ⟨%f6, %q6, H6⟩, ⟨%f7, %q7, H7⟩, ⟨%f8, %q8, H8⟩, ⟨%f9, %q9, H9⟩, H10, H11, H12, ⟨%f13, %q13, H13⟩, ⟨%f14, %q14, H14⟩, ⟨%f15, %q15, H15⟩, H16, H17, H18, ⟨%f19, %q19, H19⟩, ⟨%f20, %q20, H20⟩⟩
  subst q5 q6 q7 q8 q9 q19 q20
  sl_exec (disch := first | sl_exact h1 | sl_exact h2 | sl_exact h3)
  sl_step
  isplitl [H2]; · iexact H2
  isplitl [H3]; · iexact H3
  isplitl [H4]; · iexact H4
  isplitl [H5]; · iexists _; isplitr; · ipureintro; rfl
                  iexact H5
  isplitl [H6]; · iexists _; isplitr; · ipureintro; rfl
                  iexact H6
  isplitl [H7]; · iexists _; isplitr; · ipureintro; rfl
                  iexact H7
  isplitl [H8]; · iexists _; isplitr; · ipureintro; rfl
                  iexact H8
  isplitl [H9]; · iexists _; isplitr; · ipureintro; rfl
                  iexact H9
  isplitl [H10]; · iexact H10
  isplitl [H11]; · iexact H11
  isplitl [H12]; · iexact H12
  isplitl [H13]
  · iexists _; isplitr; swap; · iexact H13
    ipureintro
    sl_unfold_run_names
    rw [read_top _ _ off2]
    try simp only [View.readAt_eq_ld, ld_x, ld_g, ld_w, cov_h, cov_x, cov_g]
    try rfl
  isplitl [H14]
  · iexists _; isplitr; swap; · iexact H14
    ipureintro
    sl_unfold_run_names
    rw [read_top _ _ off2]
    try simp only [View.readAt_eq_ld, ld_x, ld_g, ld_w, cov_h, cov_x, cov_g]
    try rfl
  isplitl [H15]
  · iexists _; isplitr; swap; · iexact H15
    ipureintro
    sl_unfold_run_names
    rw [read_top _ _ off2]
    try simp only [View.readAt_eq_ld, ld_x, ld_g, ld_w, cov_h, cov_x, cov_g]
    try rfl
  isplitl [H16]; · iexact H16
  isplitl [H17]; · iexact H17
  isplitl [H18]; · iexact H18
  isplitl [H19]; · iexists _; isplitr; · ipureintro; rfl
                   iexact H19
  iexists _; isplitr; swap; · iexact H20
  ipureintro
  sl_unfold_run_names
  rw [read_top _ _ off2]
  try simp only [View.readAt_eq_ld, ld_x, ld_g, ld_w, cov_h, cov_x, cov_g]
  try rfl

set_option maxHeartbeats 4800000 in
/-- The last point of a row: its block is added, and the gradient of the first norm's input is made and added up. -/
theorem body_last (h1 : ¬k0_cond1 i = 1#1) (h2 : ¬k0_cond2 i = 1#1) (h3 : k0_cond3 i = 1#1) :
    bufs c arg2 arg3 arg4 arg5 arg6 arg7 arg8 arg9 arg10 arg11 arg12 arg13 arg14 arg15 arg16 arg17 arg18 arg19 arg20 D Y G a b wg wu wd x g dy da db act dx gq gp ys acc
      ⊢ wp frame (wpE (defs₀ (F := F)) Variants.none (c : Thread nD τ) none) E (cc0_ffn_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)
          (fun _ => bufs c arg2 arg3 arg4 arg5 arg6 arg7 arg8 arg9 arg10 arg11 arg12 arg13 arg14 arg15 arg16 arg17 arg18 arg19 arg20 D Y G a b wg wu wd x g dy (dgate ys wd a b) (k0_pay22 ys wd a) (k0_pay21 a b) (k0_pay5 (step ys wg wu wd a b acc) x g D) gq (k0_pay6 (step ys wg wu wd a b acc) x gp) ys (step ys wg wu wd a b acc)) := by
  simp only [cc0_ffn_bwd_eq_skeleton]
  unfold cc0_ffn_bwd_skel
  simp only [k0_part2_eq_skeleton]
  unfold k0_part2_skel
  simp only [k0_part1_eq_skeleton]
  unfold k0_part1_skel bufs owns
  iintro ⟨⟨%f2, %q2, H2⟩, H3, H4, ⟨%f5, %q5, H5⟩, ⟨%f6, %q6, H6⟩, ⟨%f7, %q7, H7⟩, ⟨%f8, %q8, H8⟩, ⟨%f9, %q9, H9⟩, ⟨%f10, %q10, H10⟩, ⟨%f11, %q11, H11⟩, H12, ⟨%f13, %q13, H13⟩, ⟨%f14, %q14, H14⟩, ⟨%f15, %q15, H15⟩, ⟨%f16, %q16, H16⟩, H17, ⟨%f18, %q18, H18⟩, ⟨%f19, %q19, H19⟩, ⟨%f20, %q20, H20⟩⟩
  subst q2 q5 q6 q7 q8 q9 q10 q11 q18 q19 q20
  sl_exec (disch := first | sl_exact h1 | sl_exact h2 | sl_exact h3)
  sl_step
  isplitl [H2]; · iexists _; isplitr; · ipureintro; rfl
                  iexact H2
  isplitl [H3]; · iexact H3
  isplitl [H4]; · iexact H4
  isplitl [H5]; · iexists _; isplitr; · ipureintro; rfl
                  iexact H5
  isplitl [H6]; · iexists _; isplitr; · ipureintro; rfl
                  iexact H6
  isplitl [H7]; · iexists _; isplitr; · ipureintro; rfl
                  iexact H7
  isplitl [H8]; · iexists _; isplitr; · ipureintro; rfl
                  iexact H8
  isplitl [H9]; · iexists _; isplitr; · ipureintro; rfl
                  iexact H9
  isplitl [H10]; · iexists _; isplitr; · ipureintro; rfl
                   iexact H10
  isplitl [H11]; · iexists _; isplitr; · ipureintro; rfl
                   iexact H11
  isplitl [H12]; · iexact H12
  isplitl [H13]
  · iexists _; isplitr; swap; · iexact H13
    ipureintro
    sl_unfold_run_names
    rw [read_top _ _ off2]
    try simp only [View.readAt_eq_ld, ld_x, ld_g, ld_w, cov_h, cov_x, cov_g]
    try rfl
  isplitl [H14]
  · iexists _; isplitr; swap; · iexact H14
    ipureintro
    sl_unfold_run_names
    rw [read_top _ _ off2]
    try simp only [View.readAt_eq_ld, ld_x, ld_g, ld_w, cov_h, cov_x, cov_g]
    try rfl
  isplitl [H15]
  · iexists _; isplitr; swap; · iexact H15
    ipureintro
    sl_unfold_run_names
    rw [read_top _ _ off2]
    try simp only [View.readAt_eq_ld, ld_x, ld_g, ld_w, cov_h, cov_x, cov_g]
    try rfl
  isplitl [H16]
  · iexists _; isplitr; swap; · iexact H16
    ipureintro
    sl_unfold_run_names
    rw [read_top _ _ off2]
    try simp only [View.readAt_eq_ld, ld_x, ld_g, ld_w, cov_h, cov_x, cov_g]
    try rfl
  isplitl [H17]; · iexact H17
  isplitl [H18]
  · iexists _; isplitr; swap; · iexact H18
    ipureintro
    sl_unfold_run_names
    rw [read_top _ _ off2]
    try simp only [View.readAt_eq_ld, ld_x, ld_g, ld_w, cov_h, cov_x, cov_g]
    try rfl
  isplitl [H19]; · iexists _; isplitr; · ipureintro; rfl
                   iexact H19
  iexists _; isplitr; swap; · iexact H20
  ipureintro
  sl_unfold_run_names
  rw [read_top _ _ off2]
  try simp only [View.readAt_eq_ld, ld_x, ld_g, ld_w, cov_h, cov_x, cov_g]
  try rfl

end

end Cert.Kernel9Ideal.Own

end
-- ==== Proof.BackFrame.lean ====
/- The backward FFN's program runs: every grid point by the body's run, then the whole grid. -/
module

public import proofs.«01_k».proof.Proof.BackRun
public import Idealize.ShloMosaic.Lib.Claim

@[expose] public section

set_option maxRecDepth 16384

noncomputable section

namespace Cert.Kernel9Ideal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel9Ideal Cert.Kernel9Ideal.Gen

variable {F : FTy → Type} [FloatOps F]

local notation "𝕄" => MT nD τ sig Unit (Elt F) ℕ (UR sig nD τ) ℕ

/-- The first condition holds at the grid's first point, the second at the first point of a row, the third at the last. -/
theorem cond_start : ∀ t : Fin cfg0.N, k0_cond1 (grid0.coords t) = 1#1 ↔ t.val = 0 :=
  (by decide +kernel : ∀ t : Fin grid0.N, k0_cond1 (grid0.coords t) = 1#1 ↔ t.val = 0)
theorem cond_first : ∀ t : Fin cfg0.N, k0_cond2 (grid0.coords t) = 1#1 ↔ t.val % 4 = 0 :=
  (by decide +kernel : ∀ t : Fin grid0.N, k0_cond2 (grid0.coords t) = 1#1 ↔ t.val % 4 = 0)
theorem cond_last : ∀ t : Fin cfg0.N, k0_cond3 (grid0.coords t) = 1#1 ↔ t.val % 4 = 3 :=
  (by decide +kernel : ∀ t : Fin grid0.N, k0_cond3 (grid0.coords t) = 1#1 ↔ t.val % 4 = 3)

theorem points : cfg0.N = 64 := N_0

/-- The two buffers that live across points: the gradient of the FFN's output and the sum. -/
abbrev scM0_0 : Memref sig .tc .vmem S512x1024 .bf16 := Memref.whole cc0_scratch0
abbrev scM0_1 : Memref sig .tc .vmem S512x1024 .f32 := Memref.whole cc0_scratch1

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

variable (m : (ℓ : Loc nD τ sig) → Buf (Elt F) ℓ) (ρ : Dev nD → PrngReg)

/-- The first point of a point's row. -/
def first (t : Fin cfg0.N) : Fin cfg0.N := ⟨t.val / 4 * 4, lt_of_le_of_lt (Nat.div_mul_le_self _ _) t.isLt⟩

/-- The gradient of the FFN's output on a row's block, as it is written out and as it is kept. -/
def yb (c : Dev nD) (t : Fin cfg0.N) : Vec F S512x1024 .bf16 := k0_pay10 (iblk m c 0 (first t)) (iblk m c 1 (first t)) (iblk m c 2 (first t))
def yk (c : Dev nD) (t : Fin cfg0.N) : Vec F S512x1024 .bf16 := k0_pay11 (iblk m c 0 (first t)) (iblk m c 1 (first t)) (iblk m c 2 (first t))

/-- The sum over the hidden axis, after point `n`. -/
def sumN (c : Dev nD) : (n : ℕ) → n < cfg0.N → Vec F S512x1024 .f32
  | 0, h => step (yk m c ⟨0, h⟩) (X0_5 m c ⟨0, h⟩) (X0_6 m c ⟨0, h⟩) (X0_7 m c ⟨0, h⟩) (iblk m c 3 ⟨0, h⟩) (iblk m c 4 ⟨0, h⟩) k0_pay15
  | n + 1, h => step (yk m c ⟨n + 1, h⟩) (X0_5 m c ⟨n + 1, h⟩) (X0_6 m c ⟨n + 1, h⟩) (X0_7 m c ⟨n + 1, h⟩) (iblk m c 3 ⟨n + 1, h⟩) (iblk m c 4 ⟨n + 1, h⟩)
      (if (n + 1) % 4 = 0 then k0_pay15 else sumN c n (Nat.lt_of_succ_lt h))

/-- The same at a point of the grid. -/
def sum (c : Dev nD) (t : Fin cfg0.N) : Vec F S512x1024 .f32 := sumN m c t.val t.isLt

/-- The gradient of the last norm's scale, after point `n`. -/
def gqN (c : Dev nD) : (n : ℕ) → n < cfg0.N → Vec F S1x1024 .f32
  | 0, h => k0_pay12 (iblk m c 0 ⟨0, h⟩) (iblk m c 1 ⟨0, h⟩) k0_pay13
  | n + 1, h => if (n + 1) % 4 = 0 then k0_pay12 (iblk m c 0 ⟨n + 1, h⟩) (iblk m c 1 ⟨n + 1, h⟩) (gqN c n (Nat.lt_of_succ_lt h)) else gqN c n (Nat.lt_of_succ_lt h)
def gq (c : Dev nD) (t : Fin cfg0.N) : Vec F S1x1024 .f32 := gqN m c t.val t.isLt

/-- The gradient of the first norm's scale, after point `n`. -/
def gpN (c : Dev nD) : (n : ℕ) → n < cfg0.N → Vec F S1x1024 .f32
  | 0, _ => k0_pay14
  | n + 1, h => if (n + 1) % 4 = 3 then k0_pay6 (sum m c ⟨n + 1, h⟩) (iblk m c 8 ⟨n + 1, h⟩) (gpN c n (Nat.lt_of_succ_lt h)) else gpN c n (Nat.lt_of_succ_lt h)
def gp (c : Dev nD) (t : Fin cfg0.N) : Vec F S1x1024 .f32 := gpN m c t.val t.isLt

/-- The point before. -/
def prev (t : Fin cfg0.N) : Fin cfg0.N := ⟨t.val - 1, lt_of_le_of_lt (Nat.sub_le _ _) t.isLt⟩

theorem sum_first (c : Dev nD) (t : Fin cfg0.N) (h : t.val % 4 = 0) :
    sum m c t = step (yk m c t) (X0_5 m c t) (X0_6 m c t) (X0_7 m c t) (iblk m c 3 t) (iblk m c 4 t) k0_pay15 := by
  obtain ⟨n, hn⟩ := t
  cases n with
  | zero => rfl
  | succ n => unfold sum sumN; rw [if_pos h]

theorem sum_next (c : Dev nD) (t : Fin cfg0.N) (h : ¬t.val % 4 = 0) :
    sum m c t = step (yk m c t) (X0_5 m c t) (X0_6 m c t) (X0_7 m c t) (iblk m c 3 t) (iblk m c 4 t) (sum m c (prev t)) := by
  obtain ⟨n, hn⟩ := t
  cases n with
  | zero => exact absurd (Nat.zero_mod _) h
  | succ n => unfold sum; rw [sumN.eq_2, if_neg h]; rfl

theorem gq_start (c : Dev nD) (t : Fin cfg0.N) (h : t.val = 0) : gq m c t = k0_pay12 (iblk m c 0 t) (iblk m c 1 t) k0_pay13 := by
  obtain ⟨n, hn⟩ := t
  cases n with
  | zero => rfl
  | succ n => exact absurd h (Nat.succ_ne_zero n)
theorem gq_first (c : Dev nD) (t : Fin cfg0.N) (hz : ¬t.val = 0) (h : t.val % 4 = 0) :
    gq m c t = k0_pay12 (iblk m c 0 t) (iblk m c 1 t) (gq m c (prev t)) := by
  obtain ⟨n, hn⟩ := t
  cases n with
  | zero => exact absurd rfl hz
  | succ n => unfold gq; rw [gqN.eq_2, if_pos h]; rfl
theorem gq_same (c : Dev nD) (t : Fin cfg0.N) (h : ¬t.val % 4 = 0) : gq m c (prev t) = gq m c t := by
  obtain ⟨n, hn⟩ := t
  cases n with
  | zero => exact absurd (Nat.zero_mod _) h
  | succ n => unfold gq; rw [gqN.eq_2, if_neg h]; rfl
theorem gp_start (c : Dev nD) (t : Fin cfg0.N) (h : t.val = 0) : gp m c t = k0_pay14 := by
  obtain ⟨n, hn⟩ := t
  cases n with
  | zero => rfl
  | succ n => exact absurd h (Nat.succ_ne_zero n)
theorem gp_last (c : Dev nD) (t : Fin cfg0.N) (h : t.val % 4 = 3) : gp m c t = k0_pay6 (sum m c t) (iblk m c 8 t) (gp m c (prev t)) := by
  obtain ⟨n, hn⟩ := t
  cases n with
  | zero => exact absurd h (by norm_num)
  | succ n => unfold gp; rw [gpN.eq_2, if_pos h]; rfl
theorem gp_same (c : Dev nD) (t : Fin cfg0.N) (hz : ¬t.val = 0) (h : ¬t.val % 4 = 3) : gp m c (prev t) = gp m c t := by
  obtain ⟨n, hn⟩ := t
  cases n with
  | zero => exact absurd rfl hz
  | succ n => unfold gp; rw [gpN.eq_2, if_neg h]; rfl

theorem first_prev (t : Fin cfg0.N) (h : ¬t.val % 4 = 0) : first (prev t) = first t :=
  Fin.ext (by unfold first prev; dsimp only; omega)
theorem first_self (t : Fin cfg0.N) (h : t.val % 4 = 0) : first t = t :=
  Fin.ext (by unfold first; dsimp only; omega)
theorem yk_prev (c : Dev nD) (t : Fin cfg0.N) (h : ¬t.val % 4 = 0) : yk m c (prev t) = yk m c t := by
  unfold yk; rw [first_prev t h]
theorem yb_prev (c : Dev nD) (t : Fin cfg0.N) (h : ¬t.val % 4 = 0) : yb m c (prev t) = yb m c t := by
  unfold yb; rw [first_prev t h]

/-- What the kept buffers hold after point `t`. -/
def kept (c : Dev nD) (t : Fin cfg0.N) : sProp 𝕄 :=
  iprop((owns (c : Thread nD τ) scM0_0 fullShare (yk m c t) ∗ owns (c : Thread nD τ) scM0_1 fullShare (sum m c t)) ∗ (∃ r, prngReg c r))

/-- What each window's buffer holds after each grid point: an input its block, a result what the body left in it.
    The kept buffers hold anything between rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => X0_5 m c t
    | ⟨6, _⟩ => X0_6 m c t
    | ⟨7, _⟩ => X0_7 m c t
    | ⟨8, _⟩ => iblk m c 8 t
    | ⟨9, _⟩ => iblk m c 9 t
    | ⟨10, _⟩ => yb m c t
    | ⟨11, _⟩ => dgate (yk m c t) (X0_7 m c t) (iblk m c 3 t) (iblk m c 4 t)
    | ⟨12, _⟩ => k0_pay22 (yk m c t) (X0_7 m c t) (iblk m c 3 t)
    | ⟨13, _⟩ => k0_pay21 (iblk m c 3 t) (iblk m c 4 t)
    | ⟨14, _⟩ => k0_pay5 (sum m c t) (iblk m c 8 t) (iblk m c 9 t) (iblk m c 0 t)
    | ⟨15, _⟩ => gq m c t
    | ⟨16, _⟩ => gp m c t
    | ⟨_ + 17, h⟩ => absurd h (Nat.not_lt.2 (Nat.le_add_left _ _))
  Φ k := if h : k.val % 4 = 0 then Pipeline.ΦA spec0 c else kept m c ⟨k.val - 1, by omega⟩
  q w := Pipeline.shareOf spec0 w
  owed _ := 0

/-- The arrays are those the pipeline finds. -/
theorem A_eq (c : Dev nD) (w : Fin cfg0.W) : (dats m 0 c).A w = V m c (Pipeline.arrRef spec0 w) := by
  dsimp only [dats]

/-- What the body leaves in each window's buffer. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = X0_5 m c t := by dsimp only [dats]
theorem after_6 (c : Dev nD) (t : Fin cfg0.N) : (dats m 0 c).after 6 t = X0_6 m c t := by dsimp only [dats]
theorem after_7 (c : Dev nD) (t : Fin cfg0.N) : (dats m 0 c).after 7 t = X0_7 m c t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = yb m c t := by dsimp only [dats]
theorem after_11 (c : Dev nD) (t : Fin cfg0.N) : (dats m 0 c).after 11 t = dgate (yk m c t) (X0_7 m c t) (iblk m c 3 t) (iblk m c 4 t) := by dsimp only [dats]
theorem after_12 (c : Dev nD) (t : Fin cfg0.N) : (dats m 0 c).after 12 t = k0_pay22 (yk m c t) (X0_7 m c t) (iblk m c 3 t) := by dsimp only [dats]
theorem after_13 (c : Dev nD) (t : Fin cfg0.N) : (dats m 0 c).after 13 t = k0_pay21 (iblk m c 3 t) (iblk m c 4 t) := by dsimp only [dats]
theorem after_14 (c : Dev nD) (t : Fin cfg0.N) : (dats m 0 c).after 14 t = k0_pay5 (sum m c t) (iblk m c 8 t) (iblk m c 9 t) (iblk m c 0 t) := by dsimp only [dats]
theorem after_15 (c : Dev nD) (t : Fin cfg0.N) : (dats m 0 c).after 15 t = gq m c t := by dsimp only [dats]
theorem after_16 (c : Dev nD) (t : Fin cfg0.N) : (dats m 0 c).after 16 t = gp m c t := by dsimp only [dats]

/-- Every input is staged at every grid point. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = X0_5 m c t :=
  before0_5_of m (dats m 0 c) (A_eq m c 5) (after_5 m c) t d
theorem before_6 (c : Dev nD) (t : Fin cfg0.N) (d) : (dats m 0 c).before 6 t d = X0_6 m c t :=
  before0_6_of m (dats m 0 c) (A_eq m c 6) (after_6 m c) t d
theorem before_7 (c : Dev nD) (t : Fin cfg0.N) (d) : (dats m 0 c).before 7 t d = X0_7 m c t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d

/-- Where the body stores nothing into a result's buffer. -/
theorem idle_10 (t : Fin cfg0.N) : cfg0.idle 10 (cfg0.grid.coords t) = true ↔ ¬t.val % 4 = 0 := by
  rw [← cond_first t]
  show (!(k0_cond2 (grid0.coords t) == 1#1)) = true ↔ _
  rw [Bool.not_eq_true', beq_eq_false_iff_ne]
theorem idle_14 (t : Fin cfg0.N) : cfg0.idle 14 (cfg0.grid.coords t) = true ↔ ¬t.val % 4 = 3 := by
  rw [← cond_last t]
  show (!(k0_cond3 (grid0.coords t) == 1#1)) = true ↔ _
  rw [Bool.not_eq_true', beq_eq_false_iff_ne]
theorem idle_15 (t : Fin cfg0.N) : cfg0.idle 15 (cfg0.grid.coords t) = true ↔ ¬t.val % 4 = 0 := by
  rw [show (¬t.val % 4 = 0) ↔ (¬t.val = 0 ∧ ¬t.val % 4 = 0) by omega, ← cond_first t, ← cond_start t]
  show (!(k0_cond1 (grid0.coords t) == 1#1) && !(k0_cond2 (grid0.coords t) == 1#1)) = true ↔ _
  rw [Bool.and_eq_true, Bool.not_eq_true', Bool.not_eq_true', beq_eq_false_iff_ne, beq_eq_false_iff_ne]
theorem idle_16 (t : Fin cfg0.N) : cfg0.idle 16 (cfg0.grid.coords t) = true ↔ ¬t.val = 0 ∧ ¬t.val % 4 = 3 := by
  rw [← cond_last t, ← cond_start t]
  show (!(k0_cond1 (grid0.coords t) == 1#1) && !(k0_cond3 (grid0.coords t) == 1#1)) = true ↔ _
  rw [Bool.and_eq_true, Bool.not_eq_true', Bool.not_eq_true', beq_eq_false_iff_ne, beq_eq_false_iff_ne]

/-- The gradient of the FFN's output stays in its buffer through its row. -/
theorem before_10 (c : Dev nD) (d) : ∀ (n : ℕ) (hn : n < cfg0.N), ¬n % 4 = 0 → (dats m 0 c).before 10 ⟨n, hn⟩ d = yb m c ⟨n, hn⟩
  | 0, hn, h => absurd (Nat.zero_mod _) h
  | n + 1, hn, h => by
    have hfl : (cfg0.win 10).flush (prev ⟨n + 1, hn⟩) = false :=
      Bool.eq_false_iff.mpr fun hh => by have := (flush0_10 _).mp hh; unfold prev at this; dsimp only at this; omega
    rw [← yb_prev m c ⟨n + 1, hn⟩ h]
    rw [(dats m 0 c).before_of_pos 10 ⟨n + 1, hn⟩ (Nat.succ_ne_zero n) ((cfg0.win 10).fetch_out rfl _) d]
    show (if (cfg0.win 10).flush (prev ⟨n + 1, hn⟩) then d else (dats m 0 c).left 10 (prev ⟨n + 1, hn⟩) d) = _
    rw [hfl, if_neg Bool.false_ne_true]
    unfold Dat.left
    by_cases h0 : n % 4 = 0
    · have hi : cfg0.idle 10 (cfg0.grid.coords (prev ⟨n + 1, hn⟩)) = false :=
        Bool.eq_false_iff.mpr fun hh => (idle_10 _).mp hh h0
      rw [hi]
      show (dats m 0 c).kept 10 (prev ⟨n + 1, hn⟩) d = _
      unfold Dat.kept
      rw [Pipeline.fill_of_clip_none 10 _ (fun _ => rfl) d ((dats m 0 c).after 10 _), Window.fill_cut, after_10]
    · have hi : cfg0.idle 10 (cfg0.grid.coords (prev ⟨n + 1, hn⟩)) = true := (idle_10 _).mpr h0
      rw [hi]
      exact before_10 c d n (Nat.lt_of_succ_lt hn) h0

/-- The buffers of the two gradients of the scales are written back after the grid's last point only. -/
theorem unflushed_15 (n : ℕ) (hn : n + 1 < cfg0.N) : (cfg0.win 15).flush (prev ⟨n + 1, hn⟩) = false :=
  Bool.eq_false_iff.mpr fun hh => by
    have h := (flush0_15 _).mp hh
    have hN : n + 1 < 64 := lt_of_lt_of_eq hn points
    unfold prev at h
    dsimp only at h
    omega
theorem unflushed_16 (n : ℕ) (hn : n + 1 < cfg0.N) : (cfg0.win 16).flush (prev ⟨n + 1, hn⟩) = false :=
  Bool.eq_false_iff.mpr fun hh => by
    have h := (flush0_16 _).mp hh
    have hN : n + 1 < 64 := lt_of_lt_of_eq hn points
    unfold prev at h
    dsimp only at h
    omega

/-- The two gradients of the scales stay in their buffers through the grid. -/
theorem before_15 (c : Dev nD) (d) : ∀ (n : ℕ) (hn : n + 1 < cfg0.N), (dats m 0 c).before 15 ⟨n + 1, hn⟩ d = gq m c ⟨n, Nat.lt_of_succ_lt hn⟩ := by
  have live : ∀ (n : ℕ) (hn : n + 1 < cfg0.N), cfg0.idle 15 (cfg0.grid.coords ⟨n, Nat.lt_of_succ_lt hn⟩) = false →
      (dats m 0 c).before 15 ⟨n + 1, hn⟩ d = gq m c ⟨n, Nat.lt_of_succ_lt hn⟩ := by
    intro n hn hi
    rw [(dats m 0 c).before_of_pos 15 ⟨n + 1, hn⟩ (Nat.succ_ne_zero n) ((cfg0.win 15).fetch_out rfl _) d]
    show (if (cfg0.win 15).flush (prev ⟨n + 1, hn⟩) then d else (dats m 0 c).left 15 (prev ⟨n + 1, hn⟩) d) = _
    rw [unflushed_15 n hn, if_neg Bool.false_ne_true]
    unfold Dat.left
    rw [show cfg0.idle 15 (cfg0.grid.coords (prev ⟨n + 1, hn⟩)) = false from hi]
    show (dats m 0 c).kept 15 (prev ⟨n + 1, hn⟩) d = _
    unfold Dat.kept
    rw [Pipeline.fill_of_clip_none 15 _ (fun _ => rfl) d ((dats m 0 c).after 15 _), Window.fill_cut, after_15]
    rfl
  intro n
  induction n with
  | zero => exact fun hn => live 0 hn (Bool.eq_false_iff.mpr fun hh => absurd ((idle_15 _).mp hh) (by norm_num))
  | succ n ih =>
    intro hn
    by_cases h0 : cfg0.idle 15 (cfg0.grid.coords ⟨n + 1, Nat.lt_of_succ_lt hn⟩) = true
    · rw [(dats m 0 c).before_of_pos 15 ⟨n + 1 + 1, hn⟩ (Nat.succ_ne_zero _) ((cfg0.win 15).fetch_out rfl _) d]
      show (if (cfg0.win 15).flush (prev ⟨n + 1 + 1, hn⟩) then d else (dats m 0 c).left 15 (prev ⟨n + 1 + 1, hn⟩) d) = _
      rw [unflushed_15 (n + 1) hn, if_neg Bool.false_ne_true]
      unfold Dat.left
      rw [show cfg0.idle 15 (cfg0.grid.coords (prev ⟨n + 1 + 1, hn⟩)) = true from h0]
      exact (ih (Nat.lt_of_succ_lt hn)).trans (gq_same m c ⟨n + 1, Nat.lt_of_succ_lt hn⟩ ((idle_15 _).mp h0))
    · exact live (n + 1) hn (Bool.eq_false_iff.mpr h0)
theorem before_16 (c : Dev nD) (d) : ∀ (n : ℕ) (hn : n + 1 < cfg0.N), (dats m 0 c).before 16 ⟨n + 1, hn⟩ d = gp m c ⟨n, Nat.lt_of_succ_lt hn⟩ := by
  have live : ∀ (n : ℕ) (hn : n + 1 < cfg0.N), cfg0.idle 16 (cfg0.grid.coords ⟨n, Nat.lt_of_succ_lt hn⟩) = false →
      (dats m 0 c).before 16 ⟨n + 1, hn⟩ d = gp m c ⟨n, Nat.lt_of_succ_lt hn⟩ := by
    intro n hn hi
    rw [(dats m 0 c).before_of_pos 16 ⟨n + 1, hn⟩ (Nat.succ_ne_zero n) ((cfg0.win 16).fetch_out rfl _) d]
    show (if (cfg0.win 16).flush (prev ⟨n + 1, hn⟩) then d else (dats m 0 c).left 16 (prev ⟨n + 1, hn⟩) d) = _
    rw [unflushed_16 n hn, if_neg Bool.false_ne_true]
    unfold Dat.left
    rw [show cfg0.idle 16 (cfg0.grid.coords (prev ⟨n + 1, hn⟩)) = false from hi]
    show (dats m 0 c).kept 16 (prev ⟨n + 1, hn⟩) d = _
    unfold Dat.kept
    rw [Pipeline.fill_of_clip_none 16 _ (fun _ => rfl) d ((dats m 0 c).after 16 _), Window.fill_cut, after_16]
    rfl
  intro n
  induction n with
  | zero => exact fun hn => live 0 hn (Bool.eq_false_iff.mpr fun hh => absurd ((idle_16 _).mp hh) (by norm_num))
  | succ n ih =>
    intro hn
    by_cases h0 : cfg0.idle 16 (cfg0.grid.coords ⟨n + 1, Nat.lt_of_succ_lt hn⟩) = true
    · rw [(dats m 0 c).before_of_pos 16 ⟨n + 1 + 1, hn⟩ (Nat.succ_ne_zero _) ((cfg0.win 16).fetch_out rfl _) d]
      show (if (cfg0.win 16).flush (prev ⟨n + 1 + 1, hn⟩) then d else (dats m 0 c).left 16 (prev ⟨n + 1 + 1, hn⟩) d) = _
      rw [unflushed_16 (n + 1) hn, if_neg Bool.false_ne_true]
      unfold Dat.left
      rw [show cfg0.idle 16 (cfg0.grid.coords (prev ⟨n + 1 + 1, hn⟩)) = true from h0]
      exact (ih (Nat.lt_of_succ_lt hn)).trans (gp_same m c ⟨n + 1, Nat.lt_of_succ_lt hn⟩ (Nat.succ_ne_zero n) ((idle_16 _).mp h0).2)
    · exact live (n + 1) hn (Bool.eq_false_iff.mpr h0)

theorem before_15_pos (c : Dev nD) (t : Fin cfg0.N) (h : ¬t.val = 0) (d) : (dats m 0 c).before 15 t d = gq m c (prev t) := by
  obtain ⟨n, hn⟩ := t
  cases n with
  | zero => exact absurd rfl h
  | succ n => exact before_15 m c d n hn
theorem before_16_pos (c : Dev nD) (t : Fin cfg0.N) (h : ¬t.val = 0) (d) : (dats m 0 c).before 16 t d = gp m c (prev t) := by
  obtain ⟨n, hn⟩ := t
  cases n with
  | zero => exact absurd rfl h
  | succ n => exact before_16 m c d n hn

/-- The kept buffers, before and after a point. -/
theorem Phi_first (c : Dev nD) (t : Fin cfg0.N) (h : t.val % 4 = 0) : (dats m 0 c).Φ t.castSucc = Pipeline.ΦA spec0 c := by
  dsimp only [dats]; exact dif_pos h
theorem Phi_in (c : Dev nD) (t : Fin cfg0.N) (h : ¬t.val % 4 = 0) : (dats m 0 c).Φ t.castSucc = kept m c (prev t) := by
  dsimp only [dats]; exact dif_neg h
theorem Phi_out (c : Dev nD) (t : Fin cfg0.N) (h : ¬t.val % 4 = 3) : (dats m 0 c).Φ t.succ = kept m c t := by
  dsimp only [dats]; exact dif_neg (show ¬(t.val + 1) % 4 = 0 by omega)
theorem Phi_last (c : Dev nD) (t : Fin cfg0.N) (h : t.val % 4 = 3) : (dats m 0 c).Φ t.succ = Pipeline.ΦA spec0 c := by
  dsimp only [dats]; exact dif_pos (show (t.val + 1) % 4 = 0 by omega)

/-- What the body is called with at grid point `t`. -/
def given (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d)))

/-- What it gives back. -/
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ (dats m 0 c).leavesExact 10 t
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ (dats m 0 c).leavesExact 14 t
    ∗ (dats m 0 c).leavesExact 15 t
    ∗ (dats m 0 c).leavesExact 16 t)

/-- A buffer the body stored into, or that is written back, holds what is stated. -/
theorem leaves_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]
theorem leaves_flush (c : Dev nD) (w : Fin cfg0.W) (t : Fin cfg0.N) (h : cfg0.idle w (cfg0.grid.coords t) = true) (hf : (cfg0.win w).flush t = true) :
    (dats m 0 c).leavesExact w t = owns (c : Thread nD τ) ((cfg0.win w).stage (cfg0.slots t w)) fullShare ((dats m 0 c).after w t) := by
  unfold Dat.leavesExact; rw [h, hf]

/-- The gradient of the last norm's scale, where a point leaves its buffer alone. -/
theorem keep_15 (c : Dev nD) (t : Fin cfg0.N) (h : ¬t.val % 4 = 0) :
    owns (c : Thread nD τ) (st0_15 t) fullShare (gq m c t) ⊢ (dats m 0 c).leavesExact 15 t := by
  by_cases hf : (cfg0.win 15).flush t = true
  · rw [leaves_flush m c 15 t ((idle_15 t).mpr h) hf, after_15]
  · rw [(dats m 0 c).leavesExact_idle 15 t ((idle_15 t).mpr h) (Bool.eq_false_iff.mpr hf)]
    simp only [before_15_pos m c t (fun hz => h (by rw [hz])), gq_same m c t h]
    iintro H
    iexists (gq m c t)
    iexact H

set_option maxHeartbeats 4800000 in
/-- The body at any grid point: it finds the inputs staged and leaves the results as stated. -/
theorem sound (c : Dev nD) (t : Fin cfg0.N) :
    given m c t ⊢ wp frame (wpE (defs₀ (F := F)) Variants.none c none) Set.univ (bodyAt0 t) (fun _ => returned m c t) := by
  unfold given returned bodyAt0
  simp only [before_0, before_1, before_2, before_3, before_4, before_5, before_6, before_7, before_8, before_9]
  rw [show (dats m 0 c).owesAt () t.succ = (dats m 0 c).owesAt () t.castSucc from rfl,
    after_0, after_1, after_2, after_3, after_4, after_5, after_6, after_7, after_8, after_9, after_11, after_12, after_13]
  by_cases hz : t.val = 0
  · have h0 : t.val % 4 = 0 := by omega
    have h3 : ¬t.val % 4 = 3 := by omega
    rw [Phi_first m c t h0, Phi_out m c t h3, PhiA0_eq,
      leaves_live m c 10 t (Bool.eq_false_iff.mpr fun h => (idle_10 t).mp h h0), after_10,
      (dats m 0 c).leavesExact_idle 14 t ((idle_14 t).mpr h3) (Bool.eq_false_iff.mpr fun h => h3 ((flush0_14 t).mp h)),
      leaves_live m c 15 t (Bool.eq_false_iff.mpr fun h => (idle_15 t).mp h h0), after_15,
      leaves_live m c 16 t (Bool.eq_false_iff.mpr fun h => ((idle_16 t).mp h).1 hz), after_16]
    unfold kept
    rw [sum_first m c t h0, gq_start m c t hz, gp_start m c t hz]
    unfold yb yk
    rw [first_self t h0]
    iintro ⟨⟨⟨⟨%e0, HS0⟩, ⟨%e1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply (wp_wand_r frame (wpE (defs₀ (F := F)) Variants.none (c : Thread nD τ) none) Set.univ)
    isplitl [HS0 HS1 H0 H1 H2 H3 H4 H5 H6 H7 H8 H9 H10 H11 H12 H13 H14 H15 H16]
    · iapply (body_start c (grid0.coords t) (st0_0 t) (hstage0_0 _) (st0_1 t) (hstage0_1 _) (st0_2 t) (hstage0_2 _) (st0_3 t) (hstage0_3 _) (st0_4 t) (hstage0_4 _) (st0_5 t) (hstage0_5 _) (st0_6 t) (hstage0_6 _) (st0_7 t) (hstage0_7 _) (st0_8 t) (hstage0_8 _) (st0_9 t) (hstage0_9 _) (st0_10 t) (hstage0_10 _) (st0_11 t) (hstage0_11 _) (st0_12 t) (hstage0_12 _) (st0_13 t) (hstage0_13 _) (st0_14 t) (hstage0_14 _) (st0_15 t) (hstage0_15 _) (st0_16 t) (hstage0_16 _)
        scM0_0 (Memref.isWhole_whole _) scM0_1 (Memref.isWhole_whole _)
        (iblk m c 0 t) (iblk m c 1 t) (iblk m c 2 t) (iblk m c 3 t) (iblk m c 4 t) (X0_5 m c t) (X0_6 m c t) (X0_7 m c t) (iblk m c 8 t) (iblk m c 9 t) _ _ _ _ _ _ _ _ _ Set.univ
        ((cond_start t).mpr hz) ((cond_first t).mpr h0) (fun h => h3 ((cond_last t).mp h)))
      unfold bufs
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [HS0]; · iexact HS0
      iexact HS1
    unfold bufs
    iintro %_ ⟨H0, H1, H2, H3, H4, H5, H6, H7, H8, H9, H10, H11, H12, H13, H14, H15, H16, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists d14; iexact H14
    isplitl [H15]; · iexact H15
    iexact H16
  by_cases h0 : t.val % 4 = 0
  · have h3 : ¬t.val % 4 = 3 := by omega
    rw [Phi_first m c t h0, Phi_out m c t h3, PhiA0_eq,
      leaves_live m c 10 t (Bool.eq_false_iff.mpr fun h => (idle_10 t).mp h h0), after_10,
      (dats m 0 c).leavesExact_idle 14 t ((idle_14 t).mpr h3) (Bool.eq_false_iff.mpr fun h => h3 ((flush0_14 t).mp h)),
      leaves_live m c 15 t (Bool.eq_false_iff.mpr fun h => (idle_15 t).mp h h0), after_15,
      (dats m 0 c).leavesExact_idle 16 t ((idle_16 t).mpr ⟨hz, h3⟩) (Bool.eq_false_iff.mpr fun h => h3 (by have := (flush0_16 t).mp h; omega))]
    simp only [before_15_pos m c t hz]
    unfold kept
    rw [sum_first m c t h0, gq_first m c t hz h0]
    unfold yb yk
    rw [first_self t h0]
    iintro ⟨⟨⟨⟨%e0, HS0⟩, ⟨%e1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply (wp_wand_r frame (wpE (defs₀ (F := F)) Variants.none (c : Thread nD τ) none) Set.univ)
    isplitl [HS0 HS1 H0 H1 H2 H3 H4 H5 H6 H7 H8 H9 H10 H11 H12 H13 H14 H15 H16]
    · iapply (body_first c (grid0.coords t) (st0_0 t) (hstage0_0 _) (st0_1 t) (hstage0_1 _) (st0_2 t) (hstage0_2 _) (st0_3 t) (hstage0_3 _) (st0_4 t) (hstage0_4 _) (st0_5 t) (hstage0_5 _) (st0_6 t) (hstage0_6 _) (st0_7 t) (hstage0_7 _) (st0_8 t) (hstage0_8 _) (st0_9 t) (hstage0_9 _) (st0_10 t) (hstage0_10 _) (st0_11 t) (hstage0_11 _) (st0_12 t) (hstage0_12 _) (st0_13 t) (hstage0_13 _) (st0_14 t) (hstage0_14 _) (st0_15 t) (hstage0_15 _) (st0_16 t) (hstage0_16 _)
        scM0_0 (Memref.isWhole_whole _) scM0_1 (Memref.isWhole_whole _)
        (iblk m c 0 t) (iblk m c 1 t) (iblk m c 2 t) (iblk m c 3 t) (iblk m c 4 t) (X0_5 m c t) (X0_6 m c t) (X0_7 m c t) (iblk m c 8 t) (iblk m c 9 t) _ _ _ _ _ (gq m c (prev t)) _ _ _ Set.univ
        (fun h => hz ((cond_start t).mp h)) ((cond_first t).mpr h0) (fun h => h3 ((cond_last t).mp h)))
      unfold bufs
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [HS0]; · iexact HS0
      iexact HS1
    unfold bufs
    iintro %_ ⟨H0, H1, H2, H3, H4, H5, H6, H7, H8, H9, H10, H11, H12, H13, H14, H15, H16, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists d14; iexact H14
    isplitl [H15]; · iexact H15
    iexists d16; iexact H16
  by_cases h3 : t.val % 4 = 3
  · rw [Phi_in m c t h0, Phi_last m c t h3, PhiA0_eq,
      leaves_flush m c 10 t ((idle_10 t).mpr h0) ((flush0_10 t).mpr h3), after_10,
      leaves_live m c 14 t (Bool.eq_false_iff.mpr fun h => (idle_14 t).mp h h3), after_14,
      leaves_live m c 16 t (Bool.eq_false_iff.mpr fun h => ((idle_16 t).mp h).2 h3), after_16]
    simp only [show ∀ d, (dats m 0 c).before 10 t d = yb m c t from fun d => before_10 m c d t.val t.isLt h0, before_15_pos m c t hz, before_16_pos m c t hz, gq_same m c t h0]
    unfold kept
    rw [gp_last m c t h3, sum_next m c t h0, yk_prev m c t h0]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply (wp_wand_r frame (wpE (defs₀ (F := F)) Variants.none (c : Thread nD τ) none) Set.univ)
    isplitl [HS0 HS1 H0 H1 H2 H3 H4 H5 H6 H7 H8 H9 H10 H11 H12 H13 H14 H15 H16]
    · iapply (body_last c (grid0.coords t) (st0_0 t) (hstage0_0 _) (st0_1 t) (hstage0_1 _) (st0_2 t) (hstage0_2 _) (st0_3 t) (hstage0_3 _) (st0_4 t) (hstage0_4 _) (st0_5 t) (hstage0_5 _) (st0_6 t) (hstage0_6 _) (st0_7 t) (hstage0_7 _) (st0_8 t) (hstage0_8 _) (st0_9 t) (hstage0_9 _) (st0_10 t) (hstage0_10 _) (st0_11 t) (hstage0_11 _) (st0_12 t) (hstage0_12 _) (st0_13 t) (hstage0_13 _) (st0_14 t) (hstage0_14 _) (st0_15 t) (hstage0_15 _) (st0_16 t) (hstage0_16 _)
        scM0_0 (Memref.isWhole_whole _) scM0_1 (Memref.isWhole_whole _)
        (iblk m c 0 t) (iblk m c 1 t) (iblk m c 2 t) (iblk m c 3 t) (iblk m c 4 t) (X0_5 m c t) (X0_6 m c t) (X0_7 m c t) (iblk m c 8 t) (iblk m c 9 t) (yb m c t) _ _ _ _ (gq m c t) (gp m c (prev t)) (yk m c t) (sum m c (prev t)) Set.univ
        (fun h => hz ((cond_start t).mp h)) (fun h => h0 ((cond_first t).mp h)) ((cond_last t).mpr h3))
      unfold bufs
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [HS0]; · iexact HS0
      iexact HS1
    unfold bufs
    iintro %_ ⟨H0, H1, H2, H3, H4, H5, H6, H7, H8, H9, H10, H11, H12, H13, H14, H15, H16, HS0, HS1⟩
    isplitl [HS0 HS1 Hg]
    · isplitl [HS0 HS1]
      · isplitl [HS0]; · iexists _; iexact HS0
        iexists _; iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iapply (keep_15 m c t h0); iexact H15
    iexact H16
  · rw [Phi_in m c t h0, Phi_out m c t h3,
      (dats m 0 c).leavesExact_idle 10 t ((idle_10 t).mpr h0) (Bool.eq_false_iff.mpr fun h => h3 ((flush0_10 t).mp h)),
      (dats m 0 c).leavesExact_idle 14 t ((idle_14 t).mpr h3) (Bool.eq_false_iff.mpr fun h => h3 ((flush0_14 t).mp h)),
      (dats m 0 c).leavesExact_idle 16 t ((idle_16 t).mpr ⟨hz, h3⟩) (Bool.eq_false_iff.mpr fun h => h3 (by have := (flush0_16 t).mp h; omega))]
    simp only [before_15_pos m c t hz, gq_same m c t h0]
    unfold kept
    rw [sum_next m c t h0, yk_prev m c t h0]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply (wp_wand_r frame (wpE (defs₀ (F := F)) Variants.none (c : Thread nD τ) none) Set.univ)
    isplitl [HS0 HS1 H0 H1 H2 H3 H4 H5 H6 H7 H8 H9 H10 H11 H12 H13 H14 H15 H16]
    · iapply (body_middle c (grid0.coords t) (st0_0 t) (hstage0_0 _) (st0_1 t) (hstage0_1 _) (st0_2 t) (hstage0_2 _) (st0_3 t) (hstage0_3 _) (st0_4 t) (hstage0_4 _) (st0_5 t) (hstage0_5 _) (st0_6 t) (hstage0_6 _) (st0_7 t) (hstage0_7 _) (st0_8 t) (hstage0_8 _) (st0_9 t) (hstage0_9 _) (st0_10 t) (hstage0_10 _) (st0_11 t) (hstage0_11 _) (st0_12 t) (hstage0_12 _) (st0_13 t) (hstage0_13 _) (st0_14 t) (hstage0_14 _) (st0_15 t) (hstage0_15 _) (st0_16 t) (hstage0_16 _)
        scM0_0 (Memref.isWhole_whole _) scM0_1 (Memref.isWhole_whole _)
        (iblk m c 0 t) (iblk m c 1 t) (iblk m c 2 t) (iblk m c 3 t) (iblk m c 4 t) (X0_5 m c t) (X0_6 m c t) (X0_7 m c t) (iblk m c 8 t) (iblk m c 9 t) _ _ _ _ _ (gq m c t) _ (yk m c t) (sum m c (prev t)) Set.univ
        (fun h => hz ((cond_start t).mp h)) (fun h => h0 ((cond_first t).mp h)) (fun h => h3 ((cond_last t).mp h)))
      unfold bufs
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [HS0]; · iexact HS0
      iexact HS1
    unfold bufs
    iintro %_ ⟨H0, H1, H2, H3, H4, H5, H6, H7, H8, H9, H10, H11, H12, H13, H14, H15, H16, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists d10; iexact H10
    isplitl [H11]; · iexact H11
    isplitl [H12]; · iexact H12
    isplitl [H13]; · iexact H13
    isplitl [H14]; · iexists d14; iexact H14
    isplitl [H15]; · iapply (keep_15 m c t h0); iexact H15
    iexists d16; iexact H16

/-- The region's call at a grid point is the body. -/
theorem row (t : Fin cfg0.N) :
    defs₀ (F := F) .tc cfg0.body (cfg0.bodyArgs t (cfg0.slots t)) = bodyAt0 t := by
  unfold defs₀; rw [Defs.onTc_tc]

/-- The body meets its obligation at every grid point. -/
theorem obligation (c : Dev nD) : BodyObligation (dats (F := F) m 0 c) (defs₀ (F := F)) Variants.none () Set.univ := fun t => by
  rw [bigSep_W0, bigSep_W0, row]
  exact triple_restated (sound m c t) rfl .rfl fun _ => .rfl

set_option backward.isDefEq.respectTransparency.types false in
/-- Every run ends with the arrays at what the windows wrote, and with every semaphore at zero. -/
theorem run_quiet : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m)
    (hin := fun c => (show (dats m 0 c).Φ 0 = Pipeline.ΦA spec0 c by dsimp only [dats]; exact dif_pos rfl) ▸ .rfl)
    (hout := fun c => (show (dats m 0 c).Φ (Fin.last cfg0.N) = Pipeline.ΦA spec0 c by
      dsimp only [dats]; exact dif_pos (show cfg0.N % 4 = 0 by rw [points])) ▸ .rfl)

/-- Every run ends with the arrays at what the windows wrote. -/
theorem run : θ_run defs (onTc (τ := τ) (main (F := F))) (s₀ m ρ) (Pipeline.FramePost cfgs (dats m) 0 (V m)) :=
  (θ_run defs _ _).mono (fun _ h => h.1) (run_quiet m ρ)

/-- Every run ends with the arguments unchanged and every semaphore at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (frame_of m ρ (dats m) (A_eq m) (run m ρ)) ((θ_run defs _ _).mono (fun _ h => h.2) (run_quiet m ρ))

end Cert.Kernel9Ideal.Own

end
-- ==== Proof.BackBlocks.lean ====
/- The backward FFN's blocks in their arrays. -/
module

public import proofs.«01_k».proof.Proof.BackFrame
public import proofs.«01_k».proof.Proof.FfnBlocks

@[expose] public section

set_option maxRecDepth 16384

noncomputable section

namespace Cert.Kernel9Ideal.Own

open Idealize.ShloMosaic Idealize.ShloMosaic.TcCoe Idealize.ShloMosaic.Pointwise Idealize.SL.Sem Cert.Kernel9Ideal Cert.Kernel9Ideal.Gen
open Cert.Kernel8Ideal.Own (col wb packed packed_gate packed_up packed_down)

/-- The block each window reads or writes at a grid point. -/
theorem idx0 : ∀ t : Fin cfg0.N, win0_0.index t = ![t.val / 4, 0] := (by decide +kernel : ∀ t : Fin grid0.N, win0_0.index t = ![t.val / 4, 0])
theorem idx1 : ∀ t : Fin cfg0.N, win0_1.index t = ![t.val / 4, 0] := (by decide +kernel : ∀ t : Fin grid0.N, win0_1.index t = ![t.val / 4, 0])
theorem idx2 : ∀ t : Fin cfg0.N, win0_2.index t = ![0, 0] := (by decide +kernel : ∀ t : Fin grid0.N, win0_2.index t = ![0, 0])
theorem idx3 : ∀ t : Fin cfg0.N, win0_3.index t = ![t.val / 4, t.val % 4] := (by decide +kernel : ∀ t : Fin grid0.N, win0_3.index t = ![t.val / 4, t.val % 4])
theorem idx4 : ∀ t : Fin cfg0.N, win0_4.index t = ![t.val / 4, t.val % 4] := (by decide +kernel : ∀ t : Fin grid0.N, win0_4.index t = ![t.val / 4, t.val % 4])
theorem idx5 : ∀ t : Fin cfg0.N, win0_5.index t = ![t.val % 4, 0, 0] := (by decide +kernel : ∀ t : Fin grid0.N, win0_5.index t = ![t.val % 4, 0, 0])
theorem idx6 : ∀ t : Fin cfg0.N, win0_6.index t = ![t.val % 4, 1, 0] := (by decide +kernel : ∀ t : Fin grid0.N, win0_6.index t = ![t.val % 4, 1, 0])
theorem idx7 : ∀ t : Fin cfg0.N, win0_7.index t = ![t.val % 4, 2, 0] := (by decide +kernel : ∀ t : Fin grid0.N, win0_7.index t = ![t.val % 4, 2, 0])
theorem idx8 : ∀ t : Fin cfg0.N, win0_8.index t = ![t.val / 4, 0] := (by decide +kernel : ∀ t : Fin grid0.N, win0_8.index t = ![t.val / 4, 0])
theorem idx9 : ∀ t : Fin cfg0.N, win0_9.index t = ![0, 0] := (by decide +kernel : ∀ t : Fin grid0.N, win0_9.index t = ![0, 0])
theorem idx10 : ∀ t : Fin cfg0.N, win0_10.index t = ![t.val / 4, 0] := (by decide +kernel : ∀ t : Fin grid0.N, win0_10.index t = ![t.val / 4, 0])
theorem idx11 : ∀ t : Fin cfg0.N, win0_11.index t = ![t.val / 4, t.val % 4] := (by decide +kernel : ∀ t : Fin grid0.N, win0_11.index t = ![t.val / 4, t.val % 4])
theorem idx12 : ∀ t : Fin cfg0.N, win0_12.index t = ![t.val / 4, t.val % 4] := (by decide +kernel : ∀ t : Fin grid0.N, win0_12.index t = ![t.val / 4, t.val % 4])
theorem idx13 : ∀ t : Fin cfg0.N, win0_13.index t = ![t.val / 4, t.val % 4] := (by decide +kernel : ∀ t : Fin grid0.N, win0_13.index t = ![t.val / 4, t.val % 4])
theorem idx14 : ∀ t : Fin cfg0.N, win0_14.index t = ![t.val / 4, 0] := (by decide +kernel : ∀ t : Fin grid0.N, win0_14.index t = ![t.val / 4, 0])
theorem idx15 : ∀ t : Fin cfg0.N, win0_15.index t = ![0, 0] := (by decide +kernel : ∀ t : Fin grid0.N, win0_15.index t = ![0, 0])
theorem idx16 : ∀ t : Fin cfg0.N, win0_16.index t = ![0, 0] := (by decide +kernel : ∀ t : Fin grid0.N, win0_16.index t = ![0, 0])

/-- A row of the block of rows that a point works on. -/
def rw8 (t : Fin cfg0.N) (a : Fin 512) : Fin 8192 := ⟨t.val / 4 * 512 + a.val, by have : t.val < 64 := lt_of_lt_of_eq t.isLt points; omega⟩

section
variable (t : Fin cfg0.N)

theorem emb10 (f : FVec Ideal S8192x1024 .bf16) (a : Fin 512) (k : Fin 1024) :
    f ((win0_10.blk t).view.emb (ix2 a k : S512x1024.Idx)) = f (ix2 (rw8 t a) k) := by
  blk_ext [idx10 t, rw8]
theorem emb14 (f : FVec Ideal S8192x1024 .f32) (a : Fin 512) (k : Fin 1024) :
    f ((win0_14.blk t).view.emb (ix2 a k : S512x1024.Idx)) = f (ix2 (rw8 t a) k) := by
  blk_ext [idx14 t, rw8]
theorem emb11 (f : FVec Ideal S8192x4096 .bf16) (a : Fin 512) (k : Fin 1024) :
    f ((win0_11.blk t).view.emb (ix2 a k : S512x1024.Idx)) = f (ix2 (rw8 t a) (col t.val k)) := by
  blk_ext [idx11 t, rw8, col]
theorem emb12 (f : FVec Ideal S8192x4096 .bf16) (a : Fin 512) (k : Fin 1024) :
    f ((win0_12.blk t).view.emb (ix2 a k : S512x1024.Idx)) = f (ix2 (rw8 t a) (col t.val k)) := by
  blk_ext [idx12 t, rw8, col]
theorem emb13 (f : FVec Ideal S8192x4096 .bf16) (a : Fin 512) (k : Fin 1024) :
    f ((win0_13.blk t).view.emb (ix2 a k : S512x1024.Idx)) = f (ix2 (rw8 t a) (col t.val k)) := by
  blk_ext [idx13 t, rw8, col]
theorem emb15 (f : FVec Ideal S1x1024 .f32) (k : Fin 1024) :
    f ((win0_15.blk t).view.emb (ix2 0 k : S1x1024.Idx)) = f (ix2 0 k) := by
  blk_ext [idx15 t]
theorem emb16 (f : FVec Ideal S1x1024 .f32) (k : Fin 1024) :
    f ((win0_16.blk t).view.emb (ix2 0 k : S1x1024.Idx)) = f (ix2 0 k) := by
  blk_ext [idx16 t]
end

variable (m : (ℓ : Loc nD τ sig) → Buf (Elt Ideal) ℓ) (c : Dev nD)

/-- The arguments of a device. -/
abbrev aD : FVec Ideal S8192x1024 .f32 := m ((c.tc : Thread nD τ).loc main_arg0)
abbrev aY : FVec Ideal S8192x1024 .f32 := m ((c.tc : Thread nD τ).loc main_arg1)
abbrev aQ : FVec Ideal S1x1024 .f32 := m ((c.tc : Thread nD τ).loc main_arg2)
abbrev aA : FVec Ideal S8192x4096 .bf16 := m ((c.tc : Thread nD τ).loc main_arg3)
abbrev aB : FVec Ideal S8192x4096 .bf16 := m ((c.tc : Thread nD τ).loc main_arg4)
abbrev aWg : FVec Ideal S1024x4096 .f32 := m ((c.tc : Thread nD τ).loc main_arg5)
abbrev aWu : FVec Ideal S1024x4096 .f32 := m ((c.tc : Thread nD τ).loc main_arg6)
abbrev aWd : FVec Ideal S4096x1024 .f32 := m ((c.tc : Thread nD τ).loc main_arg7)
abbrev aX : FVec Ideal S8192x1024 .f32 := m ((c.tc : Thread nD τ).loc main_arg8)
abbrev aG : FVec Ideal S1x1024 .f32 := m ((c.tc : Thread nD τ).loc main_arg9)
abbrev aRest : FVec Ideal S4x2304x1024 .f32 := m ((c.tc : Thread nD τ).loc main_arg10)

/-- The weights in one array, as the forward packs them. -/
theorem V_w : V m c main_v6 = packed (aWg m c) (aWu m c) (aWd m c) (aRest m c) := by
  unfold V hostOps0
  after_reads_simp
  rfl

theorem blk_d (t : Fin cfg0.N) (a : Fin 512) (k : Fin 1024) : (iblk m c 0 t : Vec Ideal S512x1024 .f32) (ix2 a k) = aD m c (ix2 (rw8 t a) k) := by
  refine Eq.trans ?_ (congrFun (V_main_arg0 m c) _)
  blk_ext [iblk, idx0 t, rw8]
theorem blk_y (t : Fin cfg0.N) (a : Fin 512) (k : Fin 1024) : (iblk m c 1 t : Vec Ideal S512x1024 .f32) (ix2 a k) = aY m c (ix2 (rw8 t a) k) := by
  refine Eq.trans ?_ (congrFun (V_main_arg1 m c) _)
  blk_ext [iblk, idx1 t, rw8]
theorem blk_x (t : Fin cfg0.N) (a : Fin 512) (k : Fin 1024) : (iblk m c 8 t : Vec Ideal S512x1024 .f32) (ix2 a k) = aX m c (ix2 (rw8 t a) k) := by
  refine Eq.trans ?_ (congrFun (V_main_arg8 m c) _)
  blk_ext [iblk, idx8 t, rw8]
theorem blk_q (t : Fin cfg0.N) (k : Fin 1024) : (iblk m c 2 t : Vec Ideal S1x1024 .f32) (ix2 0 k) = aQ m c (ix2 0 k) := by
  refine Eq.trans ?_ (congrFun (V_main_arg2 m c) _)
  blk_ext [iblk, idx2 t]
theorem blk_g (t : Fin cfg0.N) (k : Fin 1024) : (iblk m c 9 t : Vec Ideal S1x1024 .f32) (ix2 0 k) = aG m c (ix2 0 k) := by
  refine Eq.trans ?_ (congrFun (V_main_arg9 m c) _)
  blk_ext [iblk, idx9 t]
theorem blk_a (t : Fin cfg0.N) (a : Fin 512) (k : Fin 1024) : (iblk m c 3 t : Vec Ideal S512x1024 .bf16) (ix2 a k) = aA m c (ix2 (rw8 t a) (col t.val k)) := by
  refine Eq.trans ?_ (congrFun (V_main_arg3 m c) _)
  blk_ext [iblk, idx3 t, rw8, col]
theorem blk_b (t : Fin cfg0.N) (a : Fin 512) (k : Fin 1024) : (iblk m c 4 t : Vec Ideal S512x1024 .bf16) (ix2 a k) = aB m c (ix2 (rw8 t a) (col t.val k)) := by
  refine Eq.trans ?_ (congrFun (V_main_arg4 m c) _)
  blk_ext [iblk, idx4 t, rw8, col]
theorem blk_gate (t : Fin cfg0.N) (s b : Fin 1024) : (X0_5 m c t : Vec Ideal S1x1024x1024 .bf16) (ix3 0 s b) = aWg m c (ix2 s (col t.val b)) := by
  refine Eq.trans ?_ (packed_gate (aWg m c) (aWu m c) (aWd m c) (aRest m c) t.val s b)
  rw [← V_w]
  unfold X0_5 Pipeline.Window.fill
  refine (dif_pos (moved0_5 t _)).trans ?_
  blk_ext [iblk, idx5 t, wb]
theorem blk_up (t : Fin cfg0.N) (s b : Fin 1024) : (X0_6 m c t : Vec Ideal S1x1024x1024 .bf16) (ix3 0 s b) = aWu m c (ix2 s (col t.val b)) := by
  refine Eq.trans ?_ (packed_up (aWg m c) (aWu m c) (aWd m c) (aRest m c) t.val s b)
  rw [← V_w]
  unfold X0_6 Pipeline.Window.fill
  refine (dif_pos (moved0_6 t _)).trans ?_
  blk_ext [iblk, idx6 t, wb]
theorem blk_down (t : Fin cfg0.N) (s b : Fin 1024) : (X0_7 m c t : Vec Ideal S1x1024x1024 .bf16) (ix3 0 s b) = aWd m c (ix2 (col t.val s) b) := by
  refine Eq.trans ?_ (packed_down (aWg m c) (aWu m c) (aWd m c) (aRest m c) t.val s b)
  rw [← V_w]
  unfold X0_7 Pipeline.Window.fill
  refine (dif_pos (moved0_7 t _)).trans ?_
  blk_ext [iblk, idx7 t, wb]

end Cert.Kernel9Ideal.Own

end
-- ==== Proof.BackMath.lean ====
/- The backward FFN's scalars over the extended reals: the kernel's forms and the reference's agree, the gate's where its gradient is a real number. -/
module

public import proofs.«01_k».proof.Proof.Consts
public import proofs.«01_k».proof.Proof.Spec
public import proofs.«01_k».proof.Proof.FfnPay

@[expose] public section

noncomputable section

namespace Back

open Idealize.ShloMosaic Cert.Kernel8Ideal.Own Fox

/-- An extended real that is a real number. -/
def Rl (x : EReal) : Prop := ∃ r : ℝ, x = (r : EReal)

theorem Rl.add {x y : EReal} : Rl x → Rl y → Rl (x + y) := by
  rintro ⟨r, rfl⟩ ⟨s, rfl⟩; exact ⟨r + s, (EReal.coe_add _ _).symm⟩
theorem Rl.mul {x y : EReal} : Rl x → Rl y → Rl (x * y) := by
  rintro ⟨r, rfl⟩ ⟨s, rfl⟩; exact ⟨r * s, (EReal.coe_mul _ _).symm⟩
theorem Rl.sum {ι : Type*} (s : Finset ι) {f : ι → EReal} (h : ∀ i, Rl (f i)) : Rl (∑ i ∈ s, f i) := by
  choose g hg using h
  exact ⟨∑ i ∈ s, g i, by simp only [hg, coe_sum]⟩

/-- The pattern of a half, of minus a half and of 1024. -/
theorem bits_half : Ideal.ofBits .f32 0x3F000000#32 = ((1 / 2 : ℝ) : EReal) := by
  simp [Ideal.ofBits, Ideal.ieee, -EReal.coe_mul]; norm_num
theorem bits_mhalf : Ideal.ofBits .f32 0xBF000000#32 = ((-(1 / 2) : ℝ) : EReal) := by
  simp [Ideal.ofBits, Ideal.ieee, -EReal.coe_mul]; norm_num
theorem bits_1024 : Ideal.ofBits .f32 0x44800000#32 = ((1024 : ℝ) : EReal) := by
  simp [Ideal.ofBits, Ideal.ieee, -EReal.coe_mul]; norm_num

/-- The pattern added under the root is a positive real number. -/
theorem bits_eps : ∃ e : ℝ, 0 < e ∧ Ideal.ofBits .f32 0x358637BD#32 = (e : EReal) := by
  refine ⟨_, ?_, by simp [Ideal.ofBits, Ideal.ieee, -EReal.coe_mul]; rfl⟩
  norm_num

theorem half_real : Rl (Ideal.ofBits .f32 0x3F000000#32) := ⟨_, bits_half⟩

/-- The number under the root. -/
def under (z : EReal) : EReal := Ideal.div z (Ideal.ofBits .f32 0x44800000#32) + Ideal.ofBits .f32 0x358637BD#32

/-- The derivative of the normalization of a row, as the kernel forms it. -/
def bk (dn x g : Fin 1024 → EReal) (k : Fin 1024) : EReal :=
  unit (∑ s, x s * x s) * (dn k * g k - x k * unit (∑ s, x s * x s) *
    Ideal.div (∑ s, dn s * g s * (x s * unit (∑ s, x s * x s))) (Ideal.ofBits .f32 0x44800000#32))

/-- The same derivative, as the reference forms it. -/
def cc (dn x g : Fin 1024 → EReal) : EReal :=
  Ideal.div ((∑ s, x s * (dn s * g s)) * (Ideal.ofBits .f32 0xBF000000#32 * Ideal.div (unit (∑ s, x s * x s)) (under (∑ s, x s * x s)))) (Ideal.ofBits .f32 0x44800000#32)
def bx (dn x g : Fin 1024 → EReal) (k : Fin 1024) : EReal :=
  dn k * g k * unit (∑ s, x s * x s) + x k * cc dn x g + cc dn x g * x k

/-- The factor of a row of real numbers, and the number under the root. -/
theorem unit_real {z : ℝ} (hz : 0 ≤ z) : ∃ v u : ℝ, 0 < v ∧ 0 < u ∧ u * u = 1 / v ∧ under (z : EReal) = (v : EReal) ∧ unit (z : EReal) = (u : EReal) := by
  obtain ⟨e, he, h⟩ := bits_eps
  have hv : 0 < z / 1024 + e := by positivity
  have hu : under (z : EReal) = ((z / 1024 + e : ℝ) : EReal) := by
    rw [under, bits_1024, div_real (by norm_num), h, ← EReal.coe_add]
  refine ⟨z / 1024 + e, (Real.sqrt (z / 1024 + e))⁻¹, hv, inv_pos.mpr (Real.sqrt_pos.mpr hv), ?_, hu, ?_⟩
  · rw [← mul_inv, Real.mul_self_sqrt hv.le, one_div]
  · change Ideal.rsqrt (under z) = _
    rw [hu, Ideal.rsqrt_coe, if_neg hv.not_gt, if_neg hv.ne']

/-- A sum times a real number that is not negative. -/
theorem sum_mul_real {ι : Type*} (s : Finset ι) (f : ι → EReal) {u : ℝ} (hu : 0 ≤ u) : (∑ i ∈ s, f i) * (u : EReal) = ∑ i ∈ s, f i * (u : EReal) := by
  classical
  induction s using Finset.induction_on with
  | empty => simp only [Finset.sum_empty, zero_mul]
  | insert a s ha ih =>
    rw [Finset.sum_insert ha, Finset.sum_insert ha, EReal.right_distrib_of_nonneg_of_ne_top (EReal.coe_nonneg.mpr hu) (EReal.coe_ne_top u), ih]

/-- Half of a number taken away twice is the number taken away. -/
theorem two_halves (w : EReal) {q : ℝ} (hq : 0 ≤ q) : w * ((-q : ℝ) : EReal) + w * ((-q : ℝ) : EReal) = -(w * ((q + q : ℝ) : EReal)) := by
  have h : ¬(w * (q : EReal) = ⊥ ∧ w * (q : EReal) = ⊤) := fun h => by simp [h.1] at h
  rw [EReal.coe_add, EReal.left_distrib_of_nonneg (EReal.coe_nonneg.mpr hq) (EReal.coe_nonneg.mpr hq), EReal.neg_add, EReal.coe_neg, mul_neg, sub_eq_add_neg]
  · by_cases h1 : w * (q : EReal) = ⊥
    · exact .inr fun h2 => h ⟨h1, h2⟩
    · exact .inl h1
  · by_cases h1 : w * (q : EReal) = ⊥
    · exact .inl fun h2 => h ⟨h1, h2⟩
    · exact .inr h1

/-- A quotient by 1024 is a product. -/
theorem div_1024 (z : EReal) : Ideal.div z (Ideal.ofBits .f32 0x44800000#32) = z * ((1 / 1024 : ℝ) : EReal) := by
  rw [bits_1024, Ideal.div_coe (by norm_num)]

/-- A square is not negative, and that of a number that is not real is infinite. -/
theorem sq_nonneg_e (x : EReal) : 0 ≤ x * x := by
  induction x using EReal.rec with
  | bot => simp
  | coe r => exact_mod_cast mul_self_nonneg r
  | top => simp
theorem sq_top {x : EReal} (h : ¬Rl x) : x * x = ⊤ := by
  induction x using EReal.rec with
  | bot => simp
  | coe r => exact absurd ⟨r, rfl⟩ h
  | top => simp

/-- In a row with an infinite entry the factor is zero, and so are both derivatives. -/
theorem under_top : under ⊤ = ⊤ := by
  obtain ⟨e, _, h⟩ := bits_eps
  rw [under, div_1024, h, EReal.top_mul_coe_of_pos (by norm_num), EReal.top_add_coe]
theorem unit_top : unit ⊤ = 0 := by
  change Ideal.rsqrt (under ⊤) = 0
  rw [under_top]
  rfl
theorem div_top : Ideal.div 0 ⊤ = 0 := by
  rw [Ideal.div, if_neg EReal.top_ne_zero, zero_mul]
theorem row_top {x : Fin 1024 → EReal} (h : ¬∀ s, Rl (x s)) : ∑ s, x s * x s = ⊤ := by
  obtain ⟨k, hk⟩ := not_forall.mp h
  refine top_le_iff.mp ((sq_top hk).symm.le.trans ?_)
  exact Finset.single_le_sum (f := fun s => x s * x s) (fun s _ => sq_nonneg_e (x s)) (Finset.mem_univ k)
theorem bk_zero (dn : Fin 1024 → EReal) {x : Fin 1024 → EReal} (g : Fin 1024 → EReal) (h : ¬∀ s, Rl (x s)) (k : Fin 1024) : bk dn x g k = 0 := by
  rw [bk, row_top h, unit_top, zero_mul]
theorem bx_zero (dn : Fin 1024 → EReal) {x : Fin 1024 → EReal} (g : Fin 1024 → EReal) (h : ¬∀ s, Rl (x s)) (k : Fin 1024) : bx dn x g k = 0 := by
  have hc : cc dn x g = 0 := by
    rw [cc, row_top h, unit_top, under_top, div_top, mul_zero, mul_zero, div_1024, zero_mul]
  rw [bx, hc, row_top h, unit_top, mul_zero, mul_zero, zero_mul, add_zero, add_zero]

/-- The two derivatives agree. -/
theorem bk_bx (dn x g : Fin 1024 → EReal) (k : Fin 1024) : bk dn x g k = bx dn x g k := by
  by_cases hx : ∀ s, Rl (x s)
  · choose y hx using hx
    have e2 : ∑ s, x s * x s = ((∑ s, y s * y s : ℝ) : EReal) := by simp only [hx, ← EReal.coe_mul, coe_sum]
    obtain ⟨v, u, hv, hu, huu, eu, er⟩ := unit_real (Finset.sum_nonneg fun s (_ : s ∈ Finset.univ) => mul_self_nonneg (y s))
    have hq : 0 ≤ 1 / 2 * (u / v) * (1 / 1024) := by positivity
    have es : ∑ s, dn s * g s * (x s * (u : EReal)) = (∑ s, x s * (dn s * g s)) * (u : EReal) := by
      rw [sum_mul_real _ _ hu.le]
      exact Finset.sum_congr rfl fun s _ => by rw [← mul_assoc, mul_comm (x s) (dn s * g s)]
    have ec : cc dn x g = (∑ s, x s * (dn s * g s)) * ((-(1 / 2 * (u / v) * (1 / 1024)) : ℝ) : EReal) := by
      rw [cc, e2, er, eu, bits_mhalf, div_real hv.ne', div_1024, ← EReal.coe_mul, mul_assoc, ← EReal.coe_mul]
      congr 2
      ring
    rw [bk, bx, ec, e2, er, es, div_1024, mul_comm (_ * _) (x k), add_assoc, ← mul_assoc (x k), two_halves _ hq,
      EReal.mul_sub_of_nonneg_of_ne_top (EReal.coe_nonneg.mpr hu.le) (EReal.coe_ne_top u), sub_eq_add_neg]
    generalize (∑ s, x s * (dn s * g s)) = S
    congr 1
    · exact mul_comm _ _
    congr 1
    have e : (1 / 2 * (u / v) * (1 / 1024) + 1 / 2 * (u / v) * (1 / 1024) : ℝ) = u * (u * (u * (1 / 1024))) := by
      rw [show u / v = u * (u * u) by rw [huu]; ring]
      ring
    rw [e]
    simp only [EReal.coe_mul]
    ac_rfl
  · rw [bk_zero dn g hx, bx_zero dn g hx]

/-- The derivative at real numbers is real, whatever the row. -/
theorem bx_real {dn g : Fin 1024 → EReal} (x : Fin 1024 → EReal) (hd : ∀ s, Rl (dn s)) (hg : ∀ s, Rl (g s)) (k : Fin 1024) : Rl (bx dn x g k) := by
  by_cases hx : ∀ s, Rl (x s)
  · have hx' := hx
    choose y hy using hx'
    have e2 : ∑ s, x s * x s = ((∑ s, y s * y s : ℝ) : EReal) := by simp only [hy, ← EReal.coe_mul, coe_sum]
    obtain ⟨v, u, hv, hu, huu, eu, er⟩ := unit_real (Finset.sum_nonneg fun s (_ : s ∈ Finset.univ) => mul_self_nonneg (y s))
    have hc : Rl (cc dn x g) := by
      rw [cc, e2, er, eu, bits_mhalf, div_real hv.ne', div_1024]
      exact ((Rl.sum _ fun s => (hx s).mul ((hd s).mul (hg s))).mul (Rl.mul ⟨_, rfl⟩ ⟨_, rfl⟩)).mul ⟨_, rfl⟩
    rw [bx, e2, er]
    exact ((((hd k).mul (hg k)).mul ⟨u, rfl⟩).add ((hx k).mul hc)).add (hc.mul (hx k))
  · exact ⟨0, bx_zero dn g hx k⟩

/-- The logistic. -/
def sg (a : EReal) : EReal := Ideal.div 1 (1 + Ideal.exp (-a))

theorem sg_real {a : EReal} : Rl a → Rl (sg a) := by
  rintro ⟨a, rfl⟩
  refine ⟨1 / (1 + Real.exp (-a)), ?_⟩
  have h : (1 : EReal) + Ideal.exp (-(a : EReal)) = ((1 + Real.exp (-a) : ℝ) : EReal) := by
    rw [← EReal.coe_neg, Ideal.exp_coe, EReal.coe_add, EReal.coe_one]
  have h0 : 1 + Real.exp (-a) ≠ 0 := by positivity
  rw [sg, h, ← div_real h0, EReal.coe_one]

/-- The logistic of an infinity. -/
theorem sg_top : sg ⊤ = 1 := by
  change Ideal.div 1 (1 + Ideal.exp (-⊤)) = 1
  rw [EReal.neg_top, show Ideal.exp ⊥ = 0 from rfl, add_zero, ← EReal.coe_one, div_real one_ne_zero, div_one]
theorem sg_bot : sg ⊥ = 0 := by
  change Ideal.div 1 (1 + Ideal.exp (-⊥)) = 0
  rw [EReal.neg_bot, show Ideal.exp ⊤ = ⊤ from rfl, ← EReal.coe_one, EReal.coe_add_top, Ideal.div, if_neg EReal.top_ne_zero, EReal.inv_top, mul_zero]

/-- Where the gated column's gradient is real, the two forms of the gate's derivative agree. -/
theorem gate_real {d b : EReal} (a : EReal) (hd : Rl d) (hb : Rl b) :
    d * b * (sg a * (1 + a * (1 - sg a))) = d * b * sg a + a * (d * b) * (sg a * (1 - sg a)) := by
  by_cases ha : Rl a
  · obtain ⟨s, hs⟩ := sg_real ha
    obtain ⟨d, rfl⟩ := hd
    obtain ⟨b, rfl⟩ := hb
    rw [hs]
    obtain ⟨a, rfl⟩ := ha
    simp only [← EReal.coe_one, ← EReal.coe_mul, ← EReal.coe_sub, ← EReal.coe_add]
    exact congrArg _ (by ring)
  · induction a using EReal.rec with
    | bot => rw [sg_bot, zero_mul, zero_mul, mul_zero, mul_zero, add_zero]
    | coe r => exact absurd ⟨r, rfl⟩ ha
    | top =>
      have h : (1 : EReal) - 1 = 0 := by rw [← EReal.coe_one, ← EReal.coe_sub, sub_self, EReal.coe_zero]
      rw [sg_top, h, mul_zero, mul_zero, mul_zero, add_zero, add_zero, mul_one, mul_one]

end Back

end
-- ==== Proof.BackPay.lean ====
/- The backward FFN's blocks, entry by entry. -/
module

public import proofs.«01_k».proof.Proof.BackRun
public import proofs.«01_k».proof.Proof.BackMath

@[expose] public section

set_option maxRecDepth 16384

noncomputable section

namespace Cert.Kernel9Ideal.Own

open Idealize.ShloMosaic Idealize.ShloMosaic.TcCoe Idealize.ShloMosaic.Pointwise Idealize.SL.Sem Cert.Kernel9Ideal Cert.Kernel9Ideal.Gen
open Cert.Kernel8Ideal.Own (unit)
open Back

/-- A half, as the programs write it. -/
abbrev hf : EReal := Ideal.ofBits .f32 0x3F000000#32

/-- The normalized rows of the output of the second multiplication. -/
theorem pay9_at (y : Vec Ideal S512x1024 .f32) (a : Fin 512) (k : Fin 1024) :
    k0_pay9 y (ix2 a k) = y (ix2 a k) * unit (∑ s, y (ix2 a s) * y (ix2 a s)) := by
  pointwise [k0_pay9, k0_pay8, unit]
theorem pay4_at (x : Vec Ideal S512x1024 .f32) (a : Fin 512) (k : Fin 1024) :
    k0_pay4 x (ix2 a k) = x (ix2 a k) * unit (∑ s, x (ix2 a s) * x (ix2 a s)) := by
  pointwise [k0_pay4, k0_pay3, unit]

/-- The derivative of the scaled normalization, of half the output's gradient. -/
theorem pay10_at (d y : Vec Ideal S512x1024 .f32) (g : Vec Ideal S1x1024 .f32) (a : Fin 512) (k : Fin 1024) :
    k0_pay10 d y g (ix2 a k) = bk (fun s => hf * d (ix2 a s)) (fun s => y (ix2 a s)) (fun s => g (ix2 0 s)) k := by
  pointwise [k0_pay10, k0_pay7, k0_pay8, k0_pay9, unit, bk]
theorem pay11_eq (d y : Vec Ideal S512x1024 .f32) (g : Vec Ideal S1x1024 .f32) : k0_pay11 d y g = k0_pay10 d y g := by
  funext i
  pointwise [k0_pay11]

/-- The gradient of the block's input. -/
theorem pay5_at (n x : Vec Ideal S512x1024 .f32) (g : Vec Ideal S1x1024 .f32) (d : Vec Ideal S512x1024 .f32) (a : Fin 512) (k : Fin 1024) :
    k0_pay5 n x g d (ix2 a k) = d (ix2 a k) + bk (fun s => n (ix2 a s)) (fun s => x (ix2 a s)) (fun s => g (ix2 0 s)) k := by
  pointwise [k0_pay5, k0_pay3, k0_pay4, unit, bk]

/-- One block of rows' addition to the gradient of a scale. -/
theorem pay12_at (d y : Vec Ideal S512x1024 .f32) (q : Vec Ideal S1x1024 .f32) (k : Fin 1024) :
    k0_pay12 d y q (ix2 0 k) = q (ix2 0 k) + ∑ a, hf * d (ix2 a k) * (y (ix2 a k) * unit (∑ s, y (ix2 a s) * y (ix2 a s))) := by
  pointwise [k0_pay12, k0_pay7, k0_pay8, k0_pay9, unit]
theorem pay6_at (n x : Vec Ideal S512x1024 .f32) (q : Vec Ideal S1x1024 .f32) (k : Fin 1024) :
    k0_pay6 n x q (ix2 0 k) = q (ix2 0 k) + ∑ a, n (ix2 a k) * (x (ix2 a k) * unit (∑ s, x (ix2 a s) * x (ix2 a s))) := by
  pointwise [k0_pay6, k0_pay3, k0_pay4, unit]

/-- The sums start from zero. -/
theorem pay13_at (k : Fin 1024) : (k0_pay13 (F := Ideal)) (ix2 0 k) = 0 := by
  pointwise [k0_pay13]
theorem pay14_at (k : Fin 1024) : (k0_pay14 (F := Ideal)) (ix2 0 k) = 0 := by
  pointwise [k0_pay14]
theorem pay15_at (a : Fin 512) (k : Fin 1024) : (k0_pay15 (F := Ideal)) (ix2 a k) = 0 := by
  pointwise [k0_pay15]

/-- The gated columns, and the gradients of the two projections. -/
theorem pay21_at (a b : Vec Ideal S512x1024 .bf16) (i : Fin 512) (j : Fin 1024) :
    k0_pay21 a b (ix2 i j) = a (ix2 i j) * sg (a (ix2 i j)) * b (ix2 i j) := by
  pointwise [k0_pay21, k0_pay20, k0_pay19, k0_pay18, k0_pay17, sg]
  simp only [zero_sub]
theorem pay22_at (h : Vec Ideal S512x1024 .bf16) (w : Vec Ideal S1x1024x1024 .bf16) (a : Vec Ideal S512x1024 .bf16) (i : Fin 512) (j : Fin 1024) :
    k0_pay22 h w a (ix2 i j) = (∑ s, h (ix2 i s) * w (ix3 0 j s)) * (a (ix2 i j) * sg (a (ix2 i j))) := by
  pointwise [k0_pay22, k0_pay20, k0_pay19, k0_pay17, k0_pay16, sg]
  simp only [zero_sub]
theorem dgate_at (h : Vec Ideal S512x1024 .bf16) (w : Vec Ideal S1x1024x1024 .bf16) (a b : Vec Ideal S512x1024 .bf16) (i : Fin 512) (j : Fin 1024) :
    dgate h w a b (ix2 i j) = (∑ s, h (ix2 i s) * w (ix3 0 j s)) * b (ix2 i j) * (sg (a (ix2 i j)) * (1 + a (ix2 i j) * (1 - sg (a (ix2 i j))))) := by
  pointwise [dgate, k0_pay1, k0_pay24, k0_pay23, k0_pay19, k0_pay18, k0_pay17, k0_pay16, sg]
  simp only [zero_sub]

/-- One point's addition to the gradient of the normalized rows. -/
theorem step_at0 (h : Vec Ideal S512x1024 .bf16) (wg wu wd : Vec Ideal S1x1024x1024 .bf16) (a b : Vec Ideal S512x1024 .bf16) (acc : Vec Ideal S512x1024 .f32) (i : Fin 512) (k : Fin 1024) :
    step h wg wu wd a b acc (ix2 i k) = acc (ix2 i k) + ((∑ s, dgate h wd a b (ix2 i s) * wg (ix3 0 k s)) + ∑ s, k0_pay22 h wd a (ix2 i s) * wu (ix3 0 k s)) := by
  unfold step dgate
  pointwise [k0_pay2]

end Cert.Kernel9Ideal.Own

end
-- ==== Proof.BackRef.lean ====
/- The backward FFN's reference: its seven results, and their entries. -/
module

public import proofs.«01_k».proof.Proof.Gen.Reference9Ideal.Run
public import proofs.«01_k».proof.Proof.BackMath

@[expose] public section

set_option maxRecDepth 16384

noncomputable section

namespace Cert.Reference9Ideal.Own

open Idealize.ShloMosaic Idealize.ShloMosaic.TcCoe Idealize.ShloMosaic.Pointwise Idealize.SL.Sem Cert.Reference9Ideal Cert.Reference9Ideal.Gen
open Cert.Kernel8Ideal.Own (unit)
open Back

/-- The numbers under the roots, and the factors of the rows. -/
def var (x : FVec Ideal S8192x1024 .f32) : FVec Ideal S8192x1 .f32 :=
  addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))
def fac (x : FVec Ideal S8192x1024 .f32) : FVec Ideal S8192x1 .f32 := Host.rsqrt (var x)

/-- Half of an array. -/
def half (x : FVec Ideal S8192x1024 .f32) : FVec Ideal S8192x1024 .f32 :=
  mulf (broadcastInDim S8192x1024 ![] bcast_S_S8192x1024 (constant S_ .f32 0x3F000000#32)) x

/-- The derivative of the scaled normalization: towards the rows, and towards the scale. -/
def scaled (n : FVec Ideal S8192x1024 .f32) (g : FVec Ideal S1x1024 .f32) : FVec Ideal S8192x1024 .f32 :=
  mulf n (broadcastInDim S8192x1024 ![0, 1] bcast_S1x1024_S8192x1024_0_1 g)
def coef (n x : FVec Ideal S8192x1024 .f32) (g : FVec Ideal S1x1024 .f32) : FVec Ideal S8192x1024 .f32 :=
  broadcastInDim S8192x1024 ![0] bcast_S8192_S8192x1024_0 (Host.reduceAdd (Host.divf (mulf (shapeCast S8192x1 (Host.reduceAdd (mulf x (scaled n g)) (constant S_ .f32 0x00000000#32) reducesTo_S8192x1024_S8192_d1 h_S_) shapeCasts_S8192_S8192x1) (mulf (broadcastInDim S8192x1 ![] bcast_S_S8192x1 (constant S_ .f32 0xBF000000#32)) (Host.divf (fac x) (var x)))) (broadcastInDim S8192x1 ![] bcast_S_S8192x1 (constant S_ .f32 0x44800000#32))) (constant S_ .f32 0x00000000#32) reducesTo_S8192x1_S8192_d1 h_S_)
def back (n x : FVec Ideal S8192x1024 .f32) (g : FVec Ideal S1x1024 .f32) : FVec Ideal S8192x1024 .f32 :=
  addf (addf (mulf (scaled n g) (broadcastInDim S8192x1024 ![0, 1] bcast_S8192x1_S8192x1024_0_1 (fac x))) (mulf x (coef n x g))) (mulf (coef n x g) x)
def scale (n x : FVec Ideal S8192x1024 .f32) : FVec Ideal S1x1024 .f32 :=
  shapeCast S1x1024 (Host.reduceAdd (mulf (mulf x (broadcastInDim S8192x1024 ![0, 1] bcast_S8192x1_S8192x1024_0_1 (fac x))) n) (constant S_ .f32 0x00000000#32) reducesTo_S8192x1024_S1024_d0 h_S_) shapeCasts_S1024_S1x1024

/-- The logistics of the gate's columns, and the gated columns. -/
def logi (a : FVec Ideal S8192x4096 .bf16) : FVec Ideal S8192x4096 .f32 :=
  Host.divf (broadcastInDim S8192x4096 ![] bcast_S_S8192x4096 (constant S_ .f32 0x3F800000#32)) (addf (broadcastInDim S8192x4096 ![] bcast_S_S8192x4096 (constant S_ .f32 0x3F800000#32)) (Host.exp (Host.negf (extf .f32 a bitsLt_bf16_f32))))
def act (a b : FVec Ideal S8192x4096 .bf16) : FVec Ideal S8192x4096 .bf16 :=
  truncf .bf16 (mulf (mulf (extf .f32 a bitsLt_bf16_f32) (logi a)) (extf .f32 b bitsLt_bf16_f32)) bitsLt_bf16_f32

/-- The gradients of the gated columns, and of the two projections. -/
def wide (d : FVec Ideal S8192x1024 .f32) (w : FVec Ideal S4096x1024 .f32) : FVec Ideal S8192x4096 .f32 :=
  Host.dotGeneral dot_S8192x1024_S4096x1024_S8192x4096_1_1_0_0_n_n none d w
def upG (d : FVec Ideal S8192x1024 .f32) (w : FVec Ideal S4096x1024 .f32) (a : FVec Ideal S8192x4096 .bf16) : FVec Ideal S8192x4096 .f32 :=
  mulf (mulf (extf .f32 a bitsLt_bf16_f32) (logi a)) (wide d w)
def gateC (d : FVec Ideal S8192x1024 .f32) (w : FVec Ideal S4096x1024 .f32) (b : FVec Ideal S8192x4096 .bf16) : FVec Ideal S8192x4096 .f32 :=
  mulf (wide d w) (extf .f32 b bitsLt_bf16_f32)
def gateG (d : FVec Ideal S8192x1024 .f32) (w : FVec Ideal S4096x1024 .f32) (a b : FVec Ideal S8192x4096 .bf16) : FVec Ideal S8192x4096 .f32 :=
  addf (mulf (gateC d w b) (logi a)) (mulf (mulf (extf .f32 a bitsLt_bf16_f32) (gateC d w b))
    (mulf (logi a) (subf (broadcastInDim S8192x4096 ![] bcast_S_S8192x4096 (constant S_ .f32 0x3F800000#32)) (logi a))))

/-- The gradient of the normalized rows. -/
def narrow (za zb : FVec Ideal S8192x4096 .f32) (wg wu : FVec Ideal S1024x4096 .f32) : FVec Ideal S8192x1024 .f32 :=
  addf (Host.dotGeneral dot_S8192x4096_S1024x4096_S8192x1024_1_1_0_0_n_n none zb wu) (Host.dotGeneral dot_S8192x4096_S1024x4096_S8192x1024_1_1_0_0_n_n none za wg)

theorem half_at (x : FVec Ideal S8192x1024 .f32) (r : Fin 8192) (k : Fin 1024) : half x (ix2 r k) = Ideal.ofBits .f32 0x3F000000#32 * x (ix2 r k) := by
  pointwise [half]

theorem coef_at (n x : FVec Ideal S8192x1024 .f32) (g : FVec Ideal S1x1024 .f32) (r : Fin 8192) (k : Fin 1024) :
    coef n x g (ix2 r k) = cc (fun s => n (ix2 r s)) (fun s => x (ix2 r s)) (fun s => g (ix2 0 s)) := by
  pointwise [coef, fac, var, scaled, cc, unit, under]
  exact Fin.sum_univ_one _

theorem back_at (n x : FVec Ideal S8192x1024 .f32) (g : FVec Ideal S1x1024 .f32) (r : Fin 8192) (k : Fin 1024) :
    back n x g (ix2 r k) = bx (fun s => n (ix2 r s)) (fun s => x (ix2 r s)) (fun s => g (ix2 0 s)) k := by
  unfold bx
  rw [← coef_at n x g r k]
  pointwise [back, fac, var, scaled, unit]

theorem scale_at (n x : FVec Ideal S8192x1024 .f32) (k : Fin 1024) :
    scale n x (ix2 0 k) = ∑ r, x (ix2 r k) * unit (∑ s, x (ix2 r s) * x (ix2 r s)) * n (ix2 r k) := by
  pointwise [scale, fac, var, unit]

theorem logi_at (a : FVec Ideal S8192x4096 .bf16) (r : Fin 8192) (q : Fin 4096) : logi a (ix2 r q) = sg (a (ix2 r q)) := by
  pointwise [logi, sg]

theorem act_at (a b : FVec Ideal S8192x4096 .bf16) (r : Fin 8192) (q : Fin 4096) :
    act a b (ix2 r q) = a (ix2 r q) * sg (a (ix2 r q)) * b (ix2 r q) := by
  pointwise [act, logi, sg]

theorem wide_at (d : FVec Ideal S8192x1024 .f32) (w : FVec Ideal S4096x1024 .f32) (r : Fin 8192) (q : Fin 4096) :
    wide d w (ix2 r q) = ∑ s, d (ix2 r s) * w (ix2 q s) := by
  pointwise [wide]

theorem upG_at (d : FVec Ideal S8192x1024 .f32) (w : FVec Ideal S4096x1024 .f32) (a : FVec Ideal S8192x4096 .bf16) (r : Fin 8192) (q : Fin 4096) :
    upG d w a (ix2 r q) = a (ix2 r q) * sg (a (ix2 r q)) * wide d w (ix2 r q) := by
  rw [← logi_at]
  pointwise [upG]

theorem gateG_at (d : FVec Ideal S8192x1024 .f32) (w : FVec Ideal S4096x1024 .f32) (a b : FVec Ideal S8192x4096 .bf16) (r : Fin 8192) (q : Fin 4096) :
    gateG d w a b (ix2 r q) = wide d w (ix2 r q) * b (ix2 r q) * sg (a (ix2 r q))
      + a (ix2 r q) * (wide d w (ix2 r q) * b (ix2 r q)) * (sg (a (ix2 r q)) * (1 - sg (a (ix2 r q)))) := by
  rw [← logi_at]
  pointwise [gateG, gateC]

theorem narrow_at (za zb : FVec Ideal S8192x4096 .f32) (wg wu : FVec Ideal S1024x4096 .f32) (r : Fin 8192) (k : Fin 1024) :
    narrow za zb wg wu (ix2 r k) = (∑ q, zb (ix2 r q) * wu (ix2 k q)) + ∑ q, za (ix2 r q) * wg (ix2 k q) := by
  pointwise [narrow]

/-- The gradient of the output of the second multiplication, of the arguments. -/
abbrev gY (d y : FVec Ideal S8192x1024 .f32) (g : FVec Ideal S1x1024 .f32) : FVec Ideal S8192x1024 .f32 := back (half d) y g

/-- The gradient of the normalized rows, of the gradient of the output and the other arguments. -/
abbrev gH (e : FVec Ideal S8192x1024 .f32) (a b : FVec Ideal S8192x4096 .bf16) (wg wu : FVec Ideal S1024x4096 .f32) (wd : FVec Ideal S4096x1024 .f32) : FVec Ideal S8192x1024 .f32 :=
  narrow (gateG e wd a b) (upG e wd a) wg wu

variable (m : (ℓ : Loc nD τ sig) → Buf (Elt Ideal) ℓ) (c : Dev nD)

/-- The arguments of a device. -/
abbrev aD : FVec Ideal S8192x1024 .f32 := m ((c.tc : Thread nD τ).loc main_arg0)
abbrev aY : FVec Ideal S8192x1024 .f32 := m ((c.tc : Thread nD τ).loc main_arg1)
abbrev aQ : FVec Ideal S1x1024 .f32 := m ((c.tc : Thread nD τ).loc main_arg2)
abbrev aA : FVec Ideal S8192x4096 .bf16 := m ((c.tc : Thread nD τ).loc main_arg3)
abbrev aB : FVec Ideal S8192x4096 .bf16 := m ((c.tc : Thread nD τ).loc main_arg4)
abbrev aWg : FVec Ideal S1024x4096 .f32 := m ((c.tc : Thread nD τ).loc main_arg5)
abbrev aWu : FVec Ideal S1024x4096 .f32 := m ((c.tc : Thread nD τ).loc main_arg6)
abbrev aWd : FVec Ideal S4096x1024 .f32 := m ((c.tc : Thread nD τ).loc main_arg7)
abbrev aX : FVec Ideal S8192x1024 .f32 := m ((c.tc : Thread nD τ).loc main_arg8)
abbrev aG : FVec Ideal S1x1024 .f32 := m ((c.tc : Thread nD τ).loc main_arg9)

/-- The gradients at a device's arguments. -/
abbrev dY : FVec Ideal S8192x1024 .f32 := gY (aD m c) (aY m c) (aQ m c)
abbrev dH : FVec Ideal S8192x1024 .f32 := gH (dY m c) (aA m c) (aB m c) (aWg m c) (aWu m c) (aWd m c)

theorem out0_eq : Value.res_main_v88 m c = truncf .bf16 (dY m c) bitsLt_bf16_f32 := rfl
theorem out1_eq : Value.res_main_v89 m c = truncf .bf16 (gateG (dY m c) (aWd m c) (aA m c) (aB m c)) bitsLt_bf16_f32 := rfl
theorem out2_eq : Value.res_main_v90 m c = truncf .bf16 (upG (dY m c) (aWd m c) (aA m c)) bitsLt_bf16_f32 := rfl
theorem out4_eq : Value.res_main_v92 m c = addf (aD m c) (back (dH m c) (aX m c) (aG m c)) := rfl
theorem out6_eq : Value.res_main_v69 m c = scale (dH m c) (aX m c) := rfl

/-- Every run ends with the seven results, and the arguments unchanged. -/
theorem values (ρ : Dev nD → PrngReg) :
    θ_run defs (onTc (τ := τ) (main (F := Ideal))) ⟨m, fun _ => 0, ρ⟩ (fun r => ∀ c : Dev nD,
      r.2.mem ((c.tc : Thread nD τ).loc main_v88) = dY m c
      ∧ r.2.mem ((c.tc : Thread nD τ).loc main_v89) = gateG (dY m c) (aWd m c) (aA m c) (aB m c)
      ∧ r.2.mem ((c.tc : Thread nD τ).loc main_v90) = upG (dY m c) (aWd m c) (aA m c)
      ∧ r.2.mem ((c.tc : Thread nD τ).loc main_v91) = act (aA m c) (aB m c)
      ∧ r.2.mem ((c.tc : Thread nD τ).loc main_v92) = addf (aD m c) (back (dH m c) (aX m c) (aG m c))
      ∧ r.2.mem ((c.tc : Thread nD τ).loc main_v21) = scale (half (aD m c)) (aY m c)
      ∧ r.2.mem ((c.tc : Thread nD τ).loc main_v69) = scale (dH m c) (aX m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1).trans (out0_eq m c), ((h c).2.1).trans (out1_eq m c), ((h c).2.2.1).trans (out2_eq m c), (h c).2.2.2.1,
    ((h c).2.2.2.2.1).trans (out4_eq m c), (h c).2.2.2.2.2.1, ((h c).2.2.2.2.2.2.1).trans (out6_eq m c), (h c).2.2.2.2.2.2.2⟩) (Value.run m ρ)

end Cert.Reference9Ideal.Own

end
-- ==== Proof.BackPre.lean ====
/- The backward FFN's precondition: its side conditions, and the real numbers its arguments hold. -/
module

public import proofs.«01_k».proof.Pre_finite9
public import proofs.«01_k».proof.Proof.PreMath
public import proofs.«01_k».proof.Proof.BackMath

@[expose] public section

set_option maxRecDepth 16384

noncomputable section

namespace Cert.Pre_finite9.Own

open Idealize.ShloMosaic Cert.Pre_finite9 Cert.Pre_finite.Own Back

/-- The side conditions of the precondition's operations. -/
instance facts : Cert.Pre_finite9.Facts where
  bcast_S_S8192x1024 := by decide
  reducesTo_S8192x1024_S_d0_1 := by decide
  h_S_ := by decide
  bcast_S_S1x1024 := by decide
  reducesTo_S1x1024_S_d0_1 := by decide
  bitsLt_bf16_f32 := by decide
  bcast_S_S8192x4096 := by decide
  reducesTo_S8192x4096_S_d0_1 := by decide
  bcast_S_S4096x1024 := by decide
  reducesTo_S4096x1024_S_d0_1 := by decide

/-- The four arrays hold real numbers. -/
structure Reals (d : FVec Ideal S8192x1024 .f32) (q : FVec Ideal S1x1024 .f32) (b : FVec Ideal S8192x4096 .bf16) (wd : FVec Ideal S4096x1024 .f32) : Prop where
  d : ∀ i, Rl (d i)
  q : ∀ i, Rl (q i)
  b : ∀ i, Rl (b i)
  wd : ∀ i, Rl (wd i)

/-- Arrays that meet the precondition hold real numbers. -/
theorem reals (d y : FVec Ideal S8192x1024 .f32) (q : FVec Ideal S1x1024 .f32) (a b : FVec Ideal S8192x4096 .bf16) (wg wu : FVec Ideal S1024x4096 .f32)
    (wd : FVec Ideal S4096x1024 .f32) (x : FVec Ideal S8192x1024 .f32) (g : FVec Ideal S1x1024 .f32) (z : FVec Ideal S4x2304x1024 .f32)
    (e : Cert.Pre_finite9.fn (F := Ideal) d y q a b wg wu wd x g z = fun _ => 1#1) : Reals d q b wd := by
  have e0 := congrFun e (fun y => y.elim0)
  obtain ⟨e0, ed⟩ := and_one _ _ e0
  obtain ⟨e0, eb⟩ := and_one _ _ e0
  obtain ⟨e0, eq⟩ := and_one _ _ e0
  exact ⟨fun i => ⟨_, real_all d _ _ _ _ e0 i⟩, fun i => ⟨_, real_all q _ _ _ _ eq i⟩,
    fun i => ⟨_, real_all (extf .f32 b (by decide)) _ _ _ _ eb i⟩, fun i => ⟨_, real_all wd _ _ _ _ ed i⟩⟩

end Cert.Pre_finite9.Own

end
-- ==== Proof.BackValue.lean ====
/- The backward FFN's results: the reference's. -/
module

public import proofs.«01_k».proof.Proof.BackBlocks
public import proofs.«01_k».proof.Proof.BackPay
public import proofs.«01_k».proof.Proof.BackRef
public import proofs.«01_k».proof.Proof.BackPre

@[expose] public section

set_option maxRecDepth 16384

noncomputable section

namespace Cert.Kernel9Ideal.Own

open Idealize.ShloMosaic Idealize.ShloMosaic.TcCoe Idealize.ShloMosaic.Pointwise Idealize.SL.Sem Cert.Kernel9Ideal Cert.Kernel9Ideal.Gen
open Cert.Kernel8Ideal.Own (unit col)
open Back
open Cert.Reference9Ideal.Own (half back scale act wide upG gateG narrow gY gH half_at back_at scale_at act_at wide_at upG_at gateG_at narrow_at)

variable (m : (ℓ : Loc nD τ sig) → Buf (Elt Ideal) ℓ) (c : Dev nD)

/-- The four of a device's arguments that the precondition is about are real numbers. -/
abbrev RealArgs : Prop := Cert.Pre_finite9.Own.Reals (aD m c) (aQ m c) (aB m c) (aWd m c)

/-- The reference's gradients, at a device's arguments. -/
abbrev rY : FVec Ideal S8192x1024 .f32 := gY (aD m c) (aY m c) (aQ m c)
abbrev rA : FVec Ideal S8192x4096 .f32 := gateG (rY m c) (aWd m c) (aA m c) (aB m c)
abbrev rB : FVec Ideal S8192x4096 .f32 := upG (rY m c) (aWd m c) (aA m c)
abbrev rH : FVec Ideal S8192x1024 .f32 := gH (rY m c) (aA m c) (aB m c) (aWg m c) (aWu m c) (aWd m c)
abbrev rX : FVec Ideal S8192x1024 .f32 := addf (aD m c) (back (rH m c) (aX m c) (aG m c))
abbrev rQ : FVec Ideal S1x1024 .f32 := scale (half (aD m c)) (aY m c)
abbrev rG : FVec Ideal S1x1024 .f32 := scale (rH m c) (aX m c)

/-- The first point of a block of rows, and the one before, work on the same rows. -/
theorem rw8_first (t : Fin cfg0.N) (a : Fin 512) : rw8 (first t) a = rw8 t a :=
  Fin.ext (by simp only [rw8, first]; omega)
theorem rw8_prev (t : Fin cfg0.N) (h : ¬t.val % 4 = 0) (a : Fin 512) : rw8 (prev t) a = rw8 t a :=
  Fin.ext (by simp only [rw8, prev]; omega)

section
variable {m c}
variable (R : RealArgs m c)
include R

/-- The gradient of the output of the second multiplication is real, and the kernel's. -/
theorem rY_bk (r : Fin 8192) (k : Fin 1024) :
    bk (fun s => hf * aD m c (ix2 r s)) (fun s => aY m c (ix2 r s)) (fun s => aQ m c (ix2 0 s)) k = rY m c (ix2 r k) ∧ Rl (rY m c (ix2 r k)) := by
  have e : rY m c (ix2 r k) = bx (fun s => hf * aD m c (ix2 r s)) (fun s => aY m c (ix2 r s)) (fun s => aQ m c (ix2 0 s)) k := by
    refine (back_at _ _ _ r k).trans ?_
    simp only [half_at]
  rw [e]
  exact ⟨bk_bx _ _ _ k, bx_real _ (fun s => half_real.mul (R.d (ix2 r s))) (fun s => R.q (ix2 0 s)) k⟩

theorem yb_at (t : Fin cfg0.N) (a : Fin 512) (k : Fin 1024) : yb m c t (ix2 a k) = rY m c (ix2 (rw8 t a) k) := by
  rw [← (rY_bk R (rw8 t a) k).1]
  unfold yb
  rw [pay10_at]
  simp only [blk_d, blk_y, blk_q, rw8_first]
theorem yk_at (t : Fin cfg0.N) (a : Fin 512) (k : Fin 1024) : yk m c t (ix2 a k) = rY m c (ix2 (rw8 t a) k) := by
  rw [← yb_at R]
  exact congrFun (pay11_eq _ _ _) _

/-- The gradient of the gated columns. -/
theorem wide_blk (t : Fin cfg0.N) (a : Fin 512) (b : Fin 1024) :
    ∑ s, yk m c t (ix2 a s) * (X0_7 m c t : Vec Ideal S1x1024x1024 .bf16) (ix3 0 b s) = wide (rY m c) (aWd m c) (ix2 (rw8 t a) (col t.val b)) := by
  rw [wide_at]
  exact Finset.sum_congr rfl fun s _ => congrArg₂ (· * ·) (yk_at R t a s) (blk_down m c t b s)
theorem wide_real (r : Fin 8192) (q : Fin 4096) : Rl (wide (rY m c) (aWd m c) (ix2 r q)) := by
  rw [wide_at]
  exact Rl.sum _ fun s => (rY_bk R r s).2.mul (R.wd _)

/-- The gradients of the two projections. -/
theorem gate_at (t : Fin cfg0.N) (a : Fin 512) (b : Fin 1024) :
    dgate (yk m c t) (X0_7 m c t) (iblk m c 3 t) (iblk m c 4 t) (ix2 a b) = rA m c (ix2 (rw8 t a) (col t.val b)) := by
  refine Eq.trans ?_ (gateG_at _ _ _ _ _ _).symm
  rw [dgate_at, wide_blk R, blk_a, blk_b]
  exact gate_real _ (wide_real R _ _) (R.b _)
theorem up_at (t : Fin cfg0.N) (a : Fin 512) (b : Fin 1024) :
    k0_pay22 (yk m c t) (X0_7 m c t) (iblk m c 3 t) (ix2 a b) = rB m c (ix2 (rw8 t a) (col t.val b)) := by
  refine Eq.trans ?_ (upG_at _ _ _ _ _).symm
  rw [pay22_at, wide_blk R, blk_a, mul_comm]
end

/-- The summand of the gradient of the normalized rows, and its sum over a block of hidden columns. -/
def term (r : Fin 8192) (k : Fin 1024) (q : Fin 4096) : EReal := rA m c (ix2 r q) * aWg m c (ix2 k q) + rB m c (ix2 r q) * aWu m c (ix2 k q)
def part (r : Fin 8192) (k : Fin 1024) (j : ℕ) : EReal := ∑ s, term m c r k (col j s)

/-- A row of a block of rows, and the summands of the gradients of the two scales. -/
def rowAt (i : ℕ) (a : Fin 512) : Fin 8192 := ⟨i % 16 * 512 + a.val, by omega⟩
def tq (k : Fin 1024) (r : Fin 8192) : EReal := aY m c (ix2 r k) * unit (∑ s, aY m c (ix2 r s) * aY m c (ix2 r s)) * half (aD m c) (ix2 r k)
def tg (k : Fin 1024) (r : Fin 8192) : EReal := aX m c (ix2 r k) * unit (∑ s, aX m c (ix2 r s) * aX m c (ix2 r s)) * rH m c (ix2 r k)

theorem row_rw8 (t : Fin cfg0.N) (a : Fin 512) : rowAt (t.val / 4) a = rw8 t a :=
  Fin.ext (by have : t.val < 64 := lt_of_lt_of_eq t.isLt points; simp only [rowAt, rw8]; omega)

/-- Sums over the sixteen blocks of rows are sums over the rows. -/
theorem sum_rows (f : Fin 8192 → EReal) : ∑ i ∈ Finset.range 16, ∑ a, f (rowAt i a) = ∑ r, f r := by
  rw [Finset.sum_range]
  refine Eq.trans ?_ (Fin.sum_univ_tiles 16 512 (by norm_num) f).symm
  refine Finset.sum_congr rfl fun i _ => Finset.sum_congr rfl fun a _ => congrArg f (Fin.ext ?_)
  have := i.isLt
  simp only [rowAt]
  omega

/-- The gradient of the second scale, after the blocks of rows so far. -/
theorem gq_at (k : Fin 1024) : ∀ (n : ℕ) (h : n < cfg0.N), gq m c ⟨n, h⟩ (ix2 0 k) = ∑ i ∈ Finset.range (n / 4 + 1), ∑ a, tq m c k (rowAt i a) := by
  have add : ∀ (t : Fin cfg0.N) (q : Vec Ideal S1x1024 .f32), k0_pay12 (iblk m c 0 t) (iblk m c 1 t) q (ix2 0 k) = q (ix2 0 k) + ∑ a, tq m c k (rowAt (t.val / 4) a) := by
    intro t q
    rw [pay12_at]
    simp only [blk_d, blk_y, row_rw8, tq, half_at]
    exact congrArg _ (Finset.sum_congr rfl fun a _ => mul_comm _ _)
  intro n
  induction n with
  | zero =>
    intro h
    rw [gq_start m c ⟨0, h⟩ rfl, add, pay13_at, zero_add]
    simp only [Nat.zero_div, zero_add, Finset.sum_range_one]
  | succ n ih =>
    intro h
    by_cases h0 : (n + 1) % 4 = 0
    · rw [gq_first m c ⟨n + 1, h⟩ (Nat.succ_ne_zero n) h0, add, Finset.sum_range_succ]
      refine congrArg (· + _) ((ih (Nat.lt_of_succ_lt h)).trans ?_)
      rw [show n / 4 + 1 = (n + 1) / 4 by omega]
    · rw [← gq_same m c ⟨n + 1, h⟩ h0]
      refine (ih (Nat.lt_of_succ_lt h)).trans ?_
      rw [show n / 4 = (n + 1) / 4 by omega]

/-- An index of a block, and of a row of scales. -/
theorem ix_block (y : S512x1024.Idx) : ∃ (a : Fin 512) (k : Fin 1024), y = ix2 a k := ⟨y 0, y 1, by funext x; fin_cases x <;> rfl⟩
theorem ix_row (y : S1x1024.Idx) : ∃ k : Fin 1024, y = ix2 0 k := ⟨y 1, by funext x; fin_cases x; exacts [Subsingleton.elim (α := Fin 1) _ _, rfl]⟩

/-- The points that write back an output of a block of rows are the last of their four; those of a scale's gradient, the last of all. -/
theorem wb10 : ∀ t : Fin cfg0.N, (cfg0.win 14).flush t = true → t.val % 4 = 3 :=
  (by decide +kernel : ∀ t : Fin grid0.N, win0_14.flush t = true → t.val % 4 = 3)
theorem wb15 : ∀ t : Fin cfg0.N, (cfg0.win 15).flush t = true → t.val = 63 :=
  (by decide +kernel : ∀ t : Fin grid0.N, win0_15.flush t = true → t.val = 63)
theorem wb16 : ∀ t : Fin cfg0.N, (cfg0.win 16).flush t = true → t.val = 63 :=
  (by decide +kernel : ∀ t : Fin grid0.N, win0_16.flush t = true → t.val = 63)

theorem final13 : (dats m 0 c).arrAt 13 cfg0.N = act (aA m c) (aB m c) := by
  refine (dats m 0 c).arrAt_eq_of_covers 13 _ (by decide +kernel) (fun t hf y => ?_)
  obtain ⟨a, k, rfl⟩ := ix_block y
  blk_simp
  rw [after_13]
  refine Eq.trans ?_ (emb13 t (act (aA m c) (aB m c)) a k).symm
  rw [act_at, pay21_at, blk_a, blk_b]

theorem final15 : (dats m 0 c).arrAt 15 cfg0.N = rQ m c := by
  refine (dats m 0 c).arrAt_eq_of_covers 15 _ (by decide +kernel) (fun t hf y => ?_)
  obtain ⟨k, rfl⟩ := ix_row y
  blk_simp
  rw [after_15]
  refine Eq.trans ?_ (emb15 t (rQ m c) k).symm
  refine Eq.trans ?_ (scale_at _ _ k).symm
  have h63 := wb15 t hf
  refine (gq_at m c k t.val t.isLt).trans ?_
  rw [h63]
  exact sum_rows (tq m c k)

section
variable {m c}
variable (R : RealArgs m c)
include R

/-- A point adds its block's sum. -/
theorem step_at (t : Fin cfg0.N) (acc : Vec Ideal S512x1024 .f32) (a : Fin 512) (k : Fin 1024) :
    step (yk m c t) (X0_5 m c t) (X0_6 m c t) (X0_7 m c t) (iblk m c 3 t) (iblk m c 4 t) acc (ix2 a k) = acc (ix2 a k) + part m c (rw8 t a) k t.val := by
  rw [step_at0, ← Finset.sum_add_distrib]
  refine congrArg _ (Finset.sum_congr rfl fun s _ => ?_)
  rw [gate_at R, up_at R, blk_gate, blk_up]
  rfl

/-- The sum after the last of the four points of a block of rows. -/
theorem sum_at (t : Fin cfg0.N) (h : t.val % 4 = 3) (a : Fin 512) (k : Fin 1024) : sum m c t (ix2 a k) = rH m c (ix2 (rw8 t a) k) := by
  have h2 : (prev t).val % 4 = 2 := by simp only [prev]; omega
  have h1 : (prev (prev t)).val % 4 = 1 := by simp only [prev] at *; omega
  have h0 : (prev (prev (prev t))).val % 4 = 0 := by simp only [prev] at *; omega
  have e : ∀ (n : ℕ) (j : Fin 4), n % 4 = j.val → part m c (rw8 t a) k n = ∑ s : Fin 1024, term m c (rw8 t a) k ⟨j.val * 1024 + s.val, by omega⟩ := by
    intro n j hn
    refine Finset.sum_congr rfl fun s _ => congrArg _ (Fin.ext ?_)
    simp only [col, hn]
  rw [sum_next m c t (by omega), step_at R, sum_next m c (prev t) (by omega), step_at R, sum_next m c (prev (prev t)) (by omega), step_at R,
    sum_first m c _ h0, step_at R, pay15_at, zero_add, rw8_prev (prev (prev t)) (by omega), rw8_prev (prev t) (by omega), rw8_prev t (by omega),
    e _ 3 h, e _ 2 h2, e _ 1 h1, e _ 0 h0]
  refine Eq.trans ?_ (narrow_at _ _ _ _ _ _).symm
  refine ((Fin.sum_univ_tiles 4 1024 (by norm_num) (term m c (rw8 t a) k)).trans (Fin.sum_univ_four _)).symm.trans ?_
  exact (Finset.sum_add_distrib (f := fun q => rA m c (ix2 (rw8 t a) q) * aWg m c (ix2 k q))).trans (add_comm _ _)

/-- The gradient of the first scale, after the blocks of rows so far. -/
theorem gp_at (k : Fin 1024) : ∀ (n : ℕ) (h : n < cfg0.N), gp m c ⟨n, h⟩ (ix2 0 k) = ∑ i ∈ Finset.range ((n + 1) / 4), ∑ a, tg m c k (rowAt i a) := by
  intro n
  induction n with
  | zero =>
    intro h
    rw [gp_start m c ⟨0, h⟩ rfl, pay14_at]
    exact (Finset.sum_range_zero fun i => ∑ a, tg m c k (rowAt i a)).symm
  | succ n ih =>
    intro h
    by_cases h0 : (n + 1) % 4 = 3
    · rw [gp_last m c ⟨n + 1, h⟩ h0, pay6_at, show (n + 1 + 1) / 4 = (n + 1) / 4 + 1 by omega, Finset.sum_range_succ]
      refine congrArg₂ (· + ·) (ih (Nat.lt_of_succ_lt h)) (Finset.sum_congr rfl fun a _ => ?_)
      rw [sum_at R ⟨n + 1, h⟩ h0]
      simp only [blk_x]
      rw [tg, row_rw8 ⟨n + 1, h⟩]
      exact mul_comm _ _
    · rw [← gp_same m c ⟨n + 1, h⟩ (Nat.succ_ne_zero n) h0]
      refine (ih (Nat.lt_of_succ_lt h)).trans ?_
      rw [show (n + 1 + 1) / 4 = (n + 1) / 4 by omega]

theorem final10 : (dats m 0 c).arrAt 10 cfg0.N = rY m c := by
  refine (dats m 0 c).arrAt_eq_of_covers 10 _ (by decide +kernel) (fun t hf y => ?_)
  obtain ⟨a, k, rfl⟩ := ix_block y
  blk_simp
  rw [after_10]
  exact (yb_at R t a k).trans (emb10 t (rY m c) a k).symm
theorem final11 : (dats m 0 c).arrAt 11 cfg0.N = rA m c := by
  refine (dats m 0 c).arrAt_eq_of_covers 11 _ (by decide +kernel) (fun t hf y => ?_)
  obtain ⟨a, k, rfl⟩ := ix_block y
  blk_simp
  rw [after_11]
  exact (gate_at R t a k).trans (emb11 t (rA m c) a k).symm
theorem final12 : (dats m 0 c).arrAt 12 cfg0.N = rB m c := by
  refine (dats m 0 c).arrAt_eq_of_covers 12 _ (by decide +kernel) (fun t hf y => ?_)
  obtain ⟨a, k, rfl⟩ := ix_block y
  blk_simp
  rw [after_12]
  exact (up_at R t a k).trans (emb12 t (rB m c) a k).symm
theorem final14 : (dats m 0 c).arrAt 14 cfg0.N = rX m c := by
  refine (dats m 0 c).arrAt_eq_of_covers 14 _ (by decide +kernel) (fun t hf y => ?_)
  obtain ⟨a, k, rfl⟩ := ix_block y
  blk_simp
  rw [after_14]
  refine Eq.trans ?_ (emb14 t (rX m c) a k).symm
  have h := fun k => sum_at R t (wb10 t hf) a k
  change _ = aD m c (ix2 (rw8 t a) k) + back (rH m c) (aX m c) (aG m c) (ix2 (rw8 t a) k)
  rw [pay5_at, back_at, blk_d, ← bk_bx]
  simp only [h, blk_x, blk_g]
theorem final16 : (dats m 0 c).arrAt 16 cfg0.N = rG m c := by
  refine (dats m 0 c).arrAt_eq_of_covers 16 _ (by decide +kernel) (fun t hf y => ?_)
  obtain ⟨k, rfl⟩ := ix_row y
  blk_simp
  rw [after_16]
  refine Eq.trans ?_ (emb16 t (rG m c) k).symm
  refine Eq.trans ?_ (scale_at _ _ k).symm
  have h63 := wb16 t hf
  refine (gp_at R k t.val t.isLt).trans ?_
  rw [h63]
  exact sum_rows (tg m c k)
end

/-- Every run from arguments that meet the precondition ends with the reference's seven results, and the arguments unchanged. -/
theorem values (ρ : Dev nD → PrngReg) (R : ∀ c, RealArgs m c) :
    θ_run defs (onTc (τ := τ) (main (F := Ideal))) ⟨m, fun _ => 0, ρ⟩ (fun r => ∀ c : Dev nD,
      r.2.mem ((c.tc : Thread nD τ).loc main_v7_0) = rY m c
      ∧ r.2.mem ((c.tc : Thread nD τ).loc main_v7_1) = rA m c
      ∧ r.2.mem ((c.tc : Thread nD τ).loc main_v7_2) = rB m c
      ∧ r.2.mem ((c.tc : Thread nD τ).loc main_v7_3) = act (aA m c) (aB m c)
      ∧ r.2.mem ((c.tc : Thread nD τ).loc main_v7_4) = rX m c
      ∧ r.2.mem ((c.tc : Thread nD τ).loc main_v7_5) = rQ m c
      ∧ r.2.mem ((c.tc : Thread nD τ).loc main_v7_6) = rG m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨((h.1 c).1 10).trans (final10 (R c)), ((h.1 c).1 11).trans (final11 (R c)), ((h.1 c).1 12).trans (final12 (R c)),
    ((h.1 c).1 13).trans (final13 m c), ((h.1 c).1 14).trans (final14 (R c)), ((h.1 c).1 15).trans (final15 m c), ((h.1 c).1 16).trans (final16 (R c)), h.2.1 c⟩)
    (θ_run_and (run m ρ) (quiet m ρ))

end Cert.Kernel9Ideal.Own

end
-- ==== Proof.lean ====
/- The kernels, their idealizations and the references run, and the idealizations compute the references' values. -/
module

public import proofs.«01_k».proof.Defs
public import proofs.«01_k».proof.Proof.Gen.ReferenceIdeal.Run
public import proofs.«01_k».proof.Proof.FrameI
public import proofs.«01_k».proof.Proof.FrameK
public import proofs.«01_k».proof.Proof.RefStages
public import proofs.«01_k».proof.Proof.FinalMath
public import proofs.«01_k».proof.Proof.PreMath
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.TilesUp
public import proofs.«01_k».proof.Proof.TilesDown
public import proofs.«01_k».proof.Proof.TilesIn
public import proofs.«01_k».proof.Proof.TilesOut
public import proofs.«01_k».proof.Proof.Gen.Kernel7
public import proofs.«01_k».proof.Proof.Gen.Kernel7.Frame.Runs
public import proofs.«01_k».proof.Proof.Gen.Kernel7Ideal
public import proofs.«01_k».proof.Proof.Gen.Kernel7Ideal.Frame.Runs
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal.Skeleton
public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal.Skeleton
public import proofs.«01_k».proof.Proof.Gen.Kernel9Ideal
public import proofs.«01_k».proof.Proof.Gen.Kernel9Ideal.Frame
public import proofs.«01_k».proof.Proof.Gen.Reference9Ideal
public import proofs.«01_k».proof.Proof.Gen.Reference9Ideal.Run
public import proofs.«01_k».proof.Proof.FwdFrame
public import proofs.«01_k».proof.Proof.FwdFrameK
public import proofs.«01_k».proof.Proof.FwdFinal
public import proofs.«01_k».proof.Proof.FwdRef
public import proofs.«01_k».proof.Proof.Project
public import proofs.«01_k».proof.Proof.FfnValue
public import proofs.«01_k».proof.Proof.BackValue
public import Idealize.ShloMosaic.Adequacy
public import Idealize.ShloMosaic.Init
public import Idealize.ShloMosaic.Lib.Quiescent

@[expose] public section

noncomputable section

namespace Cert.KernelIdeal.Own

open Idealize.ShloMosaic Idealize.ShloMosaic.TcCoe Idealize.SL.Sem Cert.KernelIdeal Cert.KernelIdeal.Gen

/-- Every run from arguments that are real numbers ends with the reference's five results, and the arguments unchanged. -/
theorem values (m : (ℓ : Loc nD τ sig) → Buf (Elt Ideal) ℓ) (ρ : Dev nD → PrngReg) (A : Dev nD → Fox.Args)
    (L : ∀ c, LiftsAt m c (A c)) :
    θ_run defs (onTc (τ := τ) (main (F := Ideal))) ⟨m, fun _ => 0, ρ⟩ (fun r => ∀ c : Dev nD,
      r.2.mem ((c.tc : Thread nD τ).loc main_v54_0) = G0 m c
      ∧ r.2.mem ((c.tc : Thread nD τ).loc main_v54_1) = G1 m c
      ∧ r.2.mem ((c.tc : Thread nD τ).loc main_v54_2) = G2 m c
      ∧ r.2.mem ((c.tc : Thread nD τ).loc main_v54_3) = G3 m c
      ∧ r.2.mem ((c.tc : Thread nD τ).loc main_v54_4) = G4 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨((h.1 c).1 7).trans (final7 (L c)), ((h.1 c).1 8).trans (final8 (L c)),
      ((h.1 c).1 9).trans (final9 (L c)), ((h.1 c).1 10).trans (final10 (L c)), ((h.1 c).1 11).trans (final11 (L c)), h.2 c⟩)
    (θ_run_and (run m ρ) (unchanged m ρ))

end Cert.KernelIdeal.Own

namespace Cert.Proof

open Idealize.ShloMosaic Idealize.SL.Sem

/-- The reference runs, its arguments unchanged and every semaphore at zero. -/
theorem quiet_reference : Cert.quiescent_ReferenceIdeal := fun m ρ _ =>
  (θ_run Cert.ReferenceIdeal.defs _ _).mono (fun r h => ⟨fun c => (h c).2.2.2.2.2,
    Idealize.ShloMosaic.sem_eq_zero_of_no_sems (by decide) r.2⟩) (Cert.ReferenceIdeal.Value.run (F := Ideal) m ρ)

open Cert.KernelIdeal.Own Cert.ReferenceIdeal.Stage in
/-- The idealized kernel and the reference leave the same five results. -/
theorem same : Cert.algebraic_KernelIdeal_ReferenceIdeal_pre_finite := fun m g m' g' hp he =>
  ⟨fun c => G0 m c, fun c => G1 m c, fun c => G2 m c, fun c => G3 m c, fun c => G4 m c,
    values m g _ (fun c => Cert.Pre_finite.Own.lifts _ _ _ _ _ _ _ (hp c)),
    (θ_run Cert.ReferenceIdeal.defs _ _).mono (fun r h c => by
      obtain ⟨h0, h1, h2, h3, h4, h5⟩ := h c
      obtain ⟨e0, e1, e2, e3, e4, e5, e6⟩ := he c
      refine ⟨h0.trans ((res_out0_eq m' c).trans ?_), h1.trans ((res_out1_eq m' c).trans ?_), h2.trans ((res_out2_eq m' c).trans ?_),
        h3.trans ((res_out3_eq m' c).trans ?_), h4.trans ((res_out4_eq m' c).trans ?_), h5⟩
      · rw [e0, e1, e2, e3, e5, e6]
      · rw [e0, e1, e2, e3, e5]
      · rw [e0, e1, e3, e5]
      · rw [e0, e1, e2, e3, e5]
      · rw [e0, e1, e2, e3, e5]) (Cert.ReferenceIdeal.Value.run (F := Ideal) m' g')⟩

/-- The gradient of an FFN's gate or up weight: the reference runs, its arguments unchanged and every semaphore at zero. -/
theorem quiet_reference2 : Cert.quiescent_Reference2Ideal := fun m ρ _ =>
  (θ_run Cert.Reference2Ideal.defs _ _).mono (fun r h => ⟨fun c => (h c).2,
    Idealize.ShloMosaic.sem_eq_zero_of_no_sems (by decide) r.2⟩) (Cert.Reference2Ideal.Value.run (F := Ideal) m ρ)

open Cert.Kernel2Ideal.Own in
/-- The gradient of an FFN's gate or up weight: the idealized kernel and the reference leave the same result. -/
theorem same2 : Cert.algebraic_Kernel2Ideal_Reference2Ideal := fun m g m' g' _ he =>
  ⟨fun c => ref (X m c) (Y m c), values m g,
    (θ_run Cert.Reference2Ideal.defs _ _).mono (fun r h c => ⟨(h c).1.trans (by rw [(he c).1, (he c).2]; rfl), (h c).2⟩)
      (Cert.Reference2Ideal.Value.run (F := Ideal) m' g')⟩

/-- The gradient of an FFN's down weight: the reference runs, its arguments unchanged and every semaphore at zero. -/
theorem quiet_reference3 : Cert.quiescent_Reference3Ideal := fun m ρ _ =>
  (θ_run Cert.Reference3Ideal.defs _ _).mono (fun r h => ⟨fun c => (h c).2,
    Idealize.ShloMosaic.sem_eq_zero_of_no_sems (by decide) r.2⟩) (Cert.Reference3Ideal.Value.run (F := Ideal) m ρ)

open Cert.Kernel3Ideal.Own in
/-- The gradient of an FFN's down weight: the idealized kernel and the reference leave the same result. -/
theorem same3 : Cert.algebraic_Kernel3Ideal_Reference3Ideal := fun m g m' g' _ he =>
  ⟨fun c => ref (X m c) (Y m c), values m g,
    (θ_run Cert.Reference3Ideal.defs _ _).mono (fun r h c => ⟨(h c).1.trans (by rw [(he c).1, (he c).2]; rfl), (h c).2⟩)
      (Cert.Reference3Ideal.Value.run (F := Ideal) m' g')⟩

/-- The gradient of the input projection: the reference runs, its arguments unchanged and every semaphore at zero. -/
theorem quiet_reference4 : Cert.quiescent_Reference4Ideal := fun m ρ _ =>
  (θ_run Cert.Reference4Ideal.defs _ _).mono (fun r h => ⟨fun c => (h c).2,
    Idealize.ShloMosaic.sem_eq_zero_of_no_sems (by decide) r.2⟩) (Cert.Reference4Ideal.Value.run (F := Ideal) m ρ)

open Cert.Kernel4Ideal.Own in
/-- The gradient of the input projection: the idealized kernel and the reference leave the same result. -/
theorem same4 : Cert.algebraic_Kernel4Ideal_Reference4Ideal := fun m g m' g' _ he =>
  ⟨fun c => ref (X m c) (Y m c), values m g,
    (θ_run Cert.Reference4Ideal.defs _ _).mono (fun r h c => ⟨(h c).1.trans (by rw [(he c).1, (he c).2]; rfl), (h c).2⟩)
      (Cert.Reference4Ideal.Value.run (F := Ideal) m' g')⟩

/-- The gradient of the output projection: the reference runs, its arguments unchanged and every semaphore at zero. -/
theorem quiet_reference5 : Cert.quiescent_Reference5Ideal := fun m ρ _ =>
  (θ_run Cert.Reference5Ideal.defs _ _).mono (fun r h => ⟨fun c => (h c).2,
    Idealize.ShloMosaic.sem_eq_zero_of_no_sems (by decide) r.2⟩) (Cert.Reference5Ideal.Value.run (F := Ideal) m ρ)

open Cert.Kernel5Ideal.Own in
/-- The gradient of the output projection: the idealized kernel and the reference leave the same result. -/
theorem same5 : Cert.algebraic_Kernel5Ideal_Reference5Ideal := fun m g m' g' _ he =>
  ⟨fun c => ref (X m c) (Y m c), values m g,
    (θ_run Cert.Reference5Ideal.defs _ _).mono (fun r h c => ⟨(h c).1.trans (by rw [(he c).1, (he c).2]; rfl), (h c).2⟩)
      (Cert.Reference5Ideal.Value.run (F := Ideal) m' g')⟩

/-- The input projection: the reference runs, its arguments unchanged and every semaphore at zero. -/
theorem quiet_reference6 : Cert.quiescent_Reference6Ideal := fun m ρ _ =>
  (θ_run Cert.Reference6Ideal.defs _ _).mono (fun r h => ⟨fun c => (h c).2,
    Idealize.ShloMosaic.sem_eq_zero_of_no_sems (by decide) r.2⟩) (Cert.Reference6Ideal.Value.run (F := Ideal) m ρ)

open Cert.Kernel6Ideal.Own in
/-- The input projection: the idealized kernel and the reference leave the same result. -/
theorem same6 : Cert.algebraic_Kernel6Ideal_Reference6Ideal := fun m g m' g' _ he =>
  ⟨fun c => ref (X m c) (Y m c), values m g,
    (θ_run Cert.Reference6Ideal.defs _ _).mono (fun r h c => ⟨(h c).1.trans (by rw [(he c).1, (he c).2]; rfl), (h c).2⟩)
      (Cert.Reference6Ideal.Value.run (F := Ideal) m' g')⟩

/-- The attention's forward: the reference runs, its arguments unchanged and every semaphore at zero. -/
theorem quiet_reference7 : Cert.quiescent_Reference7Ideal := fun m ρ _ =>
  (θ_run Cert.Reference7Ideal.defs _ _).mono (fun r h => ⟨fun c => (h c).2.2,
    Idealize.ShloMosaic.sem_eq_zero_of_no_sems (by decide) r.2⟩) (Cert.Reference7Ideal.Value.run (F := Ideal) m ρ)

open Cert.Kernel7Ideal.Own Cert.Reference7Ideal.Own in
/-- The attention's forward: the idealized kernel and the reference leave the same two results. -/
theorem same7 : Cert.algebraic_Kernel7Ideal_Reference7Ideal_pre_finite7 := fun m g m' g' hp he =>
  ⟨fun c => Gout m c, fun c => Gsum m c,
    values m g _ _ (fun c => Cert.Pre_finite7.Own.lifts _ _ _ _ _ (hp c)),
    (θ_run Cert.Reference7Ideal.defs _ _).mono (fun r h c => by
      obtain ⟨h0, h1, h2⟩ := h c
      obtain ⟨e0, e1, e2, e3, e4⟩ := he c
      refine ⟨h0.trans ((out0_eq m' c).trans ?_), h1.trans ((out1_eq m' c).trans ?_), h2⟩
      · rw [e0, e1, e2, e3]
      · rw [e0, e1, e3]) (Cert.Reference7Ideal.Value.run (F := Ideal) m' g')⟩

set_option maxRecDepth 16384 in
/-- An FFN's forward: the kernel and its idealization have the same body. -/
theorem bodies8 : Cert.Kernel8.defs₀ (F := Bits) = Cert.Kernel8Ideal.defs₀ (F := Bits) := by
  unfold Cert.Kernel8.defs₀ Cert.Kernel8Ideal.defs₀
  refine congrArg Defs.onTc (funext fun l => funext fun p => ?_)
  match l, p with
  | 0, (t, s) => rfl

set_option maxRecDepth 16384 in
theorem defs8 : Cert.Kernel8.defs (F := Bits) = Cert.Kernel8Ideal.defs (F := Bits) :=
  congrArg (Pipeline.defs Cert.Kernel8Ideal.pcfgs) bodies8

set_option maxRecDepth 16384 in
/-- An FFN's forward: the kernel runs as its idealization does. -/
theorem quiet_kernel8 : Cert.quiescent_Kernel8 := fun m ρ _ => by
  rw [defs8]
  exact Cert.Kernel8Ideal.Own.quiet (F := Bits) m ρ

/-- An FFN's forward: the reference runs, its arguments unchanged and every semaphore at zero. -/
theorem quiet_reference8 : Cert.quiescent_Reference8Ideal := fun m ρ _ =>
  (θ_run Cert.Reference8Ideal.defs _ _).mono (fun r h => ⟨fun c => (h c).2.2.2.2.2,
    Idealize.ShloMosaic.sem_eq_zero_of_no_sems (by decide) r.2⟩) (Cert.Reference8Ideal.Value.run (F := Ideal) m ρ)

open Cert.Kernel8Ideal.Own in
/-- An FFN's forward: the idealized kernel and the reference leave the same five results. -/
theorem same8 : Cert.algebraic_Kernel8Ideal_Reference8Ideal := fun m g m' g' _ he =>
  ⟨fun c => rH m c, fun c => rA m c, fun c => rB m c, fun c => rY m c, fun c => rO m c, values m g,
    (θ_run Cert.Reference8Ideal.defs _ _).mono (fun r h c => by
      obtain ⟨h0, h1, h2, h3, h4, h5⟩ := h c
      obtain ⟨e0, e1, e2, e3, e4, e5, e6⟩ := he c
      refine ⟨h0.trans ?_, h1.trans ?_, h2.trans ?_, h3.trans ?_, h4.trans ?_, h5⟩
      · rw [Cert.Reference8Ideal.Own.aX, Cert.Reference8Ideal.Own.aG, e0, e1]
      · rw [Cert.Reference8Ideal.Own.aX, Cert.Reference8Ideal.Own.aG, Cert.Reference8Ideal.Own.aWg, e0, e1, e2]
      · rw [Cert.Reference8Ideal.Own.aX, Cert.Reference8Ideal.Own.aG, Cert.Reference8Ideal.Own.aWu, e0, e1, e3]
      · rw [Cert.Reference8Ideal.Own.aX, Cert.Reference8Ideal.Own.aG, Cert.Reference8Ideal.Own.aWg, Cert.Reference8Ideal.Own.aWu,
          Cert.Reference8Ideal.Own.aWd, e0, e1, e2, e3, e4]
      · rw [Cert.Reference8Ideal.Own.aX, Cert.Reference8Ideal.Own.aG, Cert.Reference8Ideal.Own.aWg, Cert.Reference8Ideal.Own.aWu,
          Cert.Reference8Ideal.Own.aWd, Cert.Reference8Ideal.Own.aQ, e0, e1, e2, e3, e4, e5]) (Cert.Reference8Ideal.Own.values m' g')⟩

set_option maxRecDepth 16384 in
set_option maxHeartbeats 8000000 in
/-- An FFN's gradient: the kernel and its idealization have the same body. -/
theorem bodies9 : Cert.Kernel9.defs₀ (F := Bits) = Cert.Kernel9Ideal.defs₀ (F := Bits) := by
  unfold Cert.Kernel9.defs₀ Cert.Kernel9Ideal.defs₀
  refine congrArg Defs.onTc (funext fun l => funext fun p => ?_)
  match l, p with
  | 0, (t, s) => rfl

set_option maxRecDepth 16384 in
theorem defs9 : Cert.Kernel9.defs (F := Bits) = Cert.Kernel9Ideal.defs (F := Bits) :=
  congrArg (Pipeline.defs Cert.Kernel9Ideal.pcfgs) bodies9

set_option maxRecDepth 16384 in
/-- An FFN's gradient: the kernel runs as its idealization does. -/
theorem quiet_kernel9 : Cert.quiescent_Kernel9 := fun m ρ _ => by
  rw [defs9]
  exact Cert.Kernel9Ideal.Own.quiet (F := Bits) m ρ

/-- An FFN's gradient: the reference runs, its arguments unchanged and every semaphore at zero. -/
theorem quiet_reference9 : Cert.quiescent_Reference9Ideal := fun m ρ _ =>
  (θ_run Cert.Reference9Ideal.defs _ _).mono (fun r h => ⟨fun c => (h c).2.2.2.2.2.2.2,
    Idealize.ShloMosaic.sem_eq_zero_of_no_sems (by decide) r.2⟩) (Cert.Reference9Ideal.Value.run (F := Ideal) m ρ)

open Cert.Kernel9Ideal.Own in
/-- An FFN's gradient: the idealized kernel and the reference leave the same seven results. -/
theorem same9 : Cert.algebraic_Kernel9Ideal_Reference9Ideal_pre_finite9 := fun m g m' g' hp he =>
  ⟨fun c => rY m c, fun c => rA m c, fun c => rB m c, fun c => Cert.Reference9Ideal.Own.act (aA m c) (aB m c), fun c => rX m c, fun c => rQ m c,
    fun c => rG m c, values m g (fun c => Cert.Pre_finite9.Own.reals _ _ _ _ _ _ _ _ _ _ _ (hp c)),
    (θ_run Cert.Reference9Ideal.defs _ _).mono (fun r h c => by
      obtain ⟨h0, h1, h2, h3, h4, h5, h6, h7⟩ := h c
      obtain ⟨e0, e1, e2, e3, e4, e5, e6, e7, e8, e9, _⟩ := he c
      have e0 : Cert.Reference9Ideal.Own.aD m' c = aD m c := e0
      have e1 : Cert.Reference9Ideal.Own.aY m' c = aY m c := e1
      have e2 : Cert.Reference9Ideal.Own.aQ m' c = aQ m c := e2
      have e3 : Cert.Reference9Ideal.Own.aA m' c = aA m c := e3
      have e4 : Cert.Reference9Ideal.Own.aB m' c = aB m c := e4
      have e5 : Cert.Reference9Ideal.Own.aWg m' c = aWg m c := e5
      have e6 : Cert.Reference9Ideal.Own.aWu m' c = aWu m c := e6
      have e7 : Cert.Reference9Ideal.Own.aWd m' c = aWd m c := e7
      have e8 : Cert.Reference9Ideal.Own.aX m' c = aX m c := e8
      have e9 : Cert.Reference9Ideal.Own.aG m' c = aG m c := e9
      have eY : Cert.Reference9Ideal.Own.dY m' c = rY m c := by rw [Cert.Reference9Ideal.Own.dY, e0, e1, e2]
      have eH : Cert.Reference9Ideal.Own.dH m' c = rH m c := by rw [Cert.Reference9Ideal.Own.dH, eY, e3, e4, e5, e6, e7]
      refine ⟨h0.trans eY, h1.trans ?_, h2.trans ?_, h3.trans ?_, h4.trans ?_, h5.trans ?_, h6.trans ?_, h7⟩
      · rw [eY, e3, e4, e7]
      · rw [eY, e3, e7]
      · rw [e3, e4]
      · rw [eH, e0, e8, e9]
      · rw [e0, e1]
      · rw [eH, e8]) (Cert.Reference9Ideal.Own.values m' g')⟩

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Pre_finite.Own.facts, Cert.Pre_finite7.Own.facts, Cert.Pre_finite9.Own.facts,
    fun m ρ _ => Cert.Kernel.Own.quiet m ρ,
    fun m ρ _ => Cert.KernelIdeal.Own.quiet m ρ,
    fun m ρ _ => Cert.KernelIdeal.Own.quiet m ρ,
    quiet_reference,
    fun m ρ _ => quiet_reference m ρ trivial,
    fun m ρ _ => Cert.Kernel2.Gen.frame m ρ, fun m ρ _ => Cert.Kernel2Ideal.Gen.frame m ρ, quiet_reference2,
    fun m ρ _ => Cert.Kernel3.Gen.frame m ρ, fun m ρ _ => Cert.Kernel3Ideal.Gen.frame m ρ, quiet_reference3,
    fun m ρ _ => Cert.Kernel4.Gen.frame m ρ, fun m ρ _ => Cert.Kernel4Ideal.Gen.frame m ρ, quiet_reference4,
    fun m ρ _ => Cert.Kernel5.Gen.frame m ρ, fun m ρ _ => Cert.Kernel5Ideal.Gen.frame m ρ, quiet_reference5,
    fun m ρ _ => Cert.Kernel6.Gen.frame m ρ, fun m ρ _ => Cert.Kernel6Ideal.Gen.frame m ρ, quiet_reference6,
    fun m ρ _ => Cert.Kernel7.Own.quiet m ρ,
    fun m ρ _ => Cert.Kernel7Ideal.Own.quiet m ρ,
    fun m ρ _ => Cert.Kernel7Ideal.Own.quiet m ρ,
    quiet_reference7,
    fun m ρ _ => quiet_reference7 m ρ trivial,
    quiet_kernel8, fun m ρ _ => Cert.Kernel8Ideal.Own.quiet m ρ, quiet_reference8,
    quiet_kernel9,
    fun m ρ _ => Cert.Kernel9Ideal.Own.quiet m ρ,
    fun m ρ _ => Cert.Kernel9Ideal.Own.quiet m ρ,
    quiet_reference9,
    fun m ρ _ => quiet_reference9 m ρ trivial,
    IdealRules.named_const.statement Cert.KernelIdeal.κ "scale" .f32 0x3DB504F3#32 (((Real.sqrt 128)⁻¹ : ℝ) : EReal) rfl,
    same,
    trivial, same2, trivial, same3, trivial, same4, trivial, same5,
    IdealRules.named_const.statement Cert.Kernel6Ideal.κ "scale2" .f32 0x3E0293EE#32
      (((Real.sqrt 128)⁻¹ * (Real.log 2)⁻¹ : ℝ) : EReal) rfl,
    same6,
    ⟨IdealRules.named_const.statement Cert.Kernel7Ideal.κ "mask" .f32 0xF149F2CA#32 ⊥ rfl,
      IdealRules.named_const.statement Cert.Kernel7Ideal.κ "log2e" .f32 0x3FB8AA3B#32 (((Real.log 2)⁻¹ : ℝ) : EReal) rfl⟩,
    same7,
    trivial, same8, trivial, same9⟩

end Cert.Proof

end
